-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_ffn_finite [hPre_ffn_finite : Cert.Pre_ffn_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_ffn_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_ffn_finite [hPre_ffn_finite : Cert.Pre_ffn_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_ffn_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_ffn_finite [hKernel2Ideal : Cert.Kernel2Ideal.Facts] [hPre_ffn_finite : Cert.Pre_ffn_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_ffn_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_ffn_finite [hReference2Ideal : Cert.Reference2Ideal.Facts] [hPre_ffn_finite : Cert.Pre_ffn_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_ffn_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v11_1)) (v1 : (c : Dev Cert.KernelIdeal.nD) → Buf (Elt Ideal) ((c.tc : Thread Cert.KernelIdeal.nD Cert.KernelIdeal.τ).loc Cert.KernelIdeal.main_v11_2)) (v2 : (c : Dev Cert.KernelIdeal.nD) → Buf (Elt Ideal) ((c.tc : Thread Cert.KernelIdeal.nD Cert.KernelIdeal.τ).loc Cert.KernelIdeal.main_v11_3)) (v3 : (c : Dev Cert.KernelIdeal.nD) → Buf (Elt Ideal) ((c.tc : Thread Cert.KernelIdeal.nD Cert.KernelIdeal.τ).loc Cert.KernelIdeal.main_v11_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_1) = v0 c
          ∧ r.2.mem ((c.tc : Thread Cert.KernelIdeal.nD Cert.KernelIdeal.τ).loc Cert.KernelIdeal.main_v11_2) = v1 c
          ∧ r.2.mem ((c.tc : Thread Cert.KernelIdeal.nD Cert.KernelIdeal.τ).loc Cert.KernelIdeal.main_v11_3) = v2 c
          ∧ r.2.mem ((c.tc : Thread Cert.KernelIdeal.nD Cert.KernelIdeal.τ).loc Cert.KernelIdeal.main_v11_4) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_v70) = v2 c
          ∧ r.2.mem ((c.tc : Thread Cert.ReferenceIdeal.nD Cert.ReferenceIdeal.τ).loc Cert.ReferenceIdeal.main_v81) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Kernel2_Kernel2Ideal : Prop :=
  True

def algebraic_Kernel2Ideal_Reference2Ideal_pre_ffn_finite [hKernel2Ideal : Cert.Kernel2Ideal.Facts] [hReference2Ideal : Cert.Reference2Ideal.Facts] [hPre_ffn_finite : Cert.Pre_ffn_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_ffn_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v6)) (v1 : (c : Dev Cert.Kernel2Ideal.nD) → Buf (Elt Ideal) ((c.tc : Thread Cert.Kernel2Ideal.nD Cert.Kernel2Ideal.τ).loc Cert.Kernel2Ideal.main_v3)) (v2 : (c : Dev Cert.Kernel2Ideal.nD) → Buf (Elt Ideal) ((c.tc : Thread Cert.Kernel2Ideal.nD Cert.Kernel2Ideal.τ).loc Cert.Kernel2Ideal.main_v4)) (v3 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_v3) = v1 c
          ∧ r.2.mem ((c.tc : Thread Cert.Kernel2Ideal.nD Cert.Kernel2Ideal.τ).loc Cert.Kernel2Ideal.main_v4) = v2 c
          ∧ r.2.mem ((c.tc : Thread Cert.Kernel2Ideal.nD Cert.Kernel2Ideal.τ).loc Cert.Kernel2Ideal.main_v2) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_v29) = v1 c
          ∧ r.2.mem ((c.tc : Thread Cert.Reference2Ideal.nD Cert.Reference2Ideal.τ).loc Cert.Reference2Ideal.main_v31) = v2 c
          ∧ r.2.mem ((c.tc : Thread Cert.Reference2Ideal.nD Cert.Reference2Ideal.τ).loc Cert.Reference2Ideal.main_v32) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2)) (v1 : (c : Dev Cert.Kernel3Ideal.nD) → Buf (Elt Ideal) ((c.tc : Thread Cert.Kernel3Ideal.nD Cert.Kernel3Ideal.τ).loc Cert.Kernel3Ideal.main_v4_0)) (v2 : (c : Dev Cert.Kernel3Ideal.nD) → Buf (Elt Ideal) ((c.tc : Thread Cert.Kernel3Ideal.nD Cert.Kernel3Ideal.τ).loc Cert.Kernel3Ideal.main_v4_1)) (v3 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_v4_0) = v1 c
          ∧ r.2.mem ((c.tc : Thread Cert.Kernel3Ideal.nD Cert.Kernel3Ideal.τ).loc Cert.Kernel3Ideal.main_v4_1) = v2 c
          ∧ r.2.mem ((c.tc : Thread Cert.Kernel3Ideal.nD Cert.Kernel3Ideal.τ).loc Cert.Kernel3Ideal.main_v3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_v44) = v1 c
          ∧ r.2.mem ((c.tc : Thread Cert.Reference3Ideal.nD Cert.Reference3Ideal.τ).loc Cert.Reference3Ideal.main_v45) = v2 c
          ∧ r.2.mem ((c.tc : Thread Cert.Reference3Ideal.nD Cert.Reference3Ideal.τ).loc Cert.Reference3Ideal.main_v47) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)) (v2 : (c : Dev Cert.Kernel4Ideal.nD) → Buf (Elt Ideal) ((c.tc : Thread Cert.Kernel4Ideal.nD Cert.Kernel4Ideal.τ).loc Cert.Kernel4Ideal.main_v2_0)) (v3 : (c : Dev Cert.Kernel4Ideal.nD) → Buf (Elt Ideal) ((c.tc : Thread Cert.Kernel4Ideal.nD Cert.Kernel4Ideal.τ).loc Cert.Kernel4Ideal.main_v2_2)) (v4 : (c : Dev Cert.Kernel4Ideal.nD) → Buf (Elt Ideal) ((c.tc : Thread Cert.Kernel4Ideal.nD Cert.Kernel4Ideal.τ).loc Cert.Kernel4Ideal.main_v2_3)) (v5 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_v2_0) = v2 c
          ∧ r.2.mem ((c.tc : Thread Cert.Kernel4Ideal.nD Cert.Kernel4Ideal.τ).loc Cert.Kernel4Ideal.main_v2_2) = v3 c
          ∧ r.2.mem ((c.tc : Thread Cert.Kernel4Ideal.nD Cert.Kernel4Ideal.τ).loc Cert.Kernel4Ideal.main_v2_3) = v4 c
          ∧ r.2.mem ((c.tc : Thread Cert.Kernel4Ideal.nD Cert.Kernel4Ideal.τ).loc Cert.Kernel4Ideal.main_v3) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_v45) = v1 c
          ∧ r.2.mem ((c.tc : Thread Cert.Reference4Ideal.nD Cert.Reference4Ideal.τ).loc Cert.Reference4Ideal.main_v40) = v2 c
          ∧ r.2.mem ((c.tc : Thread Cert.Reference4Ideal.nD Cert.Reference4Ideal.τ).loc Cert.Reference4Ideal.main_v46) = v3 c
          ∧ r.2.mem ((c.tc : Thread Cert.Reference4Ideal.nD Cert.Reference4Ideal.τ).loc Cert.Reference4Ideal.main_v47) = v4 c
          ∧ r.2.mem ((c.tc : Thread Cert.Reference4Ideal.nD Cert.Reference4Ideal.τ).loc Cert.Reference4Ideal.main_v43) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v5_0)) (v2 : (c : Dev Cert.Kernel5Ideal.nD) → Buf (Elt Ideal) ((c.tc : Thread Cert.Kernel5Ideal.nD Cert.Kernel5Ideal.τ).loc Cert.Kernel5Ideal.main_v5_2)) (v3 : (c : Dev Cert.Kernel5Ideal.nD) → Buf (Elt Ideal) ((c.tc : Thread Cert.Kernel5Ideal.nD Cert.Kernel5Ideal.τ).loc Cert.Kernel5Ideal.main_v6)) (v4 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v5_0) = v1 c
          ∧ r.2.mem ((c.tc : Thread Cert.Kernel5Ideal.nD Cert.Kernel5Ideal.τ).loc Cert.Kernel5Ideal.main_v5_2) = v2 c
          ∧ r.2.mem ((c.tc : Thread Cert.Kernel5Ideal.nD Cert.Kernel5Ideal.τ).loc Cert.Kernel5Ideal.main_v6) = v3 c
          ∧ r.2.mem ((c.tc : Thread Cert.Kernel5Ideal.nD Cert.Kernel5Ideal.τ).loc Cert.Kernel5Ideal.main_v7) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v41) = v0 c
          ∧ r.2.mem ((c.tc : Thread Cert.Reference5Ideal.nD Cert.Reference5Ideal.τ).loc Cert.Reference5Ideal.main_v72) = v1 c
          ∧ r.2.mem ((c.tc : Thread Cert.Reference5Ideal.nD Cert.Reference5Ideal.τ).loc Cert.Reference5Ideal.main_v73) = v2 c
          ∧ r.2.mem ((c.tc : Thread Cert.Reference5Ideal.nD Cert.Reference5Ideal.τ).loc Cert.Reference5Ideal.main_v75) = v3 c
          ∧ r.2.mem ((c.tc : Thread Cert.Reference5Ideal.nD Cert.Reference5Ideal.τ).loc Cert.Reference5Ideal.main_v50) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)) (v2 : (c : Dev Cert.Kernel6Ideal.nD) → Buf (Elt Ideal) ((c.tc : Thread Cert.Kernel6Ideal.nD Cert.Kernel6Ideal.τ).loc Cert.Kernel6Ideal.main_v1_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_v1_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v51) = v0 c
          ∧ r.2.mem ((c.tc : Thread Cert.Reference6Ideal.nD Cert.Reference6Ideal.τ).loc Cert.Reference6Ideal.main_v50) = v1 c
          ∧ r.2.mem ((c.tc : Thread Cert.Reference6Ideal.nD Cert.Reference6Ideal.τ).loc Cert.Reference6Ideal.main_v52) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_v4) = v1 c
          ∧ r.2.mem ((c.tc : Thread Cert.Reference7Ideal.nD Cert.Reference7Ideal.τ).loc Cert.Reference7Ideal.main_v10) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v35) = v0 c
          ∧ r.2.mem ((c.tc : Thread Cert.Reference8Ideal.nD Cert.Reference8Ideal.τ).loc Cert.Reference8Ideal.main_v38) = v1 c
          ∧ r.2.mem ((c.tc : Thread Cert.Reference8Ideal.nD Cert.Reference8Ideal.τ).loc Cert.Reference8Ideal.main_v41) = v2 c
          ∧ r.2.mem ((c.tc : Thread Cert.Reference8Ideal.nD Cert.Reference8Ideal.τ).loc Cert.Reference8Ideal.main_v44) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_ffn_finite : Cert.Pre_ffn_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_ffn_finite (hKernel2Ideal := hKernel2Ideal) (hPre_ffn_finite := hPre_ffn_finite)
    ∧ quiescent_Reference2Ideal (hReference2Ideal := hReference2Ideal)
    ∧ quiescent_Reference2Ideal_pre_ffn_finite (hReference2Ideal := hReference2Ideal) (hPre_ffn_finite := hPre_ffn_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_ffn_finite (hKernel2Ideal := hKernel2Ideal) (hReference2Ideal := hReference2Ideal) (hPre_ffn_finite := hPre_ffn_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_ffn_finite.lean ====
abbrev S4096x2048 : Shape := ⟨2, ![4096, 2048]⟩
abbrev S8x704x2048 : Shape := ⟨3, ![8, 704, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S8x704x2048 : S_.BroadcastsInDim S8x704x2048 (![] : Fin 0 → Fin S8x704x2048.rank)
  reducesTo_S8x704x2048_S_d0_1_2 : S8x704x2048.ReducesTo [0, 1, 2] S_

variable [Facts]

def fn_part1 {F : FTy → Type} [FloatOps F] (main_arg4 : FVec F S8x704x2048 .bf16) (main_v3 : IVec S_ 1) (main_v7 : IVec S_ 1) (main_v11 : IVec S_ 1) (main_v15 : IVec S_ 1) : IVec S_ 1 :=
  let main_v16 : FVec F S8x704x2048 .bf16 := Host.absf main_arg4
  let main_cst_6 : FVec F S_ .bf16 := constant S_ .bf16 0x7F80#16
  let main_v17 : FVec F S8x704x2048 .bf16 := broadcastInDim S8x704x2048 ![] bcast_S_S8x704x2048 main_cst_6
  let main_v18 : IVec S8x704x2048 1 := cmpf .olt main_v16 main_v17
  let main_c_7 : IVec S_ 1 := constantI S_ 1 1#1
  let main_v19 : IVec S_ 1 := (fun x v => Host.reduce IntOp.andi x v reducesTo_S8x704x2048_S_d0_1_2 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S4096x2048 .bf16) (main_arg1 : FVec F S4096x2048 .bf16) (main_arg2 : FVec F S8x704x2048 .bf16) (main_arg3 : FVec F S8x704x2048 .bf16) (main_arg4 : FVec F S8x704x2048 .bf16) : IVec S_ 1 :=
  let main_v0 : FVec F S4096x2048 .bf16 := Host.absf main_arg0
  let main_cst : FVec F S_ .bf16 := constant S_ .bf16 0x7F80#16
  let main_v1 : FVec F S4096x2048 .bf16 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .bf16 := Host.absf main_arg1
  let main_cst_0 : FVec F S_ .bf16 := constant S_ .bf16 0x7F80#16
  let main_v5 : FVec F S4096x2048 .bf16 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : FVec F S8x704x2048 .bf16 := Host.absf main_arg2
  let main_cst_2 : FVec F S_ .bf16 := constant S_ .bf16 0x7F80#16
  let main_v9 : FVec F S8x704x2048 .bf16 := broadcastInDim S8x704x2048 ![] bcast_S_S8x704x2048 main_cst_2
  let main_v10 : IVec S8x704x2048 1 := cmpf .olt main_v8 main_v9
  let main_c_3 : IVec S_ 1 := constantI S_ 1 1#1
  let main_v11 : IVec S_ 1 := (fun x v => Host.reduce IntOp.andi x v reducesTo_S8x704x2048_S_d0_1_2 h_S_) main_v10 main_c_3
  let main_v12 : FVec F S8x704x2048 .bf16 := Host.absf main_arg3
  let main_cst_4 : FVec F S_ .bf16 := constant S_ .bf16 0x7F80#16
  let main_v13 : FVec F S8x704x2048 .bf16 := broadcastInDim S8x704x2048 ![] bcast_S_S8x704x2048 main_cst_4
  let main_v14 : IVec S8x704x2048 1 := cmpf .olt main_v12 main_v13
  let main_c_5 : IVec S_ 1 := constantI S_ 1 1#1
  let main_v15 : IVec S_ 1 := (fun x v => Host.reduce IntOp.andi x v reducesTo_S8x704x2048_S_d0_1_2 h_S_) main_v14 main_c_5
  fn_part1 (F := F) main_arg4 main_v3 main_v7 main_v11 main_v15
-- ==== Kernel.lean ====
abbrev S4096x4096 : Shape := ⟨2, ![4096, 4096]⟩
abbrev S4096x2048 : Shape := ⟨2, ![4096, 2048]⟩
abbrev S4x128 : Shape := ⟨2, ![4, 128]⟩
abbrev S4x128x128 : Shape := ⟨3, ![4, 128, 128]⟩
abbrev S3x512 : Shape := ⟨2, ![3, 512]⟩
abbrev S31x512 : Shape := ⟨2, ![31, 512]⟩
abbrev S512 : Shape := ⟨1, ![512]⟩
abbrev S4x1x128 : Shape := ⟨3, ![4, 1, 128]⟩
abbrev S4x128x1 : Shape := ⟨3, ![4, 128, 1]⟩
abbrev S_ : Shape := ⟨0, ![]⟩
abbrev S5x512 : Shape := ⟨2, ![5, 512]⟩
abbrev S8x512 : Shape := ⟨2, ![8, 512]⟩
abbrev S1x512 : Shape := ⟨2, ![1, 512]⟩
abbrev S32x512 : Shape := ⟨2, ![32, 512]⟩
abbrev S32x4096 : Shape := ⟨2, ![32, 4096]⟩
abbrev S256x4096 : Shape := ⟨2, ![256, 4096]⟩
abbrev S256x2048 : Shape := ⟨2, ![256, 2048]⟩
abbrev S32x2048 : Shape := ⟨2, ![32, 2048]⟩
abbrev S288x512 : Shape := ⟨2, ![288, 512]⟩
abbrev S320x512 : Shape := ⟨2, ![320, 512]⟩
abbrev S7x312x512 : Shape := ⟨3, ![7, 312, 512]⟩
abbrev S128x128 : Shape := ⟨2, ![128, 128]⟩
abbrev S1x1x128 : Shape := ⟨3, ![1, 1, 128]⟩
abbrev S1x128 : Shape := ⟨2, ![1, 128]⟩
abbrev S1x128x128 : Shape := ⟨3, ![1, 128, 128]⟩
abbrev S1x128x1 : Shape := ⟨3, ![1, 128, 1]⟩
abbrev S128x1 : Shape := ⟨2, ![128, 1]⟩
abbrev S128 : Shape := ⟨1, ![128]⟩
abbrev S256x512 : Shape := ⟨2, ![256, 512]⟩
abbrev S256x128 : Shape := ⟨2, ![256, 128]⟩
abbrev S312x512 : Shape := ⟨2, ![312, 512]⟩
abbrev S1x312x512 : Shape := ⟨3, ![1, 312, 512]⟩
abbrev S1x256x128 : Shape := ⟨3, ![1, 256, 128]⟩
abbrev S1x32x128 : Shape := ⟨3, ![1, 32, 128]⟩
abbrev S32x128 : Shape := ⟨2, ![32, 128]⟩
abbrev S256 : Shape := ⟨1, ![256]⟩
abbrev S256x1 : Shape := ⟨2, ![256, 1]⟩
abbrev S32 : Shape := ⟨1, ![32]⟩
abbrev S32x1 : Shape := ⟨2, ![32, 1]⟩
abbrev S280x512 : Shape := ⟨2, ![280, 512]⟩
abbrev S1x280x512 : Shape := ⟨3, ![1, 280, 512]⟩

abbrev nBuf : Space → Nat
  | .hbm => 38
  | .vmem => 38
  | .smem => 0
  | _ => 0

abbrev bufTy : (tb : Table) → Fin (tcTables nBuf tb) → BufTy
  | .hbm, ⟨0, _⟩ => ⟨S4096x4096, .f32⟩
  | .hbm, ⟨1, _⟩ => ⟨S4096x2048, .bf16⟩
  | .hbm, ⟨2, _⟩ => ⟨S4x128, .f32⟩
  | .hbm, ⟨3, _⟩ => ⟨S4x128, .f32⟩
  | .hbm, ⟨4, _⟩ => ⟨S4x128x128, .f32⟩
  | .hbm, ⟨5, _⟩ => ⟨S4x128, .f32⟩
  | .hbm, ⟨6, _⟩ => ⟨S3x512, .f32⟩
  | .hbm, ⟨7, _⟩ => ⟨S31x512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S4x128x128, .f32⟩
  | .hbm, ⟨12, _⟩ => ⟨S512, .f32⟩
  | .hbm, ⟨13, _⟩ => ⟨S4x1x128, .f32⟩
  | .hbm, ⟨14, _⟩ => ⟨S4x1x128, .f32⟩
  | .hbm, ⟨15, _⟩ => ⟨S4x128x1, .f32⟩
  | .hbm, ⟨16, _⟩ => ⟨S_, .f32⟩
  | .hbm, ⟨17, _⟩ => ⟨S5x512, .f32⟩
  | .hbm, ⟨18, _⟩ => ⟨S8x512, .f32⟩
  | .hbm, ⟨19, _⟩ => ⟨S_, .f32⟩
  | .hbm, ⟨20, _⟩ => ⟨S1x512, .f32⟩
  | .hbm, ⟨21, _⟩ => ⟨S32x512, .f32⟩
  | .hbm, ⟨22, _⟩ => ⟨S1x512, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S4096x4096, .bf16⟩
  | .hbm, ⟨27, _⟩ => ⟨S4x1x128, .f32⟩
  | .hbm, ⟨28, _⟩ => ⟨S4x1x128, .f32⟩
  | .hbm, ⟨29, _⟩ => ⟨S4x128x128, .f32⟩
  | .hbm, ⟨30, _⟩ => ⟨S4x128x1, .f32⟩
  | .hbm, ⟨31, _⟩ => ⟨S8x512, .f32⟩
  | .hbm, ⟨32, _⟩ => ⟨S32x512, .f32⟩
  | .hbm, ⟨33, _⟩ => ⟨S1x512, .f32⟩
  | .hbm, ⟨34, _⟩ => ⟨S1x512, .f32⟩
  | .hbm, ⟨35, _⟩ => ⟨S1x512, .f32⟩
  | .hbm, ⟨36, _⟩ => ⟨S4x128x128, .f32⟩
  | .hbm, ⟨37, _⟩ => ⟨S1x512, .f32⟩
  | .local _ .vmem, ⟨0, _⟩ => ⟨S32x4096, .f32⟩
  | .local _ .vmem, ⟨1, _⟩ => ⟨S32x4096, .f32⟩
  | .local _ .vmem, ⟨2, _⟩ => ⟨S256x4096, .f32⟩
  | .local _ .vmem, ⟨3, _⟩ => ⟨S256x4096, .f32⟩
  | .local _ .vmem, ⟨4, _⟩ => ⟨S32x4096, .f32⟩
  | .local _ .vmem, ⟨5, _⟩ => ⟨S32x4096, .f32⟩
  | .local _ .vmem, ⟨6, _⟩ => ⟨S256x2048, .bf16⟩
  | .local _ .vmem, ⟨7, _⟩ => ⟨S256x2048, .bf16⟩
  | .local _ .vmem, ⟨8, _⟩ => ⟨S32x2048, .bf16⟩
  | .local _ .vmem, ⟨9, _⟩ => ⟨S32x2048, .bf16⟩
  | .local _ .vmem, ⟨10, _⟩ => ⟨S4x1x128, .f32⟩
  | .local _ .vmem, ⟨11, _⟩ => ⟨S4x1x128, .f32⟩
  | .local _ .vmem, ⟨12, _⟩ => ⟨S4x128x128, .f32⟩
  | .local _ .vmem, ⟨13, _⟩ => ⟨S4x128x1, .f32⟩
  | .local _ .vmem, ⟨14, _⟩ => ⟨S8x512, .f32⟩
  | .local _ .vmem, ⟨15, _⟩ => ⟨S32x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S4x128x128, .f32⟩
  | .local _ .vmem, ⟨20, _⟩ => ⟨S1x512, .f32⟩
  | .local _ .vmem, ⟨21, _⟩ => ⟨S256x4096, .bf16⟩
  | .local _ .vmem, ⟨22, _⟩ => ⟨S256x4096, .bf16⟩
  | .local _ .vmem, ⟨23, _⟩ => ⟨S4x1x128, .f32⟩
  | .local _ .vmem, ⟨24, _⟩ => ⟨S4x1x128, .f32⟩
  | .local _ .vmem, ⟨25, _⟩ => ⟨S4x128x128, .f32⟩
  | .local _ .vmem, ⟨26, _⟩ => ⟨S4x128x1, .f32⟩
  | .local _ .vmem, ⟨27, _⟩ => ⟨S8x512, .f32⟩
  | .local _ .vmem, ⟨28, _⟩ => ⟨S32x512, .f32⟩
  | .local _ .vmem, ⟨29, _⟩ => ⟨S1x512, .f32⟩
  | .local _ .vmem, ⟨30, _⟩ => ⟨S1x512, .f32⟩
  | .local _ .vmem, ⟨31, _⟩ => ⟨S1x512, .f32⟩
  | .local _ .vmem, ⟨32, _⟩ => ⟨S4x128x128, .f32⟩
  | .local _ .vmem, ⟨33, _⟩ => ⟨S1x512, .f32⟩
  | .local _ .vmem, ⟨34, _⟩ => ⟨S288x512, .f32⟩
  | .local _ .vmem, ⟨35, _⟩ => ⟨S288x512, .f32⟩
  | .local _ .vmem, ⟨36, _⟩ => ⟨S320x512, .f32⟩
  | .local _ .vmem, ⟨37, _⟩ => ⟨S7x312x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11_0 : Ref sig .tc := ⟨.hbm, 26, rfl⟩
abbrev main_v11_1 : Ref sig .tc := ⟨.hbm, 27, rfl⟩
abbrev main_v11_2 : Ref sig .tc := ⟨.hbm, 28, rfl⟩
abbrev main_v11_3 : Ref sig .tc := ⟨.hbm, 29, rfl⟩
abbrev main_v11_4 : Ref sig .tc := ⟨.hbm, 30, rfl⟩
abbrev main_v11_5 : Ref sig .tc := ⟨.hbm, 31, rfl⟩
abbrev main_v11_6 : Ref sig .tc := ⟨.hbm, 32, rfl⟩
abbrev main_v11_7 : Ref sig .tc := ⟨.hbm, 33, rfl⟩
abbrev main_v11_8 : Ref sig .tc := ⟨.hbm, 34, rfl⟩
abbrev main_v11_9 : Ref sig .tc := ⟨.hbm, 35, rfl⟩
abbrev main_v11_10 : Ref sig .tc := ⟨.hbm, 36, rfl⟩
abbrev main_v11_11 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg20_0 : Ref sig .tc := ⟨.vmem, 26, rfl⟩
abbrev cc0_stg21_0 : Ref sig .tc := ⟨.vmem, 27, rfl⟩
abbrev cc0_stg22_0 : Ref sig .tc := ⟨.vmem, 28, rfl⟩
abbrev cc0_stg23_0 : Ref sig .tc := ⟨.vmem, 29, rfl⟩
abbrev cc0_stg24_0 : Ref sig .tc := ⟨.vmem, 30, rfl⟩
abbrev cc0_stg25_0 : Ref sig .tc := ⟨.vmem, 31, rfl⟩
abbrev cc0_stg26_0 : Ref sig .tc := ⟨.vmem, 32, rfl⟩
abbrev cc0_stg27_0 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_scratch3 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem16_1 : DmaSem sig := 22
abbrev cc0_sem17_0 : DmaSem sig := 23
abbrev cc0_sem18_0 : DmaSem sig := 24
abbrev cc0_sem19_0 : DmaSem sig := 25
abbrev cc0_sem20_0 : DmaSem sig := 26
abbrev cc0_sem21_0 : DmaSem sig := 27
abbrev cc0_sem22_0 : DmaSem sig := 28
abbrev cc0_sem23_0 : DmaSem sig := 29
abbrev cc0_sem24_0 : DmaSem sig := 30
abbrev cc0_sem25_0 : DmaSem sig := 31
abbrev cc0_sem26_0 : DmaSem sig := 32
abbrev cc0_sem27_0 : DmaSem sig := 33

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x4096 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S4x1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S4x1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S4x128x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S4x128x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S8x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S32x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S4x128x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x512 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]
-- ==== ReferenceIdeal.lean ====
abbrev S4096x4096 : Shape := ⟨2, ![4096, 4096]⟩
abbrev S4096x2048 : Shape := ⟨2, ![4096, 2048]⟩
abbrev S4x128 : Shape := ⟨2, ![4, 128]⟩
abbrev S4x128x128 : Shape := ⟨3, ![4, 128, 128]⟩
abbrev S3x512 : Shape := ⟨2, ![3, 512]⟩
abbrev S31x512 : Shape := ⟨2, ![31, 512]⟩
abbrev S512 : Shape := ⟨1, ![512]⟩
abbrev S4096x512 : Shape := ⟨2, ![4096, 512]⟩
abbrev S1x4096x512 : Shape := ⟨3, ![1, 4096, 512]⟩
abbrev S4096x1024 : Shape := ⟨2, ![4096, 1024]⟩
abbrev S1x4096x1024 : Shape := ⟨3, ![1, 4096, 1024]⟩
abbrev S_ : Shape := ⟨0, ![]⟩
abbrev S1x4096x4x128 : Shape := ⟨4, ![1, 4096, 4, 128]⟩
abbrev S1x4096x4 : Shape := ⟨3, ![1, 4096, 4]⟩
abbrev S1x4096x4x1 : Shape := ⟨4, ![1, 4096, 4, 1]⟩
abbrev S1x1x4x128 : Shape := ⟨4, ![1, 1, 4, 128]⟩
abbrev S1x32x128x4x128 : Shape := ⟨5, ![1, 32, 128, 4, 128]⟩
abbrev S128x128 : Shape := ⟨2, ![128, 128]⟩
abbrev S1x128x128 : Shape := ⟨3, ![1, 128, 128]⟩
abbrev S4x1x32x128x128 : Shape := ⟨5, ![4, 1, 32, 128, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S1x128x4 : Shape := ⟨3, ![1, 128, 4]⟩
abbrev S1x4x128 : Shape := ⟨3, ![1, 4, 128]⟩
abbrev S4x1x128 : Shape := ⟨3, ![4, 1, 128]⟩
abbrev S4x128x1 : Shape := ⟨3, ![4, 128, 1]⟩

abbrev nBuf : Space → Nat
  | .hbm => 127
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .bf16⟩
  | .hbm, ⟨2, _⟩ => ⟨S4x128, .f32⟩
  | .hbm, ⟨3, _⟩ => ⟨S4x128, .f32⟩
  | .hbm, ⟨4, _⟩ => ⟨S4x128x128, .f32⟩
  | .hbm, ⟨5, _⟩ => ⟨S4x128, .f32⟩
  | .hbm, ⟨6, _⟩ => ⟨S3x512, .f32⟩
  | .hbm, ⟨7, _⟩ => ⟨S31x512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S4x128x128, .f32⟩
  | .hbm, ⟨12, _⟩ => ⟨S512, .f32⟩
  | .hbm, ⟨13, _⟩ => ⟨S4096x512, .bf16⟩
  | .hbm, ⟨14, _⟩ => ⟨S1x4096x512, .bf16⟩
  | .hbm, ⟨15, _⟩ => ⟨S1x4096x512, .f32⟩
  | .hbm, ⟨16, _⟩ => ⟨S4096x1024, .f32⟩
  | .hbm, ⟨17, _⟩ => ⟨S1x4096x1024, .f32⟩
  | .hbm, ⟨18, _⟩ => ⟨S1x4096x1024, .f32⟩
  | .hbm, ⟨19, _⟩ => ⟨S1x4096x1024, .f32⟩
  | .hbm, ⟨20, _⟩ => ⟨S_, .f32⟩
  | .hbm, ⟨21, _⟩ => ⟨S1x4096x1024, .f32⟩
  | .hbm, ⟨22, _⟩ => ⟨S1x4096x1024, .f32⟩
  | .hbm, ⟨23, _⟩ => ⟨S1x4096x1024, .f32⟩
  | .hbm, ⟨24, _⟩ => ⟨S_, .f32⟩
  | .hbm, ⟨25, _⟩ => ⟨S1x4096x1024, .f32⟩
  | .hbm, ⟨26, _⟩ => ⟨S1x4096x1024, .f32⟩
  | .hbm, ⟨27, _⟩ => ⟨S1x4096x1024, .f32⟩
  | .hbm, ⟨28, _⟩ => ⟨S_, .f32⟩
  | .hbm, ⟨29, _⟩ => ⟨S1x4096x1024, .f32⟩
  | .hbm, ⟨30, _⟩ => ⟨S1x4096x1024, .f32⟩
  | .hbm, ⟨31, _⟩ => ⟨S_, .f32⟩
  | .hbm, ⟨32, _⟩ => ⟨S1x4096x1024, .f32⟩
  | .hbm, ⟨33, _⟩ => ⟨S1x4096x1024, .f32⟩
  | .hbm, ⟨34, _⟩ => ⟨S1x4096x1024, .f32⟩
  | .hbm, ⟨35, _⟩ => ⟨S1x4096x512, .f32⟩
  | .hbm, ⟨36, _⟩ => ⟨S1x4096x512, .f32⟩
  | .hbm, ⟨37, _⟩ => ⟨S1x4096x4x128, .f32⟩
  | .hbm, ⟨38, _⟩ => ⟨S_, .f32⟩
  | .hbm, ⟨39, _⟩ => ⟨S1x4096x4, .f32⟩
  | .hbm, ⟨40, _⟩ => ⟨S1x4096x4x1, .f32⟩
  | .hbm, ⟨41, _⟩ => ⟨S_, .f32⟩
  | .hbm, ⟨42, _⟩ => ⟨S1x4096x4x1, .f32⟩
  | .hbm, ⟨43, _⟩ => ⟨S1x4096x4x1, .f32⟩
  | .hbm, ⟨44, _⟩ => ⟨S1x4096x4x128, .f32⟩
  | .hbm, ⟨45, _⟩ => ⟨S1x4096x4x128, .f32⟩
  | .hbm, ⟨46, _⟩ => ⟨S1x4096x4x128, .f32⟩
  | .hbm, ⟨47, _⟩ => ⟨S_, .f32⟩
  | .hbm, ⟨48, _⟩ => ⟨S1x4096x4, .f32⟩
  | .hbm, ⟨49, _⟩ => ⟨S1x4096x4x1, .f32⟩
  | .hbm, ⟨50, _⟩ => ⟨S_, .f32⟩
  | .hbm, ⟨51, _⟩ => ⟨S1x4096x4x1, .f32⟩
  | .hbm, ⟨52, _⟩ => ⟨S1x4096x4x1, .f32⟩
  | .hbm, ⟨53, _⟩ => ⟨S_, .f32⟩
  | .hbm, ⟨54, _⟩ => ⟨S1x4096x4x1, .f32⟩
  | .hbm, ⟨55, _⟩ => ⟨S1x4096x4x1, .f32⟩
  | .hbm, ⟨56, _⟩ => ⟨S1x4096x4x1, .f32⟩
  | .hbm, ⟨57, _⟩ => ⟨S1x4096x4x128, .f32⟩
  | .hbm, ⟨58, _⟩ => ⟨S1x4096x4x128, .f32⟩
  | .hbm, ⟨59, _⟩ => ⟨S1x1x4x128, .f32⟩
  | .hbm, ⟨60, _⟩ => ⟨S1x4096x4x128, .f32⟩
  | .hbm, ⟨61, _⟩ => ⟨S1x4096x4x128, .f32⟩
  | .hbm, ⟨62, _⟩ => ⟨S1x1x4x128, .f32⟩
  | .hbm, ⟨63, _⟩ => ⟨S1x4096x4x128, .f32⟩
  | .hbm, ⟨64, _⟩ => ⟨S1x4096x4x128, .f32⟩
  | .hbm, ⟨65, _⟩ => ⟨S1x32x128x4x128, .f32⟩
  | .hbm, ⟨66, _⟩ => ⟨S_, .i1⟩
  | .hbm, ⟨67, _⟩ => ⟨S128x128, .i1⟩
  | .hbm, ⟨68, _⟩ => ⟨S128x128, .i32⟩
  | .hbm, ⟨69, _⟩ => ⟨S_, .i32⟩
  | .hbm, ⟨70, _⟩ => ⟨S128x128, .i32⟩
  | .hbm, ⟨71, _⟩ => ⟨S128x128, .i32⟩
  | .hbm, ⟨72, _⟩ => ⟨S128x128, .i32⟩
  | .hbm, ⟨73, _⟩ => ⟨S128x128, .i1⟩
  | .hbm, ⟨74, _⟩ => ⟨S_, .i1⟩
  | .hbm, ⟨75, _⟩ => ⟨S128x128, .i1⟩
  | .hbm, ⟨76, _⟩ => ⟨S128x128, .i1⟩
  | .hbm, ⟨77, _⟩ => ⟨S1x128x128, .i1⟩
  | .hbm, ⟨78, _⟩ => ⟨S_, .f32⟩
  | .hbm, ⟨79, _⟩ => ⟨S4x128x128, .i1⟩
  | .hbm, ⟨80, _⟩ => ⟨S4x128x128, .f32⟩
  | .hbm, ⟨81, _⟩ => ⟨S4x128x128, .f32⟩
  | .hbm, ⟨82, _⟩ => ⟨S_, .f32⟩
  | .hbm, ⟨83, _⟩ => ⟨S4x128x128, .f32⟩
  | .hbm, ⟨84, _⟩ => ⟨S4x1x32x128x128, .f32⟩
  | .hbm, ⟨85, _⟩ => ⟨S1x32x128x4x128, .f32⟩
  | .hbm, ⟨86, _⟩ => ⟨S128x4, .f32⟩
  | .hbm, ⟨87, _⟩ => ⟨S128x4x1, .f32⟩
  | .hbm, ⟨88, _⟩ => ⟨S1x1x128x4x1, .f32⟩
  | .hbm, ⟨89, _⟩ => ⟨S1x32x128x4x128, .f32⟩
  | .hbm, ⟨90, _⟩ => ⟨S1x32x128x4x128, .f32⟩
  | .hbm, ⟨91, _⟩ => ⟨S1x32x128x4x128, .f32⟩
  | .hbm, ⟨92, _⟩ => ⟨S1x32x128x4x128, .f32⟩
  | .hbm, ⟨93, _⟩ => ⟨S1x4096x512, .f32⟩
  | .hbm, ⟨94, _⟩ => ⟨S1x32x128x4x128, .f32⟩
  | .hbm, ⟨95, _⟩ => ⟨S1x32x128x4x128, .f32⟩
  | .hbm, ⟨96, _⟩ => ⟨S_, .f32⟩
  | .hbm, ⟨97, _⟩ => ⟨S1x128x4, .f32⟩
  | .hbm, ⟨98, _⟩ => ⟨S1x1x128x4x1, .f32⟩
  | .hbm, ⟨99, _⟩ => ⟨S_, .f32⟩
  | .hbm, ⟨100, _⟩ => ⟨S128x4, .f32⟩
  | .hbm, ⟨101, _⟩ => ⟨S128x4x1, .f32⟩
  | .hbm, ⟨102, _⟩ => ⟨S_, .f32⟩
  | .hbm, ⟨103, _⟩ => ⟨S128x4, .f32⟩
  | .hbm, ⟨104, _⟩ => ⟨S4x128, .f32⟩
  | .hbm, ⟨105, _⟩ => ⟨S4x1x32x128x128, .f32⟩
  | .hbm, ⟨106, _⟩ => ⟨S4x128x128, .f32⟩
  | .hbm, ⟨107, _⟩ => ⟨S4x1x32x128x128, .f32⟩
  | .hbm, ⟨108, _⟩ => ⟨S1x32x128x4x128, .f32⟩
  | .hbm, ⟨109, _⟩ => ⟨S_, .f32⟩
  | .hbm, ⟨110, _⟩ => ⟨S4x128x128, .f32⟩
  | .hbm, ⟨111, _⟩ => ⟨S4x128x128, .f32⟩
  | .hbm, ⟨112, _⟩ => ⟨S1x4096x4x128, .f32⟩
  | .hbm, ⟨113, _⟩ => ⟨S_, .f32⟩
  | .hbm, ⟨114, _⟩ => ⟨S1x4x128, .f32⟩
  | .hbm, ⟨115, _⟩ => ⟨S1x1x4x128, .f32⟩
  | .hbm, ⟨116, _⟩ => ⟨S_, .f32⟩
  | .hbm, ⟨117, _⟩ => ⟨S4x128, .f32⟩
  | .hbm, ⟨118, _⟩ => ⟨S1x4096x4x128, .f32⟩
  | .hbm, ⟨119, _⟩ => ⟨S_, .f32⟩
  | .hbm, ⟨120, _⟩ => ⟨S1x4x128, .f32⟩
  | .hbm, ⟨121, _⟩ => ⟨S1x1x4x128, .f32⟩
  | .hbm, ⟨122, _⟩ => ⟨S_, .f32⟩
  | .hbm, ⟨123, _⟩ => ⟨S4x128, .f32⟩
  | .hbm, ⟨124, _⟩ => ⟨S4x1x128, .f32⟩
  | .hbm, ⟨125, _⟩ => ⟨S4x1x128, .f32⟩
  | .hbm, ⟨126, _⟩ => ⟨S4x128x1, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_cst_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_cst_6 : Ref sig .tc := ⟨.hbm, 50, rfl⟩
abbrev main_v30 : Ref sig .tc := ⟨.hbm, 51, rfl⟩
abbrev main_v31 : Ref sig .tc := ⟨.hbm, 52, rfl⟩
abbrev main_cst_7 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c : Ref sig .tc := ⟨.hbm, 66, rfl⟩
abbrev main_v44 : Ref sig .tc := ⟨.hbm, 67, rfl⟩
abbrev main_call0_v0 : Ref sig .tc := ⟨.hbm, 68, rfl⟩
abbrev main_call0_c : Ref sig .tc := ⟨.hbm, 69, rfl⟩
abbrev main_call0_v1 : Ref sig .tc := ⟨.hbm, 70, rfl⟩
abbrev main_call0_v2 : Ref sig .tc := ⟨.hbm, 71, rfl⟩
abbrev main_call0_v3 : Ref sig .tc := ⟨.hbm, 72, rfl⟩
abbrev main_call0_v4 : Ref sig .tc := ⟨.hbm, 73, rfl⟩
abbrev main_call0_c_0 : Ref sig .tc := ⟨.hbm, 74, rfl⟩
abbrev main_call0_v5 : Ref sig .tc := ⟨.hbm, 75, rfl⟩
abbrev main_v45 : Ref sig .tc := ⟨.hbm, 76, rfl⟩
abbrev main_v46 : Ref sig .tc := ⟨.hbm, 77, rfl⟩
abbrev main_cst_8 : Ref sig .tc := ⟨.hbm, 78, rfl⟩
abbrev main_v47_1 : Ref sig .tc := ⟨.hbm, 79, rfl⟩
abbrev main_call1_v1 : Ref sig .tc := ⟨.hbm, 80, rfl⟩
abbrev main_v47_0 : Ref sig .tc := ⟨.hbm, 81, rfl⟩
abbrev main_call1_cst : Ref sig .tc := ⟨.hbm, 82, rfl⟩
abbrev main_v47_2 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_9 : Ref sig .tc := ⟨.hbm, 96, rfl⟩
abbrev main_v60 : Ref sig .tc := ⟨.hbm, 97, rfl⟩
abbrev main_v61 : Ref sig .tc := ⟨.hbm, 98, rfl⟩
abbrev main_cst_10 : Ref sig .tc := ⟨.hbm, 99, rfl⟩
abbrev main_v62 : Ref sig .tc := ⟨.hbm, 100, rfl⟩
abbrev main_v63 : Ref sig .tc := ⟨.hbm, 101, rfl⟩
abbrev main_cst_11 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_call2_cst : Ref sig .tc := ⟨.hbm, 109, rfl⟩
abbrev main_call2_v0 : Ref sig .tc := ⟨.hbm, 110, rfl⟩
abbrev main_v70 : Ref sig .tc := ⟨.hbm, 111, rfl⟩
abbrev main_v71 : Ref sig .tc := ⟨.hbm, 112, rfl⟩
abbrev main_cst_12 : Ref sig .tc := ⟨.hbm, 113, rfl⟩
abbrev main_v72 : Ref sig .tc := ⟨.hbm, 114, rfl⟩
abbrev main_v73 : Ref sig .tc := ⟨.hbm, 115, rfl⟩
abbrev main_cst_13 : Ref sig .tc := ⟨.hbm, 116, rfl⟩
abbrev main_v74 : Ref sig .tc := ⟨.hbm, 117, rfl⟩
abbrev main_v75 : Ref sig .tc := ⟨.hbm, 118, rfl⟩
abbrev main_cst_14 : Ref sig .tc := ⟨.hbm, 119, rfl⟩
abbrev main_v76 : Ref sig .tc := ⟨.hbm, 120, rfl⟩
abbrev main_v77 : Ref sig .tc := ⟨.hbm, 121, rfl⟩
abbrev main_cst_15 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩

abbrev nD : Nat := 1
abbrev τ : Topo := Topo.v7x

variable {F : FTy → Type} [FloatOps F]
-- ==== Kernel2.lean ====
abbrev S4096x2048 : Shape := ⟨2, ![4096, 2048]⟩
abbrev S8x704x2048 : Shape := ⟨3, ![8, 704, 2048]⟩
abbrev S8x4096x704 : Shape := ⟨3, ![8, 4096, 704]⟩
abbrev S1024x2048 : Shape := ⟨2, ![1024, 2048]⟩
abbrev S1x704x2048 : Shape := ⟨3, ![1, 704, 2048]⟩
abbrev S1x1024x704 : Shape := ⟨3, ![1, 1024, 704]⟩
abbrev S704x2048 : Shape := ⟨2, ![704, 2048]⟩
abbrev S1024x704 : Shape := ⟨2, ![1024, 704]⟩
abbrev S256x2048 : Shape := ⟨2, ![256, 2048]⟩
abbrev S256x704 : Shape := ⟨2, ![256, 704]⟩
abbrev S1x256x704 : Shape := ⟨3, ![1, 256, 704]⟩
abbrev S1x4096x704 : Shape := ⟨3, ![1, 4096, 704]⟩
abbrev S4096x1024 : Shape := ⟨2, ![4096, 1024]⟩
abbrev S1x704x1024 : Shape := ⟨3, ![1, 704, 1024]⟩
abbrev S4096x704 : Shape := ⟨2, ![4096, 704]⟩
abbrev S704x1024 : Shape := ⟨2, ![704, 1024]⟩
abbrev S8x512x704 : Shape := ⟨3, ![8, 512, 704]⟩
abbrev S8x704x1024 : Shape := ⟨3, ![8, 704, 1024]⟩
abbrev S512x1024 : Shape := ⟨2, ![512, 1024]⟩
abbrev S1x512x704 : Shape := ⟨3, ![1, 512, 704]⟩
abbrev S512x704 : Shape := ⟨2, ![512, 704]⟩

abbrev nBuf : Space → Nat
  | .hbm => 15
  | .vmem => 56
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S8x704x2048, .bf16⟩
  | .hbm, ⟨3, _⟩ => ⟨S8x704x2048, .bf16⟩
  | .hbm, ⟨4, _⟩ => ⟨S8x704x2048, .bf16⟩
  | .hbm, ⟨5, _⟩ => ⟨S8x4096x704, .bf16⟩
  | .hbm, ⟨6, _⟩ => ⟨S8x4096x704, .bf16⟩
  | .hbm, ⟨7, _⟩ => ⟨S8x4096x704, .bf16⟩
  | .hbm, ⟨8, _⟩ => ⟨S8x4096x704, .bf16⟩
  | .hbm, ⟨9, _⟩ => ⟨S8x4096x704, .bf16⟩
  | .hbm, ⟨10, _⟩ => ⟨S8x704x2048, .f32⟩
  | .hbm, ⟨11, _⟩ => ⟨S8x704x2048, .f32⟩
  | .hbm, ⟨12, _⟩ => ⟨S8x704x2048, .f32⟩
  | .hbm, ⟨13, _⟩ => ⟨S4096x2048, .f32⟩
  | .hbm, ⟨14, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x704x2048, .bf16⟩
  | .local _ .vmem, ⟨3, _⟩ => ⟨S1x704x2048, .bf16⟩
  | .local _ .vmem, ⟨4, _⟩ => ⟨S1x704x2048, .bf16⟩
  | .local _ .vmem, ⟨5, _⟩ => ⟨S1x704x2048, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | .local _ .vmem, ⟨12, _⟩ => ⟨S1024x2048, .bf16⟩
  | .local _ .vmem, ⟨13, _⟩ => ⟨S1024x2048, .bf16⟩
  | .local _ .vmem, ⟨14, _⟩ => ⟨S1x704x2048, .bf16⟩
  | .local _ .vmem, ⟨15, _⟩ => ⟨S1x704x2048, .bf16⟩
  | .local _ .vmem, ⟨16, _⟩ => ⟨S1x1024x704, .bf16⟩
  | .local _ .vmem, ⟨17, _⟩ => ⟨S1x1024x704, .bf16⟩
  | .local _ .vmem, ⟨18, _⟩ => ⟨S1x1024x704, .bf16⟩
  | .local _ .vmem, ⟨19, _⟩ => ⟨S1x1024x704, .bf16⟩
  | .local _ .vmem, ⟨20, _⟩ => ⟨S1x1024x704, .bf16⟩
  | .local _ .vmem, ⟨21, _⟩ => ⟨S1x1024x704, .bf16⟩
  | .local _ .vmem, ⟨22, _⟩ => ⟨S1x1024x704, .bf16⟩
  | .local _ .vmem, ⟨23, _⟩ => ⟨S1x1024x704, .bf16⟩
  | .local _ .vmem, ⟨24, _⟩ => ⟨S1x4096x704, .bf16⟩
  | .local _ .vmem, ⟨25, _⟩ => ⟨S1x4096x704, .bf16⟩
  | .local _ .vmem, ⟨26, _⟩ => ⟨S4096x1024, .bf16⟩
  | .local _ .vmem, ⟨27, _⟩ => ⟨S4096x1024, .bf16⟩
  | .local _ .vmem, ⟨28, _⟩ => ⟨S1x704x1024, .f32⟩
  | .local _ .vmem, ⟨29, _⟩ => ⟨S1x704x1024, .f32⟩
  | .local _ .vmem, ⟨30, _⟩ => ⟨S1x4096x704, .bf16⟩
  | .local _ .vmem, ⟨31, _⟩ => ⟨S1x4096x704, .bf16⟩
  | .local _ .vmem, ⟨32, _⟩ => ⟨S4096x1024, .bf16⟩
  | .local _ .vmem, ⟨33, _⟩ => ⟨S4096x1024, .bf16⟩
  | .local _ .vmem, ⟨34, _⟩ => ⟨S1x704x1024, .f32⟩
  | .local _ .vmem, ⟨35, _⟩ => ⟨S1x704x1024, .f32⟩
  | .local _ .vmem, ⟨36, _⟩ => ⟨S1x4096x704, .bf16⟩
  | .local _ .vmem, ⟨37, _⟩ => ⟨S1x4096x704, .bf16⟩
  | .local _ .vmem, ⟨38, _⟩ => ⟨S4096x1024, .bf16⟩
  | .local _ .vmem, ⟨39, _⟩ => ⟨S4096x1024, .bf16⟩
  | .local _ .vmem, ⟨40, _⟩ => ⟨S1x704x1024, .f32⟩
  | .local _ .vmem, ⟨41, _⟩ => ⟨S1x704x1024, .f32⟩
  | .local _ .vmem, ⟨42, _⟩ => ⟨S8x512x704, .bf16⟩
  | .local _ .vmem, ⟨43, _⟩ => ⟨S8x512x704, .bf16⟩
  | .local _ .vmem, ⟨44, _⟩ => ⟨S8x704x1024, .bf16⟩
  | .local _ .vmem, ⟨45, _⟩ => ⟨S8x704x1024, .bf16⟩
  | .local _ .vmem, ⟨46, _⟩ => ⟨S512x1024, .f32⟩
  | .local _ .vmem, ⟨47, _⟩ => ⟨S512x1024, .f32⟩
  | .local _ .vmem, ⟨48, _⟩ => ⟨S8x512x704, .bf16⟩
  | .local _ .vmem, ⟨49, _⟩ => ⟨S8x512x704, .bf16⟩
  | .local _ .vmem, ⟨50, _⟩ => ⟨S8x704x1024, .bf16⟩
  | .local _ .vmem, ⟨51, _⟩ => ⟨S8x704x1024, .bf16⟩
  | .local _ .vmem, ⟨52, _⟩ => ⟨S512x1024, .f32⟩
  | .local _ .vmem, ⟨53, _⟩ => ⟨S512x1024, .f32⟩
  | .local _ .vmem, ⟨54, _⟩ => ⟨S512x1024, .f32⟩
  | .local _ .vmem, ⟨55, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1_0 : Ref sig .tc := ⟨.hbm, 8, rfl⟩
abbrev main_v1_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg2_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc6_stg2_1 : Ref sig .tc := ⟨.vmem, 53, rfl⟩
abbrev cc6_stg3_0 : Ref sig .tc := ⟨.vmem, 54, rfl⟩
abbrev cc6_stg3_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem2_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem2_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem2_1 : DmaSem sig := 53
abbrev cc6_sem3_0 : DmaSem sig := 54
abbrev cc6_sem3_1 : DmaSem sig := 55

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x704x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1024x704 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1024x704 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1024x704 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1024x704 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![8, 2], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x4096x704 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x704x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![2, 8], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage3_0 : Fin 2 → Memref sig .tc .vmem S1x4096x704 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x704x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![2, 8], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage4_0 : Fin 2 → Memref sig .tc .vmem S1x4096x704 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S4096x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1x704x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![2, 8], ![false, false]⟩

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage5_0 : Fin 2 → Memref sig .tc .vmem S8x512x704 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S8x704x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S512x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![2, 8], ![false, false]⟩

def cc6_transform_0 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc6_transform_1 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage6_0 : Fin 2 → Memref sig .tc .vmem S8x512x704 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true]

abbrev stage6_1 : Fin 2 → Memref sig .tc .vmem S8x704x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false]

abbrev stage6_2 : Fin 2 → Memref sig .tc .vmem S512x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev stage6_3 : Fin 2 → Memref sig .tc .vmem S512x1024 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true]
-- ==== Reference2Ideal.lean ====
abbrev S4096x2048 : Shape := ⟨2, ![4096, 2048]⟩
abbrev S8x704x2048 : Shape := ⟨3, ![8, 704, 2048]⟩
abbrev S5632x2048 : Shape := ⟨2, ![5632, 2048]⟩
abbrev S2048x5632 : Shape := ⟨2, ![2048, 5632]⟩
abbrev S4096x5632 : Shape := ⟨2, ![4096, 5632]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S8x704x2048, .bf16⟩
  | .hbm, ⟨3, _⟩ => ⟨S8x704x2048, .bf16⟩
  | .hbm, ⟨4, _⟩ => ⟨S8x704x2048, .bf16⟩
  | .hbm, ⟨5, _⟩ => ⟨S8x704x2048, .f32⟩
  | .hbm, ⟨6, _⟩ => ⟨S5632x2048, .f32⟩
  | .hbm, ⟨7, _⟩ => ⟨S2048x5632, .f32⟩
  | .hbm, ⟨8, _⟩ => ⟨S8x704x2048, .f32⟩
  | .hbm, ⟨9, _⟩ => ⟨S5632x2048, .f32⟩
  | .hbm, ⟨10, _⟩ => ⟨S2048x5632, .f32⟩
  | .hbm, ⟨11, _⟩ => ⟨S8x704x2048, .f32⟩
  | .hbm, ⟨12, _⟩ => ⟨S5632x2048, .f32⟩
  | .hbm, ⟨13, _⟩ => ⟨S4096x2048, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S_, .f32⟩
  | .hbm, ⟨18, _⟩ => ⟨S4096x5632, .f32⟩
  | .hbm, ⟨19, _⟩ => ⟨S4096x5632, .f32⟩
  | .hbm, ⟨20, _⟩ => ⟨S_, .f32⟩
  | .hbm, ⟨21, _⟩ => ⟨S4096x5632, .f32⟩
  | .hbm, ⟨22, _⟩ => ⟨S4096x5632, .f32⟩
  | .hbm, ⟨23, _⟩ => ⟨S_, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x2048, .f32⟩
  | .hbm, ⟨31, _⟩ => ⟨S4096x2048, .f32⟩
  | .hbm, ⟨32, _⟩ => ⟨S2048x5632, .f32⟩
  | .hbm, ⟨33, _⟩ => ⟨S5632x2048, .f32⟩
  | .hbm, ⟨34, _⟩ => ⟨S4096x5632, .f32⟩
  | .hbm, ⟨35, _⟩ => ⟨S4096x5632, .f32⟩
  | .hbm, ⟨36, _⟩ => ⟨S4096x5632, .f32⟩
  | .hbm, ⟨37, _⟩ => ⟨S5632x2048, .f32⟩
  | .hbm, ⟨38, _⟩ => ⟨S2048x5632, .f32⟩
  | .hbm, ⟨39, _⟩ => ⟨S4096x2048, .f32⟩
  | .hbm, ⟨40, _⟩ => ⟨S4096x5632, .f32⟩
  | .hbm, ⟨41, _⟩ => ⟨S4096x5632, .f32⟩
  | .hbm, ⟨42, _⟩ => ⟨S4096x5632, .f32⟩
  | .hbm, ⟨43, _⟩ => ⟨S4096x5632, .f32⟩
  | .hbm, ⟨44, _⟩ => ⟨S5632x2048, .f32⟩
  | .hbm, ⟨45, _⟩ => ⟨S2048x5632, .f32⟩
  | .hbm, ⟨46, _⟩ => ⟨S4096x2048, .f32⟩
  | .hbm, ⟨47, _⟩ => ⟨S4096x2048, .f32⟩
  | .hbm, ⟨48, _⟩ => ⟨S5632x2048, .f32⟩
  | .hbm, ⟨49, _⟩ => ⟨S8x704x2048, .f32⟩
  | .hbm, ⟨50, _⟩ => ⟨S5632x2048, .f32⟩
  | .hbm, ⟨51, _⟩ => ⟨S8x704x2048, .f32⟩
  | .hbm, ⟨52, _⟩ => ⟨S8x704x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_v10_2 : Ref sig .tc := ⟨.hbm, 22, rfl⟩
abbrev main_call0_cst_1 : Ref sig .tc := ⟨.hbm, 23, rfl⟩
abbrev main_call0_v6 : Ref sig .tc := ⟨.hbm, 24, rfl⟩
abbrev main_call0_v7 : Ref sig .tc := ⟨.hbm, 25, rfl⟩
abbrev main_v10_1 : Ref sig .tc := ⟨.hbm, 26, rfl⟩
abbrev main_v10_0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Kernel3.lean ====
abbrev S4096x4096 : Shape := ⟨2, ![4096, 4096]⟩
abbrev S4096x2048 : Shape := ⟨2, ![4096, 2048]⟩
abbrev S2048 : Shape := ⟨1, ![2048]⟩
abbrev S8x2048x512 : Shape := ⟨3, ![8, 2048, 512]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩
abbrev S4096x1024 : Shape := ⟨2, ![4096, 1024]⟩
abbrev S4096x512 : Shape := ⟨2, ![4096, 512]⟩
abbrev S1x1024x512 : Shape := ⟨3, ![1, 1024, 512]⟩
abbrev S256x4096 : Shape := ⟨2, ![256, 4096]⟩
abbrev S256x2048 : Shape := ⟨2, ![256, 2048]⟩
abbrev S256x512 : Shape := ⟨2, ![256, 512]⟩
abbrev S256 : Shape := ⟨1, ![256]⟩
abbrev S256x1 : Shape := ⟨2, ![256, 1]⟩

abbrev nBuf : Space → Nat
  | .hbm => 11
  | .vmem => 28
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .f32⟩
  | .hbm, ⟨2, _⟩ => ⟨S4096x2048, .f32⟩
  | .hbm, ⟨3, _⟩ => ⟨S2048, .f32⟩
  | .hbm, ⟨4, _⟩ => ⟨S8x2048x512, .bf16⟩
  | .hbm, ⟨5, _⟩ => ⟨S1x2048, .f32⟩
  | .hbm, ⟨6, _⟩ => ⟨S4096x2048, .bf16⟩
  | .hbm, ⟨7, _⟩ => ⟨S4096x4096, .f32⟩
  | .hbm, ⟨8, _⟩ => ⟨S8x2048x512, .f32⟩
  | .hbm, ⟨9, _⟩ => ⟨S4096x2048, .f32⟩
  | .hbm, ⟨10, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1x2048x512, .bf16⟩
  | .local _ .vmem, ⟨8, _⟩ => ⟨S1x2048x512, .bf16⟩
  | .local _ .vmem, ⟨9, _⟩ => ⟨S1024x512, .f32⟩
  | .local _ .vmem, ⟨10, _⟩ => ⟨S1024x512, .f32⟩
  | .local _ .vmem, ⟨11, _⟩ => ⟨S4096x1024, .bf16⟩
  | .local _ .vmem, ⟨12, _⟩ => ⟨S4096x1024, .bf16⟩
  | .local _ .vmem, ⟨13, _⟩ => ⟨S4096x512, .bf16⟩
  | .local _ .vmem, ⟨14, _⟩ => ⟨S4096x512, .bf16⟩
  | .local _ .vmem, ⟨15, _⟩ => ⟨S1x1024x512, .f32⟩
  | .local _ .vmem, ⟨16, _⟩ => ⟨S1x1024x512, .f32⟩
  | .local _ .vmem, ⟨17, _⟩ => ⟨S256x4096, .bf16⟩
  | .local _ .vmem, ⟨18, _⟩ => ⟨S256x4096, .bf16⟩
  | .local _ .vmem, ⟨19, _⟩ => ⟨S8x2048x512, .bf16⟩
  | .local _ .vmem, ⟨20, _⟩ => ⟨S256x2048, .f32⟩
  | .local _ .vmem, ⟨21, _⟩ => ⟨S256x2048, .f32⟩
  | .local _ .vmem, ⟨22, _⟩ => ⟨S1x2048, .f32⟩
  | .local _ .vmem, ⟨23, _⟩ => ⟨S256x2048, .f32⟩
  | .local _ .vmem, ⟨24, _⟩ => ⟨S256x2048, .f32⟩
  | .local _ .vmem, ⟨25, _⟩ => ⟨S256x2048, .f32⟩
  | .local _ .vmem, ⟨26, _⟩ => ⟨S256x2048, .f32⟩
  | .local _ .vmem, ⟨27, _⟩ => ⟨S1x2048, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg4_1 : Ref sig .tc := ⟨.vmem, 24, rfl⟩
abbrev cc3_stg5_0 : Ref sig .tc := ⟨.vmem, 25, rfl⟩
abbrev cc3_stg5_1 : Ref sig .tc := ⟨.vmem, 26, rfl⟩
abbrev cc3_stg6_0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc3_sem3_0 : DmaSem sig := 22
abbrev cc3_sem4_0 : DmaSem sig := 23
abbrev cc3_sem4_1 : DmaSem sig := 24
abbrev cc3_sem5_0 : DmaSem sig := 25
abbrev cc3_sem5_1 : DmaSem sig := 26
abbrev cc3_sem6_0 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![2, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage2_0 : Fin 2 → Memref sig .tc .vmem S4096x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4096x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S256x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S8x2048x512 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x2048 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S256x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S256x2048 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S1x2048 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]
-- ==== Reference3Ideal.lean ====
abbrev S4096x4096 : Shape := ⟨2, ![4096, 4096]⟩
abbrev S4096x2048 : Shape := ⟨2, ![4096, 2048]⟩
abbrev S2048 : Shape := ⟨1, ![2048]⟩
abbrev S8x2048x512 : Shape := ⟨3, ![8, 2048, 512]⟩
abbrev S2048x8x512 : Shape := ⟨3, ![2048, 8, 512]⟩
abbrev S2048x4096 : Shape := ⟨2, ![2048, 4096]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 62
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .f32⟩
  | .hbm, ⟨2, _⟩ => ⟨S4096x2048, .f32⟩
  | .hbm, ⟨3, _⟩ => ⟨S2048, .f32⟩
  | .hbm, ⟨4, _⟩ => ⟨S8x2048x512, .bf16⟩
  | .hbm, ⟨5, _⟩ => ⟨S8x2048x512, .f32⟩
  | .hbm, ⟨6, _⟩ => ⟨S2048x8x512, .f32⟩
  | .hbm, ⟨7, _⟩ => ⟨S2048x4096, .f32⟩
  | .hbm, ⟨8, _⟩ => ⟨S4096x2048, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x2048, .f32⟩
  | .hbm, ⟨24, _⟩ => ⟨S4096x2048, .f32⟩
  | .hbm, ⟨25, _⟩ => ⟨S1x2048, .f32⟩
  | .hbm, ⟨26, _⟩ => ⟨S4096x2048, .f32⟩
  | .hbm, ⟨27, _⟩ => ⟨S4096x2048, .f32⟩
  | .hbm, ⟨28, _⟩ => ⟨S4096x4096, .f32⟩
  | .hbm, ⟨29, _⟩ => ⟨S4096x4096, .f32⟩
  | .hbm, ⟨30, _⟩ => ⟨S4096x2048, .f32⟩
  | .hbm, ⟨31, _⟩ => ⟨S2048x4096, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S4096x2048, .f32⟩
  | .hbm, ⟨38, _⟩ => ⟨S4096x2048, .f32⟩
  | .hbm, ⟨39, _⟩ => ⟨S_, .f32⟩
  | .hbm, ⟨40, _⟩ => ⟨S2048, .f32⟩
  | .hbm, ⟨41, _⟩ => ⟨S4096x2048, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S4096x2048, .f32⟩
  | .hbm, ⟨46, _⟩ => ⟨S4096x2048, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S1x2048, .f32⟩
  | .hbm, ⟨60, _⟩ => ⟨S2048x8x512, .f32⟩
  | .hbm, ⟨61, _⟩ => ⟨S8x2048x512, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]
-- ==== Kernel4.lean ====
abbrev S4096x2048 : Shape := ⟨2, ![4096, 2048]⟩
abbrev S2048 : Shape := ⟨1, ![2048]⟩
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S256x2048 : Shape := ⟨2, ![256, 2048]⟩
abbrev S256 : Shape := ⟨1, ![256]⟩
abbrev S256x1 : Shape := ⟨2, ![256, 1]⟩
abbrev S4096x1024 : Shape := ⟨2, ![4096, 1024]⟩
abbrev S1024x1024 : Shape := ⟨2, ![1024, 1024]⟩

abbrev nBuf : Space → Nat
  | .hbm => 14
  | .vmem => 31
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .bf16⟩
  | .hbm, ⟨3, _⟩ => ⟨S4096x2048, .f32⟩
  | .hbm, ⟨4, _⟩ => ⟨S2048, .f32⟩
  | .hbm, ⟨5, _⟩ => ⟨S2048x2048, .bf16⟩
  | .hbm, ⟨6, _⟩ => ⟨S1x2048, .f32⟩
  | .hbm, ⟨7, _⟩ => ⟨S4096x2048, .f32⟩
  | .hbm, ⟨8, _⟩ => ⟨S4096x2048, .bf16⟩
  | .hbm, ⟨9, _⟩ => ⟨S4096x2048, .f32⟩
  | .hbm, ⟨10, _⟩ => ⟨S4096x2048, .bf16⟩
  | .hbm, ⟨11, _⟩ => ⟨S1x2048, .f32⟩
  | .hbm, ⟨12, _⟩ => ⟨S4096x2048, .bf16⟩
  | .hbm, ⟨13, _⟩ => ⟨S2048x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S1x2048, .f32⟩
  | .local _ .vmem, ⟨15, _⟩ => ⟨S256x2048, .f32⟩
  | .local _ .vmem, ⟨16, _⟩ => ⟨S256x2048, .f32⟩
  | .local _ .vmem, ⟨17, _⟩ => ⟨S2048x2048, .bf16⟩
  | .local _ .vmem, ⟨18, _⟩ => ⟨S256x2048, .f32⟩
  | .local _ .vmem, ⟨19, _⟩ => ⟨S256x2048, .f32⟩
  | .local _ .vmem, ⟨20, _⟩ => ⟨S256x2048, .bf16⟩
  | .local _ .vmem, ⟨21, _⟩ => ⟨S256x2048, .bf16⟩
  | .local _ .vmem, ⟨22, _⟩ => ⟨S1x2048, .f32⟩
  | .local _ .vmem, ⟨23, _⟩ => ⟨S256x2048, .bf16⟩
  | .local _ .vmem, ⟨24, _⟩ => ⟨S256x2048, .bf16⟩
  | .local _ .vmem, ⟨25, _⟩ => ⟨S4096x1024, .bf16⟩
  | .local _ .vmem, ⟨26, _⟩ => ⟨S4096x1024, .bf16⟩
  | .local _ .vmem, ⟨27, _⟩ => ⟨S4096x1024, .bf16⟩
  | .local _ .vmem, ⟨28, _⟩ => ⟨S4096x1024, .bf16⟩
  | .local _ .vmem, ⟨29, _⟩ => ⟨S1024x1024, .f32⟩
  | .local _ .vmem, ⟨30, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg8_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg1_1 : Ref sig .tc := ⟨.vmem, 28, rfl⟩
abbrev cc2_stg2_0 : Ref sig .tc := ⟨.vmem, 29, rfl⟩
abbrev cc2_stg2_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem3_1 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem8_0 : DmaSem sig := 23
abbrev cc1_sem8_1 : DmaSem sig := 24
abbrev cc2_sem0_0 : DmaSem sig := 25
abbrev cc2_sem0_1 : DmaSem sig := 26
abbrev cc2_sem1_0 : DmaSem sig := 27
abbrev cc2_sem1_1 : DmaSem sig := 28
abbrev cc2_sem2_0 : DmaSem sig := 29
abbrev cc2_sem2_1 : DmaSem sig := 30

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S2048x2048 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x2048 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x2048 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x2048 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨2, ![2, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S4096x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== Reference4Ideal.lean ====
abbrev S4096x2048 : Shape := ⟨2, ![4096, 2048]⟩
abbrev S2048 : Shape := ⟨1, ![2048]⟩
abbrev S2048x2048 : Shape := ⟨2, ![2048, 2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 63
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .bf16⟩
  | .hbm, ⟨3, _⟩ => ⟨S4096x2048, .f32⟩
  | .hbm, ⟨4, _⟩ => ⟨S2048, .f32⟩
  | .hbm, ⟨5, _⟩ => ⟨S2048x2048, .bf16⟩
  | .hbm, ⟨6, _⟩ => ⟨S4096x2048, .f32⟩
  | .hbm, ⟨7, _⟩ => ⟨S2048x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x2048, .f32⟩
  | .hbm, ⟨26, _⟩ => ⟨S4096x2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S1x2048, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S2048, .f32⟩
  | .hbm, ⟨38, _⟩ => ⟨S4096x2048, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S2048x2048, .f32⟩
  | .hbm, ⟨58, _⟩ => ⟨S2048x2048, .f32⟩
  | .hbm, ⟨59, _⟩ => ⟨S4096x2048, .f32⟩
  | .hbm, ⟨60, _⟩ => ⟨S4096x2048, .bf16⟩
  | .hbm, ⟨61, _⟩ => ⟨S1x2048, .f32⟩
  | .hbm, ⟨62, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== Kernel5.lean ====
abbrev S4096x2048 : Shape := ⟨2, ![4096, 2048]⟩
abbrev S8x4096x704 : Shape := ⟨3, ![8, 4096, 704]⟩
abbrev S8x704x2048 : Shape := ⟨3, ![8, 704, 2048]⟩
abbrev S1x4096x256 : Shape := ⟨3, ![1, 4096, 256]⟩
abbrev S8x256x256 : Shape := ⟨3, ![8, 256, 256]⟩
abbrev S2048x2048 : Shape := ⟨2, ![2048, 2048]⟩
abbrev S2048 : Shape := ⟨1, ![2048]⟩
abbrev S1x2048 : Shape := ⟨2, ![1, 2048]⟩
abbrev S8x512x704 : Shape := ⟨3, ![8, 512, 704]⟩
abbrev S8x704x1024 : Shape := ⟨3, ![8, 704, 1024]⟩
abbrev S512x1024 : Shape := ⟨2, ![512, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S512x2048 : Shape := ⟨2, ![512, 2048]⟩
abbrev S512 : Shape := ⟨1, ![512]⟩
abbrev S512x1 : Shape := ⟨2, ![512, 1]⟩
abbrev S1x1024x256 : Shape := ⟨3, ![1, 1024, 256]⟩
abbrev S1x256x256 : Shape := ⟨3, ![1, 256, 256]⟩
abbrev S1024x256 : Shape := ⟨2, ![1024, 256]⟩
abbrev S256x256 : Shape := ⟨2, ![256, 256]⟩
abbrev S256x2048 : Shape := ⟨2, ![256, 2048]⟩
abbrev S256 : Shape := ⟨1, ![256]⟩
abbrev S256x1 : Shape := ⟨2, ![256, 1]⟩
abbrev S4096x256 : Shape := ⟨2, ![4096, 256]⟩
abbrev S4096x1024 : Shape := ⟨2, ![4096, 1024]⟩
abbrev S1024x1024 : Shape := ⟨2, ![1024, 1024]⟩

abbrev nBuf : Space → Nat
  | .hbm => 21
  | .vmem => 60
  | .smem => 0
  | _ => 0

abbrev bufTy : (tb : Table) → Fin (tcTables nBuf tb) → BufTy
  | .hbm, ⟨0, _⟩ => ⟨S4096x2048, .f32⟩
  | .hbm, ⟨1, _⟩ => ⟨S8x4096x704, .bf16⟩
  | .hbm, ⟨2, _⟩ => ⟨S8x704x2048, .bf16⟩
  | .hbm, ⟨3, _⟩ => ⟨S4096x2048, .f32⟩
  | .hbm, ⟨4, _⟩ => ⟨S1x4096x256, .bf16⟩
  | .hbm, ⟨5, _⟩ => ⟨S8x256x256, .bf16⟩
  | .hbm, ⟨6, _⟩ => ⟨S2048x2048, .bf16⟩
  | .hbm, ⟨7, _⟩ => ⟨S2048, .f32⟩
  | .hbm, ⟨8, _⟩ => ⟨S1x2048, .f32⟩
  | .hbm, ⟨9, _⟩ => ⟨S4096x2048, .f32⟩
  | .hbm, ⟨10, _⟩ => ⟨S4096x2048, .bf16⟩
  | .hbm, ⟨11, _⟩ => ⟨S4096x2048, .bf16⟩
  | .hbm, ⟨12, _⟩ => ⟨S4096x2048, .f32⟩
  | .hbm, ⟨13, _⟩ => ⟨S4096x2048, .bf16⟩
  | .hbm, ⟨14, _⟩ => ⟨S4096x2048, .f32⟩
  | .hbm, ⟨15, _⟩ => ⟨S4096x2048, .bf16⟩
  | .hbm, ⟨16, _⟩ => ⟨S1x2048, .f32⟩
  | .hbm, ⟨17, _⟩ => ⟨S4096x2048, .bf16⟩
  | .hbm, ⟨18, _⟩ => ⟨S4096x2048, .bf16⟩
  | .hbm, ⟨19, _⟩ => ⟨S8x256x256, .f32⟩
  | .hbm, ⟨20, _⟩ => ⟨S2048x2048, .f32⟩
  | .local _ .vmem, ⟨0, _⟩ => ⟨S8x512x704, .bf16⟩
  | .local _ .vmem, ⟨1, _⟩ => ⟨S8x512x704, .bf16⟩
  | .local _ .vmem, ⟨2, _⟩ => ⟨S8x704x1024, .bf16⟩
  | .local _ .vmem, ⟨3, _⟩ => ⟨S8x704x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | .local _ .vmem, ⟨11, _⟩ => ⟨S512x2048, .bf16⟩
  | .local _ .vmem, ⟨12, _⟩ => ⟨S512x2048, .bf16⟩
  | .local _ .vmem, ⟨13, _⟩ => ⟨S1x1024x256, .bf16⟩
  | .local _ .vmem, ⟨14, _⟩ => ⟨S1x1024x256, .bf16⟩
  | .local _ .vmem, ⟨15, _⟩ => ⟨S1x256x256, .bf16⟩
  | .local _ .vmem, ⟨16, _⟩ => ⟨S1x256x256, .bf16⟩
  | .local _ .vmem, ⟨17, _⟩ => ⟨S1024x256, .bf16⟩
  | .local _ .vmem, ⟨18, _⟩ => ⟨S1024x256, .bf16⟩
  | .local _ .vmem, ⟨19, _⟩ => ⟨S256x2048, .bf16⟩
  | .local _ .vmem, ⟨20, _⟩ => ⟨S256x2048, .bf16⟩
  | .local _ .vmem, ⟨21, _⟩ => ⟨S2048x2048, .bf16⟩
  | .local _ .vmem, ⟨22, _⟩ => ⟨S256x2048, .f32⟩
  | .local _ .vmem, ⟨23, _⟩ => ⟨S256x2048, .f32⟩
  | .local _ .vmem, ⟨24, _⟩ => ⟨S256x2048, .bf16⟩
  | .local _ .vmem, ⟨25, _⟩ => ⟨S256x2048, .bf16⟩
  | .local _ .vmem, ⟨26, _⟩ => ⟨S256x2048, .f32⟩
  | .local _ .vmem, ⟨27, _⟩ => ⟨S256x2048, .f32⟩
  | .local _ .vmem, ⟨28, _⟩ => ⟨S256x2048, .bf16⟩
  | .local _ .vmem, ⟨29, _⟩ => ⟨S256x2048, .bf16⟩
  | .local _ .vmem, ⟨30, _⟩ => ⟨S256x2048, .f32⟩
  | .local _ .vmem, ⟨31, _⟩ => ⟨S256x2048, .f32⟩
  | .local _ .vmem, ⟨32, _⟩ => ⟨S256x2048, .bf16⟩
  | .local _ .vmem, ⟨33, _⟩ => ⟨S256x2048, .bf16⟩
  | .local _ .vmem, ⟨34, _⟩ => ⟨S256x2048, .bf16⟩
  | .local _ .vmem, ⟨35, _⟩ => ⟨S256x2048, .bf16⟩
  | .local _ .vmem, ⟨36, _⟩ => ⟨S2048x2048, .bf16⟩
  | .local _ .vmem, ⟨37, _⟩ => ⟨S256x2048, .f32⟩
  | .local _ .vmem, ⟨38, _⟩ => ⟨S256x2048, .f32⟩
  | .local _ .vmem, ⟨39, _⟩ => ⟨S1x2048, .f32⟩
  | .local _ .vmem, ⟨40, _⟩ => ⟨S256x2048, .f32⟩
  | .local _ .vmem, ⟨41, _⟩ => ⟨S256x2048, .f32⟩
  | .local _ .vmem, ⟨42, _⟩ => ⟨S256x2048, .bf16⟩
  | .local _ .vmem, ⟨43, _⟩ => ⟨S256x2048, .bf16⟩
  | .local _ .vmem, ⟨44, _⟩ => ⟨S1x2048, .f32⟩
  | .local _ .vmem, ⟨45, _⟩ => ⟨S256x2048, .bf16⟩
  | .local _ .vmem, ⟨46, _⟩ => ⟨S256x2048, .bf16⟩
  | .local _ .vmem, ⟨47, _⟩ => ⟨S256x2048, .bf16⟩
  | .local _ .vmem, ⟨48, _⟩ => ⟨S256x2048, .bf16⟩
  | .local _ .vmem, ⟨49, _⟩ => ⟨S1x4096x256, .bf16⟩
  | .local _ .vmem, ⟨50, _⟩ => ⟨S4096x256, .bf16⟩
  | .local _ .vmem, ⟨51, _⟩ => ⟨S4096x256, .bf16⟩
  | .local _ .vmem, ⟨52, _⟩ => ⟨S1x256x256, .f32⟩
  | .local _ .vmem, ⟨53, _⟩ => ⟨S1x256x256, .f32⟩
  | .local _ .vmem, ⟨54, _⟩ => ⟨S4096x1024, .bf16⟩
  | .local _ .vmem, ⟨55, _⟩ => ⟨S4096x1024, .bf16⟩
  | .local _ .vmem, ⟨56, _⟩ => ⟨S4096x1024, .bf16⟩
  | .local _ .vmem, ⟨57, _⟩ => ⟨S4096x1024, .bf16⟩
  | .local _ .vmem, ⟨58, _⟩ => ⟨S1024x1024, .f32⟩
  | .local _ .vmem, ⟨59, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v5_4 : Ref sig .tc := ⟨.hbm, 18, rfl⟩
abbrev main_v6 : Ref sig .tc := ⟨.hbm, 19, rfl⟩
abbrev main_v7 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc3_stg5_0 : Ref sig .tc := ⟨.vmem, 28, rfl⟩
abbrev cc3_stg5_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg2_1 : Ref sig .tc := ⟨.vmem, 35, rfl⟩
abbrev cc4_stg3_0 : Ref sig .tc := ⟨.vmem, 36, rfl⟩
abbrev cc4_stg4_0 : Ref sig .tc := ⟨.vmem, 37, rfl⟩
abbrev cc4_stg4_1 : Ref sig .tc := ⟨.vmem, 38, rfl⟩
abbrev cc4_stg5_0 : Ref sig .tc := ⟨.vmem, 39, rfl⟩
abbrev cc4_stg6_0 : Ref sig .tc := ⟨.vmem, 40, rfl⟩
abbrev cc4_stg6_1 : Ref sig .tc := ⟨.vmem, 41, rfl⟩
abbrev cc4_stg7_0 : Ref sig .tc := ⟨.vmem, 42, rfl⟩
abbrev cc4_stg7_1 : Ref sig .tc := ⟨.vmem, 43, rfl⟩
abbrev cc4_stg8_0 : Ref sig .tc := ⟨.vmem, 44, rfl⟩
abbrev cc4_stg9_0 : Ref sig .tc := ⟨.vmem, 45, rfl⟩
abbrev cc4_stg9_1 : Ref sig .tc := ⟨.vmem, 46, rfl⟩
abbrev cc4_stg10_0 : Ref sig .tc := ⟨.vmem, 47, rfl⟩
abbrev cc4_stg10_1 : Ref sig .tc := ⟨.vmem, 48, rfl⟩
abbrev cc5_stg0_0 : Ref sig .tc := ⟨.vmem, 49, rfl⟩
abbrev cc5_stg1_0 : Ref sig .tc := ⟨.vmem, 50, rfl⟩
abbrev cc5_stg1_1 : Ref sig .tc := ⟨.vmem, 51, rfl⟩
abbrev cc5_stg2_0 : Ref sig .tc := ⟨.vmem, 52, rfl⟩
abbrev cc5_stg2_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg1_1 : Ref sig .tc := ⟨.vmem, 57, rfl⟩
abbrev cc6_stg2_0 : Ref sig .tc := ⟨.vmem, 58, rfl⟩
abbrev cc6_stg2_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem4_1 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem2_1 : DmaSem sig := 35
abbrev cc4_sem3_0 : DmaSem sig := 36
abbrev cc4_sem4_0 : DmaSem sig := 37
abbrev cc4_sem4_1 : DmaSem sig := 38
abbrev cc4_sem5_0 : DmaSem sig := 39
abbrev cc4_sem6_0 : DmaSem sig := 40
abbrev cc4_sem6_1 : DmaSem sig := 41
abbrev cc4_sem7_0 : DmaSem sig := 42
abbrev cc4_sem7_1 : DmaSem sig := 43
abbrev cc4_sem8_0 : DmaSem sig := 44
abbrev cc4_sem9_0 : DmaSem sig := 45
abbrev cc4_sem9_1 : DmaSem sig := 46
abbrev cc4_sem10_0 : DmaSem sig := 47
abbrev cc4_sem10_1 : DmaSem sig := 48
abbrev cc5_sem0_0 : DmaSem sig := 49
abbrev cc5_sem1_0 : DmaSem sig := 50
abbrev cc5_sem1_1 : DmaSem sig := 51
abbrev cc5_sem2_0 : DmaSem sig := 52
abbrev cc5_sem2_1 : DmaSem sig := 53
abbrev cc6_sem0_0 : DmaSem sig := 54
abbrev cc6_sem0_1 : DmaSem sig := 55
abbrev cc6_sem1_0 : DmaSem sig := 56
abbrev cc6_sem1_1 : DmaSem sig := 57
abbrev cc6_sem2_0 : DmaSem sig := 58
abbrev cc6_sem2_1 : DmaSem sig := 59

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![4, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1x1024x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x256x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2048x2048 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S256x2048 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S256x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S256x2048 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_10 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S256x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S256x2048 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S2048x2048 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S256x2048 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x2048 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S256x2048 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S256x2048 .bf16 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 1 → Memref sig .tc .vmem S1x2048 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S256x2048 .bf16 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev stage4_10 : Fin 2 → Memref sig .tc .vmem S256x2048 .bf16 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

abbrev grid5 : Pipeline.Grid := ⟨1, ![8], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_1 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_2 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 1 → Memref sig .tc .vmem S1x4096x256 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 2 → Memref sig .tc .vmem S4096x256 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1x256x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨2, ![2, 2], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S4096x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S4096x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S1024x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]
-- ==== Reference5Ideal.lean ====
abbrev S4096x2048 : Shape := ⟨2, ![4096, 2048]⟩
abbrev S8x4096x704 : Shape := ⟨3, ![8, 4096, 704]⟩
abbrev S8x704x2048 : Shape := ⟨3, ![8, 704, 2048]⟩
abbrev S1x4096x256 : Shape := ⟨3, ![1, 4096, 256]⟩
abbrev S8x256x256 : Shape := ⟨3, ![8, 256, 256]⟩
abbrev S2048x2048 : Shape := ⟨2, ![2048, 2048]⟩
abbrev S2048 : Shape := ⟨1, ![2048]⟩
abbrev S4096x256 : Shape := ⟨2, ![4096, 256]⟩
abbrev S4096x8x704 : Shape := ⟨3, ![4096, 8, 704]⟩
abbrev S4096x5632 : Shape := ⟨2, ![4096, 5632]⟩
abbrev S5632x2048 : Shape := ⟨2, ![5632, 2048]⟩
abbrev S256x8x256 : Shape := ⟨3, ![256, 8, 256]⟩
abbrev S256x2048 : Shape := ⟨2, ![256, 2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S2048x256 : Shape := ⟨2, ![2048, 256]⟩

abbrev nBuf : Space → Nat
  | .hbm => 96
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S8x4096x704, .bf16⟩
  | .hbm, ⟨2, _⟩ => ⟨S8x704x2048, .bf16⟩
  | .hbm, ⟨3, _⟩ => ⟨S4096x2048, .f32⟩
  | .hbm, ⟨4, _⟩ => ⟨S1x4096x256, .bf16⟩
  | .hbm, ⟨5, _⟩ => ⟨S8x256x256, .bf16⟩
  | .hbm, ⟨6, _⟩ => ⟨S2048x2048, .bf16⟩
  | .hbm, ⟨7, _⟩ => ⟨S2048, .f32⟩
  | .hbm, ⟨8, _⟩ => ⟨S1x4096x256, .f32⟩
  | .hbm, ⟨9, _⟩ => ⟨S4096x256, .f32⟩
  | .hbm, ⟨10, _⟩ => ⟨S8x4096x704, .f32⟩
  | .hbm, ⟨11, _⟩ => ⟨S4096x8x704, .f32⟩
  | .hbm, ⟨12, _⟩ => ⟨S4096x5632, .f32⟩
  | .hbm, ⟨13, _⟩ => ⟨S8x704x2048, .f32⟩
  | .hbm, ⟨14, _⟩ => ⟨S5632x2048, .f32⟩
  | .hbm, ⟨15, _⟩ => ⟨S4096x2048, .f32⟩
  | .hbm, ⟨16, _⟩ => ⟨S4096x2048, .f32⟩
  | .hbm, ⟨17, _⟩ => ⟨S8x256x256, .f32⟩
  | .hbm, ⟨18, _⟩ => ⟨S256x8x256, .f32⟩
  | .hbm, ⟨19, _⟩ => ⟨S256x2048, .f32⟩
  | .hbm, ⟨20, _⟩ => ⟨S2048x2048, .f32⟩
  | .hbm, ⟨21, _⟩ => ⟨S4096x2048, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S1x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S4096x2048, .f32⟩
  | .hbm, ⟨49, _⟩ => ⟨S4096x2048, .f32⟩
  | .hbm, ⟨50, _⟩ => ⟨S_, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S4096x2048, .f32⟩
  | .hbm, ⟨61, _⟩ => ⟨S2048x256, .f32⟩
  | .hbm, ⟨62, _⟩ => ⟨S256x2048, .f32⟩
  | .hbm, ⟨63, _⟩ => ⟨S4096x2048, .f32⟩
  | .hbm, ⟨64, _⟩ => ⟨S2048x2048, .f32⟩
  | .hbm, ⟨65, _⟩ => ⟨S2048x2048, .f32⟩
  | .hbm, ⟨66, _⟩ => ⟨S4096x2048, .f32⟩
  | .hbm, ⟨67, _⟩ => ⟨S4096x2048, .f32⟩
  | .hbm, ⟨68, _⟩ => ⟨S_, .f32⟩
  | .hbm, ⟨69, _⟩ => ⟨S2048, .f32⟩
  | .hbm, ⟨70, _⟩ => ⟨S1x2048, .f32⟩
  | .hbm, ⟨71, _⟩ => ⟨S4096x2048, .f32⟩
  | .hbm, ⟨72, _⟩ => ⟨S4096x2048, .f32⟩
  | .hbm, ⟨73, _⟩ => ⟨S_, .f32⟩
  | .hbm, ⟨74, _⟩ => ⟨S2048, .f32⟩
  | .hbm, ⟨75, _⟩ => ⟨S4096x2048, .f32⟩
  | .hbm, ⟨76, _⟩ => ⟨S_, .f32⟩
  | .hbm, ⟨77, _⟩ => ⟨S4096, .f32⟩
  | .hbm, ⟨78, _⟩ => ⟨S4096x1, .f32⟩
  | .hbm, ⟨79, _⟩ => ⟨S4096x2048, .f32⟩
  | .hbm, ⟨80, _⟩ => ⟨S4096x2048, .f32⟩
  | .hbm, ⟨81, _⟩ => ⟨S4096x2048, .f32⟩
  | .hbm, ⟨82, _⟩ => ⟨S4096x1, .f32⟩
  | .hbm, ⟨83, _⟩ => ⟨S_, .f32⟩
  | .hbm, ⟨84, _⟩ => ⟨S4096x1, .f32⟩
  | .hbm, ⟨85, _⟩ => ⟨S4096x1, .f32⟩
  | .hbm, ⟨86, _⟩ => ⟨S_, .f32⟩
  | .hbm, ⟨87, _⟩ => ⟨S4096, .f32⟩
  | .hbm, ⟨88, _⟩ => ⟨S4096x2048, .f32⟩
  | .hbm, ⟨89, _⟩ => ⟨S4096x2048, .f32⟩
  | .hbm, ⟨90, _⟩ => ⟨S4096x2048, .f32⟩
  | .hbm, ⟨91, _⟩ => ⟨S4096x2048, .f32⟩
  | .hbm, ⟨92, _⟩ => ⟨S4096x2048, .f32⟩
  | .hbm, ⟨93, _⟩ => ⟨S1x2048, .f32⟩
  | .hbm, ⟨94, _⟩ => ⟨S256x8x256, .f32⟩
  | .hbm, ⟨95, _⟩ => ⟨S8x256x256, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_6 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_7 : Ref sig .tc := ⟨.hbm, 73, rfl⟩
abbrev main_v57 : Ref sig .tc := ⟨.hbm, 74, rfl⟩
abbrev main_v58 : Ref sig .tc := ⟨.hbm, 75, rfl⟩
abbrev main_cst_8 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_9 : Ref sig .tc := ⟨.hbm, 83, rfl⟩
abbrev main_v65 : Ref sig .tc := ⟨.hbm, 84, rfl⟩
abbrev main_v66 : Ref sig .tc := ⟨.hbm, 85, rfl⟩
abbrev main_cst_10 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩

abbrev nD : Nat := 1
abbrev τ : Topo := Topo.v7x

variable {F : FTy → Type} [FloatOps F]
-- ==== Kernel6.lean ====
abbrev S4096x2048 : Shape := ⟨2, ![4096, 2048]⟩
abbrev S2048 : Shape := ⟨1, ![2048]⟩
abbrev S1x2048 : Shape := ⟨2, ![1, 2048]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S1 : Shape := ⟨1, ![1]⟩

abbrev nBuf : Space → Nat
  | .hbm => 7
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S1x2048, .f32⟩
  | .hbm, ⟨4, _⟩ => ⟨S1x1, .f32⟩
  | .hbm, ⟨5, _⟩ => ⟨S4096x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S1x1, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference6Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S1x1 : Shape := ⟨2, ![1, 1]⟩

abbrev nBuf : Space → Nat
  | .hbm => 73
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S2048, .f32⟩
  | .hbm, ⟨54, _⟩ => ⟨S4096x2048, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x2048, .f32⟩
  | .hbm, ⟨59, _⟩ => ⟨S4096x2048, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S1x1, .f32⟩
  | .hbm, ⟨72, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Kernel7.lean ====
abbrev S4416x128 : Shape := ⟨2, ![4416, 128]⟩

abbrev nBuf : Space → Nat
  | .hbm => 7
  | .vmem => 7
  | .smem => 0
  | _ => 0

abbrev bufTy : (tb : Table) → Fin (tcTables nBuf tb) → BufTy
  | .hbm, ⟨0, _⟩ => ⟨S4416x128, .f32⟩
  | .hbm, ⟨1, _⟩ => ⟨S4416x128, .f32⟩
  | .hbm, ⟨2, _⟩ => ⟨S4416x128, .f32⟩
  | .hbm, ⟨3, _⟩ => ⟨S4416x128, .f32⟩
  | .hbm, ⟨4, _⟩ => ⟨S4416x128, .f32⟩
  | .hbm, ⟨5, _⟩ => ⟨S4416x128, .f32⟩
  | .hbm, ⟨6, _⟩ => ⟨S4416x128, .f32⟩
  | .local _ .vmem, ⟨0, _⟩ => ⟨S4416x128, .f32⟩
  | .local _ .vmem, ⟨1, _⟩ => ⟨S4416x128, .f32⟩
  | .local _ .vmem, ⟨2, _⟩ => ⟨S4416x128, .f32⟩
  | .local _ .vmem, ⟨3, _⟩ => ⟨S4416x128, .f32⟩
  | .local _ .vmem, ⟨4, _⟩ => ⟨S4416x128, .f32⟩
  | .local _ .vmem, ⟨5, _⟩ => ⟨S4416x128, .f32⟩
  | .local _ .vmem, ⟨6, _⟩ => ⟨S4416x128, .f32⟩
  | _, _ => ⟨S4416x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4416x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4416x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4416x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4416x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4416x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4416x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4416x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference7Ideal.lean ====
abbrev S4416x128 : Shape := ⟨2, ![4416, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4416x128, .f32⟩
  | .hbm, ⟨1, _⟩ => ⟨S4416x128, .f32⟩
  | .hbm, ⟨2, _⟩ => ⟨S4416x128, .f32⟩
  | .hbm, ⟨3, _⟩ => ⟨S4416x128, .f32⟩
  | .hbm, ⟨4, _⟩ => ⟨S_, .f32⟩
  | .hbm, ⟨5, _⟩ => ⟨S4416x128, .f32⟩
  | .hbm, ⟨6, _⟩ => ⟨S4416x128, .f32⟩
  | .hbm, ⟨7, _⟩ => ⟨S_, .f32⟩
  | .hbm, ⟨8, _⟩ => ⟨S4416x128, .f32⟩
  | .hbm, ⟨9, _⟩ => ⟨S4416x128, .f32⟩
  | .hbm, ⟨10, _⟩ => ⟨S4416x128, .f32⟩
  | .hbm, ⟨11, _⟩ => ⟨S_, .f32⟩
  | .hbm, ⟨12, _⟩ => ⟨S4416x128, .f32⟩
  | .hbm, ⟨13, _⟩ => ⟨S4416x128, .f32⟩
  | .hbm, ⟨14, _⟩ => ⟨S4416x128, .f32⟩
  | .hbm, ⟨15, _⟩ => ⟨S_, .f32⟩
  | .hbm, ⟨16, _⟩ => ⟨S4416x128, .f32⟩
  | .hbm, ⟨17, _⟩ => ⟨S4416x128, .f32⟩
  | .hbm, ⟨18, _⟩ => ⟨S4416x128, .f32⟩
  | .hbm, ⟨19, _⟩ => ⟨S_, .f32⟩
  | .hbm, ⟨20, _⟩ => ⟨S4416x128, .f32⟩
  | .hbm, ⟨21, _⟩ => ⟨S4416x128, .f32⟩
  | .hbm, ⟨22, _⟩ => ⟨S_, .f32⟩
  | .hbm, ⟨23, _⟩ => ⟨S4416x128, .f32⟩
  | .hbm, ⟨24, _⟩ => ⟨S4416x128, .f32⟩
  | .hbm, ⟨25, _⟩ => ⟨S4416x128, .f32⟩
  | .hbm, ⟨26, _⟩ => ⟨S_, .f32⟩
  | .hbm, ⟨27, _⟩ => ⟨S4416x128, .f32⟩
  | .hbm, ⟨28, _⟩ => ⟨S4416x128, .f32⟩
  | .hbm, ⟨29, _⟩ => ⟨S4416x128, .f32⟩
  | .hbm, ⟨30, _⟩ => ⟨S_, .f32⟩
  | .hbm, ⟨31, _⟩ => ⟨S4416x128, .f32⟩
  | .hbm, ⟨32, _⟩ => ⟨S4416x128, .f32⟩
  | .hbm, ⟨33, _⟩ => ⟨S4416x128, .f32⟩
  | .hbm, ⟨34, _⟩ => ⟨S_, .f32⟩
  | .hbm, ⟨35, _⟩ => ⟨S4416x128, .f32⟩
  | .hbm, ⟨36, _⟩ => ⟨S4416x128, .f32⟩
  | _, _ => ⟨S4416x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel8.lean ====
abbrev S256x2048 : Shape := ⟨2, ![256, 2048]⟩
abbrev S3x256x2048 : Shape := ⟨3, ![3, 256, 2048]⟩
abbrev S4x256x2048 : Shape := ⟨3, ![4, 256, 2048]⟩
abbrev S1x256x2048 : Shape := ⟨3, ![1, 256, 2048]⟩

abbrev nBuf : Space → Nat
  | .hbm => 13
  | .vmem => 9
  | .smem => 0
  | _ => 0

abbrev bufTy : (tb : Table) → Fin (tcTables nBuf tb) → BufTy
  | .hbm, ⟨0, _⟩ => ⟨S256x2048, .f32⟩
  | .hbm, ⟨1, _⟩ => ⟨S3x256x2048, .bf16⟩
  | .hbm, ⟨2, _⟩ => ⟨S4x256x2048, .f32⟩
  | .hbm, ⟨3, _⟩ => ⟨S4x256x2048, .f32⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S4x256x2048, .f32⟩
  | .hbm, ⟨8, _⟩ => ⟨S4x256x2048, .f32⟩
  | .hbm, ⟨9, _⟩ => ⟨S4x256x2048, .f32⟩
  | .hbm, ⟨10, _⟩ => ⟨S4x256x2048, .f32⟩
  | .hbm, ⟨11, _⟩ => ⟨S4x256x2048, .f32⟩
  | .hbm, ⟨12, _⟩ => ⟨S4x256x2048, .f32⟩
  | .local _ .vmem, ⟨0, _⟩ => ⟨S256x2048, .f32⟩
  | .local _ .vmem, ⟨1, _⟩ => ⟨S3x256x2048, .bf16⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference8Ideal.lean ====
abbrev S256x2048 : Shape := ⟨2, ![256, 2048]⟩
abbrev S3x256x2048 : Shape := ⟨3, ![3, 256, 2048]⟩
abbrev S4x256x2048 : Shape := ⟨3, ![4, 256, 2048]⟩
abbrev S_ : Shape := ⟨0, ![]⟩
abbrev S1x256x2048 : Shape := ⟨3, ![1, 256, 2048]⟩

abbrev nBuf : Space → Nat
  | .hbm => 64
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S3x256x2048, .bf16⟩
  | .hbm, ⟨2, _⟩ => ⟨S4x256x2048, .f32⟩
  | .hbm, ⟨3, _⟩ => ⟨S4x256x2048, .f32⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S4x256x2048, .f32⟩
  | .hbm, ⟨8, _⟩ => ⟨S4x256x2048, .f32⟩
  | .hbm, ⟨9, _⟩ => ⟨S3x256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S1x256x2048, .f32⟩
  | .hbm, ⟨14, _⟩ => ⟨S256x2048, .f32⟩
  | .hbm, ⟨15, _⟩ => ⟨S1x256x2048, .f32⟩
  | .hbm, ⟨16, _⟩ => ⟨S256x2048, .f32⟩
  | .hbm, ⟨17, _⟩ => ⟨S1x256x2048, .f32⟩
  | .hbm, ⟨18, _⟩ => ⟨S256x2048, .f32⟩
  | .hbm, ⟨19, _⟩ => ⟨S_, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S256x2048, .f32⟩
  | .hbm, ⟨26, _⟩ => ⟨S_, .f32⟩
  | .hbm, ⟨27, _⟩ => ⟨S256x2048, .f32⟩
  | .hbm, ⟨28, _⟩ => ⟨S256x2048, .f32⟩
  | .hbm, ⟨29, _⟩ => ⟨S256x2048, .f32⟩
  | .hbm, ⟨30, _⟩ => ⟨S_, .f32⟩
  | .hbm, ⟨31, _⟩ => ⟨S256x2048, .f32⟩
  | .hbm, ⟨32, _⟩ => ⟨S256x2048, .f32⟩
  | .hbm, ⟨33, _⟩ => ⟨S256x2048, .f32⟩
  | .hbm, ⟨34, _⟩ => ⟨S_, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | .hbm, ⟨40, _⟩ => ⟨S256x2048, .f32⟩
  | .hbm, ⟨41, _⟩ => ⟨S_, .f32⟩
  | .hbm, ⟨42, _⟩ => ⟨S256x2048, .f32⟩
  | .hbm, ⟨43, _⟩ => ⟨S256x2048, .f32⟩
  | .hbm, ⟨44, _⟩ => ⟨S256x2048, .f32⟩
  | .hbm, ⟨45, _⟩ => ⟨S_, .f32⟩
  | .hbm, ⟨46, _⟩ => ⟨S256x2048, .f32⟩
  | .hbm, ⟨47, _⟩ => ⟨S256x2048, .f32⟩
  | .hbm, ⟨48, _⟩ => ⟨S256x2048, .f32⟩
  | .hbm, ⟨49, _⟩ => ⟨S_, .f32⟩
  | .hbm, ⟨50, _⟩ => ⟨S256x2048, .f32⟩
  | .hbm, ⟨51, _⟩ => ⟨S256x2048, .f32⟩
  | .hbm, ⟨52, _⟩ => ⟨S1x256x2048, .f32⟩
  | .hbm, ⟨53, _⟩ => ⟨S3x256x2048, .f32⟩
  | .hbm, ⟨54, _⟩ => ⟨S4x256x2048, .f32⟩
  | .hbm, ⟨55, _⟩ => ⟨S1x256x2048, .f32⟩
  | .hbm, ⟨56, _⟩ => ⟨S3x256x2048, .f32⟩
  | .hbm, ⟨57, _⟩ => ⟨S4x256x2048, .f32⟩
  | .hbm, ⟨58, _⟩ => ⟨S1x256x2048, .f32⟩
  | .hbm, ⟨59, _⟩ => ⟨S3x256x2048, .f32⟩
  | .hbm, ⟨60, _⟩ => ⟨S4x256x2048, .f32⟩
  | .hbm, ⟨61, _⟩ => ⟨S1x256x2048, .f32⟩
  | .hbm, ⟨62, _⟩ => ⟨S3x256x2048, .f32⟩
  | .hbm, ⟨63, _⟩ => ⟨S4x256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_7 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩

abbrev nD : Nat := 1
abbrev τ : Topo := Topo.v7x

variable {F : FTy → Type} [FloatOps F]
-- ==== Proof.Mixer.Outs.lean ====
/- What the outputs of the mixers' backward call hold after each grid point. -/
module

public import proofs.«01_k».proof.Proof.Gen.KernelIdeal.Frame.RunB
public import Idealize.ShloMosaic.Lib.Claim

@[expose] public section

set_option maxRecDepth 16384

noncomputable section

namespace Cert.Mixer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the twelve outputs of the mixers' backward call hold after a grid point. -/
structure Outs (F : FTy → Type) where
  o16 : Vec F S256x4096 .bf16
  o17 : Vec F S4x1x128 .f32
  o18 : Vec F S4x1x128 .f32
  o19 : Vec F S4x128x128 .f32
  o20 : Vec F S4x128x1 .f32
  o21 : Vec F S8x512 .f32
  o22 : Vec F S32x512 .f32
  o23 : Vec F S1x512 .f32
  o24 : Vec F S1x512 .f32
  o25 : Vec F S1x512 .f32
  o26 : Vec F S4x128x128 .f32
  o27 : Vec F S1x512 .f32

/-- The body's run at the first grid point, on the buffers of that point. -/
def runA (c : Dev nD) (t : Fin cfg0.N) (h : cond0_0 (grid0.coords t)) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) scM0_1 (Memref.isWhole_whole _) scM0_2 (Memref.isWhole_whole _) scM0_3 (Memref.isWhole_whole _) h
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)

/-- The body's run at a later grid point, over what the point before left. -/
def runB (c : Dev nD) (t : Fin cfg0.N) (h : ¬cond0_0 (grid0.coords t)) (p : Outs F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) scM0_1 (Memref.isWhole_whole _) scM0_2 (Memref.isWhole_whole _) scM0_3 (Memref.isWhole_whole _) h
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    p.o17 p.o18 p.o19 p.o20 p.o21 p.o22 p.o23 p.o24 p.o25 p.o26 p.o27

/-- What the first point leaves. -/
def outA (c : Dev nD) (t : Fin cfg0.N) (h : cond0_0 (grid0.coords t)) : Outs F where
  o16 := VO0_16.read (Elt F) (VO0_16.writes (Elt F) VO0_16.junk (runA m c t h).1)
  o17 := VO0_17.read (Elt F) (VO0_17.writes (Elt F) VO0_17.junk (runA m c t h).2.1)
  o18 := VO0_18.read (Elt F) (VO0_18.writes (Elt F) VO0_18.junk (runA m c t h).2.2.1)
  o19 := VO0_19.read (Elt F) (VO0_19.writes (Elt F) VO0_19.junk (runA m c t h).2.2.2.1)
  o20 := VO0_20.read (Elt F) (VO0_20.writes (Elt F) VO0_20.junk (runA m c t h).2.2.2.2.1)
  o21 := VO0_21.read (Elt F) (VO0_21.writes (Elt F) VO0_21.junk (runA m c t h).2.2.2.2.2.1)
  o22 := VO0_22.read (Elt F) (VO0_22.writes (Elt F) VO0_22.junk (runA m c t h).2.2.2.2.2.2.1)
  o23 := VO0_23.read (Elt F) (VO0_23.writes (Elt F) VO0_23.junk (runA m c t h).2.2.2.2.2.2.2.1)
  o24 := VO0_24.read (Elt F) (VO0_24.writes (Elt F) VO0_24.junk (runA m c t h).2.2.2.2.2.2.2.2.1)
  o25 := VO0_25.read (Elt F) (VO0_25.writes (Elt F) VO0_25.junk (runA m c t h).2.2.2.2.2.2.2.2.2.1)
  o26 := VO0_26.read (Elt F) (VO0_26.writes (Elt F) VO0_26.junk (runA m c t h).2.2.2.2.2.2.2.2.2.2.1)
  o27 := VO0_27.read (Elt F) (VO0_27.writes (Elt F) VO0_27.junk (runA m c t h).2.2.2.2.2.2.2.2.2.2.2.1)

/-- What a later point leaves: the rows of the two convolution gradients that no store meets stay as they were. -/
def outB (c : Dev nD) (t : Fin cfg0.N) (h : ¬cond0_0 (grid0.coords t)) (p : Outs F) : Outs F where
  o16 := VO0_16.read (Elt F) (VO0_16.writes (Elt F) VO0_16.junk (runB m c t h p).1)
  o17 := VO0_17.read (Elt F) (VO0_17.writes (Elt F) VO0_17.junk (runB m c t h p).2.1)
  o18 := VO0_18.read (Elt F) (VO0_18.writes (Elt F) VO0_18.junk (runB m c t h p).2.2.1)
  o19 := VO0_19.read (Elt F) (VO0_19.writes (Elt F) VO0_19.junk (runB m c t h p).2.2.2.1)
  o20 := VO0_20.read (Elt F) (VO0_20.writes (Elt F) VO0_20.junk (runB m c t h p).2.2.2.2.1)
  o21 := (ms0_21 t).view.read (Elt F) ((ms0_21 t).view.writes (Elt F) ((hs0_21 t).unread p.o21) (runB m c t h p).2.2.2.2.2.1)
  o22 := (ms0_22 t).view.read (Elt F) ((ms0_22 t).view.writes (Elt F) ((hs0_22 t).unread p.o22) (runB m c t h p).2.2.2.2.2.2.1)
  o23 := VO0_23.read (Elt F) (VO0_23.writes (Elt F) VO0_23.junk (runB m c t h p).2.2.2.2.2.2.2.1)
  o24 := VO0_24.read (Elt F) (VO0_24.writes (Elt F) VO0_24.junk (runB m c t h p).2.2.2.2.2.2.2.2.1)
  o25 := VO0_25.read (Elt F) (VO0_25.writes (Elt F) VO0_25.junk (runB m c t h p).2.2.2.2.2.2.2.2.2.1)
  o26 := VO0_26.read (Elt F) (VO0_26.writes (Elt F) VO0_26.junk (runB m c t h p).2.2.2.2.2.2.2.2.2.2.1)
  o27 := VO0_27.read (Elt F) (VO0_27.writes (Elt F) VO0_27.junk (runB m c t h p).2.2.2.2.2.2.2.2.2.2.2.1)

theorem coverA_16 (c : Dev nD) (t : Fin cfg0.N) (h : cond0_0 (grid0.coords t)) (y : S256x4096.Idx) :
    ∃ pc ∈ (runA m c t h).1, y ∈ pc.1.set :=
  View.cover_of_tiledBy (runA m c t h).1 ![128, 128] (by sl_kernel_rfl) y

theorem coverA_17 (c : Dev nD) (t : Fin cfg0.N) (h : cond0_0 (grid0.coords t)) (y : S4x1x128.Idx) :
    ∃ pc ∈ (runA m c t h).2.1, y ∈ pc.1.set :=
  View.cover_of_tiledBy (runA m c t h).2.1 ![1, 1, 128] (by sl_kernel_rfl) y

theorem coverA_18 (c : Dev nD) (t : Fin cfg0.N) (h : cond0_0 (grid0.coords t)) (y : S4x1x128.Idx) :
    ∃ pc ∈ (runA m c t h).2.2.1, y ∈ pc.1.set :=
  View.cover_of_tiledBy (runA m c t h).2.2.1 ![1, 1, 128] (by sl_kernel_rfl) y

theorem coverA_19 (c : Dev nD) (t : Fin cfg0.N) (h : cond0_0 (grid0.coords t)) (y : S4x128x128.Idx) :
    ∃ pc ∈ (runA m c t h).2.2.2.1, y ∈ pc.1.set :=
  View.cover_of_tiledBy (runA m c t h).2.2.2.1 ![1, 128, 128] (by sl_kernel_rfl) y

theorem coverA_20 (c : Dev nD) (t : Fin cfg0.N) (h : cond0_0 (grid0.coords t)) (y : S4x128x1.Idx) :
    ∃ pc ∈ (runA m c t h).2.2.2.2.1, y ∈ pc.1.set :=
  View.cover_of_tiledBy (runA m c t h).2.2.2.2.1 ![1, 128, 1] (by sl_kernel_rfl) y

theorem coverA_21 (c : Dev nD) (t : Fin cfg0.N) (h : cond0_0 (grid0.coords t)) (y : S8x512.Idx) :
    ∃ pc ∈ (runA m c t h).2.2.2.2.2.1, y ∈ pc.1.set :=
  View.cover_of_tiledBy (runA m c t h).2.2.2.2.2.1 ![1, 128] (by sl_kernel_rfl) y

theorem coverA_22 (c : Dev nD) (t : Fin cfg0.N) (h : cond0_0 (grid0.coords t)) (y : S32x512.Idx) :
    ∃ pc ∈ (runA m c t h).2.2.2.2.2.2.1, y ∈ pc.1.set :=
  View.cover_of_tiledBy (runA m c t h).2.2.2.2.2.2.1 ![1, 128] (by sl_kernel_rfl) y

theorem coverA_23 (c : Dev nD) (t : Fin cfg0.N) (h : cond0_0 (grid0.coords t)) (y : S1x512.Idx) :
    ∃ pc ∈ (runA m c t h).2.2.2.2.2.2.2.1, y ∈ pc.1.set :=
  View.cover_of_tiledL (runA m c t h).2.2.2.2.2.2.2.1 S1x512.size (by sl_kernel_rfl) y

theorem coverA_24 (c : Dev nD) (t : Fin cfg0.N) (h : cond0_0 (grid0.coords t)) (y : S1x512.Idx) :
    ∃ pc ∈ (runA m c t h).2.2.2.2.2.2.2.2.1, y ∈ pc.1.set :=
  View.cover_of_tiledL (runA m c t h).2.2.2.2.2.2.2.2.1 S1x512.size (by sl_kernel_rfl) y

theorem coverA_25 (c : Dev nD) (t : Fin cfg0.N) (h : cond0_0 (grid0.coords t)) (y : S1x512.Idx) :
    ∃ pc ∈ (runA m c t h).2.2.2.2.2.2.2.2.2.1, y ∈ pc.1.set :=
  View.cover_of_tiledL (runA m c t h).2.2.2.2.2.2.2.2.2.1 S1x512.size (by sl_kernel_rfl) y

theorem coverA_26 (c : Dev nD) (t : Fin cfg0.N) (h : cond0_0 (grid0.coords t)) (y : S4x128x128.Idx) :
    ∃ pc ∈ (runA m c t h).2.2.2.2.2.2.2.2.2.2.1, y ∈ pc.1.set :=
  View.cover_of_tiledBy (runA m c t h).2.2.2.2.2.2.2.2.2.2.1 ![1, 128, 128] (by sl_kernel_rfl) y

theorem coverA_27 (c : Dev nD) (t : Fin cfg0.N) (h : cond0_0 (grid0.coords t)) (y : S1x512.Idx) :
    ∃ pc ∈ (runA m c t h).2.2.2.2.2.2.2.2.2.2.2.1, y ∈ pc.1.set :=
  View.cover_of_tiledBy (runA m c t h).2.2.2.2.2.2.2.2.2.2.2.1 ![1, 128] (by sl_kernel_rfl) y

theorem coverB_16 (c : Dev nD) (t : Fin cfg0.N) (h : ¬cond0_0 (grid0.coords t)) (p : Outs F) (y : S256x4096.Idx) :
    ∃ pc ∈ (runB m c t h p).1, y ∈ pc.1.set :=
  View.cover_of_tiledBy (runB m c t h p).1 ![128, 128] (by sl_kernel_rfl) y

theorem coverB_17 (c : Dev nD) (t : Fin cfg0.N) (h : ¬cond0_0 (grid0.coords t)) (p : Outs F) (y : S4x1x128.Idx) :
    ∃ pc ∈ (runB m c t h p).2.1, y ∈ pc.1.set :=
  View.cover_of_tiledL (runB m c t h p).2.1 S1x1x128.size (by sl_kernel_rfl) y

theorem coverB_18 (c : Dev nD) (t : Fin cfg0.N) (h : ¬cond0_0 (grid0.coords t)) (p : Outs F) (y : S4x1x128.Idx) :
    ∃ pc ∈ (runB m c t h p).2.2.1, y ∈ pc.1.set :=
  View.cover_of_tiledL (runB m c t h p).2.2.1 S1x1x128.size (by sl_kernel_rfl) y

theorem coverB_19 (c : Dev nD) (t : Fin cfg0.N) (h : ¬cond0_0 (grid0.coords t)) (p : Outs F) (y : S4x128x128.Idx) :
    ∃ pc ∈ (runB m c t h p).2.2.2.1, y ∈ pc.1.set :=
  View.cover_of_tiledL (runB m c t h p).2.2.2.1 S1x128x128.size (by sl_kernel_rfl) y

theorem coverB_20 (c : Dev nD) (t : Fin cfg0.N) (h : ¬cond0_0 (grid0.coords t)) (p : Outs F) (y : S4x128x1.Idx) :
    ∃ pc ∈ (runB m c t h p).2.2.2.2.1, y ∈ pc.1.set :=
  View.cover_of_tiledL (runB m c t h p).2.2.2.2.1 S1x128x1.size (by sl_kernel_rfl) y

theorem coverB_23 (c : Dev nD) (t : Fin cfg0.N) (h : ¬cond0_0 (grid0.coords t)) (p : Outs F) (y : S1x512.Idx) :
    ∃ pc ∈ (runB m c t h p).2.2.2.2.2.2.2.1, y ∈ pc.1.set :=
  View.cover_of_tiledL (runB m c t h p).2.2.2.2.2.2.2.1 S1x512.size (by sl_kernel_rfl) y

theorem coverB_24 (c : Dev nD) (t : Fin cfg0.N) (h : ¬cond0_0 (grid0.coords t)) (p : Outs F) (y : S1x512.Idx) :
    ∃ pc ∈ (runB m c t h p).2.2.2.2.2.2.2.2.1, y ∈ pc.1.set :=
  View.cover_of_tiledL (runB m c t h p).2.2.2.2.2.2.2.2.1 S1x512.size (by sl_kernel_rfl) y

theorem coverB_25 (c : Dev nD) (t : Fin cfg0.N) (h : ¬cond0_0 (grid0.coords t)) (p : Outs F) (y : S1x512.Idx) :
    ∃ pc ∈ (runB m c t h p).2.2.2.2.2.2.2.2.2.1, y ∈ pc.1.set :=
  View.cover_of_tiledL (runB m c t h p).2.2.2.2.2.2.2.2.2.1 S1x512.size (by sl_kernel_rfl) y

theorem coverB_26 (c : Dev nD) (t : Fin cfg0.N) (h : ¬cond0_0 (grid0.coords t)) (p : Outs F) (y : S4x128x128.Idx) :
    ∃ pc ∈ (runB m c t h p).2.2.2.2.2.2.2.2.2.2.1, y ∈ pc.1.set :=
  View.cover_of_tiledL (runB m c t h p).2.2.2.2.2.2.2.2.2.2.1 S1x128x128.size (by sl_kernel_rfl) y

theorem coverB_27 (c : Dev nD) (t : Fin cfg0.N) (h : ¬cond0_0 (grid0.coords t)) (p : Outs F) (y : S1x512.Idx) :
    ∃ pc ∈ (runB m c t h p).2.2.2.2.2.2.2.2.2.2.2.1, y ∈ pc.1.set :=
  View.cover_of_tiledL (runB m c t h p).2.2.2.2.2.2.2.2.2.2.2.1 S1x128.size (by sl_kernel_rfl) y

theorem cond_succ {n : ℕ} (hn : n + 1 < cfg0.N) : ¬cond0_0 (grid0.coords ⟨n + 1, hn⟩) := fun h => by
  have hN : n + 1 < 16 := lt_of_lt_of_eq hn (show cfg0.N = 16 from N_0)
  have := (hcond0_0 ⟨n + 1, hn⟩).mp h
  dsimp only at this
  omega

/-- What the outputs hold after each grid point. -/
def outsAt (c : Dev nD) : (n : ℕ) → n < cfg0.N → Outs F
  | 0, hn => outA m c ⟨0, hn⟩ ((hcond0_0 ⟨0, hn⟩).mpr (Nat.zero_mod _))
  | n + 1, hn => outB m c ⟨n + 1, hn⟩ (cond_succ hn) (outsAt c n (Nat.lt_of_succ_lt hn))

theorem outsAt_A (c : Dev nD) (t : Fin cfg0.N) (h : t.val % 16 = 0) :
    outsAt m c t.val t.isLt = outA m c t ((hcond0_0 t).mpr h) := by
  obtain ⟨n, hn⟩ := t
  have hN : n < 16 := lt_of_lt_of_eq hn (show cfg0.N = 16 from N_0)
  cases n with
  | zero => rfl
  | succ n => dsimp only at h; omega

theorem outsAt_B (c : Dev nD) (t : Fin cfg0.N) (h : ¬t.val % 16 = 0) :
    outsAt m c t.val t.isLt
      = outB m c t (fun hc => h ((hcond0_0 t).mp hc)) (outsAt m c (t.val - 1) (Nat.lt_of_le_of_lt (Nat.sub_le _ _) t.isLt)) := by
  obtain ⟨n, hn⟩ := t
  cases n with
  | zero => exact absurd (Nat.zero_mod _) h
  | succ n => rfl

/-- The pipeline's data on core `c`: the arrays as the region finds them; after each point the inputs' blocks and the outputs above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => (outsAt m c t.val t.isLt).o16
    | ⟨17, _⟩ => (outsAt m c t.val t.isLt).o17
    | ⟨18, _⟩ => (outsAt m c t.val t.isLt).o18
    | ⟨19, _⟩ => (outsAt m c t.val t.isLt).o19
    | ⟨20, _⟩ => (outsAt m c t.val t.isLt).o20
    | ⟨21, _⟩ => (outsAt m c t.val t.isLt).o21
    | ⟨22, _⟩ => (outsAt m c t.val t.isLt).o22
    | ⟨23, _⟩ => (outsAt m c t.val t.isLt).o23
    | ⟨24, _⟩ => (outsAt m c t.val t.isLt).o24
    | ⟨25, _⟩ => (outsAt m c t.val t.isLt).o25
    | ⟨26, _⟩ => (outsAt m c t.val t.isLt).o26
    | ⟨27, _⟩ => (outsAt m c t.val t.isLt).o27
    | ⟨_ + 28, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = (outsAt m c t.val t.isLt).o16 := by dsimp only [dats]
theorem after_17 (c : Dev nD) (t : Fin cfg0.N) : (dats m 0 c).after 17 t = (outsAt m c t.val t.isLt).o17 := by dsimp only [dats]
theorem after_18 (c : Dev nD) (t : Fin cfg0.N) : (dats m 0 c).after 18 t = (outsAt m c t.val t.isLt).o18 := by dsimp only [dats]
theorem after_19 (c : Dev nD) (t : Fin cfg0.N) : (dats m 0 c).after 19 t = (outsAt m c t.val t.isLt).o19 := by dsimp only [dats]
theorem after_20 (c : Dev nD) (t : Fin cfg0.N) : (dats m 0 c).after 20 t = (outsAt m c t.val t.isLt).o20 := by dsimp only [dats]
theorem after_21 (c : Dev nD) (t : Fin cfg0.N) : (dats m 0 c).after 21 t = (outsAt m c t.val t.isLt).o21 := by dsimp only [dats]
theorem after_22 (c : Dev nD) (t : Fin cfg0.N) : (dats m 0 c).after 22 t = (outsAt m c t.val t.isLt).o22 := by dsimp only [dats]
theorem after_23 (c : Dev nD) (t : Fin cfg0.N) : (dats m 0 c).after 23 t = (outsAt m c t.val t.isLt).o23 := by dsimp only [dats]
theorem after_24 (c : Dev nD) (t : Fin cfg0.N) : (dats m 0 c).after 24 t = (outsAt m c t.val t.isLt).o24 := by dsimp only [dats]
theorem after_25 (c : Dev nD) (t : Fin cfg0.N) : (dats m 0 c).after 25 t = (outsAt m c t.val t.isLt).o25 := by dsimp only [dats]
theorem after_26 (c : Dev nD) (t : Fin cfg0.N) : (dats m 0 c).after 26 t = (outsAt m c t.val t.isLt).o26 := by dsimp only [dats]
theorem after_27 (c : Dev nD) (t : Fin cfg0.N) : (dats m 0 c).after 27 t = (outsAt m c t.val t.isLt).o27 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d

theorem before_17 (c : Dev nD) (t : Fin cfg0.N) (h0 : ¬t.val % 16 = 0) (d) :
    (dats m 0 c).before 17 t d = (outsAt m c (t.val - 1) (Nat.lt_of_le_of_lt (Nat.sub_le _ _) t.isLt)).o17 := by
  have hN : t.val < 16 := lt_of_lt_of_eq t.isLt (show cfg0.N = 16 from N_0)
  rw [Dat.before_out_kept _ 17 rfl t (by omega) (Bool.eq_false_iff.mpr fun h => by have := (flush0_17 _).mp h; dsimp only at this; omega)
    (fun _ => rfl) (fun _ _ => rfl)]
  dsimp only [dats]
theorem before_18 (c : Dev nD) (t : Fin cfg0.N) (h0 : ¬t.val % 16 = 0) (d) :
    (dats m 0 c).before 18 t d = (outsAt m c (t.val - 1) (Nat.lt_of_le_of_lt (Nat.sub_le _ _) t.isLt)).o18 := by
  have hN : t.val < 16 := lt_of_lt_of_eq t.isLt (show cfg0.N = 16 from N_0)
  rw [Dat.before_out_kept _ 18 rfl t (by omega) (Bool.eq_false_iff.mpr fun h => by have := (flush0_18 _).mp h; dsimp only at this; omega)
    (fun _ => rfl) (fun _ _ => rfl)]
  dsimp only [dats]
theorem before_19 (c : Dev nD) (t : Fin cfg0.N) (h0 : ¬t.val % 16 = 0) (d) :
    (dats m 0 c).before 19 t d = (outsAt m c (t.val - 1) (Nat.lt_of_le_of_lt (Nat.sub_le _ _) t.isLt)).o19 := by
  have hN : t.val < 16 := lt_of_lt_of_eq t.isLt (show cfg0.N = 16 from N_0)
  rw [Dat.before_out_kept _ 19 rfl t (by omega) (Bool.eq_false_iff.mpr fun h => by have := (flush0_19 _).mp h; dsimp only at this; omega)
    (fun _ => rfl) (fun _ _ => rfl)]
  dsimp only [dats]
theorem before_20 (c : Dev nD) (t : Fin cfg0.N) (h0 : ¬t.val % 16 = 0) (d) :
    (dats m 0 c).before 20 t d = (outsAt m c (t.val - 1) (Nat.lt_of_le_of_lt (Nat.sub_le _ _) t.isLt)).o20 := by
  have hN : t.val < 16 := lt_of_lt_of_eq t.isLt (show cfg0.N = 16 from N_0)
  rw [Dat.before_out_kept _ 20 rfl t (by omega) (Bool.eq_false_iff.mpr fun h => by have := (flush0_20 _).mp h; dsimp only at this; omega)
    (fun _ => rfl) (fun _ _ => rfl)]
  dsimp only [dats]
theorem before_21 (c : Dev nD) (t : Fin cfg0.N) (h0 : ¬t.val % 16 = 0) (d) :
    (dats m 0 c).before 21 t d = (outsAt m c (t.val - 1) (Nat.lt_of_le_of_lt (Nat.sub_le _ _) t.isLt)).o21 := by
  have hN : t.val < 16 := lt_of_lt_of_eq t.isLt (show cfg0.N = 16 from N_0)
  rw [Dat.before_out_kept _ 21 rfl t (by omega) (Bool.eq_false_iff.mpr fun h => by have := (flush0_21 _).mp h; dsimp only at this; omega)
    (fun _ => rfl) (fun _ _ => rfl)]
  dsimp only [dats]
theorem before_22 (c : Dev nD) (t : Fin cfg0.N) (h0 : ¬t.val % 16 = 0) (d) :
    (dats m 0 c).before 22 t d = (outsAt m c (t.val - 1) (Nat.lt_of_le_of_lt (Nat.sub_le _ _) t.isLt)).o22 := by
  have hN : t.val < 16 := lt_of_lt_of_eq t.isLt (show cfg0.N = 16 from N_0)
  rw [Dat.before_out_kept _ 22 rfl t (by omega) (Bool.eq_false_iff.mpr fun h => by have := (flush0_22 _).mp h; dsimp only at this; omega)
    (fun _ => rfl) (fun _ _ => rfl)]
  dsimp only [dats]
theorem before_23 (c : Dev nD) (t : Fin cfg0.N) (h0 : ¬t.val % 16 = 0) (d) :
    (dats m 0 c).before 23 t d = (outsAt m c (t.val - 1) (Nat.lt_of_le_of_lt (Nat.sub_le _ _) t.isLt)).o23 := by
  have hN : t.val < 16 := lt_of_lt_of_eq t.isLt (show cfg0.N = 16 from N_0)
  rw [Dat.before_out_kept _ 23 rfl t (by omega) (Bool.eq_false_iff.mpr fun h => by have := (flush0_23 _).mp h; dsimp only at this; omega)
    (fun _ => rfl) (fun _ _ => rfl)]
  dsimp only [dats]
theorem before_24 (c : Dev nD) (t : Fin cfg0.N) (h0 : ¬t.val % 16 = 0) (d) :
    (dats m 0 c).before 24 t d = (outsAt m c (t.val - 1) (Nat.lt_of_le_of_lt (Nat.sub_le _ _) t.isLt)).o24 := by
  have hN : t.val < 16 := lt_of_lt_of_eq t.isLt (show cfg0.N = 16 from N_0)
  rw [Dat.before_out_kept _ 24 rfl t (by omega) (Bool.eq_false_iff.mpr fun h => by have := (flush0_24 _).mp h; dsimp only at this; omega)
    (fun _ => rfl) (fun _ _ => rfl)]
  dsimp only [dats]
theorem before_25 (c : Dev nD) (t : Fin cfg0.N) (h0 : ¬t.val % 16 = 0) (d) :
    (dats m 0 c).before 25 t d = (outsAt m c (t.val - 1) (Nat.lt_of_le_of_lt (Nat.sub_le _ _) t.isLt)).o25 := by
  have hN : t.val < 16 := lt_of_lt_of_eq t.isLt (show cfg0.N = 16 from N_0)
  rw [Dat.before_out_kept _ 25 rfl t (by omega) (Bool.eq_false_iff.mpr fun h => by have := (flush0_25 _).mp h; dsimp only at this; omega)
    (fun _ => rfl) (fun _ _ => rfl)]
  dsimp only [dats]
theorem before_26 (c : Dev nD) (t : Fin cfg0.N) (h0 : ¬t.val % 16 = 0) (d) :
    (dats m 0 c).before 26 t d = (outsAt m c (t.val - 1) (Nat.lt_of_le_of_lt (Nat.sub_le _ _) t.isLt)).o26 := by
  have hN : t.val < 16 := lt_of_lt_of_eq t.isLt (show cfg0.N = 16 from N_0)
  rw [Dat.before_out_kept _ 26 rfl t (by omega) (Bool.eq_false_iff.mpr fun h => by have := (flush0_26 _).mp h; dsimp only at this; omega)
    (fun _ => rfl) (fun _ _ => rfl)]
  dsimp only [dats]
theorem before_27 (c : Dev nD) (t : Fin cfg0.N) (h0 : ¬t.val % 16 = 0) (d) :
    (dats m 0 c).before 27 t d = (outsAt m c (t.val - 1) (Nat.lt_of_le_of_lt (Nat.sub_le _ _) t.isLt)).o27 := by
  have hN : t.val < 16 := lt_of_lt_of_eq t.isLt (show cfg0.N = 16 from N_0)
  rw [Dat.before_out_kept _ 27 rfl t (by omega) (Bool.eq_false_iff.mpr fun h => by have := (flush0_27 _).mp h; dsimp only at this; omega)
    (fun _ => rfl) (fun _ _ => rfl)]
  dsimp only [dats]
end Cert.Mixer

end
-- ==== Proof.Mixer.Body.lean ====
/- The body of the mixers' backward call at each grid point. -/
module

public import proofs.«01_k».proof.Proof.Mixer.Outs

@[expose] public section

set_option maxRecDepth 16384

noncomputable section

namespace Cert.Mixer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t))

set_option maxHeartbeats 6400000 in
/-- The body at the first point. -/
theorem sound_A (c : Dev nD) (t : Fin cfg0.N) (h0 : t.val % 16 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22, after_23, after_24, after_25, after_26, after_27]
  rw [show (dats m 0 c).Φ t.castSucc = Pipeline.ΦA spec0 c from rfl, PhiA0_eq]
  rw [outsAt_A m c t h0]
  have h := (hcond0_0 t).mpr h0
  dsimp only [outA]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply ((runA m c t h).2.2.2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%f0, HS0⟩, ⟨%f1, HS1⟩, ⟨%f2, HS2⟩, ⟨%f3, HS3⟩⟩
  isplitl [HS0 HS1 HS2 HS3 Hg]
  · isplitl [HS0 HS1 HS2 HS3]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      iexists _; unfold owns; iexists _; isplitr
      swap; · iexact HS3
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · unfold owns; iexists _; isplitr
    swap; · iexact H16
    ipureintro; exact View.read_writes_of_cover _ _ _ _ _ (coverA_16 m c t h)
  isplitl [H17]
  · unfold owns; iexists _; isplitr
    swap; · iexact H17
    ipureintro; exact View.read_writes_of_cover _ _ _ _ _ (coverA_17 m c t h)
  isplitl [H18]
  · unfold owns; iexists _; isplitr
    swap; · iexact H18
    ipureintro; exact View.read_writes_of_cover _ _ _ _ _ (coverA_18 m c t h)
  isplitl [H19]
  · unfold owns; iexists _; isplitr
    swap; · iexact H19
    ipureintro; exact View.read_writes_of_cover _ _ _ _ _ (coverA_19 m c t h)
  isplitl [H20]
  · unfold owns; iexists _; isplitr
    swap; · iexact H20
    ipureintro; exact View.read_writes_of_cover _ _ _ _ _ (coverA_20 m c t h)
  isplitl [H21]
  · unfold owns; iexists _; isplitr
    swap; · iexact H21
    ipureintro; exact View.read_writes_of_cover _ _ _ _ _ (coverA_21 m c t h)
  isplitl [H22]
  · unfold owns; iexists _; isplitr
    swap; · iexact H22
    ipureintro; exact View.read_writes_of_cover _ _ _ _ _ (coverA_22 m c t h)
  isplitl [H23]
  · unfold owns; iexists _; isplitr
    swap; · iexact H23
    ipureintro; exact View.read_writes_of_cover _ _ _ _ _ (coverA_23 m c t h)
  isplitl [H24]
  · unfold owns; iexists _; isplitr
    swap; · iexact H24
    ipureintro; exact View.read_writes_of_cover _ _ _ _ _ (coverA_24 m c t h)
  isplitl [H25]
  · unfold owns; iexists _; isplitr
    swap; · iexact H25
    ipureintro; exact View.read_writes_of_cover _ _ _ _ _ (coverA_25 m c t h)
  isplitl [H26]
  · unfold owns; iexists _; isplitr
    swap; · iexact H26
    ipureintro; exact View.read_writes_of_cover _ _ _ _ _ (coverA_26 m c t h)
  unfold owns; iexists _; isplitr
  swap; · iexact H27
  ipureintro; exact View.read_writes_of_cover _ _ _ _ _ (coverA_27 m c t h)

set_option maxHeartbeats 6400000 in
/-- The body at a later point. -/
theorem sound_B (c : Dev nD) (t : Fin cfg0.N) (h0 : ¬t.val % 16 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22, after_23, after_24, after_25, after_26, after_27]
  rw [show (dats m 0 c).Φ t.castSucc = Pipeline.ΦA spec0 c from rfl, PhiA0_eq]
  rw [outsAt_B m c t h0]
  simp only [before_17 m c t h0, before_18 m c t h0, before_19 m c t h0, before_20 m c t h0, before_21 m c t h0, before_22 m c t h0, before_23 m c t h0, before_24 m c t h0, before_25 m c t h0, before_26 m c t h0, before_27 m c t h0]
  have h : ¬cond0_0 (grid0.coords t) := fun hc => h0 ((hcond0_0 t).mp hc)
  generalize outsAt m c (t.val - 1) (Nat.lt_of_le_of_lt (Nat.sub_le _ _) t.isLt) = p
  dsimp only [outB]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply ((runB m c t h p).2.2.2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, H21, H22, ⟨%e23, H23⟩, ⟨%e24, H24⟩, ⟨%e25, H25⟩, ⟨%e26, H26⟩, ⟨%e27, H27⟩, ⟨%f0, HS0⟩, ⟨%f1, HS1⟩, ⟨%f2, HS2⟩, ⟨%f3, HS3⟩⟩
  isplitl [HS0 HS1 HS2 HS3 Hg]
  · isplitl [HS0 HS1 HS2 HS3]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      iexists _; unfold owns; iexists _; isplitr
      swap; · iexact HS3
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · unfold owns; iexists _; isplitr
    swap; · iexact H16
    ipureintro; exact View.read_writes_of_cover _ _ _ _ _ (coverB_16 m c t h p)
  isplitl [H17]
  · unfold owns; iexists _; isplitr
    swap; · iexact H17
    ipureintro; exact View.read_writes_of_cover _ _ _ _ _ (coverB_17 m c t h p)
  isplitl [H18]
  · unfold owns; iexists _; isplitr
    swap; · iexact H18
    ipureintro; exact View.read_writes_of_cover _ _ _ _ _ (coverB_18 m c t h p)
  isplitl [H19]
  · unfold owns; iexists _; isplitr
    swap; · iexact H19
    ipureintro; exact View.read_writes_of_cover _ _ _ _ _ (coverB_19 m c t h p)
  isplitl [H20]
  · unfold owns; iexists _; isplitr
    swap; · iexact H20
    ipureintro; exact View.read_writes_of_cover _ _ _ _ _ (coverB_20 m c t h p)
  isplitl [H21]
  · unfold owns; iexists _; isplitr
    swap; · iexact H21
    ipureintro; rfl
  isplitl [H22]
  · unfold owns; iexists _; isplitr
    swap; · iexact H22
    ipureintro; rfl
  isplitl [H23]
  · unfold owns; iexists _; isplitr
    swap; · iexact H23
    ipureintro; exact View.read_writes_of_cover _ _ _ _ _ (coverB_23 m c t h p)
  isplitl [H24]
  · unfold owns; iexists _; isplitr
    swap; · iexact H24
    ipureintro; exact View.read_writes_of_cover _ _ _ _ _ (coverB_24 m c t h p)
  isplitl [H25]
  · unfold owns; iexists _; isplitr
    swap; · iexact H25
    ipureintro; exact View.read_writes_of_cover _ _ _ _ _ (coverB_25 m c t h p)
  isplitl [H26]
  · unfold owns; iexists _; isplitr
    swap; · iexact H26
    ipureintro; exact View.read_writes_of_cover _ _ _ _ _ (coverB_26 m c t h p)
  unfold owns; iexists _; isplitr
  swap; · iexact H27
  ipureintro; exact View.read_writes_of_cover _ _ _ _ _ (coverB_27 m c t h p)
end Cert.Mixer

end
-- ==== Proof.Mixer.Launch.lean ====
/- The launch of the mixers' backward call. -/
module

public import proofs.«01_k».proof.Proof.Mixer.Body

@[expose] public section

set_option maxRecDepth 16384

noncomputable section

namespace Cert.Mixer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem row (t : Fin cfg0.N) :
    defs₀ (F := F) .tc cfg0.body (cfg0.bodyArgs t (cfg0.slots t)) = bodyAt0 t := by
  unfold defs₀; rw [Defs.onTc_tc]

theorem sound (c : Dev nD) (t : Fin cfg0.N) :
    bodyPre m c t ⊢ wp frame (wpE (defs₀ (F := F)) Variants.none c none) Set.univ (bodyAt0 t) (fun _ => bodyPost m c t) := by
  by_cases h0 : t.val % 16 = 0
  · exact sound_A m c t h0
  · exact sound_B m c t h0

set_option maxHeartbeats 8000000 in
/-- The library's obligation on the body. -/
theorem body_obligation (c : Dev nD) : BodyObligation (dats (F := F) m 0 c) (defs₀ (F := F)) Variants.none () Set.univ := fun t => by
  rw [bigSep_W0, bigSep_W0, row]
  exact triple_restated (sound m c t) rfl .rfl fun _ => .rfl

set_option backward.isDefEq.respectTransparency.types false in
/-- The launch. -/
theorem run (F' : FTy → Type) [FloatOps F'] (m : (ℓ : Loc nD τ sig) → Buf (Elt F') ℓ) :
    θ_run defs (onTc (τ := τ) (main (F := F'))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

end Cert.Mixer

end
-- ==== Proof.Mixer.Math.lean ====
/- The gradients of one chunk of the spatial gating mixer, over the extended reals: 128 rows and the 128 columns of a head,
   `zu` and `zv` the two halves of the chunk before gelu, `ct` the gradient at the mixer's result, `w` the head's spatial
   weight, `g` and `b` the layer norm's gain and bias. -/
module

public import proofs.«01_k».proof.Proof.Gen.KernelIdeal
public import Idealize.ShloMosaic.Lib.Pointwise

@[expose] public section

noncomputable section

namespace Cert.Mixer

open Idealize.ShloMosaic

/-- A square of values: rows and columns, or rows and rows. -/
abbrev Sq := Fin 128 → Fin 128 → EReal

/-- gelu, as tanh approximates it. -/
def gel (x : EReal) : EReal :=
  x * (Ideal.ofBits FTy.f32 1056964608#32 * (1 + Ideal.tanh (Ideal.ofBits FTy.f32 1061962282#32 *
    (x + Ideal.ofBits FTy.f32 1027024659#32 * (x * (x * x))))))

/-- The mean over a row. -/
def mean (f : Fin 128 → EReal) : EReal := Ideal.div (∑ k, f k) (Ideal.ofBits FTy.f32 1124073472#32)

/-- A row's values less their mean. -/
def ctr (zv : Sq) : Sq := fun s d => gel (zv s d) - mean fun k => gel (zv s k)

/-- The normalised values. -/
def nrm (zv : Sq) : Sq := fun s d =>
  ctr zv s d * Ideal.rsqrt (mean (fun k => ctr zv s k * ctr zv s k) + Ideal.ofBits FTy.f32 897988541#32)

/-- Whether row `r` takes from row `s`: it does from itself and from those before. -/
def takes (r s : Fin 128) : BitVec 1 := IntOp.cmpi .sge (BitVec.ofNat 32 r) (BitVec.ofNat 32 s)

/-- The gradient at the spatial product. -/
def spa (zu ct : Sq) : Sq := fun r d => gel (zu r d) * ct r d

/-- The gradient at the layer norm's result. -/
def back (zu ct w : Sq) : Sq := fun s d => ∑ r, Scalar.select (takes r s) (spa zu ct r d * w r s) 0

/-- The gradients of the gain, the bias, the spatial weight and the spatial bias. -/
def dGain (zu zv ct w : Sq) (d : Fin 128) : EReal := ∑ s, nrm zv s d * back zu ct w s d
def dBias (zu ct w : Sq) (d : Fin 128) : EReal := ∑ s, back zu ct w s d
def dSpa (zu zv ct : Sq) (g b : Fin 128 → EReal) : Sq := fun r s =>
  Scalar.select (takes r s) (∑ d, spa zu ct r d * (nrm zv s d * g d + b d)) 0
def dSpb (zu ct : Sq) (r : Fin 128) : EReal := ∑ d, spa zu ct r d

end Cert.Mixer

end
-- ==== Proof.Mixer.Chunk.lean ====
/- One chunk of the mixers' backward call and its value. The program writes a chunk's operations out for each of the four
   heads and the two chunks of a grid point: they are the same operations on other loads. -/
module

public import proofs.«01_k».proof.Proof.Gen.KernelIdeal.Frame.RunB
public import proofs.«01_k».proof.Proof.Mixer.Math
public import Idealize.ShloMosaic.Lib.Pipeline.ValueKit
public import Idealize.ShloMosaic.Lib.WholeRead

@[expose] public section

set_option maxRecDepth 16384
set_option maxHeartbeats 1000000

noncomputable section

namespace Cert.Mixer

open Cert.KernelIdeal Cert.KernelIdeal.Gen Idealize.ShloMosaic Idealize.ShloMosaic.TcCoe

section Loads
variable {F : FTy → Type} [FloatOps F]

/-- What the body loads: a square of the activations and of the gradient, a head's gain or bias row, a head's weight. -/
theorem inbZ (n : Fin 2) (k : Fin 32) : ∀ a, (![128 * n, 128 * k] : Fin 2 → ℕ) a + S128x128.size a ≤ S256x4096.size a := by
  intro a; fin_cases a <;> simp <;> omega
theorem inbD (n : Fin 2) (k : Fin 16) : ∀ a, (![128 * n, 128 * k] : Fin 2 → ℕ) a + S128x128.size a ≤ S256x2048.size a := by
  intro a; fin_cases a <;> simp <;> omega
theorem inbG (k : Fin 4) : ∀ a, (![k, 0, 0] : Fin 3 → ℕ) a + S1x1x128.size a ≤ S4x1x128.size a := by
  intro a; fin_cases a <;> simp <;> omega
theorem inbW (k : Fin 4) : ∀ a, (![k, 0, 0] : Fin 3 → ℕ) a + S1x128x128.size a ≤ S4x128x128.size a := by
  intro a; fin_cases a <;> simp <;> omega
def ldZ (m : Memref sig .tc .vmem S256x4096 .f32) (h : m.IsWhole) (x : Vec F S256x4096 .f32) (n : Fin 2) (k : Fin 32) : Vec F S128x128 .f32 :=
  View.readAt (Elt F) m.view (Rect.unit (s := S256x4096) ![128 * n, 128 * k] S128x128.size (inbZ n k)).toLoadRect (h.unread x)
def ldD (m : Memref sig .tc .vmem S256x2048 .bf16) (h : m.IsWhole) (x : Vec F S256x2048 .bf16) (n : Fin 2) (k : Fin 16) : Vec F S128x128 .bf16 :=
  View.readAt (Elt F) m.view (Rect.unit (s := S256x2048) ![128 * n, 128 * k] S128x128.size (inbD n k)).toLoadRect (h.unread x)
def ldG (m : Memref sig .tc .vmem S4x1x128 .f32) (h : m.IsWhole) (x : Vec F S4x1x128 .f32) (k : Fin 4) : Vec F S1x1x128 .f32 :=
  View.readAt (Elt F) m.view (Rect.unit (s := S4x1x128) ![k, 0, 0] S1x1x128.size (inbG k)).toLoadRect (h.unread x)
def ldW (m : Memref sig .tc .vmem S4x128x128 .f32) (h : m.IsWhole) (x : Vec F S4x128x128 .f32) (k : Fin 4) : Vec F S1x128x128 .f32 :=
  View.readAt (Elt F) m.view (Rect.unit (s := S4x128x128) ![k, 0, 0] S1x128x128.size (inbW k)).toLoadRect (h.unread x)

/-- A chunk's four gradients from its loads, as the last chunk is written. -/
def kGain (zu zv : Vec F S128x128 .f32) (w : Vec F S1x128x128 .f32) (ct : Vec F S128x128 .bf16) : FVec F S1x128 .f32 :=
  k0_pay327 (k0_pay315 (k0_pay309 zv) (k0_pay310 zv) (FloatOps.ofBits .f32 1124073472#32))
    (k0_pay323 (k0_pay298 w) (k0_pay304 zu) ct)
def kBias (zu : Vec F S128x128 .f32) (w : Vec F S1x128x128 .f32) (ct : Vec F S128x128 .bf16) : FVec F S1x128 .f32 :=
  k0_pay326 (k0_pay325 (k0_pay298 w) (k0_pay304 zu) ct)
def kSpa (zu zv : Vec F S128x128 .f32) (g b : Vec F S1x1x128 .f32) (ct : Vec F S128x128 .bf16) : FVec F S128x128 .f32 :=
  k0_pay324 (k0_pay296 g) (k0_pay297 b) (k0_pay304 zu) (k0_pay309 zv) (k0_pay310 zv) (FloatOps.ofBits .f32 1124073472#32) ct
def kSpb (zu : Vec F S128x128 .f32) (ct : Vec F S128x128 .bf16) : FVec F S128x1 .f32 := k0_pay322 (k0_pay304 zu) ct

end Loads

/-! The values. -/

theorem kGain_apply (zu zv : Vec Ideal S128x128 .f32) (w : Vec Ideal S1x128x128 .f32) (ct : Vec Ideal S128x128 .bf16) (a : Fin 1) (d : Fin 128) :
    kGain zu zv w ct (ix2 a d)
      = dGain (fun i j => zu (ix2 i j)) (fun i j => zv (ix2 i j)) (fun i j => ct (ix2 i j)) (fun i j => w (ix3 0 i j)) d := by
  pointwise [kGain, k0_pay327, k0_pay315, k0_pay313, k0_pay312, k0_pay311, k0_pay310, k0_pay309, k0_pay308, k0_pay306, k0_pay323, k0_pay320, k0_pay319,
    k0_pay317, k0_pay316, k0_pay298, k0_pay304, k0_pay303, k0_pay301]
  rfl

theorem kBias_apply (zu : Vec Ideal S128x128 .f32) (w : Vec Ideal S1x128x128 .f32) (ct : Vec Ideal S128x128 .bf16) (a : Fin 1) (d : Fin 128) :
    kBias zu w ct (ix2 a d) = dBias (fun i j => zu (ix2 i j)) (fun i j => ct (ix2 i j)) (fun i j => w (ix3 0 i j)) d := by
  pointwise [kBias, k0_pay326, k0_pay325, k0_pay323, k0_pay320, k0_pay319, k0_pay317, k0_pay316, k0_pay298, k0_pay304, k0_pay303, k0_pay301]
  rfl

theorem kSpa_apply (zu zv : Vec Ideal S128x128 .f32) (g b : Vec Ideal S1x1x128 .f32) (ct : Vec Ideal S128x128 .bf16) (r s : Fin 128) :
    kSpa zu zv g b ct (ix2 r s)
      = dSpa (fun i j => zu (ix2 i j)) (fun i j => zv (ix2 i j)) (fun i j => ct (ix2 i j)) (fun d => g (ix3 0 0 d)) (fun d => b (ix3 0 0 d)) r s := by
  pointwise [kSpa, k0_pay324, k0_pay318, k0_pay315, k0_pay313, k0_pay312, k0_pay311, k0_pay310, k0_pay309, k0_pay308, k0_pay306, k0_pay320, k0_pay319,
    k0_pay316, k0_pay296, k0_pay297, k0_pay304, k0_pay303, k0_pay301]
  rfl

theorem kSpb_apply (zu : Vec Ideal S128x128 .f32) (ct : Vec Ideal S128x128 .bf16) (r : Fin 128) (a : Fin 1) :
    kSpb zu ct (ix2 r a) = dSpb (fun i j => zu (ix2 i j)) (fun i j => ct (ix2 i j)) r := by
  pointwise [kSpb, k0_pay322, k0_pay320, k0_pay319, k0_pay304, k0_pay303, k0_pay301]
  rfl

/-- A row of a chunk in a grid point's block, a column of a head's first or second half. -/
def crow (n : Fin 2) (i : Fin 128) : Fin 256 := ⟨128 * n + i, by omega⟩
def uCol (h : Fin 4) (j : Fin 128) : Fin 4096 := ⟨128 * h + j, by omega⟩
def vCol (h : Fin 4) (j : Fin 128) : Fin 4096 := ⟨512 + 128 * h + j, by omega⟩
def dCol (h : Fin 4) (j : Fin 128) : Fin 2048 := ⟨128 * h + j, by omega⟩

variable (x1 : S256x4096.Idx → EReal) (x3 : S256x2048.Idx → EReal) (x5 x6 : S4x1x128.Idx → EReal) (x7 : S4x128x128.Idx → EReal)

/-- What a chunk and a head of a grid point's block add to each of the four gradients. -/
def addGain (n : Fin 2) (h : Fin 4) (d : Fin 128) : EReal :=
  dGain (fun i j => x1 (ix2 (crow n i) (uCol h j))) (fun i j => x1 (ix2 (crow n i) (vCol h j))) (fun i j => x3 (ix2 (crow n i) (dCol h j)))
    (fun i j => x7 (ix3 h i j)) d
def addBias (n : Fin 2) (h : Fin 4) (d : Fin 128) : EReal :=
  dBias (fun i j => x1 (ix2 (crow n i) (uCol h j))) (fun i j => x3 (ix2 (crow n i) (dCol h j))) (fun i j => x7 (ix3 h i j)) d
def addSpa (n : Fin 2) (h : Fin 4) (r s : Fin 128) : EReal :=
  dSpa (fun i j => x1 (ix2 (crow n i) (uCol h j))) (fun i j => x1 (ix2 (crow n i) (vCol h j))) (fun i j => x3 (ix2 (crow n i) (dCol h j)))
    (fun d => x5 (ix3 h 0 d)) (fun d => x6 (ix3 h 0 d)) r s
def addSpb (n : Fin 2) (h : Fin 4) (r : Fin 128) : EReal :=
  dSpb (fun i j => x1 (ix2 (crow n i) (uCol h j))) (fun i j => x3 (ix2 (crow n i) (dCol h j))) r

/-! The loads' elements. -/

variable (c : Dev nD) (m2 : Memref sig .tc .vmem S256x4096 .f32) (h2 : m2.IsWhole) (m4 : Memref sig .tc .vmem S256x2048 .bf16)
  (h4 : m4.IsWhole) (m6 : Memref sig .tc .vmem S4x1x128 .f32) (h6 : m6.IsWhole) (m7 : Memref sig .tc .vmem S4x1x128 .f32) (h7 : m7.IsWhole)
  (m8 : Memref sig .tc .vmem S4x128x128 .f32) (h8 : m8.IsWhole)

theorem ldU_apply (n : Fin 2) (h : Fin 4) (i j : Fin 128) : ldZ (F := Ideal) m2 h2 x1 n ⟨h, by omega⟩ (ix2 i j) = x1 (ix2 (crow n i) (uCol h j)) := by
  unfold ldZ
  rw [Memref.IsWhole.readAt_unread]
  refine congrArg x1 ?_
  funext a; fin_cases a <;> refine Fin.ext ?_ <;> simp [crow, uCol, LoadRect.idx, ix2, Rect.emb, Rect.unit, Rect.toLoadRect]
theorem ldV_apply (n : Fin 2) (h : Fin 4) (i j : Fin 128) : ldZ (F := Ideal) m2 h2 x1 n ⟨4 + h, by omega⟩ (ix2 i j) = x1 (ix2 (crow n i) (vCol h j)) := by
  unfold ldZ
  rw [Memref.IsWhole.readAt_unread]
  refine congrArg x1 ?_
  funext a; fin_cases a <;> refine Fin.ext ?_ <;> simp [crow, vCol, LoadRect.idx, ix2, Rect.emb, Rect.unit, Rect.toLoadRect] <;> omega
theorem ldD_apply (n : Fin 2) (h : Fin 4) (i j : Fin 128) : ldD (F := Ideal) m4 h4 x3 n ⟨h, by omega⟩ (ix2 i j) = x3 (ix2 (crow n i) (dCol h j)) := by
  unfold ldD
  rw [Memref.IsWhole.readAt_unread]
  refine congrArg x3 ?_
  funext a; fin_cases a <;> refine Fin.ext ?_ <;> simp [crow, dCol, LoadRect.idx, ix2, Rect.emb, Rect.unit, Rect.toLoadRect]
theorem ldG_apply (h : Fin 4) (d : Fin 128) : ldG (F := Ideal) m6 h6 x5 h (ix3 0 0 d) = x5 (ix3 h 0 d) := by
  unfold ldG
  rw [Memref.IsWhole.readAt_unread]
  refine congrArg x5 ?_
  funext a; fin_cases a <;> refine Fin.ext ?_ <;> simp [LoadRect.idx, ix3, Rect.emb, Rect.unit, Rect.toLoadRect]
theorem ldW_apply (h : Fin 4) (i j : Fin 128) : ldW (F := Ideal) m8 h8 x7 h (ix3 0 i j) = x7 (ix3 h i j) := by
  unfold ldW
  rw [Memref.IsWhole.readAt_unread]
  refine congrArg x7 ?_
  funext a; fin_cases a <;> refine Fin.ext ?_ <;> simp [LoadRect.idx, ix3, Rect.emb, Rect.unit, Rect.toLoadRect]

/-- A chunk and a head of the block: the gradients of their loads. -/
theorem gain_at (n : Fin 2) (h : Fin 4) (a : Fin 1) (d : Fin 128) :
    kGain (F := Ideal) (ldZ m2 h2 x1 n ⟨h, by omega⟩) (ldZ m2 h2 x1 n ⟨4 + h, by omega⟩) (ldW m8 h8 x7 h) (ldD m4 h4 x3 n ⟨h, by omega⟩) (ix2 a d)
      = addGain x1 x3 x7 n h d := by
  rw [kGain_apply]; simp only [ldU_apply, ldV_apply, ldD_apply, ldW_apply]; rfl
theorem bias_at (n : Fin 2) (h : Fin 4) (a : Fin 1) (d : Fin 128) :
    kBias (F := Ideal) (ldZ m2 h2 x1 n ⟨h, by omega⟩) (ldW m8 h8 x7 h) (ldD m4 h4 x3 n ⟨h, by omega⟩) (ix2 a d) = addBias x1 x3 x7 n h d := by
  rw [kBias_apply]; simp only [ldU_apply, ldD_apply, ldW_apply]; rfl
theorem spa_at (n : Fin 2) (h : Fin 4) (r s : Fin 128) :
    kSpa (F := Ideal) (ldZ m2 h2 x1 n ⟨h, by omega⟩) (ldZ m2 h2 x1 n ⟨4 + h, by omega⟩) (ldG m6 h6 x5 h) (ldG m7 h7 x6 h) (ldD m4 h4 x3 n ⟨h, by omega⟩) (ix2 r s)
      = addSpa x1 x3 x5 x6 n h r s := by
  rw [kSpa_apply]; simp only [ldU_apply, ldV_apply, ldD_apply, ldG_apply]; rfl
theorem spb_at (n : Fin 2) (h : Fin 4) (r : Fin 128) (a : Fin 1) :
    kSpb (F := Ideal) (ldZ m2 h2 x1 n ⟨h, by omega⟩) (ldD m4 h4 x3 n ⟨h, by omega⟩) (ix2 r a) = addSpb x1 x3 n h r := by
  rw [kSpb_apply]; simp only [ldU_apply, ldD_apply]; rfl

/-! The run's values: the chunks and heads of a grid point, in the order of the text. -/

theorem gainA (d : Fin 128) : kernelRun0_A.sl.r_22 (F := Ideal) c m2 h2 m4 h4 m8 h8 x1 x3 x7 (ix2 (0 : Fin 1) d) = addGain x1 x3 x7 0 0 d
    ∧ kernelRun0_A.sl.r_52 (F := Ideal) c m2 h2 m4 h4 m8 h8 x1 x3 x7 (ix2 (0 : Fin 1) d) = addGain x1 x3 x7 0 1 d
    ∧ kernelRun0_A.sl.r_80 (F := Ideal) c m2 h2 m4 h4 m8 h8 x1 x3 x7 (ix2 (0 : Fin 1) d) = addGain x1 x3 x7 0 2 d
    ∧ kernelRun0_A.sl.r_107 (F := Ideal) c m2 h2 m4 h4 m8 h8 x1 x3 x7 (ix2 (0 : Fin 1) d) = addGain x1 x3 x7 0 3 d
    ∧ kernelRun0_A.sl.r_136 (F := Ideal) c m2 h2 m4 h4 m8 h8 x1 x3 x7 (ix2 (0 : Fin 1) d) = addGain x1 x3 x7 1 0 d
    ∧ kernelRun0_A.sl.r_160 (F := Ideal) c m2 h2 m4 h4 m8 h8 x1 x3 x7 (ix2 (0 : Fin 1) d) = addGain x1 x3 x7 1 1 d
    ∧ kernelRun0_A.sl.r_189 (F := Ideal) c m2 h2 m4 h4 m8 h8 x1 x3 x7 (ix2 (0 : Fin 1) d) = addGain x1 x3 x7 1 2 d
    ∧ kernelRun0_A.sl.r_218 (F := Ideal) c m2 h2 m4 h4 m8 h8 x1 x3 x7 (ix2 (0 : Fin 1) d) = addGain x1 x3 x7 1 3 d :=
  ⟨gain_at x1 x3 x7 m2 h2 m4 h4 m8 h8 0 0 0 d, gain_at x1 x3 x7 m2 h2 m4 h4 m8 h8 0 1 0 d, gain_at x1 x3 x7 m2 h2 m4 h4 m8 h8 0 2 0 d, gain_at x1 x3 x7 m2 h2 m4 h4 m8 h8 0 3 0 d, gain_at x1 x3 x7 m2 h2 m4 h4 m8 h8 1 0 0 d, gain_at x1 x3 x7 m2 h2 m4 h4 m8 h8 1 1 0 d, gain_at x1 x3 x7 m2 h2 m4 h4 m8 h8 1 2 0 d, gain_at x1 x3 x7 m2 h2 m4 h4 m8 h8 1 3 0 d⟩
theorem gainB (d : Fin 128) : kernelRun0_B.sl.r_22 (F := Ideal) c m2 h2 m4 h4 m8 h8 x1 x3 x7 (ix2 (0 : Fin 1) d) = addGain x1 x3 x7 0 0 d
    ∧ kernelRun0_B.sl.r_52 (F := Ideal) c m2 h2 m4 h4 m8 h8 x1 x3 x7 (ix2 (0 : Fin 1) d) = addGain x1 x3 x7 0 1 d
    ∧ kernelRun0_B.sl.r_80 (F := Ideal) c m2 h2 m4 h4 m8 h8 x1 x3 x7 (ix2 (0 : Fin 1) d) = addGain x1 x3 x7 0 2 d
    ∧ kernelRun0_B.sl.r_107 (F := Ideal) c m2 h2 m4 h4 m8 h8 x1 x3 x7 (ix2 (0 : Fin 1) d) = addGain x1 x3 x7 0 3 d
    ∧ kernelRun0_B.sl.r_136 (F := Ideal) c m2 h2 m4 h4 m8 h8 x1 x3 x7 (ix2 (0 : Fin 1) d) = addGain x1 x3 x7 1 0 d
    ∧ kernelRun0_B.sl.r_160 (F := Ideal) c m2 h2 m4 h4 m8 h8 x1 x3 x7 (ix2 (0 : Fin 1) d) = addGain x1 x3 x7 1 1 d
    ∧ kernelRun0_B.sl.r_189 (F := Ideal) c m2 h2 m4 h4 m8 h8 x1 x3 x7 (ix2 (0 : Fin 1) d) = addGain x1 x3 x7 1 2 d
    ∧ kernelRun0_B.sl.r_218 (F := Ideal) c m2 h2 m4 h4 m8 h8 x1 x3 x7 (ix2 (0 : Fin 1) d) = addGain x1 x3 x7 1 3 d :=
  ⟨gain_at x1 x3 x7 m2 h2 m4 h4 m8 h8 0 0 0 d, gain_at x1 x3 x7 m2 h2 m4 h4 m8 h8 0 1 0 d, gain_at x1 x3 x7 m2 h2 m4 h4 m8 h8 0 2 0 d, gain_at x1 x3 x7 m2 h2 m4 h4 m8 h8 0 3 0 d, gain_at x1 x3 x7 m2 h2 m4 h4 m8 h8 1 0 0 d, gain_at x1 x3 x7 m2 h2 m4 h4 m8 h8 1 1 0 d, gain_at x1 x3 x7 m2 h2 m4 h4 m8 h8 1 2 0 d, gain_at x1 x3 x7 m2 h2 m4 h4 m8 h8 1 3 0 d⟩
theorem biasA (d : Fin 128) : kernelRun0_A.sl.r_21 (F := Ideal) c m2 h2 m4 h4 m8 h8 x1 x3 x7 (ix2 (0 : Fin 1) d) = addBias x1 x3 x7 0 0 d
    ∧ kernelRun0_A.sl.r_51 (F := Ideal) c m2 h2 m4 h4 m8 h8 x1 x3 x7 (ix2 (0 : Fin 1) d) = addBias x1 x3 x7 0 1 d
    ∧ kernelRun0_A.sl.r_79 (F := Ideal) c m2 h2 m4 h4 m8 h8 x1 x3 x7 (ix2 (0 : Fin 1) d) = addBias x1 x3 x7 0 2 d
    ∧ kernelRun0_A.sl.r_106 (F := Ideal) c m2 h2 m4 h4 m8 h8 x1 x3 x7 (ix2 (0 : Fin 1) d) = addBias x1 x3 x7 0 3 d
    ∧ kernelRun0_A.sl.r_135 (F := Ideal) c m2 h2 m4 h4 m8 h8 x1 x3 x7 (ix2 (0 : Fin 1) d) = addBias x1 x3 x7 1 0 d
    ∧ kernelRun0_A.sl.r_159 (F := Ideal) c m2 h2 m4 h4 m8 h8 x1 x3 x7 (ix2 (0 : Fin 1) d) = addBias x1 x3 x7 1 1 d
    ∧ kernelRun0_A.sl.r_188 (F := Ideal) c m2 h2 m4 h4 m8 h8 x1 x3 x7 (ix2 (0 : Fin 1) d) = addBias x1 x3 x7 1 2 d
    ∧ kernelRun0_A.sl.r_217 (F := Ideal) c m2 h2 m4 h4 m8 h8 x1 x3 x7 (ix2 (0 : Fin 1) d) = addBias x1 x3 x7 1 3 d :=
  ⟨bias_at x1 x3 x7 m2 h2 m4 h4 m8 h8 0 0 0 d, bias_at x1 x3 x7 m2 h2 m4 h4 m8 h8 0 1 0 d, bias_at x1 x3 x7 m2 h2 m4 h4 m8 h8 0 2 0 d, bias_at x1 x3 x7 m2 h2 m4 h4 m8 h8 0 3 0 d, bias_at x1 x3 x7 m2 h2 m4 h4 m8 h8 1 0 0 d, bias_at x1 x3 x7 m2 h2 m4 h4 m8 h8 1 1 0 d, bias_at x1 x3 x7 m2 h2 m4 h4 m8 h8 1 2 0 d, bias_at x1 x3 x7 m2 h2 m4 h4 m8 h8 1 3 0 d⟩
theorem biasB (d : Fin 128) : kernelRun0_B.sl.r_21 (F := Ideal) c m2 h2 m4 h4 m8 h8 x1 x3 x7 (ix2 (0 : Fin 1) d) = addBias x1 x3 x7 0 0 d
    ∧ kernelRun0_B.sl.r_51 (F := Ideal) c m2 h2 m4 h4 m8 h8 x1 x3 x7 (ix2 (0 : Fin 1) d) = addBias x1 x3 x7 0 1 d
    ∧ kernelRun0_B.sl.r_79 (F := Ideal) c m2 h2 m4 h4 m8 h8 x1 x3 x7 (ix2 (0 : Fin 1) d) = addBias x1 x3 x7 0 2 d
    ∧ kernelRun0_B.sl.r_106 (F := Ideal) c m2 h2 m4 h4 m8 h8 x1 x3 x7 (ix2 (0 : Fin 1) d) = addBias x1 x3 x7 0 3 d
    ∧ kernelRun0_B.sl.r_135 (F := Ideal) c m2 h2 m4 h4 m8 h8 x1 x3 x7 (ix2 (0 : Fin 1) d) = addBias x1 x3 x7 1 0 d
    ∧ kernelRun0_B.sl.r_159 (F := Ideal) c m2 h2 m4 h4 m8 h8 x1 x3 x7 (ix2 (0 : Fin 1) d) = addBias x1 x3 x7 1 1 d
    ∧ kernelRun0_B.sl.r_188 (F := Ideal) c m2 h2 m4 h4 m8 h8 x1 x3 x7 (ix2 (0 : Fin 1) d) = addBias x1 x3 x7 1 2 d
    ∧ kernelRun0_B.sl.r_217 (F := Ideal) c m2 h2 m4 h4 m8 h8 x1 x3 x7 (ix2 (0 : Fin 1) d) = addBias x1 x3 x7 1 3 d :=
  ⟨bias_at x1 x3 x7 m2 h2 m4 h4 m8 h8 0 0 0 d, bias_at x1 x3 x7 m2 h2 m4 h4 m8 h8 0 1 0 d, bias_at x1 x3 x7 m2 h2 m4 h4 m8 h8 0 2 0 d, bias_at x1 x3 x7 m2 h2 m4 h4 m8 h8 0 3 0 d, bias_at x1 x3 x7 m2 h2 m4 h4 m8 h8 1 0 0 d, bias_at x1 x3 x7 m2 h2 m4 h4 m8 h8 1 1 0 d, bias_at x1 x3 x7 m2 h2 m4 h4 m8 h8 1 2 0 d, bias_at x1 x3 x7 m2 h2 m4 h4 m8 h8 1 3 0 d⟩
theorem spaA (r s : Fin 128) : kernelRun0_A.sl.r_20 (F := Ideal) c m2 h2 m4 h4 m6 h6 m7 h7 x1 x3 x5 x6 (ix2 r s) = addSpa x1 x3 x5 x6 0 0 r s
    ∧ kernelRun0_A.sl.r_50 (F := Ideal) c m2 h2 m4 h4 m6 h6 m7 h7 x1 x3 x5 x6 (ix2 r s) = addSpa x1 x3 x5 x6 0 1 r s
    ∧ kernelRun0_A.sl.r_78 (F := Ideal) c m2 h2 m4 h4 m6 h6 m7 h7 x1 x3 x5 x6 (ix2 r s) = addSpa x1 x3 x5 x6 0 2 r s
    ∧ kernelRun0_A.sl.r_105 (F := Ideal) c m2 h2 m4 h4 m6 h6 m7 h7 x1 x3 x5 x6 (ix2 r s) = addSpa x1 x3 x5 x6 0 3 r s
    ∧ kernelRun0_A.sl.r_134 (F := Ideal) c m2 h2 m4 h4 m6 h6 m7 h7 x1 x3 x5 x6 (ix2 r s) = addSpa x1 x3 x5 x6 1 0 r s
    ∧ kernelRun0_A.sl.r_158 (F := Ideal) c m2 h2 m4 h4 m6 h6 m7 h7 x1 x3 x5 x6 (ix2 r s) = addSpa x1 x3 x5 x6 1 1 r s
    ∧ kernelRun0_A.sl.r_187 (F := Ideal) c m2 h2 m4 h4 m6 h6 m7 h7 x1 x3 x5 x6 (ix2 r s) = addSpa x1 x3 x5 x6 1 2 r s
    ∧ kernelRun0_A.sl.r_215 (F := Ideal) c m2 h2 m4 h4 m6 h6 m7 h7 x1 x3 x5 x6 (ix2 r s) = addSpa x1 x3 x5 x6 1 3 r s :=
  ⟨spa_at x1 x3 x5 x6 m2 h2 m4 h4 m6 h6 m7 h7 0 0 r s, spa_at x1 x3 x5 x6 m2 h2 m4 h4 m6 h6 m7 h7 0 1 r s, spa_at x1 x3 x5 x6 m2 h2 m4 h4 m6 h6 m7 h7 0 2 r s, spa_at x1 x3 x5 x6 m2 h2 m4 h4 m6 h6 m7 h7 0 3 r s, spa_at x1 x3 x5 x6 m2 h2 m4 h4 m6 h6 m7 h7 1 0 r s, spa_at x1 x3 x5 x6 m2 h2 m4 h4 m6 h6 m7 h7 1 1 r s, spa_at x1 x3 x5 x6 m2 h2 m4 h4 m6 h6 m7 h7 1 2 r s, spa_at x1 x3 x5 x6 m2 h2 m4 h4 m6 h6 m7 h7 1 3 r s⟩
theorem spaB (r s : Fin 128) : kernelRun0_B.sl.r_20 (F := Ideal) c m2 h2 m4 h4 m6 h6 m7 h7 x1 x3 x5 x6 (ix2 r s) = addSpa x1 x3 x5 x6 0 0 r s
    ∧ kernelRun0_B.sl.r_50 (F := Ideal) c m2 h2 m4 h4 m6 h6 m7 h7 x1 x3 x5 x6 (ix2 r s) = addSpa x1 x3 x5 x6 0 1 r s
    ∧ kernelRun0_B.sl.r_78 (F := Ideal) c m2 h2 m4 h4 m6 h6 m7 h7 x1 x3 x5 x6 (ix2 r s) = addSpa x1 x3 x5 x6 0 2 r s
    ∧ kernelRun0_B.sl.r_105 (F := Ideal) c m2 h2 m4 h4 m6 h6 m7 h7 x1 x3 x5 x6 (ix2 r s) = addSpa x1 x3 x5 x6 0 3 r s
    ∧ kernelRun0_B.sl.r_134 (F := Ideal) c m2 h2 m4 h4 m6 h6 m7 h7 x1 x3 x5 x6 (ix2 r s) = addSpa x1 x3 x5 x6 1 0 r s
    ∧ kernelRun0_B.sl.r_158 (F := Ideal) c m2 h2 m4 h4 m6 h6 m7 h7 x1 x3 x5 x6 (ix2 r s) = addSpa x1 x3 x5 x6 1 1 r s
    ∧ kernelRun0_B.sl.r_187 (F := Ideal) c m2 h2 m4 h4 m6 h6 m7 h7 x1 x3 x5 x6 (ix2 r s) = addSpa x1 x3 x5 x6 1 2 r s
    ∧ kernelRun0_B.sl.r_215 (F := Ideal) c m2 h2 m4 h4 m6 h6 m7 h7 x1 x3 x5 x6 (ix2 r s) = addSpa x1 x3 x5 x6 1 3 r s :=
  ⟨spa_at x1 x3 x5 x6 m2 h2 m4 h4 m6 h6 m7 h7 0 0 r s, spa_at x1 x3 x5 x6 m2 h2 m4 h4 m6 h6 m7 h7 0 1 r s, spa_at x1 x3 x5 x6 m2 h2 m4 h4 m6 h6 m7 h7 0 2 r s, spa_at x1 x3 x5 x6 m2 h2 m4 h4 m6 h6 m7 h7 0 3 r s, spa_at x1 x3 x5 x6 m2 h2 m4 h4 m6 h6 m7 h7 1 0 r s, spa_at x1 x3 x5 x6 m2 h2 m4 h4 m6 h6 m7 h7 1 1 r s, spa_at x1 x3 x5 x6 m2 h2 m4 h4 m6 h6 m7 h7 1 2 r s, spa_at x1 x3 x5 x6 m2 h2 m4 h4 m6 h6 m7 h7 1 3 r s⟩
theorem spbA (r : Fin 128) : kernelRun0_A.sl.r_19 (F := Ideal) c m2 h2 m4 h4 x1 x3 (ix2 r (0 : Fin 1)) = addSpb x1 x3 0 0 r
    ∧ kernelRun0_A.sl.r_49 (F := Ideal) c m2 h2 m4 h4 x1 x3 (ix2 r (0 : Fin 1)) = addSpb x1 x3 0 1 r
    ∧ kernelRun0_A.sl.r_76 (F := Ideal) c m2 h2 m4 h4 x1 x3 (ix2 r (0 : Fin 1)) = addSpb x1 x3 0 2 r
    ∧ kernelRun0_A.sl.r_104 (F := Ideal) c m2 h2 m4 h4 x1 x3 (ix2 r (0 : Fin 1)) = addSpb x1 x3 0 3 r
    ∧ kernelRun0_A.sl.r_132 (F := Ideal) c m2 h2 m4 h4 x1 x3 (ix2 r (0 : Fin 1)) = addSpb x1 x3 1 0 r
    ∧ kernelRun0_A.sl.r_157 (F := Ideal) c m2 h2 m4 h4 x1 x3 (ix2 r (0 : Fin 1)) = addSpb x1 x3 1 1 r
    ∧ kernelRun0_A.sl.r_186 (F := Ideal) c m2 h2 m4 h4 x1 x3 (ix2 r (0 : Fin 1)) = addSpb x1 x3 1 2 r
    ∧ kernelRun0_A.sl.r_213 (F := Ideal) c m2 h2 m4 h4 x1 x3 (ix2 r (0 : Fin 1)) = addSpb x1 x3 1 3 r :=
  ⟨spb_at x1 x3 m2 h2 m4 h4 0 0 r 0, spb_at x1 x3 m2 h2 m4 h4 0 1 r 0, spb_at x1 x3 m2 h2 m4 h4 0 2 r 0, spb_at x1 x3 m2 h2 m4 h4 0 3 r 0, spb_at x1 x3 m2 h2 m4 h4 1 0 r 0, spb_at x1 x3 m2 h2 m4 h4 1 1 r 0, spb_at x1 x3 m2 h2 m4 h4 1 2 r 0, spb_at x1 x3 m2 h2 m4 h4 1 3 r 0⟩
theorem spbB (r : Fin 128) : kernelRun0_B.sl.r_19 (F := Ideal) c m2 h2 m4 h4 x1 x3 (ix2 r (0 : Fin 1)) = addSpb x1 x3 0 0 r
    ∧ kernelRun0_B.sl.r_49 (F := Ideal) c m2 h2 m4 h4 x1 x3 (ix2 r (0 : Fin 1)) = addSpb x1 x3 0 1 r
    ∧ kernelRun0_B.sl.r_76 (F := Ideal) c m2 h2 m4 h4 x1 x3 (ix2 r (0 : Fin 1)) = addSpb x1 x3 0 2 r
    ∧ kernelRun0_B.sl.r_104 (F := Ideal) c m2 h2 m4 h4 x1 x3 (ix2 r (0 : Fin 1)) = addSpb x1 x3 0 3 r
    ∧ kernelRun0_B.sl.r_132 (F := Ideal) c m2 h2 m4 h4 x1 x3 (ix2 r (0 : Fin 1)) = addSpb x1 x3 1 0 r
    ∧ kernelRun0_B.sl.r_157 (F := Ideal) c m2 h2 m4 h4 x1 x3 (ix2 r (0 : Fin 1)) = addSpb x1 x3 1 1 r
    ∧ kernelRun0_B.sl.r_186 (F := Ideal) c m2 h2 m4 h4 x1 x3 (ix2 r (0 : Fin 1)) = addSpb x1 x3 1 2 r
    ∧ kernelRun0_B.sl.r_213 (F := Ideal) c m2 h2 m4 h4 x1 x3 (ix2 r (0 : Fin 1)) = addSpb x1 x3 1 3 r :=
  ⟨spb_at x1 x3 m2 h2 m4 h4 0 0 r 0, spb_at x1 x3 m2 h2 m4 h4 0 1 r 0, spb_at x1 x3 m2 h2 m4 h4 0 2 r 0, spb_at x1 x3 m2 h2 m4 h4 0 3 r 0, spb_at x1 x3 m2 h2 m4 h4 1 0 r 0, spb_at x1 x3 m2 h2 m4 h4 1 1 r 0, spb_at x1 x3 m2 h2 m4 h4 1 2 r 0, spb_at x1 x3 m2 h2 m4 h4 1 3 r 0⟩

end Cert.Mixer

end
-- ==== Proof.Mixer.Heads.lean ====
/- The pieces that a grid point stores into the four gradients: head after head, chunk after chunk, each adding to what it reads back. -/
module

public import proofs.«01_k».proof.Proof.Mixer.Chunk
public import Idealize.ShloMosaic.Lib.Pipeline.ReadBack

@[expose] public section

set_option maxRecDepth 16384
set_option maxHeartbeats 400000

noncomputable section

namespace Cert.Mixer

open Cert.KernelIdeal Cert.KernelIdeal.Gen Idealize.ShloMosaic Idealize.ShloMosaic.TcCoe

section Generic

variable {a b : ℕ}

theorem inbH (k : Fin 4) : ∀ x, (![k, 0, 0] : Fin 3 → ℕ) x + (![1, a, b] : Fin 3 → ℕ) x ≤ (![4, a, b] : Fin 3 → ℕ) x := by
  intro x; fin_cases x <;> simp

/-- One head's block of an array with a block per head. -/
abbrev hd (a b : ℕ) (k : Fin 4) : Rect (⟨3, ![4, a, b]⟩ : Shape) := Rect.unit (s := ⟨3, ![4, a, b]⟩) ![k, 0, 0] ![1, a, b] (inbH k)

theorem hd_emb (k : Fin 4) (z : Fin 1) (i : Fin a) (j : Fin b) : (hd a b k).emb (ix3 z i j : (⟨3, ![1, a, b]⟩ : Shape).Idx) = ix3 k i j := by
  funext x; fin_cases x <;> refine Fin.ext ?_ <;> simp [ix3, Rect.emb, Rect.unit]

theorem not_mem_hd {k l : Fin 4} (h : k ≠ l) (i : Fin a) (j : Fin b) : (ix3 l i j : (⟨3, ![4, a, b]⟩ : Shape).Idx) ∉ (hd a b k).set := by
  rw [Rect.mem_set_unit]
  intro m
  obtain ⟨m1, m2⟩ := m 0
  have m1' : k.val ≤ l.val := m1
  have m2' : l.val < k.val + 1 := m2
  exact h (Fin.ext (by omega))

variable {e : EltTy} {Val : EltTy → Type} [∀ e, Nonempty (Val e)]

theorem canon_hit (k : Fin 4) (w : (⟨3, ![1, a, b]⟩ : Shape).Idx → Val e) (L : List (View.Piece Val (⟨3, ![4, a, b]⟩ : Shape) e)) (i : Fin a) (j : Fin b) :
    View.canon (⟨hd a b k, w⟩ :: L) (ix3 k i j) = w (ix3 0 i j) := by
  rw [← hd_emb k 0 i j]; exact View.canon_cons_emb (hd a b k) w L (ix3 0 i j)

theorem canon_miss {k l : Fin 4} (h : k ≠ l) (w : (⟨3, ![1, a, b]⟩ : Shape).Idx → Val e) (L : List (View.Piece Val (⟨3, ![4, a, b]⟩ : Shape) e)) (i : Fin a) (j : Fin b) :
    View.canon (⟨hd a b k, w⟩ :: L) (ix3 l i j) = View.canon L (ix3 l i j) :=
  View.canon_cons_of_not_mem ⟨hd a b k, w⟩ L (not_mem_hd h i j)

theorem readCov_hd {sig : RefSig} {κ : Kind} {sp : Space} (v : View sig κ sp (⟨3, ![4, a, b]⟩ : Shape) e) (k : Fin 4)
    (L : List (View.Piece Val (⟨3, ![4, a, b]⟩ : Shape) e)) (i : Fin a) (j : Fin b) :
    v.readCov L (hd a b k).toLoadRect (ix3 0 i j : (⟨3, ![1, a, b]⟩ : Shape).Idx) = View.canon L (ix3 k i j) := by
  rw [View.readCov_eq_canon', ← hd_emb k 0 i j]; rfl

/-- Four stores, a head each, leave each head's block. -/
theorem canon_four (L : List (View.Piece Val (⟨3, ![4, a, b]⟩ : Shape) e)) (G : Fin 4 → Fin a → Fin b → Val e)
    {w0 w1 w2 w3 : (⟨3, ![1, a, b]⟩ : Shape).Idx → Val e}
    (h0 : ∀ i j, w0 (ix3 0 i j) = G 0 i j) (h1 : ∀ i j, w1 (ix3 0 i j) = G 1 i j)
    (h2 : ∀ i j, w2 (ix3 0 i j) = G 2 i j) (h3 : ∀ i j, w3 (ix3 0 i j) = G 3 i j) (h : Fin 4) (i : Fin a) (j : Fin b) :
    View.canon (⟨hd a b 3, w3⟩ :: ⟨hd a b 2, w2⟩ :: ⟨hd a b 1, w1⟩ :: ⟨hd a b 0, w0⟩ :: L) (ix3 h i j) = G h i j := by
  obtain rfl | rfl | rfl | rfl : h = 0 ∨ h = 1 ∨ h = 2 ∨ h = 3 := by omega
  · rw [canon_miss (by decide), canon_miss (by decide), canon_miss (by decide), canon_hit, h0]
  · rw [canon_miss (by decide), canon_miss (by decide), canon_hit, h1]
  · rw [canon_miss (by decide), canon_hit, h2]
  · rw [canon_hit, h3]

end Generic

/-- Four stores, each adding to what it reads back of the stores before, add to every head's block. -/
theorem canon_add {a b : ℕ} {sig : RefSig} {κ : Kind} {sp : Space} (v : View sig κ sp (⟨3, ![4, a, b]⟩ : Shape) .f32)
    {L : List (View.Piece (Elt Ideal) (⟨3, ![4, a, b]⟩ : Shape) .f32)} {X : Fin 4 → Fin a → Fin b → EReal}
    (hX : ∀ h i j, View.canon L (ix3 h i j) = X h i j) (I : Fin 4 → Fin a → Fin b → EReal)
    {w0 w1 w2 w3 : Vec Ideal (⟨3, ![1, a, b]⟩ : Shape) .f32}
    (h0 : ∀ i j, w0 (ix3 0 i j) = v.readCov L (hd a b 0).toLoadRect (ix3 0 i j : (⟨3, ![1, a, b]⟩ : Shape).Idx) + I 0 i j)
    (h1 : ∀ i j, w1 (ix3 0 i j) = v.readCov (⟨hd a b 0, w0⟩ :: L) (hd a b 1).toLoadRect (ix3 0 i j : (⟨3, ![1, a, b]⟩ : Shape).Idx) + I 1 i j)
    (h2 : ∀ i j, w2 (ix3 0 i j) = v.readCov (⟨hd a b 1, w1⟩ :: ⟨hd a b 0, w0⟩ :: L) (hd a b 2).toLoadRect (ix3 0 i j : (⟨3, ![1, a, b]⟩ : Shape).Idx) + I 2 i j)
    (h3 : ∀ i j, w3 (ix3 0 i j) = v.readCov (⟨hd a b 2, w2⟩ :: ⟨hd a b 1, w1⟩ :: ⟨hd a b 0, w0⟩ :: L) (hd a b 3).toLoadRect (ix3 0 i j : (⟨3, ![1, a, b]⟩ : Shape).Idx) + I 3 i j)
    (h : Fin 4) (i : Fin a) (j : Fin b) :
    View.canon (⟨hd a b 3, w3⟩ :: ⟨hd a b 2, w2⟩ :: ⟨hd a b 1, w1⟩ :: ⟨hd a b 0, w0⟩ :: L) (ix3 h i j) = X h i j + I h i j := by
  refine canon_four L (fun h i j => X h i j + I h i j) (fun i j => ?_) (fun i j => ?_) (fun i j => ?_) (fun i j => ?_) h i j
  · rw [h0, readCov_hd, hX]
  · rw [h1, readCov_hd, canon_miss (by decide), hX]
  · rw [h2, readCov_hd, canon_miss (by decide), canon_miss (by decide), hX]
  · rw [h3, readCov_hd, canon_miss (by decide), canon_miss (by decide), canon_miss (by decide), hX]

/-- A load of one head's block. -/
theorem readAt_hd {a b : ℕ} {sig : RefSig} {κ : Kind} {sp : Space} (m : Memref sig κ sp (⟨3, ![4, a, b]⟩ : Shape) .f32) (hm : m.IsWhole)
    (x : Vec Ideal (⟨3, ![4, a, b]⟩ : Shape) .f32) (k : Fin 4) (i : Fin a) (j : Fin b) :
    View.readAt (Elt Ideal) m.view (hd a b k).toLoadRect (hm.unread x) (ix3 0 i j : (⟨3, ![1, a, b]⟩ : Shape).Idx) = x (ix3 k i j) := by
  rw [Memref.IsWhole.readAt_unread, ← hd_emb k 0 i j]; rfl

theorem canon_fill {a b : ℕ} (w : Vec Ideal (⟨3, ![4, a, b]⟩ : Shape) .f32) (i0) (h : Fin 4) (i : Fin a) (j : Fin b) :
    View.canon [(⟨Rect.unit (s := ⟨3, ![4, a, b]⟩) ![0, 0, 0] ![4, a, b] i0, w⟩ : View.Piece (Elt Ideal) _ _)] (ix3 h i j) = w (ix3 h i j) :=
  congrFun (View.canon_cons_unit_zero (by funext x; fin_cases x <;> rfl) i0 w []) _

/-! One store's payload. -/

theorem pay_row (r : FVec Ideal S1x128 .f32) (v : Vec Ideal S1x1x128 .f32) (i : Fin 1) (d : Fin 128) :
    k0_pay50 r v (ix3 0 i d) = v (ix3 0 i d) + r (ix2 0 d) := by
  obtain rfl : i = 0 := Subsingleton.elim _ _
  pointwise [k0_pay50]
theorem pay_square (r : FVec Ideal S128x128 .f32) (v : Vec Ideal S1x128x128 .f32) (i j : Fin 128) :
    k0_pay52 r v (ix3 0 i j) = v (ix3 0 i j) + r (ix2 i j) := by
  pointwise [k0_pay52]
theorem pay_column (r : FVec Ideal S128x1 .f32) (v : Vec Ideal S1x128x1 .f32) (i : Fin 128) (j : Fin 1) :
    k0_pay53 r v (ix3 0 i j) = v (ix3 0 i j) + r (ix2 i 0) := by
  obtain rfl : j = 0 := Subsingleton.elim _ _
  pointwise [k0_pay53]

theorem fill17 (h : Fin 4) (i : Fin 1) (j : Fin 128) : View.canon (Val := Elt Ideal) kernelRun0_A.sl.H17_1 (ix3 h i j) = (0 : EReal) := by
  unfold kernelRun0_A.sl.H17_1
  refine (canon_fill (a := 1) (b := 128) (k0_pay1 (F := Ideal)) _ h i j).trans ?_
  pointwise [k0_pay1]
theorem fill18 (h : Fin 4) (i : Fin 1) (j : Fin 128) : View.canon (Val := Elt Ideal) kernelRun0_A.sl.H18_1 (ix3 h i j) = (0 : EReal) := by
  unfold kernelRun0_A.sl.H18_1
  refine (canon_fill (a := 1) (b := 128) (k0_pay2 (F := Ideal)) _ h i j).trans ?_
  pointwise [k0_pay2]
theorem fill19 (h : Fin 4) (i : Fin 128) (j : Fin 128) : View.canon (Val := Elt Ideal) kernelRun0_A.sl.H19_1 (ix3 h i j) = (0 : EReal) := by
  unfold kernelRun0_A.sl.H19_1
  refine (canon_fill (a := 128) (b := 128) (k0_pay3 (F := Ideal)) _ h i j).trans ?_
  pointwise [k0_pay3]
theorem fill20 (h : Fin 4) (i : Fin 128) (j : Fin 1) : View.canon (Val := Elt Ideal) kernelRun0_A.sl.H20_1 (ix3 h i j) = (0 : EReal) := by
  unfold kernelRun0_A.sl.H20_1
  refine (canon_fill (a := 128) (b := 1) (k0_pay4 (F := Ideal)) _ h i j).trans ?_
  pointwise [k0_pay4]

variable (c : Dev nD) (m2 : Memref sig .tc .vmem S256x4096 .f32) (h2 : m2.IsWhole) (m4 : Memref sig .tc .vmem S256x2048 .bf16)
  (h4 : m4.IsWhole) (m6 : Memref sig .tc .vmem S4x1x128 .f32) (h6 : m6.IsWhole) (m7 : Memref sig .tc .vmem S4x1x128 .f32) (h7 : m7.IsWhole)
  (m8 : Memref sig .tc .vmem S4x128x128 .f32) (h8 : m8.IsWhole)
  (m18 m19 : Memref sig .tc .vmem S4x1x128 .f32) (h18 : m18.IsWhole) (h19 : m19.IsWhole)
  (m20 : Memref sig .tc .vmem S4x128x128 .f32) (h20 : m20.IsWhole) (m21 : Memref sig .tc .vmem S4x128x1 .f32) (h21 : m21.IsWhole)
  (x1 : Vec Ideal S256x4096 .f32) (x3 : Vec Ideal S256x2048 .bf16) (x5 x6 : Vec Ideal S4x1x128 .f32) (x7 : Vec Ideal S4x128x128 .f32)
  (y17 y18 : Vec Ideal S4x1x128 .f32) (y19 : Vec Ideal S4x128x128 .f32) (y20 : Vec Ideal S4x128x1 .f32)

theorem first17 (h : Fin 4) (i : Fin 1) (j : Fin 128) :
    View.canon (kernelRun0_B.sl.H17_4 c m2 h2 m4 h4 m8 h8 m18 h18 x1 x3 x7 y17) (ix3 h i j) = y17 (ix3 h i j) + addGain x1 x3 x7 0 h j :=
  have e := gainB x1 x3 x7 c m2 h2 m4 h4 m8 h8
  canon_four (a := 1) (b := 128) (e := .f32) (Val := Elt Ideal) [] (fun h i j => y17 (ix3 h i j) + addGain x1 x3 x7 0 h j)
    (fun i j => (pay_row _ _ i j).trans (congrArg₂ (· + ·) (readAt_hd m18 h18 y17 0 i j) ((e j).1)))
    (fun i j => (pay_row _ _ i j).trans (congrArg₂ (· + ·) (readAt_hd m18 h18 y17 1 i j) ((e j).2.1)))
    (fun i j => (pay_row _ _ i j).trans (congrArg₂ (· + ·) (readAt_hd m18 h18 y17 2 i j) ((e j).2.2.1)))
    (fun i j => (pay_row _ _ i j).trans (congrArg₂ (· + ·) (readAt_hd m18 h18 y17 3 i j) ((e j).2.2.2.1)))
    h i j
theorem pieces17B (h : Fin 4) (i : Fin 1) (j : Fin 128) :
    View.canon (⟨hd 1 128 3, k0_pay333 (kernelRun0_B.sl.r_218 c m2 h2 m4 h4 m8 h8 x1 x3 x7) (kernelRun0_B.sl.v1457 c m2 h2 m4 h4 m8 h8 m18 h18 x1 x3 x7 y17)⟩ :: kernelRun0_B.sl.H17_7 c m2 h2 m4 h4 m8 h8 m18 h18 x1 x3 x7 y17) (ix3 h i j)
      = y17 (ix3 h i j) + addGain x1 x3 x7 0 h j + addGain x1 x3 x7 1 h j :=
  have e := gainB x1 x3 x7 c m2 h2 m4 h4 m8 h8
  canon_add (a := 1) (b := 128) m18.view (X := fun h i j => y17 (ix3 h i j) + addGain x1 x3 x7 0 h j)
    (first17 c m2 h2 m4 h4 m8 h8 m18 h18 x1 x3 x7 y17) (fun h _ d => addGain x1 x3 x7 1 h d)
    (fun i j => (pay_row _ _ i j).trans (congrArg (_ + ·) ((e j).2.2.2.2.1)))
    (fun i j => (pay_row _ _ i j).trans (congrArg (_ + ·) ((e j).2.2.2.2.2.1)))
    (fun i j => (pay_row _ _ i j).trans (congrArg (_ + ·) ((e j).2.2.2.2.2.2.1)))
    (fun i j => (pay_row _ _ i j).trans (congrArg (_ + ·) ((e j).2.2.2.2.2.2.2)))
    h i j
theorem pieces17A (h : Fin 4) (i : Fin 1) (j : Fin 128) :
    View.canon (⟨hd 1 128 3, k0_pay333 (kernelRun0_A.sl.r_218 c m2 h2 m4 h4 m8 h8 x1 x3 x7) (kernelRun0_A.sl.v1457 c m2 h2 m4 h4 m8 h8 m18 x1 x3 x7)⟩ :: kernelRun0_A.sl.H17_8 c m2 h2 m4 h4 m8 h8 m18 x1 x3 x7) (ix3 h i j)
      = 0 + addGain x1 x3 x7 0 h j + addGain x1 x3 x7 1 h j :=
  have e := gainA x1 x3 x7 c m2 h2 m4 h4 m8 h8
  canon_add (a := 1) (b := 128) m18.view
    (canon_add (a := 1) (b := 128) m18.view (X := fun _ _ _ => 0)
      fill17 (fun h _ d => addGain x1 x3 x7 0 h d)
      (fun i j => (pay_row _ _ i j).trans (congrArg (_ + ·) ((e j).1)))
      (fun i j => (pay_row _ _ i j).trans (congrArg (_ + ·) ((e j).2.1)))
      (fun i j => (pay_row _ _ i j).trans (congrArg (_ + ·) ((e j).2.2.1)))
      (fun i j => (pay_row _ _ i j).trans (congrArg (_ + ·) ((e j).2.2.2.1)))
    ) (fun h _ d => addGain x1 x3 x7 1 h d)
      (fun i j => (pay_row _ _ i j).trans (congrArg (_ + ·) ((e j).2.2.2.2.1)))
      (fun i j => (pay_row _ _ i j).trans (congrArg (_ + ·) ((e j).2.2.2.2.2.1)))
      (fun i j => (pay_row _ _ i j).trans (congrArg (_ + ·) ((e j).2.2.2.2.2.2.1)))
      (fun i j => (pay_row _ _ i j).trans (congrArg (_ + ·) ((e j).2.2.2.2.2.2.2)))
    h i j

theorem first18 (h : Fin 4) (i : Fin 1) (j : Fin 128) :
    View.canon (kernelRun0_B.sl.H18_4 c m2 h2 m4 h4 m8 h8 m19 h19 x1 x3 x7 y18) (ix3 h i j) = y18 (ix3 h i j) + addBias x1 x3 x7 0 h j :=
  have e := biasB x1 x3 x7 c m2 h2 m4 h4 m8 h8
  canon_four (a := 1) (b := 128) (e := .f32) (Val := Elt Ideal) [] (fun h i j => y18 (ix3 h i j) + addBias x1 x3 x7 0 h j)
    (fun i j => (pay_row _ _ i j).trans (congrArg₂ (· + ·) (readAt_hd m19 h19 y18 0 i j) ((e j).1)))
    (fun i j => (pay_row _ _ i j).trans (congrArg₂ (· + ·) (readAt_hd m19 h19 y18 1 i j) ((e j).2.1)))
    (fun i j => (pay_row _ _ i j).trans (congrArg₂ (· + ·) (readAt_hd m19 h19 y18 2 i j) ((e j).2.2.1)))
    (fun i j => (pay_row _ _ i j).trans (congrArg₂ (· + ·) (readAt_hd m19 h19 y18 3 i j) ((e j).2.2.2.1)))
    h i j
theorem pieces18B (h : Fin 4) (i : Fin 1) (j : Fin 128) :
    View.canon (⟨hd 1 128 3, k0_pay334 (kernelRun0_B.sl.r_217 c m2 h2 m4 h4 m8 h8 x1 x3 x7) (kernelRun0_B.sl.v1463 c m2 h2 m4 h4 m8 h8 m19 h19 x1 x3 x7 y18)⟩ :: kernelRun0_B.sl.H18_7 c m2 h2 m4 h4 m8 h8 m19 h19 x1 x3 x7 y18) (ix3 h i j)
      = y18 (ix3 h i j) + addBias x1 x3 x7 0 h j + addBias x1 x3 x7 1 h j :=
  have e := biasB x1 x3 x7 c m2 h2 m4 h4 m8 h8
  canon_add (a := 1) (b := 128) m19.view (X := fun h i j => y18 (ix3 h i j) + addBias x1 x3 x7 0 h j)
    (first18 c m2 h2 m4 h4 m8 h8 m19 h19 x1 x3 x7 y18) (fun h _ d => addBias x1 x3 x7 1 h d)
    (fun i j => (pay_row _ _ i j).trans (congrArg (_ + ·) ((e j).2.2.2.2.1)))
    (fun i j => (pay_row _ _ i j).trans (congrArg (_ + ·) ((e j).2.2.2.2.2.1)))
    (fun i j => (pay_row _ _ i j).trans (congrArg (_ + ·) ((e j).2.2.2.2.2.2.1)))
    (fun i j => (pay_row _ _ i j).trans (congrArg (_ + ·) ((e j).2.2.2.2.2.2.2)))
    h i j
theorem pieces18A (h : Fin 4) (i : Fin 1) (j : Fin 128) :
    View.canon (⟨hd 1 128 3, k0_pay334 (kernelRun0_A.sl.r_217 c m2 h2 m4 h4 m8 h8 x1 x3 x7) (kernelRun0_A.sl.v1463 c m2 h2 m4 h4 m8 h8 m19 x1 x3 x7)⟩ :: kernelRun0_A.sl.H18_8 c m2 h2 m4 h4 m8 h8 m19 x1 x3 x7) (ix3 h i j)
      = 0 + addBias x1 x3 x7 0 h j + addBias x1 x3 x7 1 h j :=
  have e := biasA x1 x3 x7 c m2 h2 m4 h4 m8 h8
  canon_add (a := 1) (b := 128) m19.view
    (canon_add (a := 1) (b := 128) m19.view (X := fun _ _ _ => 0)
      fill18 (fun h _ d => addBias x1 x3 x7 0 h d)
      (fun i j => (pay_row _ _ i j).trans (congrArg (_ + ·) ((e j).1)))
      (fun i j => (pay_row _ _ i j).trans (congrArg (_ + ·) ((e j).2.1)))
      (fun i j => (pay_row _ _ i j).trans (congrArg (_ + ·) ((e j).2.2.1)))
      (fun i j => (pay_row _ _ i j).trans (congrArg (_ + ·) ((e j).2.2.2.1)))
    ) (fun h _ d => addBias x1 x3 x7 1 h d)
      (fun i j => (pay_row _ _ i j).trans (congrArg (_ + ·) ((e j).2.2.2.2.1)))
      (fun i j => (pay_row _ _ i j).trans (congrArg (_ + ·) ((e j).2.2.2.2.2.1)))
      (fun i j => (pay_row _ _ i j).trans (congrArg (_ + ·) ((e j).2.2.2.2.2.2.1)))
      (fun i j => (pay_row _ _ i j).trans (congrArg (_ + ·) ((e j).2.2.2.2.2.2.2)))
    h i j

theorem first19 (h : Fin 4) (i : Fin 128) (j : Fin 128) :
    View.canon (kernelRun0_B.sl.H19_4 c m2 h2 m4 h4 m6 h6 m7 h7 m20 h20 x1 x3 x5 x6 y19) (ix3 h i j) = y19 (ix3 h i j) + addSpa x1 x3 x5 x6 0 h i j :=
  have e := spaB x1 x3 x5 x6 c m2 h2 m4 h4 m6 h6 m7 h7
  canon_four (a := 128) (b := 128) (e := .f32) (Val := Elt Ideal) [] (fun h i j => y19 (ix3 h i j) + addSpa x1 x3 x5 x6 0 h i j)
    (fun i j => (pay_square _ _ i j).trans (congrArg₂ (· + ·) (readAt_hd m20 h20 y19 0 i j) ((e i j).1)))
    (fun i j => (pay_square _ _ i j).trans (congrArg₂ (· + ·) (readAt_hd m20 h20 y19 1 i j) ((e i j).2.1)))
    (fun i j => (pay_square _ _ i j).trans (congrArg₂ (· + ·) (readAt_hd m20 h20 y19 2 i j) ((e i j).2.2.1)))
    (fun i j => (pay_square _ _ i j).trans (congrArg₂ (· + ·) (readAt_hd m20 h20 y19 3 i j) ((e i j).2.2.2.1)))
    h i j
theorem pieces19B (h : Fin 4) (i : Fin 128) (j : Fin 128) :
    View.canon (⟨hd 128 128 3, k0_pay335 (kernelRun0_B.sl.r_215 c m2 h2 m4 h4 m6 h6 m7 h7 x1 x3 x5 x6) (kernelRun0_B.sl.v1469 c m2 h2 m4 h4 m6 h6 m7 h7 m20 h20 x1 x3 x5 x6 y19)⟩ :: kernelRun0_B.sl.H19_7 c m2 h2 m4 h4 m6 h6 m7 h7 m20 h20 x1 x3 x5 x6 y19) (ix3 h i j)
      = y19 (ix3 h i j) + addSpa x1 x3 x5 x6 0 h i j + addSpa x1 x3 x5 x6 1 h i j :=
  have e := spaB x1 x3 x5 x6 c m2 h2 m4 h4 m6 h6 m7 h7
  canon_add (a := 128) (b := 128) m20.view (X := fun h i j => y19 (ix3 h i j) + addSpa x1 x3 x5 x6 0 h i j)
    (first19 c m2 h2 m4 h4 m6 h6 m7 h7 m20 h20 x1 x3 x5 x6 y19) (fun h r s => addSpa x1 x3 x5 x6 1 h r s)
    (fun i j => (pay_square _ _ i j).trans (congrArg (_ + ·) ((e i j).2.2.2.2.1)))
    (fun i j => (pay_square _ _ i j).trans (congrArg (_ + ·) ((e i j).2.2.2.2.2.1)))
    (fun i j => (pay_square _ _ i j).trans (congrArg (_ + ·) ((e i j).2.2.2.2.2.2.1)))
    (fun i j => (pay_square _ _ i j).trans (congrArg (_ + ·) ((e i j).2.2.2.2.2.2.2)))
    h i j
theorem pieces19A (h : Fin 4) (i : Fin 128) (j : Fin 128) :
    View.canon (⟨hd 128 128 3, k0_pay335 (kernelRun0_A.sl.r_215 c m2 h2 m4 h4 m6 h6 m7 h7 x1 x3 x5 x6) (kernelRun0_A.sl.v1469 c m2 h2 m4 h4 m6 h6 m7 h7 m20 x1 x3 x5 x6)⟩ :: kernelRun0_A.sl.H19_8 c m2 h2 m4 h4 m6 h6 m7 h7 m20 x1 x3 x5 x6) (ix3 h i j)
      = 0 + addSpa x1 x3 x5 x6 0 h i j + addSpa x1 x3 x5 x6 1 h i j :=
  have e := spaA x1 x3 x5 x6 c m2 h2 m4 h4 m6 h6 m7 h7
  canon_add (a := 128) (b := 128) m20.view
    (canon_add (a := 128) (b := 128) m20.view (X := fun _ _ _ => 0)
      fill19 (fun h r s => addSpa x1 x3 x5 x6 0 h r s)
      (fun i j => (pay_square _ _ i j).trans (congrArg (_ + ·) ((e i j).1)))
      (fun i j => (pay_square _ _ i j).trans (congrArg (_ + ·) ((e i j).2.1)))
      (fun i j => (pay_square _ _ i j).trans (congrArg (_ + ·) ((e i j).2.2.1)))
      (fun i j => (pay_square _ _ i j).trans (congrArg (_ + ·) ((e i j).2.2.2.1)))
    ) (fun h r s => addSpa x1 x3 x5 x6 1 h r s)
      (fun i j => (pay_square _ _ i j).trans (congrArg (_ + ·) ((e i j).2.2.2.2.1)))
      (fun i j => (pay_square _ _ i j).trans (congrArg (_ + ·) ((e i j).2.2.2.2.2.1)))
      (fun i j => (pay_square _ _ i j).trans (congrArg (_ + ·) ((e i j).2.2.2.2.2.2.1)))
      (fun i j => (pay_square _ _ i j).trans (congrArg (_ + ·) ((e i j).2.2.2.2.2.2.2)))
    h i j

theorem first20 (h : Fin 4) (i : Fin 128) (j : Fin 1) :
    View.canon (kernelRun0_B.sl.H20_4 c m2 h2 m4 h4 m21 h21 x1 x3 y20) (ix3 h i j) = y20 (ix3 h i j) + addSpb x1 x3 0 h i :=
  have e := spbB x1 x3 c m2 h2 m4 h4
  canon_four (a := 128) (b := 1) (e := .f32) (Val := Elt Ideal) [] (fun h i j => y20 (ix3 h i j) + addSpb x1 x3 0 h i)
    (fun i j => (pay_column _ _ i j).trans (congrArg₂ (· + ·) (readAt_hd m21 h21 y20 0 i j) ((e i).1)))
    (fun i j => (pay_column _ _ i j).trans (congrArg₂ (· + ·) (readAt_hd m21 h21 y20 1 i j) ((e i).2.1)))
    (fun i j => (pay_column _ _ i j).trans (congrArg₂ (· + ·) (readAt_hd m21 h21 y20 2 i j) ((e i).2.2.1)))
    (fun i j => (pay_column _ _ i j).trans (congrArg₂ (· + ·) (readAt_hd m21 h21 y20 3 i j) ((e i).2.2.2.1)))
    h i j
theorem pieces20B (h : Fin 4) (i : Fin 128) (j : Fin 1) :
    View.canon (⟨hd 128 1 3, k0_pay336 (kernelRun0_B.sl.r_213 c m2 h2 m4 h4 x1 x3) (kernelRun0_B.sl.v1475 c m2 h2 m4 h4 m21 h21 x1 x3 y20)⟩ :: kernelRun0_B.sl.H20_7 c m2 h2 m4 h4 m21 h21 x1 x3 y20) (ix3 h i j)
      = y20 (ix3 h i j) + addSpb x1 x3 0 h i + addSpb x1 x3 1 h i :=
  have e := spbB x1 x3 c m2 h2 m4 h4
  canon_add (a := 128) (b := 1) m21.view (X := fun h i j => y20 (ix3 h i j) + addSpb x1 x3 0 h i)
    (first20 c m2 h2 m4 h4 m21 h21 x1 x3 y20) (fun h r _ => addSpb x1 x3 1 h r)
    (fun i j => (pay_column _ _ i j).trans (congrArg (_ + ·) ((e i).2.2.2.2.1)))
    (fun i j => (pay_column _ _ i j).trans (congrArg (_ + ·) ((e i).2.2.2.2.2.1)))
    (fun i j => (pay_column _ _ i j).trans (congrArg (_ + ·) ((e i).2.2.2.2.2.2.1)))
    (fun i j => (pay_column _ _ i j).trans (congrArg (_ + ·) ((e i).2.2.2.2.2.2.2)))
    h i j
theorem pieces20A (h : Fin 4) (i : Fin 128) (j : Fin 1) :
    View.canon (⟨hd 128 1 3, k0_pay336 (kernelRun0_A.sl.r_213 c m2 h2 m4 h4 x1 x3) (kernelRun0_A.sl.v1475 c m2 h2 m4 h4 m21 x1 x3)⟩ :: kernelRun0_A.sl.H20_8 c m2 h2 m4 h4 m21 x1 x3) (ix3 h i j)
      = 0 + addSpb x1 x3 0 h i + addSpb x1 x3 1 h i :=
  have e := spbA x1 x3 c m2 h2 m4 h4
  canon_add (a := 128) (b := 1) m21.view
    (canon_add (a := 128) (b := 1) m21.view (X := fun _ _ _ => 0)
      fill20 (fun h r _ => addSpb x1 x3 0 h r)
      (fun i j => (pay_column _ _ i j).trans (congrArg (_ + ·) ((e i).1)))
      (fun i j => (pay_column _ _ i j).trans (congrArg (_ + ·) ((e i).2.1)))
      (fun i j => (pay_column _ _ i j).trans (congrArg (_ + ·) ((e i).2.2.1)))
      (fun i j => (pay_column _ _ i j).trans (congrArg (_ + ·) ((e i).2.2.2.1)))
    ) (fun h r _ => addSpb x1 x3 1 h r)
      (fun i j => (pay_column _ _ i j).trans (congrArg (_ + ·) ((e i).2.2.2.2.1)))
      (fun i j => (pay_column _ _ i j).trans (congrArg (_ + ·) ((e i).2.2.2.2.2.1)))
      (fun i j => (pay_column _ _ i j).trans (congrArg (_ + ·) ((e i).2.2.2.2.2.2.1)))
      (fun i j => (pay_column _ _ i j).trans (congrArg (_ + ·) ((e i).2.2.2.2.2.2.2)))
    h i j

end Cert.Mixer

end
-- ==== Proof.Mixer.Points.lean ====
/- What each grid point leaves in the four gradients of the gating units' parameters. -/
module

public import proofs.«01_k».proof.Proof.Mixer.Heads
public import proofs.«01_k».proof.Proof.Mixer.Outs

@[expose] public section

set_option maxRecDepth 16384
set_option maxHeartbeats 1000000

noncomputable section

namespace Cert.Mixer

open Cert.KernelIdeal Cert.KernelIdeal.Gen Idealize.ShloMosaic Idealize.ShloMosaic.TcCoe Idealize.ShloMosaic.Tactic

variable (m : (ℓ : Loc nD τ sig) → Buf (Elt Ideal) ℓ) (c : Dev nD) (t : Fin cfg0.N) (p : Outs Ideal)

theorem stored17A (h : cond0_0 (grid0.coords t)) :
    (runA m c t h).2.1 = ⟨hd 1 128 3, k0_pay333 (kernelRun0_A.sl.r_218 c (ms0_1 t) (hs0_1 t) (ms0_3 t) (hs0_3 t) (ms0_7 t) (hs0_7 t) (iblk m c 1 t) (iblk m c 3 t) (iblk m c 7 t)) (kernelRun0_A.sl.v1457 c (ms0_1 t) (hs0_1 t) (ms0_3 t) (hs0_3 t) (ms0_7 t) (hs0_7 t) (ms0_17 t) (iblk m c 1 t) (iblk m c 3 t) (iblk m c 7 t))⟩ :: kernelRun0_A.sl.H17_8 c (ms0_1 t) (hs0_1 t) (ms0_3 t) (hs0_3 t) (ms0_7 t) (hs0_7 t) (ms0_17 t) (iblk m c 1 t) (iblk m c 3 t) (iblk m c 7 t) := by sl_kernel_rfl
theorem stored17B (h : ¬cond0_0 (grid0.coords t)) :
    (runB m c t h p).2.1 = ⟨hd 1 128 3, k0_pay333 (kernelRun0_B.sl.r_218 c (ms0_1 t) (hs0_1 t) (ms0_3 t) (hs0_3 t) (ms0_7 t) (hs0_7 t) (iblk m c 1 t) (iblk m c 3 t) (iblk m c 7 t)) (kernelRun0_B.sl.v1457 c (ms0_1 t) (hs0_1 t) (ms0_3 t) (hs0_3 t) (ms0_7 t) (hs0_7 t) (ms0_17 t) (hs0_17 t) (iblk m c 1 t) (iblk m c 3 t) (iblk m c 7 t) p.o17)⟩ :: kernelRun0_B.sl.H17_7 c (ms0_1 t) (hs0_1 t) (ms0_3 t) (hs0_3 t) (ms0_7 t) (hs0_7 t) (ms0_17 t) (hs0_17 t) (iblk m c 1 t) (iblk m c 3 t) (iblk m c 7 t) p.o17 := by sl_kernel_rfl
theorem outA17 (h : cond0_0 (grid0.coords t)) (k : Fin 4) (i : Fin 1) (j : Fin 128) :
    (outA m c t h).o17 (ix3 k i j) = 0 + addGain (iblk m c 1 t) (iblk m c 3 t) (iblk m c 7 t) 0 k j + addGain (iblk m c 1 t) (iblk m c 3 t) (iblk m c 7 t) 1 k j := by
  refine (congrFun (View.read_writes_junk_eq_canon VO0_17 (runA m c t h).2.1) (ix3 k i j)).trans ?_
  rw [stored17A]
  exact pieces17A c (ms0_1 t) (hs0_1 t) (ms0_3 t) (hs0_3 t) (ms0_7 t) (hs0_7 t) (ms0_17 t) (iblk m c 1 t) (iblk m c 3 t) (iblk m c 7 t) k i j
theorem outB17 (h : ¬cond0_0 (grid0.coords t)) (k : Fin 4) (i : Fin 1) (j : Fin 128) :
    (outB m c t h p).o17 (ix3 k i j) = p.o17 (ix3 k i j) + addGain (iblk m c 1 t) (iblk m c 3 t) (iblk m c 7 t) 0 k j + addGain (iblk m c 1 t) (iblk m c 3 t) (iblk m c 7 t) 1 k j := by
  refine (congrFun (View.read_writes_junk_eq_canon VO0_17 (runB m c t h p).2.1) (ix3 k i j)).trans ?_
  rw [stored17B]
  exact pieces17B c (ms0_1 t) (hs0_1 t) (ms0_3 t) (hs0_3 t) (ms0_7 t) (hs0_7 t) (ms0_17 t) (hs0_17 t) (iblk m c 1 t) (iblk m c 3 t) (iblk m c 7 t) p.o17 k i j

theorem stored18A (h : cond0_0 (grid0.coords t)) :
    (runA m c t h).2.2.1 = ⟨hd 1 128 3, k0_pay334 (kernelRun0_A.sl.r_217 c (ms0_1 t) (hs0_1 t) (ms0_3 t) (hs0_3 t) (ms0_7 t) (hs0_7 t) (iblk m c 1 t) (iblk m c 3 t) (iblk m c 7 t)) (kernelRun0_A.sl.v1463 c (ms0_1 t) (hs0_1 t) (ms0_3 t) (hs0_3 t) (ms0_7 t) (hs0_7 t) (ms0_18 t) (iblk m c 1 t) (iblk m c 3 t) (iblk m c 7 t))⟩ :: kernelRun0_A.sl.H18_8 c (ms0_1 t) (hs0_1 t) (ms0_3 t) (hs0_3 t) (ms0_7 t) (hs0_7 t) (ms0_18 t) (iblk m c 1 t) (iblk m c 3 t) (iblk m c 7 t) := by sl_kernel_rfl
theorem stored18B (h : ¬cond0_0 (grid0.coords t)) :
    (runB m c t h p).2.2.1 = ⟨hd 1 128 3, k0_pay334 (kernelRun0_B.sl.r_217 c (ms0_1 t) (hs0_1 t) (ms0_3 t) (hs0_3 t) (ms0_7 t) (hs0_7 t) (iblk m c 1 t) (iblk m c 3 t) (iblk m c 7 t)) (kernelRun0_B.sl.v1463 c (ms0_1 t) (hs0_1 t) (ms0_3 t) (hs0_3 t) (ms0_7 t) (hs0_7 t) (ms0_18 t) (hs0_18 t) (iblk m c 1 t) (iblk m c 3 t) (iblk m c 7 t) p.o18)⟩ :: kernelRun0_B.sl.H18_7 c (ms0_1 t) (hs0_1 t) (ms0_3 t) (hs0_3 t) (ms0_7 t) (hs0_7 t) (ms0_18 t) (hs0_18 t) (iblk m c 1 t) (iblk m c 3 t) (iblk m c 7 t) p.o18 := by sl_kernel_rfl
theorem outA18 (h : cond0_0 (grid0.coords t)) (k : Fin 4) (i : Fin 1) (j : Fin 128) :
    (outA m c t h).o18 (ix3 k i j) = 0 + addBias (iblk m c 1 t) (iblk m c 3 t) (iblk m c 7 t) 0 k j + addBias (iblk m c 1 t) (iblk m c 3 t) (iblk m c 7 t) 1 k j := by
  refine (congrFun (View.read_writes_junk_eq_canon VO0_18 (runA m c t h).2.2.1) (ix3 k i j)).trans ?_
  rw [stored18A]
  exact pieces18A c (ms0_1 t) (hs0_1 t) (ms0_3 t) (hs0_3 t) (ms0_7 t) (hs0_7 t) (ms0_18 t) (iblk m c 1 t) (iblk m c 3 t) (iblk m c 7 t) k i j
theorem outB18 (h : ¬cond0_0 (grid0.coords t)) (k : Fin 4) (i : Fin 1) (j : Fin 128) :
    (outB m c t h p).o18 (ix3 k i j) = p.o18 (ix3 k i j) + addBias (iblk m c 1 t) (iblk m c 3 t) (iblk m c 7 t) 0 k j + addBias (iblk m c 1 t) (iblk m c 3 t) (iblk m c 7 t) 1 k j := by
  refine (congrFun (View.read_writes_junk_eq_canon VO0_18 (runB m c t h p).2.2.1) (ix3 k i j)).trans ?_
  rw [stored18B]
  exact pieces18B c (ms0_1 t) (hs0_1 t) (ms0_3 t) (hs0_3 t) (ms0_7 t) (hs0_7 t) (ms0_18 t) (hs0_18 t) (iblk m c 1 t) (iblk m c 3 t) (iblk m c 7 t) p.o18 k i j

theorem stored19A (h : cond0_0 (grid0.coords t)) :
    (runA m c t h).2.2.2.1 = ⟨hd 128 128 3, k0_pay335 (kernelRun0_A.sl.r_215 c (ms0_1 t) (hs0_1 t) (ms0_3 t) (hs0_3 t) (ms0_5 t) (hs0_5 t) (ms0_6 t) (hs0_6 t) (iblk m c 1 t) (iblk m c 3 t) (iblk m c 5 t) (iblk m c 6 t)) (kernelRun0_A.sl.v1469 c (ms0_1 t) (hs0_1 t) (ms0_3 t) (hs0_3 t) (ms0_5 t) (hs0_5 t) (ms0_6 t) (hs0_6 t) (ms0_19 t) (iblk m c 1 t) (iblk m c 3 t) (iblk m c 5 t) (iblk m c 6 t))⟩ :: kernelRun0_A.sl.H19_8 c (ms0_1 t) (hs0_1 t) (ms0_3 t) (hs0_3 t) (ms0_5 t) (hs0_5 t) (ms0_6 t) (hs0_6 t) (ms0_19 t) (iblk m c 1 t) (iblk m c 3 t) (iblk m c 5 t) (iblk m c 6 t) := by sl_kernel_rfl
theorem stored19B (h : ¬cond0_0 (grid0.coords t)) :
    (runB m c t h p).2.2.2.1 = ⟨hd 128 128 3, k0_pay335 (kernelRun0_B.sl.r_215 c (ms0_1 t) (hs0_1 t) (ms0_3 t) (hs0_3 t) (ms0_5 t) (hs0_5 t) (ms0_6 t) (hs0_6 t) (iblk m c 1 t) (iblk m c 3 t) (iblk m c 5 t) (iblk m c 6 t)) (kernelRun0_B.sl.v1469 c (ms0_1 t) (hs0_1 t) (ms0_3 t) (hs0_3 t) (ms0_5 t) (hs0_5 t) (ms0_6 t) (hs0_6 t) (ms0_19 t) (hs0_19 t) (iblk m c 1 t) (iblk m c 3 t) (iblk m c 5 t) (iblk m c 6 t) p.o19)⟩ :: kernelRun0_B.sl.H19_7 c (ms0_1 t) (hs0_1 t) (ms0_3 t) (hs0_3 t) (ms0_5 t) (hs0_5 t) (ms0_6 t) (hs0_6 t) (ms0_19 t) (hs0_19 t) (iblk m c 1 t) (iblk m c 3 t) (iblk m c 5 t) (iblk m c 6 t) p.o19 := by sl_kernel_rfl
theorem outA19 (h : cond0_0 (grid0.coords t)) (k : Fin 4) (i : Fin 128) (j : Fin 128) :
    (outA m c t h).o19 (ix3 k i j) = 0 + addSpa (iblk m c 1 t) (iblk m c 3 t) (iblk m c 5 t) (iblk m c 6 t) 0 k i j + addSpa (iblk m c 1 t) (iblk m c 3 t) (iblk m c 5 t) (iblk m c 6 t) 1 k i j := by
  refine (congrFun (View.read_writes_junk_eq_canon VO0_19 (runA m c t h).2.2.2.1) (ix3 k i j)).trans ?_
  rw [stored19A]
  exact pieces19A c (ms0_1 t) (hs0_1 t) (ms0_3 t) (hs0_3 t) (ms0_5 t) (hs0_5 t) (ms0_6 t) (hs0_6 t) (ms0_19 t) (iblk m c 1 t) (iblk m c 3 t) (iblk m c 5 t) (iblk m c 6 t) k i j
theorem outB19 (h : ¬cond0_0 (grid0.coords t)) (k : Fin 4) (i : Fin 128) (j : Fin 128) :
    (outB m c t h p).o19 (ix3 k i j) = p.o19 (ix3 k i j) + addSpa (iblk m c 1 t) (iblk m c 3 t) (iblk m c 5 t) (iblk m c 6 t) 0 k i j + addSpa (iblk m c 1 t) (iblk m c 3 t) (iblk m c 5 t) (iblk m c 6 t) 1 k i j := by
  refine (congrFun (View.read_writes_junk_eq_canon VO0_19 (runB m c t h p).2.2.2.1) (ix3 k i j)).trans ?_
  rw [stored19B]
  exact pieces19B c (ms0_1 t) (hs0_1 t) (ms0_3 t) (hs0_3 t) (ms0_5 t) (hs0_5 t) (ms0_6 t) (hs0_6 t) (ms0_19 t) (hs0_19 t) (iblk m c 1 t) (iblk m c 3 t) (iblk m c 5 t) (iblk m c 6 t) p.o19 k i j

theorem stored20A (h : cond0_0 (grid0.coords t)) :
    (runA m c t h).2.2.2.2.1 = ⟨hd 128 1 3, k0_pay336 (kernelRun0_A.sl.r_213 c (ms0_1 t) (hs0_1 t) (ms0_3 t) (hs0_3 t) (iblk m c 1 t) (iblk m c 3 t)) (kernelRun0_A.sl.v1475 c (ms0_1 t) (hs0_1 t) (ms0_3 t) (hs0_3 t) (ms0_20 t) (iblk m c 1 t) (iblk m c 3 t))⟩ :: kernelRun0_A.sl.H20_8 c (ms0_1 t) (hs0_1 t) (ms0_3 t) (hs0_3 t) (ms0_20 t) (iblk m c 1 t) (iblk m c 3 t) := by sl_kernel_rfl
theorem stored20B (h : ¬cond0_0 (grid0.coords t)) :
    (runB m c t h p).2.2.2.2.1 = ⟨hd 128 1 3, k0_pay336 (kernelRun0_B.sl.r_213 c (ms0_1 t) (hs0_1 t) (ms0_3 t) (hs0_3 t) (iblk m c 1 t) (iblk m c 3 t)) (kernelRun0_B.sl.v1475 c (ms0_1 t) (hs0_1 t) (ms0_3 t) (hs0_3 t) (ms0_20 t) (hs0_20 t) (iblk m c 1 t) (iblk m c 3 t) p.o20)⟩ :: kernelRun0_B.sl.H20_7 c (ms0_1 t) (hs0_1 t) (ms0_3 t) (hs0_3 t) (ms0_20 t) (hs0_20 t) (iblk m c 1 t) (iblk m c 3 t) p.o20 := by sl_kernel_rfl
theorem outA20 (h : cond0_0 (grid0.coords t)) (k : Fin 4) (i : Fin 128) (j : Fin 1) :
    (outA m c t h).o20 (ix3 k i j) = 0 + addSpb (iblk m c 1 t) (iblk m c 3 t) 0 k i + addSpb (iblk m c 1 t) (iblk m c 3 t) 1 k i := by
  refine (congrFun (View.read_writes_junk_eq_canon VO0_20 (runA m c t h).2.2.2.2.1) (ix3 k i j)).trans ?_
  rw [stored20A]
  exact pieces20A c (ms0_1 t) (hs0_1 t) (ms0_3 t) (hs0_3 t) (ms0_20 t) (iblk m c 1 t) (iblk m c 3 t) k i j
theorem outB20 (h : ¬cond0_0 (grid0.coords t)) (k : Fin 4) (i : Fin 128) (j : Fin 1) :
    (outB m c t h p).o20 (ix3 k i j) = p.o20 (ix3 k i j) + addSpb (iblk m c 1 t) (iblk m c 3 t) 0 k i + addSpb (iblk m c 1 t) (iblk m c 3 t) 1 k i := by
  refine (congrFun (View.read_writes_junk_eq_canon VO0_20 (runB m c t h p).2.2.2.2.1) (ix3 k i j)).trans ?_
  rw [stored20B]
  exact pieces20B c (ms0_1 t) (hs0_1 t) (ms0_3 t) (hs0_3 t) (ms0_20 t) (hs0_20 t) (iblk m c 1 t) (iblk m c 3 t) p.o20 k i j

end Cert.Mixer

end
-- ==== Proof.Mixer.Totals.lean ====
/- The four gradients after the mixers' backward call: sums over the sequence's chunks. -/
module

public import proofs.«01_k».proof.Proof.Mixer.Points
public import Idealize.ShloMosaic.Lib.Pipeline.ValueKit

@[expose] public section

set_option maxRecDepth 16384
set_option maxHeartbeats 1000000

noncomputable section

namespace Cert.Mixer

open Cert.KernelIdeal Cert.KernelIdeal.Gen Idealize.ShloMosaic Idealize.ShloMosaic.TcCoe Idealize.ShloMosaic.Tactic
open Idealize.ShloMosaic.Pipeline (Dat)

section Sums

variable (z : S4096x4096.Idx → EReal) (d : S4096x2048.Idx → EReal) (g b : S4x128.Idx → EReal) (w : S4x128x128.Idx → EReal)

/-- A chunk's squares: 128 rows of the sequence, a head's 128 columns. -/
def srow (k : Fin 32) (i : Fin 128) : Fin 4096 := ⟨128 * k + i, by omega⟩
def sqU (k : Fin 32) (h : Fin 4) : Sq := fun i j => z (ix2 (srow k i) (uCol h j))
def sqV (k : Fin 32) (h : Fin 4) : Sq := fun i j => z (ix2 (srow k i) (vCol h j))
def sqD (k : Fin 32) (h : Fin 4) : Sq := fun i j => d (ix2 (srow k i) (dCol h j))

/-- The gradients: every chunk's, summed. -/
def totGain (h : Fin 4) (j : Fin 128) : EReal := ∑ k, dGain (sqU z k h) (sqV z k h) (sqD d k h) (fun r s => w (ix3 h r s)) j
def totBias (h : Fin 4) (j : Fin 128) : EReal := ∑ k, dBias (sqU z k h) (sqD d k h) (fun r s => w (ix3 h r s)) j
def totSpa (h : Fin 4) (r s : Fin 128) : EReal :=
  ∑ k, dSpa (sqU z k h) (sqV z k h) (sqD d k h) (fun j => g (ix2 h j)) (fun j => b (ix2 h j)) r s
def totSpb (h : Fin 4) (r : Fin 128) : EReal := ∑ k, dSpb (sqU z k h) (sqD d k h) r

/-- A sum over chunks is one over grid points, each of two chunks. -/
theorem sum_chunks (f : Fin 32 → EReal) : ∑ t : Fin 16, (f ⟨2 * t, by omega⟩ + f ⟨2 * t + 1, by omega⟩) = ∑ k, f k := by
  simp only [Fin.sum_univ_succ, Fin.sum_univ_zero, Fin.succ, Fin.val_zero, add_zero, ← add_assoc]
  rfl

end Sums

variable (m : (ℓ : Loc nD τ sig) → Buf (Elt Ideal) ℓ) (c : Dev nD)

/-- The arguments. -/
abbrev aZ : S4096x4096.Idx → EReal := m ((c : Thread nD τ).loc main_arg0)
abbrev aD : S4096x2048.Idx → EReal := m ((c : Thread nD τ).loc main_arg1)
abbrev aG : S4x128.Idx → EReal := m ((c : Thread nD τ).loc main_arg2)
abbrev aB : S4x128.Idx → EReal := m ((c : Thread nD τ).loc main_arg3)
abbrev aW : S4x128x128.Idx → EReal := m ((c : Thread nD τ).loc main_arg4)

theorem idx (t : Fin grid0.N) : win0_1.index t = ![t.val, 0] ∧ win0_3.index t = ![t.val, 0] ∧ win0_5.index t = ![0, 0, 0]
    ∧ win0_6.index t = ![0, 0, 0] ∧ win0_7.index t = ![0, 0, 0] := by
  revert t; decide +kernel

def chunk (t : Fin cfg0.N) (n : Fin 2) : Fin 32 := ⟨2 * t.val + n, by have := lt_of_lt_of_eq t.isLt (show cfg0.N = 16 from N_0); omega⟩

theorem block_z (t : Fin cfg0.N) (n : Fin 2) (i : Fin 128) (j : Fin 4096) : iblk m c 1 t (ix2 (crow n i) j) = aZ m c (ix2 (srow (chunk t n) i) j) := by
  have e := (idx t).1
  unfold iblk
  blk_simp
  refine (congrFun (V_main_arg0 m c) _).trans (congrArg (aZ m c) (?_ : (_ : S4096x4096.Idx) = _))
  blk_ext [e, crow, srow, chunk]
theorem block_d (t : Fin cfg0.N) (n : Fin 2) (i : Fin 128) (j : Fin 2048) : iblk m c 3 t (ix2 (crow n i) j) = aD m c (ix2 (srow (chunk t n) i) j) := by
  have e := (idx t).2.1
  unfold iblk
  blk_simp
  refine (congrFun (V_main_arg1 m c) _).trans (congrArg (aD m c) (?_ : (_ : S4096x2048.Idx) = _))
  blk_ext [e, crow, srow, chunk]
theorem block_w (t : Fin cfg0.N) (h : Fin 4) (i j : Fin 128) : iblk m c 7 t (ix3 h i j) = aW m c (ix3 h i j) := by
  have e := (idx t).2.2.2.2
  unfold iblk
  blk_simp
  refine (congrFun (V_main_arg4 m c) _).trans (congrArg (aW m c) (?_ : (_ : S4x128x128.Idx) = _))
  blk_ext [e, crow, srow, chunk]
theorem V_gain : V m c main_v0 = broadcastInDim S4x1x128 ![0, 2] bcast_S4x128_S4x1x128_0_2 (aG m c) := by
  unfold V; after_results_simp
theorem V_bias : V m c main_v1 = broadcastInDim S4x1x128 ![0, 2] bcast_S4x128_S4x1x128_0_2 (aB m c) := by
  unfold V; after_results_simp
theorem block_g (t : Fin cfg0.N) (h : Fin 4) (j : Fin 128) : iblk m c 5 t (ix3 h 0 j) = aG m c (ix2 h j) := by
  have e := (idx t).2.2.1
  unfold iblk
  blk_simp
  refine (congrArg (V m c main_v0) (?_ : _ = (ix3 h 0 j : S4x1x128.Idx))).trans ?_
  · blk_ext [e]
  · rw [V_gain]
    pointwise
theorem block_b (t : Fin cfg0.N) (h : Fin 4) (j : Fin 128) : iblk m c 6 t (ix3 h 0 j) = aB m c (ix2 h j) := by
  have e := (idx t).2.2.2.1
  unfold iblk
  blk_simp
  refine (congrArg (V m c main_v1) (?_ : _ = (ix3 h 0 j : S4x1x128.Idx))).trans ?_
  · blk_ext [e]
  · rw [V_bias]
    pointwise

theorem sumAt {f : (n : Nat) → n < cfg0.N → EReal} {u : Fin 32 → EReal}
    (h0 : ∀ t : Fin cfg0.N, t.val % 16 = 0 → f t.val t.isLt = 0 + u (chunk t 0) + u (chunk t 1))
    (hs : ∀ t : Fin cfg0.N, ¬t.val % 16 = 0 →
      f t.val t.isLt = f (t.val - 1) (Nat.lt_of_le_of_lt (Nat.sub_le _ _) t.isLt) + u (chunk t 0) + u (chunk t 1))
    (t : Fin cfg0.N) (ht : t.val + 1 = cfg0.N) : f t.val t.isLt = ∑ k, u k := by
  rw [Pipeline.eq_sum_fin_of_reset_step_last f 16 0 (fun t => u (chunk t 0) + u (chunk t 1))
    (fun t h => (h0 t h).trans (add_assoc _ _ _)) (fun t h => (hs t h).trans (add_assoc _ _ _)) (by decide) t ht, zero_add]
  exact sum_chunks u

/-! A chunk of a grid point is a chunk of the sequence. -/

theorem chunkGain (t : Fin cfg0.N) (n : Fin 2) (h : Fin 4) (j : Fin 128) :
    addGain (iblk m c 1 t) (iblk m c 3 t) (iblk m c 7 t) n h j = (fun k => dGain (sqU (aZ m c) k h) (sqV (aZ m c) k h) (sqD (aD m c) k h) (fun r s => aW m c (ix3 h r s)) j) (chunk t n) := by
  simp only [addGain, block_z, block_d, block_w]; rfl
theorem afterGain (h : Fin 4) (i : Fin 1) (j : Fin 128) (t : Fin cfg0.N) (ht : t.val + 1 = cfg0.N) :
    (outsAt m c t.val t.isLt).o17 (ix3 h i j) = totGain (aZ m c) (aD m c) (aW m c) h j := by
  refine sumAt (f := fun n hn => (outsAt m c n hn).o17 (ix3 h i j)) (u := fun k => dGain (sqU (aZ m c) k h) (sqV (aZ m c) k h) (sqD (aD m c) k h) (fun r s => aW m c (ix3 h r s)) j) (fun t ht => ?_) (fun t ht => ?_) t ht
  · have e := outA17 m c t ((hcond0_0 t).mpr ht) h i j
    show (outsAt m c t.val t.isLt).o17 (ix3 h i j) = _
    rw [outsAt_A m c t ht]
    rw [chunkGain m c t 0, chunkGain m c t 1] at e
    exact e
  · have e := outB17 m c t (outsAt m c (t.val - 1) (Nat.lt_of_le_of_lt (Nat.sub_le _ _) t.isLt)) (fun hc => ht ((hcond0_0 t).mp hc)) h i j
    show (outsAt m c t.val t.isLt).o17 (ix3 h i j) = (outsAt m c (t.val - 1) _).o17 (ix3 h i j) + _ + _
    rw [outsAt_B m c t ht]
    rw [chunkGain m c t 0, chunkGain m c t 1] at e
    exact e
theorem whole17 : (cfg0.win 17).WholeAt t0_15 := by decide +kernel
/-- The array that the call leaves. -/
theorem arrGain : (dats m 0 c).arrAt 17 cfg0.N = fun y : S4x1x128.Idx => totGain (aZ m c) (aD m c) (aW m c) (y 0) (y 2) := by
  refine (dats m 0 c).arrAt_eq_of_after_last 17 t0_15 whole17 _ fun y => ?_
  rw [after_17]
  blk_simp
  idx_vars y
  have h := afterGain m c y0 y1 y2 t0_15 N_0.symm
  generalize outsAt m c t0_15.val _ = o at h ⊢
  exact h

theorem chunkBias (t : Fin cfg0.N) (n : Fin 2) (h : Fin 4) (j : Fin 128) :
    addBias (iblk m c 1 t) (iblk m c 3 t) (iblk m c 7 t) n h j = (fun k => dBias (sqU (aZ m c) k h) (sqD (aD m c) k h) (fun r s => aW m c (ix3 h r s)) j) (chunk t n) := by
  simp only [addBias, block_z, block_d, block_w]; rfl
theorem afterBias (h : Fin 4) (i : Fin 1) (j : Fin 128) (t : Fin cfg0.N) (ht : t.val + 1 = cfg0.N) :
    (outsAt m c t.val t.isLt).o18 (ix3 h i j) = totBias (aZ m c) (aD m c) (aW m c) h j := by
  refine sumAt (f := fun n hn => (outsAt m c n hn).o18 (ix3 h i j)) (u := fun k => dBias (sqU (aZ m c) k h) (sqD (aD m c) k h) (fun r s => aW m c (ix3 h r s)) j) (fun t ht => ?_) (fun t ht => ?_) t ht
  · have e := outA18 m c t ((hcond0_0 t).mpr ht) h i j
    show (outsAt m c t.val t.isLt).o18 (ix3 h i j) = _
    rw [outsAt_A m c t ht]
    rw [chunkBias m c t 0, chunkBias m c t 1] at e
    exact e
  · have e := outB18 m c t (outsAt m c (t.val - 1) (Nat.lt_of_le_of_lt (Nat.sub_le _ _) t.isLt)) (fun hc => ht ((hcond0_0 t).mp hc)) h i j
    show (outsAt m c t.val t.isLt).o18 (ix3 h i j) = (outsAt m c (t.val - 1) _).o18 (ix3 h i j) + _ + _
    rw [outsAt_B m c t ht]
    rw [chunkBias m c t 0, chunkBias m c t 1] at e
    exact e
theorem whole18 : (cfg0.win 18).WholeAt t0_15 := by decide +kernel
/-- The array that the call leaves. -/
theorem arrBias : (dats m 0 c).arrAt 18 cfg0.N = fun y : S4x1x128.Idx => totBias (aZ m c) (aD m c) (aW m c) (y 0) (y 2) := by
  refine (dats m 0 c).arrAt_eq_of_after_last 18 t0_15 whole18 _ fun y => ?_
  rw [after_18]
  blk_simp
  idx_vars y
  have h := afterBias m c y0 y1 y2 t0_15 N_0.symm
  generalize outsAt m c t0_15.val _ = o at h ⊢
  exact h

theorem chunkSpa (t : Fin cfg0.N) (n : Fin 2) (h : Fin 4) (i j : Fin 128) :
    addSpa (iblk m c 1 t) (iblk m c 3 t) (iblk m c 5 t) (iblk m c 6 t) n h i j = (fun k => dSpa (sqU (aZ m c) k h) (sqV (aZ m c) k h) (sqD (aD m c) k h) (fun j => aG m c (ix2 h j)) (fun j => aB m c (ix2 h j)) i j) (chunk t n) := by
  simp only [addSpa, block_z, block_d, block_g, block_b]; rfl
theorem afterSpa (h : Fin 4) (i : Fin 128) (j : Fin 128) (t : Fin cfg0.N) (ht : t.val + 1 = cfg0.N) :
    (outsAt m c t.val t.isLt).o19 (ix3 h i j) = totSpa (aZ m c) (aD m c) (aG m c) (aB m c) h i j := by
  refine sumAt (f := fun n hn => (outsAt m c n hn).o19 (ix3 h i j)) (u := fun k => dSpa (sqU (aZ m c) k h) (sqV (aZ m c) k h) (sqD (aD m c) k h) (fun j => aG m c (ix2 h j)) (fun j => aB m c (ix2 h j)) i j) (fun t ht => ?_) (fun t ht => ?_) t ht
  · have e := outA19 m c t ((hcond0_0 t).mpr ht) h i j
    show (outsAt m c t.val t.isLt).o19 (ix3 h i j) = _
    rw [outsAt_A m c t ht]
    rw [chunkSpa m c t 0, chunkSpa m c t 1] at e
    exact e
  · have e := outB19 m c t (outsAt m c (t.val - 1) (Nat.lt_of_le_of_lt (Nat.sub_le _ _) t.isLt)) (fun hc => ht ((hcond0_0 t).mp hc)) h i j
    show (outsAt m c t.val t.isLt).o19 (ix3 h i j) = (outsAt m c (t.val - 1) _).o19 (ix3 h i j) + _ + _
    rw [outsAt_B m c t ht]
    rw [chunkSpa m c t 0, chunkSpa m c t 1] at e
    exact e
theorem whole19 : (cfg0.win 19).WholeAt t0_15 := by decide +kernel
/-- The array that the call leaves. -/
theorem arrSpa : (dats m 0 c).arrAt 19 cfg0.N = fun y : S4x128x128.Idx => totSpa (aZ m c) (aD m c) (aG m c) (aB m c) (y 0) (y 1) (y 2) := by
  refine (dats m 0 c).arrAt_eq_of_after_last 19 t0_15 whole19 _ fun y => ?_
  rw [after_19]
  blk_simp
  idx_vars y
  have h := afterSpa m c y0 y1 y2 t0_15 N_0.symm
  generalize outsAt m c t0_15.val _ = o at h ⊢
  exact h

theorem chunkSpb (t : Fin cfg0.N) (n : Fin 2) (h : Fin 4) (i : Fin 128) :
    addSpb (iblk m c 1 t) (iblk m c 3 t) n h i = (fun k => dSpb (sqU (aZ m c) k h) (sqD (aD m c) k h) i) (chunk t n) := by
  simp only [addSpb, block_z, block_d]; rfl
theorem afterSpb (h : Fin 4) (i : Fin 128) (j : Fin 1) (t : Fin cfg0.N) (ht : t.val + 1 = cfg0.N) :
    (outsAt m c t.val t.isLt).o20 (ix3 h i j) = totSpb (aZ m c) (aD m c) h i := by
  refine sumAt (f := fun n hn => (outsAt m c n hn).o20 (ix3 h i j)) (u := fun k => dSpb (sqU (aZ m c) k h) (sqD (aD m c) k h) i) (fun t ht => ?_) (fun t ht => ?_) t ht
  · have e := outA20 m c t ((hcond0_0 t).mpr ht) h i j
    show (outsAt m c t.val t.isLt).o20 (ix3 h i j) = _
    rw [outsAt_A m c t ht]
    rw [chunkSpb m c t 0, chunkSpb m c t 1] at e
    exact e
  · have e := outB20 m c t (outsAt m c (t.val - 1) (Nat.lt_of_le_of_lt (Nat.sub_le _ _) t.isLt)) (fun hc => ht ((hcond0_0 t).mp hc)) h i j
    show (outsAt m c t.val t.isLt).o20 (ix3 h i j) = (outsAt m c (t.val - 1) _).o20 (ix3 h i j) + _ + _
    rw [outsAt_B m c t ht]
    rw [chunkSpb m c t 0, chunkSpb m c t 1] at e
    exact e
theorem whole20 : (cfg0.win 20).WholeAt t0_15 := by decide +kernel
/-- The array that the call leaves. -/
theorem arrSpb : (dats m 0 c).arrAt 20 cfg0.N = fun y : S4x128x1.Idx => totSpb (aZ m c) (aD m c) (y 0) (y 1) := by
  refine (dats m 0 c).arrAt_eq_of_after_last 20 t0_15 whole20 _ fun y => ?_
  rw [after_20]
  blk_simp
  idx_vars y
  have h := afterSpb m c y0 y1 y2 t0_15 N_0.symm
  generalize outsAt m c t0_15.val _ = o at h ⊢
  exact h

end Cert.Mixer

end
-- ==== Proof.Mixer.Result.lean ====
/- The run of the mixers' backward call: its results as sums over the sequence's chunks, its arguments unchanged, its counters at zero. -/
module

public import proofs.«01_k».proof.Proof.Mixer.Launch
public import proofs.«01_k».proof.Proof.Mixer.Totals
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

set_option maxRecDepth 16384

noncomputable section

namespace Cert.Mixer

open Cert.KernelIdeal Cert.KernelIdeal.Gen Idealize.ShloMosaic Idealize.ShloMosaic.TcCoe Idealize.ShloMosaic.Tactic Idealize.SL.Sem

section Frame

variable {F : FTy → Type} [FloatOps F]
variable (m : (ℓ : Loc nD τ sig) → Buf (Elt F) ℓ) (ρ : Dev nD → PrngReg)

/-- The arguments end as they were, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (frame_of m ρ (dats m) (A_eq m) ((θ_run defs _ _).mono (fun _ h => h.1) (run ρ F m)))
    ((θ_run defs _ _).mono (fun _ h => h.2) (run ρ F m))

end Frame

theorem frame_kernel_ideal : Cert.quiescent_KernelIdeal := fun m ρ _ => frame m ρ

set_option maxHeartbeats 4000000 in
theorem frame_kernel : Cert.quiescent_Kernel := fun m ρ _ => by
  have h := frame (F := Bits) m ρ
  refine cast ?_ h
  sl_kernel_rfl

theorem frame_reference : Cert.quiescent_ReferenceIdeal := fun m ρ _ => by
  refine (θ_run Cert.ReferenceIdeal.defs _ _).mono ?_ (Cert.ReferenceIdeal.Value.run m ρ)
  intro r h
  exact ⟨fun c => (h c).2.2.2.2, sem_eq_zero_of_no_sems (by decide) r.2⟩

end Cert.Mixer

end
-- ==== Proof.Mixer.Ref.lean ====
/- The reference's derivative of the gating units, read chunk by chunk. -/
module

public import proofs.«01_k».proof.Proof.Gen.ReferenceIdeal
public import proofs.«01_k».proof.Proof.Mixer.Totals
public import Idealize.ShloMosaic.Lib.Pipeline.ValueKit
public import Idealize.ShloMosaic.Lib.Pointwise

@[expose] public section

set_option maxRecDepth 16384

noncomputable section

namespace Cert.Mixer

open Cert.ReferenceIdeal Cert.ReferenceIdeal.Gen Cert.ReferenceIdeal.Facts Idealize.ShloMosaic

/-- gelu of the two groups of columns that the gating units read. -/
def rX (z : FVec Ideal S4096x4096 .f32) : FVec Ideal S1x4096x1024 .f32 :=
  broadcastInDim S1x4096x1024 ![1, 2] bcast_S4096x1024_S1x4096x1024_1_2 (extractStridedSlice S4096x1024 ![0, 0] z slices_S4096x4096_S4096x1024_0_0)
def rGel (x : FVec Ideal S1x4096x1024 .f32) : FVec Ideal S1x4096x1024 .f32 :=
  mulf x (mulf (broadcastInDim S1x4096x1024 ![] bcast_S_S1x4096x1024 (constant S_ .f32 0x3F000000#32))
    (addf (broadcastInDim S1x4096x1024 ![] bcast_S_S1x4096x1024 (constant S_ .f32 0x3F800000#32))
      (Host.tanh (mulf (broadcastInDim S1x4096x1024 ![] bcast_S_S1x4096x1024 (constant S_ .f32 0x3F4C422A#32))
        (addf x (mulf (broadcastInDim S1x4096x1024 ![] bcast_S_S1x4096x1024 (constant S_ .f32 0x3D372713#32)) (mulf (mulf x x) x)))))))
def rU (z : FVec Ideal S4096x4096 .f32) : FVec Ideal S1x32x128x4x128 .f32 :=
  shapeCast _ (extractStridedSlice S1x4096x512 ![0, 0, 0] (rGel (rX z)) slices_S1x4096x1024_S1x4096x512_0_0_0) shapeCasts_S1x4096x512_S1x32x128x4x128
def rV (z : FVec Ideal S4096x4096 .f32) : FVec Ideal S1x4096x4x128 .f32 :=
  shapeCast _ (extractStridedSlice S1x4096x512 ![0, 0, 512] (rGel (rX z)) slices_S1x4096x1024_S1x4096x512_0_0_512) shapeCasts_S1x4096x512_S1x4096x4x128
/-- The layer norm. -/
def rMean (v : FVec Ideal S1x4096x4x128 .f32) : FVec Ideal S1x4096x4x1 .f32 :=
  Host.divf (broadcastInDim S1x4096x4x1 ![0, 1, 2] bcast_S1x4096x4_S1x4096x4x1_0_1_2
      (Host.reduceAdd v (constant S_ .f32 0x00000000#32) reducesTo_S1x4096x4x128_S1x4096x4_d3 h_S_))
    (broadcastInDim S1x4096x4x1 ![] bcast_S_S1x4096x4x1 (constant S_ .f32 0x43000000#32))
def rCtr (v : FVec Ideal S1x4096x4x128 .f32) : FVec Ideal S1x4096x4x128 .f32 :=
  subf v (broadcastInDim S1x4096x4x128 ![0, 1, 2, 3] bcast_S1x4096x4x1_S1x4096x4x128_0_1_2_3 (rMean v))
def rScale (v : FVec Ideal S1x4096x4x128 .f32) : FVec Ideal S1x4096x4x128 .f32 :=
  mulf v (broadcastInDim S1x4096x4x128 ![0, 1, 2, 3] bcast_S1x4096x4x1_S1x4096x4x128_0_1_2_3
    (Host.rsqrt (addf (rMean (mulf v v)) (broadcastInDim S1x4096x4x1 ![] bcast_S_S1x4096x4x1 (constant S_ .f32 0x358637BD#32)))))
def rNrm (z : FVec Ideal S4096x4096 .f32) : FVec Ideal S1x4096x4x128 .f32 := rScale (rCtr (rV z))
def rAff (n : FVec Ideal S1x4096x4x128 .f32) (g b : FVec Ideal S4x128 .f32) : FVec Ideal S1x32x128x4x128 .f32 :=
  shapeCast _ (addf (mulf n (broadcastInDim S1x4096x4x128 ![0, 1, 2, 3] bcast_S1x1x4x128_S1x4096x4x128_0_1_2_3
      (broadcastInDim S1x1x4x128 ![2, 3] bcast_S4x128_S1x1x4x128_2_3 g)))
    (broadcastInDim S1x4096x4x128 ![0, 1, 2, 3] bcast_S1x1x4x128_S1x4096x4x128_0_1_2_3
      (broadcastInDim S1x1x4x128 ![2, 3] bcast_S4x128_S1x1x4x128_2_3 b))) shapeCasts_S1x4096x4x128_S1x32x128x4x128
/-- The mask. -/
def rMask : IVec S4x128x128 1 :=
  broadcastInDim S4x128x128 ![0, 1, 2] bcast_S1x128x128_S4x128x128_0_1_2 (broadcastInDim S1x128x128 ![1, 2] bcast_S128x128_S1x128x128_1_2
    (select (cmpi .sge (addi (iotaInDim S128x128 32 0) (broadcastInDim S128x128 ![] bcast_S_S128x128 (constantI S_ 32 0#32))) (iotaInDim S128x128 32 1))
      (broadcastInDim S128x128 ![] bcast_S_S128x128 (constantI S_ 1 1#1)) (broadcastInDim S128x128 ![] bcast_S_S128x128 (constantI S_ 1 0#1))))
def rWm (w : FVec Ideal S4x128x128 .f32) : FVec Ideal S4x128x128 .f32 :=
  select rMask w (broadcastInDim S4x128x128 ![] bcast_S_S4x128x128 (constant S_ .f32 0x00000000#32))
/-- The gradient at the spatial product. -/
def rCt (d : FVec Ideal S4096x2048 .bf16) : FVec Ideal S1x32x128x4x128 .f32 :=
  shapeCast _ (extf (F := Ideal) (φ := .bf16) .f32 (broadcastInDim S1x4096x512 ![1, 2] bcast_S4096x512_S1x4096x512_1_2
    (extractStridedSlice S4096x512 ![0, 0] d slices_S4096x2048_S4096x512_0_0)) bitsLt_bf16_f32) shapeCasts_S1x4096x512_S1x32x128x4x128
def rSpa (z : FVec Ideal S4096x4096 .f32) (d : FVec Ideal S4096x2048 .bf16) : FVec Ideal S1x32x128x4x128 .f32 := mulf (rU z) (rCt d)
def rT (s : FVec Ideal S1x32x128x4x128 .f32) : FVec Ideal S4x1x32x128x128 .f32 :=
  transpose S4x1x32x128x128 [3, 0, 1, 4, 2] s transposes_S1x32x128x4x128_S4x1x32x128x128_3_0_1_4_2
/-- The gradient at the layer norm's result. -/
def rBack (s : FVec Ideal S1x32x128x4x128 .f32) (w : FVec Ideal S4x128x128 .f32) : FVec Ideal S1x4096x4x128 .f32 :=
  shapeCast _ (transpose S1x32x128x4x128 [1, 2, 4, 0, 3]
    (Host.dotGeneral dot_S4x1x32x128x128_S4x128x128_S4x1x32x128x128_4_1_123_2_0_0 none (rT s) (rWm w))
    transposes_S4x1x32x128x128_S1x32x128x4x128_1_2_4_0_3) shapeCasts_S1x32x128x4x128_S1x4096x4x128
/-- The sum over the sequence. -/
def rSum (x : FVec Ideal S1x4096x4x128 .f32) : FVec Ideal S4x1x128 .f32 :=
  broadcastInDim S4x1x128 ![0, 2] bcast_S4x128_S4x1x128_0_2 (Host.reduceAdd (shapeCast _
    (Host.reduceAdd x (constant S_ .f32 0x00000000#32) reducesTo_S1x4096x4x128_S1x4x128_d1 h_S_) shapeCasts_S1x4x128_S1x1x4x128)
    (constant S_ .f32 0x00000000#32) reducesTo_S1x1x4x128_S4x128_d0_1 h_S_)
/-- The gradients of the spatial weight and the spatial bias. -/
def rSpw (s a : FVec Ideal S1x32x128x4x128 .f32) : FVec Ideal S4x128x128 .f32 :=
  select rMask (Host.dotGeneral dot_S4x1x32x128x128_S1x32x128x4x128_S4x128x128_123_014_4_2_0_3 none (rT s) a)
    (broadcastInDim S4x128x128 ![] bcast_S_S4x128x128 (constant S_ .f32 0x00000000#32))
def rSpb (s : FVec Ideal S1x32x128x4x128 .f32) : FVec Ideal S4x128x1 .f32 :=
  broadcastInDim S4x128x1 ![0, 1] bcast_S4x128_S4x128x1_0_1 (transpose S4x128 [1, 0]
    (Host.reduceAdd (broadcastInDim S128x4x1 ![0, 1] bcast_S128x4_S128x4x1_0_1
      (Host.reduceAdd (shapeCast _ (Host.reduceAdd s (constant S_ .f32 0x00000000#32) reducesTo_S1x32x128x4x128_S1x128x4_d1_4 h_S_)
        shapeCasts_S1x128x4_S1x1x128x4x1) (constant S_ .f32 0x00000000#32) reducesTo_S1x1x128x4x1_S128x4_d0_1_4 h_S_))
      (constant S_ .f32 0x00000000#32) reducesTo_S128x4x1_S128x4_d2 h_S_) transposes_S128x4_S4x128_1_0)

section Values

variable (z : S4096x4096.Idx → EReal) (d : S4096x2048.Idx → EReal) (g b : S4x128.Idx → EReal) (w : S4x128x128.Idx → EReal)

theorem rGel_apply (i : Fin 4096) (j : Fin 1024) : rGel (rX z) (ix3 0 i j) = gel (z (ix2 i ⟨j, by omega⟩)) := by
  pointwise [rGel, rX, gel]
  rw [mul_comm (_ * _) (z _)]

theorem srow_eq (k : Fin 32) (i : Fin 128) (h : k.val * 128 + i.val < 4096) : (⟨k.val * 128 + i.val, h⟩ : Fin 4096) = srow k i :=
  Fin.ext (congrArg (· + i.val) (Nat.mul_comm k.val 128))

theorem rU_apply (k : Fin 32) (i : Fin 128) (h : Fin 4) (j : Fin 128) : rU z (ix5 0 k i h j) = gel (sqU z k h i j) := by
  pointwise [rU, rGel_apply, sqU]
  rw [srow_eq]
  refine congrArg (fun c => gel (z (ix2 (srow k i) c))) (Fin.ext ?_)
  show h.val * 128 + j.val = (uCol h j).val
  simp only [uCol]; omega

theorem rV_apply (i : Fin 4096) (h : Fin 4) (j : Fin 128) : rV z (ix4 0 i h j) = gel (z (ix2 i (vCol h j))) := by
  pointwise [rV, rGel_apply]
  refine congrArg (fun c => gel (z (ix2 i c))) (Fin.ext ?_)
  show 512 + (h.val * 128 + j.val) = (vCol h j).val
  simp only [vCol]; omega

theorem rMask_apply (h : Fin 4) (r s : Fin 128) : rMask (ix3 h r s) = takes r s := by
  pointwise [rMask, takes]
  rw [show IntOp.addi (BitVec.ofNat 32 r.val) 0#32 = BitVec.ofNat 32 r.val from BitVec.add_zero _]
  generalize IntOp.cmpi CmpIPredicate.sge (BitVec.ofNat 32 r.val) (BitVec.ofNat 32 s.val) = t
  revert t; decide

theorem rCt_apply (k : Fin 32) (i : Fin 128) (h : Fin 4) (j : Fin 128) : rCt d (ix5 0 k i h j) = sqD d k h i j := by
  pointwise [rCt, sqD]
  rw [srow_eq]
  refine congrArg (fun c => d (ix2 (srow k i) c)) (Fin.ext ?_)
  show h.val * 128 + j.val = (dCol h j).val
  simp only [dCol]; omega

theorem rSpa_apply (k : Fin 32) (i : Fin 128) (h : Fin 4) (j : Fin 128) :
    rSpa z d (ix5 0 k i h j) = spa (sqU z k h) (sqD d k h) i j := by
  pointwise [rSpa, rU_apply, rCt_apply, spa]

theorem rMean_apply (v : FVec Ideal S1x4096x4x128 .f32) (i : Fin 4096) (h : Fin 4) : rMean v (ix4 0 i h 0) = mean fun k => v (ix4 0 i h k) := by
  pointwise [rMean, mean]

theorem rNrm_apply (k : Fin 32) (i : Fin 128) (h : Fin 4) (j : Fin 128) : rNrm z (ix4 0 (srow k i) h j) = nrm (sqV z k h) i j := by
  pointwise [rNrm, rScale, rCtr, rMean_apply, rV_apply, nrm, ctr, sqV]

theorem rAff_apply (n : FVec Ideal S1x4096x4x128 .f32) (k : Fin 32) (i : Fin 128) (h : Fin 4) (j : Fin 128) :
    rAff n g b (ix5 0 k i h j) = n (ix4 0 (srow k i) h j) * g (ix2 h j) + b (ix2 h j) := by
  pointwise [rAff]
  rw [srow_eq]

theorem srow_div (k : Fin 32) (i : Fin 128) (h : (srow k i).val / 128 < 32) : (⟨(srow k i).val / 128, h⟩ : Fin 32) = k :=
  Fin.ext (by show (128 * k.val + i.val) / 128 = k.val; omega)
theorem srow_mod (k : Fin 32) (i : Fin 128) (h : (srow k i).val % 128 < 128) : (⟨(srow k i).val % 128, h⟩ : Fin 128) = i :=
  Fin.ext (by show (128 * k.val + i.val) % 128 = i.val; omega)

theorem rBack_apply (k : Fin 32) (i : Fin 128) (h : Fin 4) (j : Fin 128) :
    rBack (rSpa z d) w (ix4 0 (srow k i) h j) = back (sqU z k h) (sqD d k h) (fun r s => w (ix3 h r s)) i j := by
  have e (q : Fin 4096) : rBack (rSpa z d) w (ix4 0 q h j) = ∑ r : Fin 128, Scalar.select (takes r ⟨q.val % 128, by omega⟩)
      (rSpa z d (ix5 0 ⟨q.val / 128, by omega⟩ r h j) * w (ix3 h r ⟨q.val % 128, by omega⟩)) 0 := by
    pointwise [rBack, rT, rWm, rMask_apply]
  rw [e]
  simp only [srow_div, srow_mod, rSpa_apply, back]

/-! Sums over several axes at once. -/

theorem sum01 (y : S1x1x4x128.Idx → EReal) (h : Fin 4) (j : Fin 128) :
    Ideal.hostReduceAdd reducesTo_S1x1x4x128_S4x128_d0_1 y 0 (ix2 h j) = y (ix4 0 0 h j) := by
  refine (congrArg (0 + ·) (Finset.sum_filter_eq_sum_of_fiber _ (fun _ : Unit => ix4 0 0 h j) (fun _ _ _ => rfl) (fun i => ?_) y)).trans (by simp)
  constructor
  · intro e
    refine ⟨(), funext fun a => Fin.ext ?_⟩
    match a with
    | ⟨0, _⟩ => exact (Nat.lt_one_iff.1 (i 0).isLt).symm
    | ⟨1, _⟩ => exact (Nat.lt_one_iff.1 (i 1).isLt).symm
    | ⟨2, _⟩ => exact (congrArg Fin.val (congrFun e 0)).symm
    | ⟨3, _⟩ => exact (congrArg Fin.val (congrFun e 1)).symm
  · rintro ⟨_, rfl⟩
    funext a
    match a with
    | ⟨0, _⟩ => rfl
    | ⟨1, _⟩ => rfl

theorem sum014 (y : S1x1x128x4x1.Idx → EReal) (i : Fin 128) (h : Fin 4) :
    Ideal.hostReduceAdd reducesTo_S1x1x128x4x1_S128x4_d0_1_4 y 0 (ix2 i h) = y (ix5 0 0 i h 0) := by
  refine (congrArg (0 + ·) (Finset.sum_filter_eq_sum_of_fiber _ (fun _ : Unit => ix5 0 0 i h 0) (fun _ _ _ => rfl) (fun x => ?_) y)).trans (by simp)
  constructor
  · intro e
    refine ⟨(), funext fun a => Fin.ext ?_⟩
    match a with
    | ⟨0, _⟩ => exact (Nat.lt_one_iff.1 (x 0).isLt).symm
    | ⟨1, _⟩ => exact (Nat.lt_one_iff.1 (x 1).isLt).symm
    | ⟨2, _⟩ => exact (congrArg Fin.val (congrFun e 0)).symm
    | ⟨3, _⟩ => exact (congrArg Fin.val (congrFun e 1)).symm
    | ⟨4, _⟩ => exact (Nat.lt_one_iff.1 (x 4).isLt).symm
  · rintro ⟨_, rfl⟩
    funext a
    match a with
    | ⟨0, _⟩ => rfl
    | ⟨1, _⟩ => rfl

theorem sum14 (y : S1x32x128x4x128.Idx → EReal) (i : Fin 128) (h : Fin 4) :
    Ideal.hostReduceAdd reducesTo_S1x32x128x4x128_S1x128x4_d1_4 y 0 (ix3 0 i h) = ∑ k : Fin 32, ∑ j : Fin 128, y (ix5 0 k i h j) := by
  refine (congrArg (0 + ·) (Finset.sum_filter_eq_sum_of_fiber _ (fun p : Fin 32 × Fin 128 => (ix5 0 p.1 i h p.2 : S1x32x128x4x128.Idx))
    (fun _ _ e => Prod.ext (congrFun e 1) (congrFun e 4)) (fun x => ?_) y)).trans (by rw [zero_add, Fintype.sum_prod_type])
  constructor
  · intro e
    refine ⟨(x 1, x 4), funext fun a => Fin.ext ?_⟩
    match a with
    | ⟨0, _⟩ => exact (Nat.lt_one_iff.1 (x 0).isLt).symm
    | ⟨1, _⟩ => rfl
    | ⟨2, _⟩ => exact (congrArg Fin.val (congrFun e 1)).symm
    | ⟨3, _⟩ => exact (congrArg Fin.val (congrFun e 2)).symm
    | ⟨4, _⟩ => rfl
  · rintro ⟨_, rfl⟩
    funext a
    match a with
    | ⟨0, _⟩ => rfl
    | ⟨1, _⟩ => rfl
    | ⟨2, _⟩ => rfl

/-- The contraction of the spatial weight's gradient runs over the chunks and a head's columns. -/
def contrChunks : Fin 32 × Fin 128 ≃ dot_S4x1x32x128x128_S1x32x128x4x128_S4x128x128_123_014_4_2_0_3.contr.Idx where
  toFun p := fun a => match a with
    | ⟨0, _⟩ => (0 : Fin 1)
    | ⟨1, _⟩ => p.1
    | ⟨2, _⟩ => p.2
  invFun x := (x ⟨1, by decide⟩, x ⟨2, by decide⟩)
  left_inv _ := rfl
  right_inv x := funext fun a => match a with
    | ⟨0, _⟩ => Fin.ext (Nat.lt_one_iff.1 (x ⟨0, by decide⟩).isLt).symm
    | ⟨1, _⟩ => rfl
    | ⟨2, _⟩ => rfl

theorem dotChunks (l : S4x1x32x128x128.Idx → EReal) (r : S1x32x128x4x128.Idx → EReal) (h : Fin 4) (i j : Fin 128) :
    Ideal.matmul dot_S4x1x32x128x128_S1x32x128x4x128_S4x128x128_123_014_4_2_0_3 l r (fun _ => 0) (ix3 h i j)
      = ∑ k : Fin 32, ∑ e : Fin 128, l (ix5 h 0 k e i) * r (ix5 0 k j h e) := by
  refine (zero_add _).trans ?_
  rw [← Fintype.sum_prod_type (f := fun p : Fin 32 × Fin 128 => l (ix5 h 0 p.1 p.2 i) * r (ix5 0 p.1 j h p.2))]
  refine (Fintype.sum_equiv contrChunks _ _ fun p => ?_).symm
  refine congrArg₂ (fun a b => l a * r b) (funext fun a => ?_) (funext fun a => ?_)
  · match a with
    | ⟨0, _⟩ => rfl
    | ⟨1, _⟩ => rfl
    | ⟨2, _⟩ => rfl
    | ⟨3, _⟩ => rfl
    | ⟨4, _⟩ => rfl
  · match a with
    | ⟨0, _⟩ => rfl
    | ⟨1, _⟩ => rfl
    | ⟨2, _⟩ => rfl
    | ⟨3, _⟩ => rfl
    | ⟨4, _⟩ => rfl

theorem select_sum (t : BitVec 1) {n : ℕ} (f : Fin n → EReal) : Scalar.select t (∑ k, f k) 0 = ∑ k, Scalar.select t (f k) 0 := by
  unfold Scalar.select
  split <;> simp

/-! The four gradients. -/

theorem rSum_apply (x : FVec Ideal S1x4096x4x128 .f32) (h : Fin 4) (j : Fin 128) :
    rSum x (ix3 h 0 j) = ∑ k : Fin 32, ∑ r : Fin 128, x (ix4 0 (srow k r) h j) := by
  pointwise [rSum, sum01]
  rw [Fin.sum_univ_tiles 32 128 rfl]
  exact Finset.sum_congr rfl fun k _ => Finset.sum_congr rfl fun r _ => by rw [← srow_eq]

theorem rGain_eq : rSum (mulf (rNrm z) (rBack (rSpa z d) w)) = fun y : S4x1x128.Idx => totGain z d w (y 0) (y 2) := by
  funext y
  obtain ⟨h, i, j, rfl⟩ : ∃ h i j, y = ix3 h i j := ⟨y 0, y 1, y 2, eq_ix3 y⟩
  obtain rfl : i = 0 := Subsingleton.elim _ _
  refine (rSum_apply _ h j).trans (Finset.sum_congr rfl fun k _ => Finset.sum_congr rfl fun r _ => ?_)
  exact congrArg₂ (· * ·) (rNrm_apply z k r h j) (rBack_apply z d w k r h j)

theorem rBias_eq : rSum (rBack (rSpa z d) w) = fun y : S4x1x128.Idx => totBias z d w (y 0) (y 2) := by
  funext y
  obtain ⟨h, i, j, rfl⟩ : ∃ h i j, y = ix3 h i j := ⟨y 0, y 1, y 2, eq_ix3 y⟩
  obtain rfl : i = 0 := Subsingleton.elim _ _
  exact (rSum_apply _ h j).trans (Finset.sum_congr rfl fun k _ => Finset.sum_congr rfl fun r _ => rBack_apply z d w k r h j)

theorem rSpw_eq : rSpw (rSpa z d) (rAff (rNrm z) g b) = fun y : S4x128x128.Idx => totSpa z d g b (y 0) (y 1) (y 2) := by
  funext y
  obtain ⟨h, i, j, rfl⟩ : ∃ h i j, y = ix3 h i j := ⟨y 0, y 1, y 2, eq_ix3 y⟩
  have e : rSpw (rSpa z d) (rAff (rNrm z) g b) (ix3 h i j) = Scalar.select (takes i j)
      (∑ k : Fin 32, ∑ e : Fin 128, rT (rSpa z d) (ix5 h 0 k e i) * rAff (rNrm z) g b (ix5 0 k j h e)) 0 := by
    pointwise [rSpw, rMask_apply, dotChunks]
  rw [e, select_sum]
  refine Finset.sum_congr rfl fun k _ => congrArg (fun x => Scalar.select (takes i j) x 0) (Finset.sum_congr rfl fun e _ => ?_)
  show _ = spa (sqU z k h) (sqD d k h) i e * (nrm (sqV z k h) j e * g (ix2 h e) + b (ix2 h e))
  rw [rAff_apply, rNrm_apply, ← rSpa_apply z d k i h e]
  pointwise [rT]

theorem rSpb_eq : rSpb (rSpa z d) = fun y : S4x128x1.Idx => totSpb z d (y 0) (y 1) := by
  funext y
  obtain ⟨h, i, j, rfl⟩ : ∃ h i j, y = ix3 h i j := ⟨y 0, y 1, y 2, eq_ix3 y⟩
  obtain rfl : j = 0 := Subsingleton.elim _ _
  have e : rSpb (rSpa z d) (ix3 h i 0) = ∑ k : Fin 32, ∑ e : Fin 128, rSpa z d (ix5 0 k i h e) := by
    pointwise [rSpb, sum014, sum14]
    exact Fin.sum_univ_one _
  exact e.trans (Finset.sum_congr rfl fun k _ => Finset.sum_congr rfl fun e _ => rSpa_apply z d k i h e)

end Values

end Cert.Mixer

end
-- ==== Proof.Mixer.Claims.lean ====
/- The mixers' gating gradients: the call's results and the reference's are the same sums. -/
module

public import proofs.«01_k».proof.Proof.Mixer.Result
public import proofs.«01_k».proof.Proof.Mixer.Ref

@[expose] public section

set_option maxRecDepth 16384

noncomputable section

namespace Cert.Mixer

open Idealize.ShloMosaic Idealize.ShloMosaic.TcCoe Idealize.ShloMosaic.Tactic Idealize.SL.Sem

section Kernel

open Cert.KernelIdeal Cert.KernelIdeal.Gen

variable (m : (ℓ : Loc nD τ sig) → Buf (Elt Ideal) ℓ) (c : Dev nD)

def resGain : S4x1x128.Idx → EReal := fun y => totGain (aZ m c) (aD m c) (aW m c) (y 0) (y 2)
def resBias : S4x1x128.Idx → EReal := fun y => totBias (aZ m c) (aD m c) (aW m c) (y 0) (y 2)
def resSpa : S4x128x128.Idx → EReal := fun y => totSpa (aZ m c) (aD m c) (aG m c) (aB m c) (y 0) (y 1) (y 2)
def resSpb : S4x128x1.Idx → EReal := fun y => totSpb (aZ m c) (aD m c) (y 0) (y 1)

/-- What a run of the call leaves in its four results. -/
theorem results (ρ : Dev nD → PrngReg) : θ_run defs (onTc (τ := τ) (main (F := Ideal))) ⟨m, fun _ => 0, ρ⟩ (fun r => ∀ c : Dev nD,
      r.2.mem ((c.tc : Thread nD τ).loc main_v11_1) = resGain m c
      ∧ r.2.mem ((c.tc : Thread nD τ).loc main_v11_2) = resBias m c
      ∧ r.2.mem ((c.tc : Thread nD τ).loc main_v11_3) = resSpa m c
      ∧ r.2.mem ((c.tc : Thread nD τ).loc main_v11_4) = resSpb m c) :=
  (θ_run defs _ _).mono (fun _ h c => ⟨((h.1 c).1 17).trans (arrGain m c), ((h.1 c).1 18).trans (arrBias m c),
    ((h.1 c).1 19).trans (arrSpa m c), ((h.1 c).1 20).trans (arrSpb m c)⟩) (run ρ Ideal m)

end Kernel

set_option maxHeartbeats 4000000 in
theorem algebraic : Cert.algebraic_KernelIdeal_ReferenceIdeal := fun m g m' g' _ hag =>
  ⟨fun c => resGain m c, fun c => resBias m c, fun c => resSpa m c, fun c => resSpb m c,
   (θ_run Cert.KernelIdeal.defs _ _).mono (fun _ h c => by
     obtain ⟨r0, r1, r2, r3⟩ := h.1 c
     exact ⟨r0, r1, r2, r3, h.2.1 c⟩) (θ_run_and (results m g) (frame (F := Ideal) m g)),
   (θ_run Cert.ReferenceIdeal.defs _ _).mono (fun _ h c => by
     obtain ⟨r0, r1, r2, r3, u⟩ := h c
     obtain ⟨e0, e1, e2, e3, e4, -⟩ := hag c
     refine ⟨r0.trans ?_, r1.trans ?_, r2.trans ?_, r3.trans ?_, u⟩
     · refine Eq.trans ?_ (rGain_eq (aZ m c) (aD m c) (aW m c))
       unfold Cert.ReferenceIdeal.Value.res_main_v79
       rw [e0, e1, e4]
       rfl
     · refine Eq.trans ?_ (rBias_eq (aZ m c) (aD m c) (aW m c))
       rw [e0, e1, e4]
       rfl
     · refine Eq.trans ?_ (rSpw_eq (aZ m c) (aD m c) (aG m c) (aB m c))
       unfold Cert.ReferenceIdeal.Value.res_main_v70
       rw [e0, e1, e2, e3]
       rfl
     · refine Eq.trans ?_ (rSpb_eq (aZ m c) (aD m c))
       rw [e0, e1]
       rfl) (Cert.ReferenceIdeal.Value.run m' g')⟩

end Cert.Mixer

end
-- ==== Proof.Ffn.Run.lean ====
/- The feed-forward program's run: every buffer it leaves, at any float values, and at the ideal values each result as a
   function of the arguments. -/
module

public import proofs.«01_k».proof.Proof.Gen.Kernel2Ideal.Frame

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program ends, faulting nowhere, with every buffer outside a call at the contents of the last boundary and with
    every counter at zero. -/
theorem run_all : θ_run defs (onTc (τ := τ) (main (F := F))) ⟨m, fun _ => 0, ρ⟩ (fun r =>
    (∀ c : Dev nD, ∀ b ∈ Pipeline.ucRefs τ sig, r.2.mem ((c : Thread nD τ).1, b) = W7 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨fun c b hb => h c b hb, funext fun g => hz g (.inr (no_unscoped g.2))⟩)

/-- The same run: the four results at the last boundary's contents, the arguments as launched. -/
theorem run_main : θ_run defs (onTc (τ := τ) (main (F := F))) ⟨m, fun _ => 0, ρ⟩ (fun r =>
    (∀ c : Dev nD,
      (r.2.mem ((c.tc : Thread nD τ).loc main_v6) = V7 m ρ c main_v6
      ∧ r.2.mem ((c.tc : Thread nD τ).loc main_v3) = V7 m ρ c main_v3
      ∧ r.2.mem ((c.tc : Thread nD τ).loc main_v4) = V7 m ρ c main_v4
      ∧ r.2.mem ((c.tc : Thread nD τ).loc main_v2) = V7 m ρ c main_v2)
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))) ∧ r.2.sem = fun _ => 0) :=
  (θ_run defs _ _).mono (fun r h => ⟨fun c =>
    ⟨⟨h.1 c _ (mem_uc main_v6 (by decide)), h.1 c _ (mem_uc main_v3 (by decide)), h.1 c _ (mem_uc main_v4 (by decide)),
      h.1 c _ (mem_uc main_v2 (by decide))⟩,
     (h.1 c _ (mem_uc main_arg0 (by decide))).trans (W7_main_arg0 m ρ c),
     (h.1 c _ (mem_uc main_arg1 (by decide))).trans (W7_main_arg1 m ρ c),
     (h.1 c _ (mem_uc main_arg2 (by decide))).trans (W7_main_arg2 m ρ c),
     (h.1 c _ (mem_uc main_arg3 (by decide))).trans (W7_main_arg3 m ρ c),
     (h.1 c _ (mem_uc main_arg4 (by decide))).trans (W7_main_arg4 m ρ c)⟩, h.2⟩) (run_all m ρ)

end Cert.Ffn

end
-- ==== Proof.Ffn.Math.lean ====
/- The feed-forward block and its derivative, element by element, over the extended reals: the arrays that the kernel's
   seven calls leave, as functions of the arrays they read. An activation is stored by shard of the hidden axis, row and
   position in the shard; `w` holds each shard's rows of the weight. -/
module

public import proofs.«01_k».proof.Proof.Gen.Kernel2Ideal
public import Idealize.ShloMosaic.Lib.Pointwise

@[expose] public section

noncomputable section

namespace Cert.Ffn

open Cert.Kernel2Ideal Idealize.ShloMosaic

/-- A row of activations. -/
local notation "Rows" => (S4096x2048.Idx → EReal)
/-- A weight, or its gradient, by shards. -/
local notation "Shards" => (S8x704x2048.Idx → EReal)
/-- A hidden activation, by shards. -/
local notation "Hidden" => (S8x4096x704.Idx → EReal)

/-- Each row's products with the weight's rows: the pre-activations, and the gradient that reaches the hidden layer. -/
def up (y : Rows) (w : Shards) : Hidden := fun i =>
  ∑ d : Fin 2048, y (ix2 (i 1) d) * w (ix3 (i 0) (i 2) d)

/-- The hidden activation: silu of the gate times the up projection. -/
def act (g u : Hidden) : Hidden := fun i => g i * Ideal.logistic (g i) * u i

/-- The gradient at the gate's pre-activation, `dm` that at the hidden activation. -/
def dgate (dm g u : Hidden) : Hidden := fun i =>
  dm i * u i * (Ideal.logistic (g i) + g i * Ideal.logistic (g i) * (1 - Ideal.logistic (g i)))

/-- The gradient at the up projection. -/
def dup (dm g : Hidden) : Hidden := fun i => dm i * (g i * Ideal.logistic (g i))

/-- The gradient of a weight: hidden values times rows, summed over the rows. -/
def dw (h : Hidden) (x : Rows) : Shards := fun i =>
  ∑ s : Fin 4096, h (ix3 (i 0) s (i 1)) * x (ix2 s (i 2))

/-- One shard's part of a row of `h` times the weight. -/
def part (h : Hidden) (w : Shards) (k : Fin 8) : Rows := fun i =>
  ∑ f : Fin 704, h (ix3 k (i 0) f) * w (ix3 k f (i 1))

/-- A row of `h` times the weight, shard after shard. -/
def down (h : Hidden) (w : Shards) : Rows := fun i =>
  part h w 0 i + part h w 1 i + part h w 2 i + part h w 3 i + part h w 4 i + part h w 5 i + part h w 6 i + part h w 7 i

/-- The sum of two arrays of rows. -/
def sum2 (a b : Rows) : Rows := fun i => a i + b i

end Cert.Ffn

end
-- ==== Proof.Ffn.Dw.lean ====
/- The three weight gradients of the feed-forward block, as the arrays their calls leave. -/
module

public import proofs.«01_k».proof.Proof.Gen.Kernel2Ideal.Frame
public import proofs.«01_k».proof.Proof.Ffn.Math
public import Idealize.ShloMosaic.Lib.Pipeline.ValueKit

@[expose] public section

set_option maxRecDepth 16384

noncomputable section

namespace Cert.Ffn

open Cert.Kernel2Ideal Cert.Kernel2Ideal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The blocks at each grid point: a shard and a tile of columns. -/
theorem idx2 (t : Fin cfg2.N) : win2_0.index t = ![t.val / 2, 0, 0]
    ∧ win2_1.index t = ![0, t.val % 2]
    ∧ win2_2.index t = ![t.val / 2, 0, t.val % 2] := by
  revert t; decide +kernel

/-- The down weight's gradient: the hidden activations against the gradient at the block's result. -/
theorem dwd_arr (c : Dev nD) : (dat2 (F := Ideal) V c).arrAt 2 cfg2.N = dw (V c main_v0_2) (V c main_arg0) := by
  refine (dat2 (F := Ideal) V c).arrAt_eq_of_covers 2 _ (by decide +kernel) fun t hf y => ?_
  have e := idx2 t
  blk_simp
  rw [after2_2]
  frame_out
  idx_vars y
  pointwise [k2_pay1, dw]
  reads_congr
  · refine congrArg (V c main_v0_2) (?_ : (_ : S8x4096x704.Idx) = _)
    blk_ext [e]
  · refine congrArg (V c main_arg0) (?_ : (_ : S4096x2048.Idx) = _)
    blk_ext [e]

/-- The blocks at each grid point: a shard and a tile of columns. -/
theorem idx3 (t : Fin cfg3.N) : win3_0.index t = ![t.val % 8, 0, 0]
    ∧ win3_1.index t = ![0, t.val / 8]
    ∧ win3_2.index t = ![t.val % 8, 0, t.val / 8] := by
  revert t; decide +kernel

/-- The gate weight's gradient. -/
theorem dwg_arr (c : Dev nD) : (dat3 (F := Ideal) V c).arrAt 2 cfg3.N = dw (V c main_v1_0) (V c main_arg1) := by
  refine (dat3 (F := Ideal) V c).arrAt_eq_of_covers 2 _ (by decide +kernel) fun t hf y => ?_
  have e := idx3 t
  blk_simp
  rw [after3_2]
  frame_out
  idx_vars y
  pointwise [k3_pay1, dw]
  reads_congr
  · refine congrArg (V c main_v1_0) (?_ : (_ : S8x4096x704.Idx) = _)
    blk_ext [e]
  · refine congrArg (V c main_arg1) (?_ : (_ : S4096x2048.Idx) = _)
    blk_ext [e]

/-- The blocks at each grid point: a shard and a tile of columns. -/
theorem idx4 (t : Fin cfg4.N) : win4_0.index t = ![t.val % 8, 0, 0]
    ∧ win4_1.index t = ![0, t.val / 8]
    ∧ win4_2.index t = ![t.val % 8, 0, t.val / 8] := by
  revert t; decide +kernel

/-- The up weight's gradient. -/
theorem dwu_arr (c : Dev nD) : (dat4 (F := Ideal) V c).arrAt 2 cfg4.N = dw (V c main_v1_1) (V c main_arg1) := by
  refine (dat4 (F := Ideal) V c).arrAt_eq_of_covers 2 _ (by decide +kernel) fun t hf y => ?_
  have e := idx4 t
  blk_simp
  rw [after4_2]
  frame_out
  idx_vars y
  pointwise [k4_pay1, dw]
  reads_congr
  · refine congrArg (V c main_v1_1) (?_ : (_ : S8x4096x704.Idx) = _)
    blk_ext [e]
  · refine congrArg (V c main_arg1) (?_ : (_ : S4096x2048.Idx) = _)
    blk_ext [e]

end Cert.Ffn

end
-- ==== Proof.Ffn.Fwd.lean ====
/- The forward half of the feed-forward block: the two pre-activations and the hidden activation its call leaves. -/
module

public import proofs.«01_k».proof.Proof.Gen.Kernel2Ideal.Frame
public import proofs.«01_k».proof.Proof.Ffn.Math
public import Idealize.ShloMosaic.Lib.Pipeline.ValueKit

@[expose] public section

set_option maxRecDepth 16384

noncomputable section

namespace Cert.Ffn

open Cert.Kernel2Ideal Cert.Kernel2Ideal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The blocks at each grid point: a tile of rows and a shard. -/
theorem idx0 (t : Fin cfg0.N) : win0_0.index t = ![t.val / 8, 0]
    ∧ win0_1.index t = ![t.val % 8, 0, 0]
    ∧ win0_2.index t = ![t.val % 8, 0, 0]
    ∧ win0_3.index t = ![t.val % 8, t.val / 8, 0]
    ∧ win0_4.index t = ![t.val % 8, t.val / 8, 0]
    ∧ win0_5.index t = ![t.val % 8, t.val / 8, 0] := by
  revert t; decide +kernel

/-- The gate's pre-activation. -/
theorem gate_arr (c : Dev nD) : (dat0 (F := Ideal) V c).arrAt 3 cfg0.N = up (V c main_arg1) (V c main_arg2) := by
  refine (dat0 (F := Ideal) V c).arrAt_eq_of_covers 3 _ (by decide +kernel) fun t hf y => ?_
  have e := idx0 t
  blk_simp
  rw [after0_3]
  frame_out
  idx_vars y
  pointwise [k0_pay3, k0_pay1, up]
  reads_congr
  · refine congrArg (V c main_arg1) (?_ : (_ : S4096x2048.Idx) = _)
    blk_ext [e]
  · refine congrArg (V c main_arg2) (?_ : (_ : S8x704x2048.Idx) = _)
    blk_ext [e]

/-- The up projection. -/
theorem up_arr (c : Dev nD) : (dat0 (F := Ideal) V c).arrAt 4 cfg0.N = up (V c main_arg1) (V c main_arg3) := by
  refine (dat0 (F := Ideal) V c).arrAt_eq_of_covers 4 _ (by decide +kernel) fun t hf y => ?_
  have e := idx0 t
  blk_simp
  rw [after0_4]
  frame_out
  idx_vars y
  pointwise [k0_pay4, k0_pay2, up]
  reads_congr
  · refine congrArg (V c main_arg1) (?_ : (_ : S4096x2048.Idx) = _)
    blk_ext [e]
  · refine congrArg (V c main_arg3) (?_ : (_ : S8x704x2048.Idx) = _)
    blk_ext [e]

/-- The hidden activation. -/
theorem act_arr (c : Dev nD) : (dat0 (F := Ideal) V c).arrAt 5 cfg0.N = act (up (V c main_arg1) (V c main_arg2)) (up (V c main_arg1) (V c main_arg3)) := by
  refine (dat0 (F := Ideal) V c).arrAt_eq_of_covers 5 _ (by decide +kernel) fun t hf y => ?_
  have e := idx0 t
  blk_simp
  rw [after0_5]
  frame_out
  idx_vars y
  pointwise [k0_pay5, k0_pay1, k0_pay2, act, up]
  reads_congr
  · refine congrArg (V c main_arg1) (?_ : (_ : S4096x2048.Idx) = _)
    blk_ext [e]
  · refine congrArg (V c main_arg2) (?_ : (_ : S8x704x2048.Idx) = _)
    blk_ext [e]
  · refine congrArg (V c main_arg3) (?_ : (_ : S8x704x2048.Idx) = _)
    blk_ext [e]

end Cert.Ffn

end
-- ==== Proof.Ffn.Dgate.lean ====
/- The gradients at the two pre-activations of the feed-forward block, as their call leaves them. -/
module

public import proofs.«01_k».proof.Proof.Gen.Kernel2Ideal.Frame
public import proofs.«01_k».proof.Proof.Ffn.Math
public import Idealize.ShloMosaic.Lib.Pipeline.ValueKit

@[expose] public section

set_option maxRecDepth 16384
set_option maxHeartbeats 4000000

noncomputable section

namespace Cert.Ffn

open Cert.Kernel2Ideal Cert.Kernel2Ideal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The blocks at each grid point: a tile of rows and a shard. -/
theorem idx1 (t : Fin cfg1.N) : win1_0.index t = ![t.val / 8, 0]
    ∧ win1_1.index t = ![t.val % 8, 0, 0]
    ∧ win1_2.index t = ![t.val % 8, t.val / 8, 0]
    ∧ win1_3.index t = ![t.val % 8, t.val / 8, 0]
    ∧ win1_4.index t = ![t.val % 8, t.val / 8, 0]
    ∧ win1_5.index t = ![t.val % 8, t.val / 8, 0] := by
  revert t; decide +kernel

/-- The gradient at the gate's pre-activation. -/
theorem dgate_arr (c : Dev nD) : (dat1 (F := Ideal) V c).arrAt 4 cfg1.N = dgate (up (V c main_arg0) (V c main_arg4)) (V c main_v0_0) (V c main_v0_1) := by
  refine (dat1 (F := Ideal) V c).arrAt_eq_of_covers 4 _ (by decide +kernel) fun t hf y => ?_
  have e := idx1 t
  blk_simp
  rw [after1_4]
  frame_out
  idx_vars y
  pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, dgate, up]
  split_ifs <;> reads_congr
  all_goals first
    | (refine congrArg (V c main_v0_0) (?_ : (_ : S8x4096x704.Idx) = _); blk_ext [e])
    | (refine congrArg (V c main_v0_1) (?_ : (_ : S8x4096x704.Idx) = _); blk_ext [e])
    | (refine congrArg (V c main_arg0) (?_ : (_ : S4096x2048.Idx) = _); blk_ext [e])
    | (refine congrArg (V c main_arg4) (?_ : (_ : S8x704x2048.Idx) = _); blk_ext [e])

/-- The gradient at the up projection. -/
theorem dup_arr (c : Dev nD) : (dat1 (F := Ideal) V c).arrAt 5 cfg1.N = dup (up (V c main_arg0) (V c main_arg4)) (V c main_v0_0) := by
  refine (dat1 (F := Ideal) V c).arrAt_eq_of_covers 5 _ (by decide +kernel) fun t hf y => ?_
  have e := idx1 t
  blk_simp
  rw [after1_5]
  frame_out
  idx_vars y
  pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, dup, up]
  split_ifs <;> reads_congr
  all_goals first
    | (refine congrArg (V c main_v0_0) (?_ : (_ : S8x4096x704.Idx) = _); blk_ext [e])
    | (refine congrArg (V c main_arg0) (?_ : (_ : S4096x2048.Idx) = _); blk_ext [e])
    | (refine congrArg (V c main_arg4) (?_ : (_ : S8x704x2048.Idx) = _); blk_ext [e])

end Cert.Ffn

end
-- ==== Proof.Ffn.Down.lean ====
/- The gradient at the feed-forward block's input: the two calls that multiply the hidden gradients by the weights. -/
module

public import proofs.«01_k».proof.Proof.Gen.Kernel2Ideal.Frame
public import proofs.«01_k».proof.Proof.Ffn.Math
public import Idealize.ShloMosaic.Lib.Pipeline.ValueKit

@[expose] public section

set_option maxRecDepth 16384
set_option maxHeartbeats 4000000

noncomputable section

namespace Cert.Ffn

open Cert.Kernel2Ideal Cert.Kernel2Ideal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The blocks at each grid point: a tile of columns and a tile of rows. -/
theorem idx5 (t : Fin cfg5.N) : win5_0.index t = ![0, t.val % 8, 0]
    ∧ win5_1.index t = ![0, 0, t.val / 8]
    ∧ win5_2.index t = ![t.val % 8, t.val / 8] := by
  revert t; decide +kernel

/-- The part that passes through the gate. -/
theorem dyg_arr (c : Dev nD) : (dat5 (F := Ideal) V c).arrAt 2 cfg5.N = down (V c main_v1_0) (V c main_arg2) := by
  refine (dat5 (F := Ideal) V c).arrAt_eq_of_covers 2 _ (by decide +kernel) fun t hf y => ?_
  have e := idx5 t
  blk_simp
  rw [after5_2]
  frame_out
  idx_vars y
  pointwise [k5_pay1, k5_pay2, k5_pay3, k5_pay4, k5_pay5, k5_pay6, k5_pay7, k5_pay8, k5_pay9, k5_pay10, k5_pay11, k5_pay12, sum2, down, part]
  reads_congr
  all_goals first
    | (refine congrArg (V c main_v1_0) (?_ : (_ : S8x4096x704.Idx) = _); blk_ext [e])
    | (refine congrArg (V c main_arg2) (?_ : (_ : S8x704x2048.Idx) = _); blk_ext [e])

/-- The blocks at each grid point: a tile of columns and a tile of rows. -/
theorem idx6 (t : Fin cfg6.N) : win6_0.index t = ![0, t.val % 8, 0]
    ∧ win6_1.index t = ![0, 0, t.val / 8]
    ∧ win6_2.index t = ![t.val % 8, t.val / 8]
    ∧ win6_3.index t = ![t.val % 8, t.val / 8] := by
  revert t; decide +kernel

/-- The sum of both parts. -/
theorem dy_arr (c : Dev nD) : (dat6 (F := Ideal) V c).arrAt 3 cfg6.N = sum2 (V c main_v5) (down (V c main_v1_1) (V c main_arg3)) := by
  refine (dat6 (F := Ideal) V c).arrAt_eq_of_covers 3 _ (by decide +kernel) fun t hf y => ?_
  have e := idx6 t
  blk_simp
  rw [after6_3]
  frame_out
  idx_vars y
  pointwise [k6_pay1, k6_pay2, k6_pay3, k6_pay4, k6_pay5, k6_pay6, k6_pay7, k6_pay8, k6_pay9, k6_pay10, k6_pay11, k6_pay12, k6_pay13, sum2, down, part]
  reads_congr
  all_goals first
    | (refine congrArg (V c main_v5) (?_ : (_ : S4096x2048.Idx) = _); blk_ext [e])
    | (refine congrArg (V c main_v1_1) (?_ : (_ : S8x4096x704.Idx) = _); blk_ext [e])
    | (refine congrArg (V c main_arg3) (?_ : (_ : S8x704x2048.Idx) = _); blk_ext [e])

end Cert.Ffn

end
-- ==== Proof.Ffn.Chain.lean ====
/- The results of the feed-forward program as functions of its arguments: the calls' arrays, chained. -/
module

public import proofs.«01_k».proof.Proof.Ffn.Dw
public import proofs.«01_k».proof.Proof.Ffn.Fwd
public import proofs.«01_k».proof.Proof.Ffn.Dgate
public import proofs.«01_k».proof.Proof.Ffn.Down

@[expose] public section

set_option maxRecDepth 16384

noncomputable section

namespace Cert.Ffn

open Cert.Kernel2Ideal Cert.Kernel2Ideal.Gen Idealize.ShloMosaic Idealize.ShloMosaic.TcCoe Idealize.SL.Sem

variable (m : (ℓ : Loc nD τ sig) → Buf (Elt Ideal) ℓ) (ρ : Dev nD → PrngReg)

/-- The five arguments. -/
abbrev aDh (c : Dev nD) : S4096x2048.Idx → EReal := m ((c : Thread nD τ).loc main_arg0)
abbrev aY (c : Dev nD) : S4096x2048.Idx → EReal := m ((c : Thread nD τ).loc main_arg1)
abbrev aWg (c : Dev nD) : S8x704x2048.Idx → EReal := m ((c : Thread nD τ).loc main_arg2)
abbrev aWu (c : Dev nD) : S8x704x2048.Idx → EReal := m ((c : Thread nD τ).loc main_arg3)
abbrev aWd (c : Dev nD) : S8x704x2048.Idx → EReal := m ((c : Thread nD τ).loc main_arg4)

/-- The hidden layer's arrays: the gate, the up projection, the gradient that reaches the hidden activation, and the
    gradients at the two pre-activations. -/
def hG (c : Dev nD) := up (aY m c) (aWg m c)
def hU (c : Dev nD) := up (aY m c) (aWu m c)
def hDm (c : Dev nD) := up (aDh m c) (aWd m c)
def hDg (c : Dev nD) := dgate (hDm m c) (hG m c) (hU m c)
def hDu (c : Dev nD) := dup (hDm m c) (hG m c)

theorem v1_gate (c : Dev nD) : V1 m ρ c main_v0_0 = hG m c := (W1_arr m ρ c 3).trans (gate_arr (V0 m ρ) c)
theorem v1_up (c : Dev nD) : V1 m ρ c main_v0_1 = hU m c := (W1_arr m ρ c 4).trans (up_arr (V0 m ρ) c)
theorem v1_act (c : Dev nD) : V1 m ρ c main_v0_2 = act (hG m c) (hU m c) := (W1_arr m ρ c 5).trans (act_arr (V0 m ρ) c)

theorem v2_dgate (c : Dev nD) : V2 m ρ c main_v1_0 = hDg m c := by
  refine (W2_arr m ρ c 4).trans ((dgate_arr (V1 m ρ) c).trans ?_)
  rw [v1_gate, v1_up, show V1 m ρ c main_arg0 = aDh m c from W1_args m ρ c main_arg0 (by decide),
    show V1 m ρ c main_arg4 = aWd m c from W1_args m ρ c main_arg4 (by decide)]
  rfl
theorem v2_dup (c : Dev nD) : V2 m ρ c main_v1_1 = hDu m c := by
  refine (W2_arr m ρ c 5).trans ((dup_arr (V1 m ρ) c).trans ?_)
  rw [v1_gate, show V1 m ρ c main_arg0 = aDh m c from W1_args m ρ c main_arg0 (by decide),
    show V1 m ρ c main_arg4 = aWd m c from W1_args m ρ c main_arg4 (by decide)]
  rfl

theorem v3_dwd (c : Dev nD) : V3 m ρ c main_v2 = dw (act (hG m c) (hU m c)) (aDh m c) := by
  refine (W3_arr m ρ c 2).trans ((dwd_arr (V2 m ρ) c).trans ?_)
  rw [show V2 m ρ c main_v0_2 = act (hG m c) (hU m c) from (W2_of m ρ c main_v0_2 (by decide)).trans (v1_act m ρ c),
    show V2 m ρ c main_arg0 = aDh m c from W2_args m ρ c main_arg0 (by decide)]
theorem v4_dwg (c : Dev nD) : V4 m ρ c main_v3 = dw (hDg m c) (aY m c) := by
  refine (W4_arr m ρ c 2).trans ((dwg_arr (V3 m ρ) c).trans ?_)
  rw [show V3 m ρ c main_v1_0 = hDg m c from (W3_of m ρ c main_v1_0 (by decide)).trans (v2_dgate m ρ c),
    show V3 m ρ c main_arg1 = aY m c from W3_args m ρ c main_arg1 (by decide)]
theorem v4_dup (c : Dev nD) : V4 m ρ c main_v1_1 = hDu m c :=
  (W4_of m ρ c main_v1_1 (by decide)).trans ((W3_of m ρ c main_v1_1 (by decide)).trans (v2_dup m ρ c))
theorem v5_dwu (c : Dev nD) : V5 m ρ c main_v4 = dw (hDu m c) (aY m c) := by
  refine (W5_arr m ρ c 2).trans ((dwu_arr (V4 m ρ) c).trans ?_)
  rw [v4_dup, show V4 m ρ c main_arg1 = aY m c from W4_args m ρ c main_arg1 (by decide)]
theorem v6_dyg (c : Dev nD) : V6 m ρ c main_v5 = down (hDg m c) (aWg m c) := by
  refine (W6_arr m ρ c 2).trans ((dyg_arr (V5 m ρ) c).trans ?_)
  rw [show V5 m ρ c main_v1_0 = hDg m c from (W5_of m ρ c main_v1_0 (by decide)).trans
      ((W4_of m ρ c main_v1_0 (by decide)).trans ((W3_of m ρ c main_v1_0 (by decide)).trans (v2_dgate m ρ c))),
    show V5 m ρ c main_arg2 = aWg m c from W5_args m ρ c main_arg2 (by decide)]

/-- The four results. -/
theorem res_dy (c : Dev nD) : V7 m ρ c main_v6 = sum2 (down (hDg m c) (aWg m c)) (down (hDu m c) (aWu m c)) := by
  refine (W7_arr m ρ c 3).trans ((dy_arr (V6 m ρ) c).trans ?_)
  rw [v6_dyg, show V6 m ρ c main_v1_1 = hDu m c from (W6_of m ρ c main_v1_1 (by decide)).trans
      ((W5_of m ρ c main_v1_1 (by decide)).trans (v4_dup m ρ c)),
    show V6 m ρ c main_arg3 = aWu m c from W6_args m ρ c main_arg3 (by decide)]
theorem res_dwg (c : Dev nD) : V7 m ρ c main_v3 = dw (hDg m c) (aY m c) :=
  (W7_of m ρ c main_v3 (by decide)).trans ((W6_of m ρ c main_v3 (by decide)).trans ((W5_of m ρ c main_v3 (by decide)).trans (v4_dwg m ρ c)))
theorem res_dwu (c : Dev nD) : V7 m ρ c main_v4 = dw (hDu m c) (aY m c) :=
  (W7_of m ρ c main_v4 (by decide)).trans ((W6_of m ρ c main_v4 (by decide)).trans (v5_dwu m ρ c))
theorem res_dwd (c : Dev nD) : V7 m ρ c main_v2 = dw (act (hG m c) (hU m c)) (aDh m c) :=
  (W7_of m ρ c main_v2 (by decide)).trans ((W6_of m ρ c main_v2 (by decide)).trans ((W5_of m ρ c main_v2 (by decide)).trans
    ((W4_of m ρ c main_v2 (by decide)).trans (v3_dwd m ρ c))))

end Cert.Ffn

end
-- ==== Proof.Ffn.Ref.lean ====
/- The reference's derivative of the feed-forward block, its hidden axis written flat, read shard by shard. -/
module

public import proofs.«01_k».proof.Proof.Gen.Reference2Ideal
public import proofs.«01_k».proof.Proof.Ffn.Math
public import Idealize.ShloMosaic.Lib.Pipeline.ValueKit
public import Idealize.ShloMosaic.Lib.Pointwise

@[expose] public section

set_option maxRecDepth 16384

noncomputable section

namespace Cert.Ffn

open Cert.Reference2Ideal Cert.Reference2Ideal.Gen Cert.Reference2Ideal.Facts Idealize.ShloMosaic

local notation "Rows" => (S4096x2048.Idx → EReal)
local notation "Shards" => (S8x704x2048.Idx → EReal)

/-- A hidden array with its shards side by side. -/
def flat (h : (⟨3, ![8, 4096, 704]⟩ : Shape).Idx → EReal) : FVec Ideal S4096x5632 .f32 := fun i =>
  h (ix3 ⟨(i 1).val / 704, by have := (i 1).isLt; simp at this; omega⟩ (i 0) ⟨(i 1).val % 704, Nat.mod_lt _ (by decide)⟩)

/-- The weight's rows. -/
def wRows (w : Shards) : FVec Ideal S5632x2048 .f32 :=
  shapeCast _ (extf (F := Ideal) (φ := .bf16) .f32 w bitsLt_bf16_f32) shapeCasts_S8x704x2048_S5632x2048
/-- The weight, transposed. -/
def wCols (w : Shards) : FVec Ideal S2048x5632 .f32 := transpose S2048x5632 [1, 0] (wRows w) transposes_S5632x2048_S2048x5632_1_0
/-- Rows as f32. -/
def rows (y : Rows) : FVec Ideal S4096x2048 .f32 := extf (F := Ideal) (φ := .bf16) .f32 y bitsLt_bf16_f32

/-- The reference's products with a weight of columns and with one of rows. -/
def rUp (y : Rows) (w : Shards) : FVec Ideal S4096x5632 .f32 := Host.dotGeneral dot_S4096x2048_S2048x5632_S4096x5632_1_0_0_1_n_n none (rows y) (wCols w)
def rDm (y : Rows) (w : Shards) : FVec Ideal S4096x5632 .f32 := Host.dotGeneral dot_S4096x2048_S5632x2048_S4096x5632_1_1_0_0_n_n none (rows y) (wRows w)
/-- The reference's one, everywhere. -/
def rOne : FVec Ideal S4096x5632 .f32 := broadcastInDim S4096x5632 ![] bcast_S_S4096x5632 (constant S_ .f32 0x3F800000#32)
/-- The reference's sigmoid, silu and their uses. -/
def rSig (g : FVec Ideal S4096x5632 .f32) : FVec Ideal S4096x5632 .f32 := Host.divf rOne (addf rOne (Host.exp (Host.negf g)))
def rAct (g u : FVec Ideal S4096x5632 .f32) : FVec Ideal S4096x5632 .f32 := mulf (mulf g (rSig g)) u
def rDup (dm g : FVec Ideal S4096x5632 .f32) : FVec Ideal S4096x5632 .f32 := mulf (mulf g (rSig g)) dm
def rDgate (dm g u : FVec Ideal S4096x5632 .f32) : FVec Ideal S4096x5632 .f32 :=
  addf (mulf (mulf dm u) (rSig g)) (mulf (mulf g (mulf dm u)) (mulf (rSig g) (subf rOne (rSig g))))
/-- The reference's weight gradients: those of the two first weights and that of the last. -/
def rDw (h : FVec Ideal S4096x5632 .f32) (y : Rows) : FVec Ideal S8x704x2048 .f32 :=
  shapeCast _ (transpose S5632x2048 [1, 0] (transpose S2048x5632 [1, 0] (Host.dotGeneral dot_S4096x5632_S4096x2048_S5632x2048_0_0_1_1_n_n none h (rows y))
    transposes_S5632x2048_S2048x5632_1_0) transposes_S2048x5632_S5632x2048_1_0) shapeCasts_S5632x2048_S8x704x2048
def rDwd (h : FVec Ideal S4096x5632 .f32) (y : Rows) : FVec Ideal S8x704x2048 .f32 :=
  shapeCast _ (transpose S5632x2048 [1, 0] (Host.dotGeneral dot_S4096x2048_S4096x5632_S2048x5632_0_0_1_1_n_n none (rows y) h)
    transposes_S2048x5632_S5632x2048_1_0) shapeCasts_S5632x2048_S8x704x2048
/-- The reference's product of a flat hidden array with a weight of columns. -/
def rDown (h : FVec Ideal S4096x5632 .f32) (w : Shards) : FVec Ideal S4096x2048 .f32 :=
  Host.dotGeneral dot_S4096x5632_S2048x5632_S4096x2048_1_1_0_0_n_n none h (wCols w)

/-- Position `f` of shard `k` of the flat axis. -/
theorem unflat (h : (⟨3, ![8, 4096, 704]⟩ : Shape).Idx → EReal) (k : Fin 8) (f : Fin 704) (s : Fin 4096) {h₁ h₂} :
    h (ix3 ⟨(k.val * 704 + f.val) / 704, h₁⟩ s ⟨(k.val * 704 + f.val) % 704, h₂⟩) = h (ix3 k s f) := by
  have e₁ : (⟨(k.val * 704 + f.val) / 704, h₁⟩ : Fin 8) = k := Fin.ext (by have := f.isLt; simp only; omega)
  have e₂ : (⟨(k.val * 704 + f.val) % 704, h₂⟩ : Fin 704) = f := Fin.ext (by have := f.isLt; simp only; omega)
  rw [e₁, e₂]
theorem unflat' (w : S8x704x2048.Idx → EReal) (k : Fin 8) (f : Fin 704) (d : Fin 2048) {h₁ h₂} :
    w (ix3 ⟨(k.val * 704 + f.val) / 704, h₁⟩ ⟨(k.val * 704 + f.val) % 704, h₂⟩ d) = w (ix3 k f d) := by
  have e₁ : (⟨(k.val * 704 + f.val) / 704, h₁⟩ : Fin 8) = k := Fin.ext (by have := f.isLt; simp only; omega)
  have e₂ : (⟨(k.val * 704 + f.val) % 704, h₂⟩ : Fin 704) = f := Fin.ext (by have := f.isLt; simp only; omega)
  rw [e₁, e₂]

theorem rUp_eq (y : Rows) (w : Shards) : rUp y w = flat (up y w) := by
  funext i
  idx_vars i
  pointwise [rUp, rows, wCols, wRows, flat, up]
theorem rDm_eq (y : Rows) (w : Shards) : rDm y w = flat (up y w) := by
  funext i
  idx_vars i
  pointwise [rDm, rows, wRows, flat, up]
theorem rAct_eq (g u : (⟨3, ![8, 4096, 704]⟩ : Shape).Idx → EReal) : rAct (flat g) (flat u) = flat (act g u) := by
  funext i
  idx_vars i
  pointwise [rAct, rSig, rOne, flat, act]
  rfl
theorem rDup_eq (dm g : (⟨3, ![8, 4096, 704]⟩ : Shape).Idx → EReal) : rDup (flat dm) (flat g) = flat (dup dm g) := by
  funext i
  idx_vars i
  pointwise [rDup, rSig, rOne, flat, dup]
  exact mul_comm _ _
theorem rDw_eq (h : (⟨3, ![8, 4096, 704]⟩ : Shape).Idx → EReal) (y : Rows) : rDw (flat h) y = dw h y := by
  funext i
  idx_vars i
  pointwise [rDw, rows, flat, dw]
  exact Finset.sum_congr rfl fun x _ => congrArg (· * _) (unflat h i0 i1 x)
theorem rDwd_eq (h : (⟨3, ![8, 4096, 704]⟩ : Shape).Idx → EReal) (y : Rows) : rDwd (flat h) y = dw h y := by
  funext i
  idx_vars i
  pointwise [rDwd, rows, flat, dw]
  exact Finset.sum_congr rfl fun x _ => (mul_comm _ _).trans (congrArg (· * _) (unflat h i0 i1 x))
theorem rDown_eq (h : (⟨3, ![8, 4096, 704]⟩ : Shape).Idx → EReal) (w : Shards) : rDown (flat h) w = down h w := by
  funext i
  idx_vars i
  pointwise [rDown, wCols, wRows, flat, down, part]
  rw [Fin.sum_univ_tiles 8 704 rfl]
  refine (Finset.sum_congr rfl fun k _ => Finset.sum_congr rfl fun f _ =>
    congrArg₂ (· * ·) (unflat h k f i0) (unflat' w k f i1)).trans ?_
  rw [Fin.sum_univ_eight]

/-- Every element is a real number. -/
def Real' {s : Shape} (x : s.Idx → EReal) : Prop := ∀ i, ∃ r : ℝ, x i = r

theorem sum_real {ι : Type*} (t : Finset ι) (f : ι → EReal) (h : ∀ i, ∃ r : ℝ, f i = r) : ∃ r : ℝ, ∑ i ∈ t, f i = r :=
  Finset.sum_induction f (fun x => ∃ r : ℝ, x = r) (fun _ _ ⟨a, ha⟩ ⟨b, hb⟩ => ⟨a + b, by rw [ha, hb, EReal.coe_add]⟩)
    ⟨0, rfl⟩ fun i _ => h i

theorem up_real {y : Rows} {w : Shards} (hy : Real' y) (hw : Real' w) : Real' (up y w) := fun i =>
  sum_real _ _ fun d => by
    obtain ⟨a, ha⟩ := hy (ix2 (i 1) d); obtain ⟨b, hb⟩ := hw (ix3 (i 0) (i 2) d)
    exact ⟨a * b, by rw [EReal.coe_mul]; exact congrArg₂ (· * ·) ha hb⟩

/-- The derivative of silu, the two ways: at real numbers the sum is factored. -/
theorem silu_back (dm g u : ℝ) :
    (dm : EReal) * u * Ideal.logistic g + g * (dm * u) * (Ideal.logistic g * (1 - Ideal.logistic g))
      = dm * u * (Ideal.logistic g + g * Ideal.logistic g * (1 - Ideal.logistic g)) := by
  rw [Ideal.logistic_coe, show (1 : EReal) = ((1 : ℝ) : EReal) from rfl]
  simp only [← EReal.coe_mul, ← EReal.coe_add, ← EReal.coe_sub]
  congr 1
  ring

theorem rDgate_eq {dm g u : (⟨3, ![8, 4096, 704]⟩ : Shape).Idx → EReal} (hdm : Real' dm) (hg : Real' g) (hu : Real' u) :
    rDgate (flat dm) (flat g) (flat u) = flat (dgate dm g u) := by
  funext i
  idx_vars i
  pointwise [rDgate, rSig, rOne, flat, dgate]
  obtain ⟨a, ha⟩ := hdm (ix3 ⟨i1.val / 704, by have := i1.isLt; omega⟩ i0 ⟨i1.val % 704, Nat.mod_lt _ (by decide)⟩)
  obtain ⟨b, hb⟩ := hg (ix3 ⟨i1.val / 704, by have := i1.isLt; omega⟩ i0 ⟨i1.val % 704, Nat.mod_lt _ (by decide)⟩)
  obtain ⟨d, hd⟩ := hu (ix3 ⟨i1.val / 704, by have := i1.isLt; omega⟩ i0 ⟨i1.val % 704, Nat.mod_lt _ (by decide)⟩)
  rw [ha, hb, hd]
  exact silu_back a b d

end Cert.Ffn

end
-- ==== Proof.Ffn.Finite.lean ====
/- The precondition read element by element: every entry of the five arguments is a real number. -/
module

public import proofs.«01_k».proof.Pre_ffn_finite
public import proofs.«01_k».proof.Proof.Ffn.Ref
public import Idealize.ShloMosaic.Lib.ReduceAll

@[expose] public section

set_option maxRecDepth 16384

noncomputable section

namespace Cert.Ffn

open Idealize.ShloMosaic Cert.Pre_ffn_finite

/-- The shape relations the precondition states. -/
theorem pre_facts : Cert.Pre_ffn_finite.Facts where
  bcast_S_S4096x2048 := by decide
  reducesTo_S4096x2048_S_d0_1 := by decide
  h_S_ := by decide
  bcast_S_S8x704x2048 := by decide
  reducesTo_S8x704x2048_S_d0_1_2 := by decide

theorem inf_bf16 : Ideal.ofBits .bf16 0x7F80#16 = ⊤ := by simp [Ideal.ofBits, Ideal.ieee]

theorem real_of_abs_lt {x : EReal} (h : max x (-x) < ⊤) : ∃ r : ℝ, x = r := by
  induction x with
  | bot => simp at h
  | top => simp at h
  | coe r => exact ⟨r, rfl⟩

theorem all_real {s : Shape} (x : FVec Ideal s .bf16) {axes : List (Fin s.rank)} (hb : S_.BroadcastsInDim s (![] : Fin 0 → Fin s.rank))
    (h : s.ReducesTo axes S_) (hu : 0 < S_.numel)
    (e : Host.reduce IntOp.andi (cmpf .olt (Host.absf x) (broadcastInDim s ![] hb (constant S_ .bf16 0x7F80#16))) (constantI S_ 1 1#1) h hu
      (Shape.Idx.first hu) = 1#1) : Real' x := by
  intro i
  haveI : Subsingleton S_.Idx := ⟨fun a b => funext fun j => j.elim0⟩
  have := Host.reduce_andi_all _ _ h hu _ e i
  pointwise at this
  rw [inf_bf16] at this
  refine real_of_abs_lt (of_decide_eq_true ?_)
  cases hd : decide (max (x i) (-(x i)) < ⊤)
  · exact absurd (this.symm.trans (congrArg BitVec.ofBool hd)) (by decide)
  · rfl

/-- A conjunction of two bits that is 1. -/
theorem and_one : ∀ a b : BitVec 1, IntOp.andi a b = 1#1 → a = 1#1 ∧ b = 1#1 := by decide

/-- The precondition gives a real number at every entry of the five arguments. -/
theorem args_real [Cert.Pre_ffn_finite.Facts] {a0 a1 : FVec Ideal S4096x2048 .bf16} {a2 a3 a4 : FVec Ideal S8x704x2048 .bf16}
    (h : Cert.Pre_ffn_finite.fn (F := Ideal) a0 a1 a2 a3 a4 = fun _ => 1#1) :
    Real' a0 ∧ Real' a1 ∧ Real' a2 ∧ Real' a3 ∧ Real' a4 := by
  have e := congrFun h (Shape.Idx.first Facts.h_S_)
  simp only [fn, fn_part1] at e
  obtain ⟨e, e4⟩ := and_one _ _ e
  obtain ⟨e, e3⟩ := and_one _ _ e
  obtain ⟨e, e2⟩ := and_one _ _ e
  obtain ⟨e0, e1⟩ := and_one _ _ e
  exact ⟨all_real _ _ _ _ e0, all_real _ _ _ _ e1, all_real _ _ _ _ e2, all_real _ _ _ _ e3, all_real _ _ _ _ e4⟩

end Cert.Ffn

end
-- ==== Proof.Ffn.Claims.lean ====
/- The five claims about the feed-forward program. -/
module

public import proofs.«01_k».proof.Defs
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Ffn.Run
public import proofs.«01_k».proof.Proof.Ffn.Chain
public import proofs.«01_k».proof.Proof.Ffn.Finite
public import Idealize.ShloMosaic.Adequacy
public import Idealize.ShloMosaic.Init

@[expose] public section

set_option maxRecDepth 16384

noncomputable section

namespace Cert.Ffn

open Idealize.ShloMosaic Idealize.ShloMosaic.Tactic Idealize.SL.Sem

attribute [local instance] pre_facts

theorem frame_kernel2_ideal : Cert.quiescent_Kernel2Ideal := fun m ρ _ =>
  (θ_run Cert.Kernel2Ideal.defs _ _).mono (fun _ h => ⟨fun c => (h.1 c).2, h.2⟩) (run_main (F := Ideal) m ρ)

set_option maxHeartbeats 4000000 in
theorem frame_kernel2 : Cert.quiescent_Kernel2 := fun m ρ _ => by
  have h := (θ_run Cert.Kernel2Ideal.defs _ _).mono (fun r h => And.intro (fun c => (h.1 c).2) h.2) (run_main (F := Bits) m ρ)
  refine cast ?_ h
  sl_kernel_rfl

set_option maxHeartbeats 4000000 in
theorem frame_reference2 : Cert.quiescent_Reference2Ideal := fun m ρ _ => by
  refine (θ_run Cert.Reference2Ideal.defs _ _).mono ?_ (Cert.Reference2Ideal.Value.run m ρ)
  intro r h
  exact ⟨fun c => (h c).2.2.2.2, sem_eq_zero_of_no_sems (by decide) r.2⟩

section Results

open Cert.Reference2Ideal

variable (a0 a1 : S4096x2048.Idx → EReal) (a2 a3 a4 : S8x704x2048.Idx → EReal)

/-- The reference's four results, where its arguments are real numbers. -/
theorem ref_dwd : rDwd (rAct (rUp a1 a2) (rUp a1 a3)) a0 = dw (act (up a1 a2) (up a1 a3)) a0 := by
  rw [rUp_eq, rUp_eq, rAct_eq, rDwd_eq]
theorem ref_dwu : rDw (rDup (rDm a0 a4) (rUp a1 a2)) a1 = dw (dup (up a0 a4) (up a1 a2)) a1 := by
  rw [rUp_eq, rDm_eq, rDup_eq, rDw_eq]
variable {a0 a1 a2 a3 a4} (h0 : Real' a0) (h1 : Real' a1) (h2 : Real' a2) (h3 : Real' a3) (h4 : Real' a4)
include h0 h1 h2 h3 h4
theorem ref_dwg : rDw (rDgate (rDm a0 a4) (rUp a1 a2) (rUp a1 a3)) a1 = dw (dgate (up a0 a4) (up a1 a2) (up a1 a3)) a1 := by
  rw [rUp_eq, rUp_eq, rDm_eq, rDgate_eq (up_real h0 h4) (up_real h1 h2) (up_real h1 h3), rDw_eq]
theorem ref_dy : addf (F := Ideal) (φ := .f32) (rDown (rDup (rDm a0 a4) (rUp a1 a2)) a3) (rDown (rDgate (rDm a0 a4) (rUp a1 a2) (rUp a1 a3)) a2)
    = sum2 (down (dgate (up a0 a4) (up a1 a2) (up a1 a3)) a2) (down (dup (up a0 a4) (up a1 a2)) a3) := by
  rw [rUp_eq, rUp_eq, rDm_eq, rDgate_eq (up_real h0 h4) (up_real h1 h2) (up_real h1 h3), rDup_eq, rDown_eq, rDown_eq]
  funext i
  exact add_comm _ _

end Results

theorem algebraic2 : Cert.algebraic_Kernel2Ideal_Reference2Ideal_pre_ffn_finite := fun m g m' g' hpre hag =>
  ⟨fun c => Cert.Kernel2Ideal.Gen.V7 m g c Cert.Kernel2Ideal.main_v6, fun c => Cert.Kernel2Ideal.Gen.V7 m g c Cert.Kernel2Ideal.main_v3,
   fun c => Cert.Kernel2Ideal.Gen.V7 m g c Cert.Kernel2Ideal.main_v4, fun c => Cert.Kernel2Ideal.Gen.V7 m g c Cert.Kernel2Ideal.main_v2,
   (θ_run Cert.Kernel2Ideal.defs _ _).mono (fun _ h c => by
     obtain ⟨⟨r0, r1, r2, r3⟩, u⟩ := h.1 c
     exact ⟨r0, r1, r2, r3, u⟩) (run_main (F := Ideal) m g),
   (θ_run Cert.Reference2Ideal.defs _ _).mono (fun _ h c => by
     obtain ⟨r0, r1, r2, r3, u⟩ := h c
     obtain ⟨e0, e1, e2, e3, e4⟩ := hag c
     obtain ⟨h0, h1, h2, h3, h4⟩ := args_real (hpre c)
     refine ⟨r0.trans ?_, r1.trans ?_, r2.trans ?_, r3.trans ?_, u⟩
     · refine Eq.trans ?_ ((ref_dy h0 h1 h2 h3 h4).trans (res_dy m g c).symm)
       unfold Cert.Reference2Ideal.Value.res_main_v27
       rw [e0, e1, e2, e3, e4]
       rfl
     · refine Eq.trans ?_ ((ref_dwg h0 h1 h2 h3 h4).trans (res_dwg m g c).symm)
       rw [e0, e1, e2, e3, e4]
       rfl
     · refine Eq.trans ?_ ((ref_dwu _ _ _ _).trans (res_dwu m g c).symm)
       rw [e0, e1, e2, e4]
       rfl
     · refine Eq.trans ?_ ((ref_dwd _ _ _ _).trans (res_dwd m g c).symm)
       rw [e0, e1, e2, e3]
       rfl) (Cert.Reference2Ideal.Value.run m' g')⟩

end Cert.Ffn

end
-- ==== Proof.In.Run.lean ====
/- The input projection program's run: every buffer it leaves, at any float values, and at the ideal values each result as a
   function of the arguments. -/
module

public import proofs.«01_k».proof.Proof.Gen.Kernel3Ideal.Frame

@[expose] public section

set_option maxRecDepth 16384

noncomputable section

namespace Cert.In

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program ends, faulting nowhere, with every buffer outside a call at the contents of the last boundary and with
    every counter at zero. -/
theorem run_all : θ_run defs (onTc (τ := τ) (main (F := F))) ⟨m, fun _ => 0, ρ⟩ (fun r =>
    (∀ c : Dev nD, ∀ b ∈ Pipeline.ucRefs τ sig, r.2.mem ((c : Thread nD τ).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨fun c b hb => h c b hb, funext fun g => hz g (.inr (no_unscoped g.2))⟩)

/-- The same run: the four results at the last boundary's contents, the arguments as launched. -/
theorem run_main : θ_run defs (onTc (τ := τ) (main (F := F))) ⟨m, fun _ => 0, ρ⟩ (fun r =>
    (∀ c : Dev nD,
      (r.2.mem ((c.tc : Thread nD τ).loc main_v2) = V5 m ρ c main_v2
      ∧ r.2.mem ((c.tc : Thread nD τ).loc main_v4_0) = V5 m ρ c main_v4_0
      ∧ r.2.mem ((c.tc : Thread nD τ).loc main_v4_1) = V5 m ρ c main_v4_1
      ∧ r.2.mem ((c.tc : Thread nD τ).loc main_v3) = V5 m ρ c main_v3)
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))) ∧ r.2.sem = fun _ => 0) :=
  (θ_run defs _ _).mono (fun r h => ⟨fun c =>
    ⟨⟨h.1 c _ (mem_uc main_v2 (by decide)), h.1 c _ (mem_uc main_v4_0 (by decide)), h.1 c _ (mem_uc main_v4_1 (by decide)), h.1 c _ (mem_uc main_v3 (by decide))⟩,
     (h.1 c _ (mem_uc main_arg0 (by decide))).trans (W5_main_arg0 m ρ c),
     (h.1 c _ (mem_uc main_arg1 (by decide))).trans (W5_main_arg1 m ρ c),
     (h.1 c _ (mem_uc main_arg2 (by decide))).trans (W5_main_arg2 m ρ c),
     (h.1 c _ (mem_uc main_arg3 (by decide))).trans (W5_main_arg3 m ρ c),
     (h.1 c _ (mem_uc main_arg4 (by decide))).trans (W5_main_arg4 m ρ c)⟩, h.2⟩) (run_all m ρ)

end Cert.In

end
-- ==== Proof.In.Math.lean ====
/- The norm before the mixers, their input projection and the derivatives of both, element by element, over the extended reals:
   the arrays that the kernel's four calls leave, as functions of the arrays they read. The gradient at the projection's
   result has its eight shards side by side; a weight holds shard, row and position in the shard. -/
module

public import proofs.«01_k».proof.Proof.Gen.Kernel3Ideal
public import Idealize.ShloMosaic.Lib.Pointwise

@[expose] public section

noncomputable section

namespace Cert.In

open Cert.Kernel3Ideal Idealize.ShloMosaic

/-- Rows of activations. -/
local notation "Rows" => (S4096x2048.Idx → EReal)
/-- The norm's gain. -/
local notation "Gain" => (S1x2048.Idx → EReal)
/-- Rows of the projection's result. -/
local notation "Wide" => (S4096x4096.Idx → EReal)
/-- A weight, or its gradient, by shards. -/
local notation "Shards" => (S8x2048x512.Idx → EReal)

/-- Position `f` of shard `k`. -/
def at8 (k : Fin 8) (f : Fin 512) : Fin 4096 := ⟨k.val * 512 + f.val, by have := k.isLt; have := f.isLt; omega⟩

/-- The mean of a row. -/
def mean (f : Fin 2048 → EReal) : EReal := Ideal.div (∑ d, f d) (Ideal.ofBits FTy.f32 0x45000000#32)
/-- A row's mean square, and what the norm adds. -/
def var (h : Rows) (s : Fin 4096) : EReal := mean (fun d => h (ix2 s d) * h (ix2 s d)) + Ideal.ofBits FTy.f32 0x358637BD#32
/-- One over a row's length. -/
def inv (h : Rows) (s : Fin 4096) : EReal := Ideal.rsqrt (var h s)
/-- The rows at length one. -/
def unit (h : Rows) : Rows := fun i => h i * inv h (i 0)
/-- The normed rows. -/
def nrm (h : Rows) (g : Gain) : Rows := fun i => unit h i * g (ix2 0 (i 1))

/-- The shard of a position, and the position in it. -/
def shardOf (j : Fin 4096) : Fin 8 := ⟨j.val / 512, by have := j.isLt; omega⟩
def posOf (j : Fin 4096) : Fin 512 := ⟨j.val % 512, by omega⟩

/-- The projection. -/
def proj (y : Rows) (w : Shards) : Wide := fun i => ∑ d : Fin 2048, y (ix2 (i 0) d) * w (ix3 (shardOf (i 1)) d (posOf (i 1)))

/-- The gradient of the weight. -/
def dw (y : Rows) (z : Wide) : Shards := fun i => ∑ s : Fin 4096, y (ix2 s (i 1)) * z (ix2 s (at8 (i 0) (i 2)))

/-- One shard's part of the gradient at the normed rows. -/
def part (z : Wide) (w : Shards) (k : Fin 8) : Rows := fun i => ∑ f : Fin 512, z (ix2 (i 0) (at8 k f)) * w (ix3 k (i 1) f)
/-- The gradient at the normed rows, shard after shard. -/
def dy (z : Wide) (w : Shards) : Rows := fun i =>
  part z w 0 i + part z w 1 i + part z w 2 i + part z w 3 i + part z w 4 i + part z w 5 i + part z w 6 i + part z w 7 i
/-- The gradient at the rows of length one. -/
def dunit (z : Wide) (w : Shards) (g : Gain) : Rows := fun i => dy z w i * g (ix2 0 (i 1))
/-- The gradient at the norm's argument, added to what arrives beside it. -/
def dh (z : Wide) (w : Shards) (h : Rows) (g : Gain) (p : Rows) : Rows := fun i =>
  p i + inv h (i 0) * (dunit z w g i - unit h i * mean fun d => dunit z w g (ix2 (i 0) d) * unit h (ix2 (i 0) d))
/-- The gradient of the gain. -/
def dgain (z : Wide) (w : Shards) (h : Rows) : Gain := fun i => ∑ s : Fin 4096, dy z w (ix2 s (i 1)) * unit h (ix2 s (i 1))

end Cert.In

end
-- ==== Proof.In.Dw.lean ====
/- The normed rows, their projection and the gradient of the mixers' input weight, as the arrays that their calls leave. -/
module

public import proofs.«01_k».proof.Proof.Gen.Kernel3Ideal.Frame
public import proofs.«01_k».proof.Proof.In.Math
public import Idealize.ShloMosaic.Lib.Pipeline.ValueKit

@[expose] public section

set_option maxRecDepth 16384

noncomputable section

namespace Cert.In

open Cert.Kernel3Ideal Cert.Kernel3Ideal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The blocks at each grid point: a tile of rows, and the whole gain. -/
theorem idx0 (t : Fin cfg0.N) : win0_0.index t = ![t.val, 0] ∧ win0_1.index t = ![0, 0] ∧ win0_2.index t = ![t.val, 0] := by
  revert t; decide +kernel

/-- The normed rows. -/
theorem nrm_arr (c : Dev nD) : (dat0 (F := Ideal) V c).arrAt 2 cfg0.N = nrm (V c main_arg2) (V c main_v0) := by
  refine (dat0 (F := Ideal) V c).arrAt_eq_of_covers 2 _ (by decide +kernel) fun t hf y => ?_
  have e := idx0 t
  blk_simp
  rw [after0_2]
  frame_out
  idx_vars y
  pointwise [k0_pay1, nrm, unit, inv, var, mean]
  reads_congr
  all_goals first
    | (refine congrArg (V c main_arg2) (?_ : (_ : S4096x2048.Idx) = _); blk_ext [e])
    | (refine congrArg (V c main_v0) (?_ : (_ : S1x2048.Idx) = _); blk_ext [e])

/-- The blocks at each grid point: a tile of rows and a shard. -/
theorem idx1 (t : Fin cfg1.N) : win1_0.index t = ![t.val / 8, 0] ∧ win1_1.index t = ![t.val % 8, 0, 0]
    ∧ win1_2.index t = ![t.val / 8, t.val % 8] := by
  revert t; decide +kernel

/-- The projection's result. -/
theorem proj_arr (c : Dev nD) : (dat1 (F := Ideal) V c).arrAt 2 cfg1.N = proj (V c main_v1) (V c main_arg4) := by
  refine (dat1 (F := Ideal) V c).arrAt_eq_of_covers 2 _ (by decide +kernel) fun t hf y => ?_
  have e := idx1 t
  blk_simp
  rw [after1_2]
  frame_out
  idx_vars y
  pointwise [k1_pay1, proj]
  reads_congr
  · refine congrArg (V c main_v1) (?_ : (_ : S4096x2048.Idx) = _)
    blk_ext [e]
  · refine congrArg (V c main_arg4) (?_ : (_ : S8x2048x512.Idx) = _)
    blk_ext [e, shardOf, posOf]

/-- The blocks at each grid point: a tile of columns and a shard. -/
theorem idx2 (t : Fin cfg2.N) : win2_0.index t = ![0, t.val / 8] ∧ win2_1.index t = ![0, t.val % 8]
    ∧ win2_2.index t = ![t.val % 8, t.val / 8, 0] := by
  revert t; decide +kernel

/-- The weight's gradient: the normed rows against the gradient at the projection's result. -/
theorem dw_arr (c : Dev nD) : (dat2 (F := Ideal) V c).arrAt 2 cfg2.N = dw (V c main_v1) (V c main_arg0) := by
  refine (dat2 (F := Ideal) V c).arrAt_eq_of_covers 2 _ (by decide +kernel) fun t hf y => ?_
  have e := idx2 t
  blk_simp
  rw [after2_2]
  frame_out
  idx_vars y
  pointwise [k2_pay1, dw]
  reads_congr
  · refine congrArg (V c main_v1) (?_ : (_ : S4096x2048.Idx) = _)
    blk_ext [e]
  · refine congrArg (V c main_arg0) (?_ : (_ : S4096x4096.Idx) = _)
    blk_ext [e, at8]

end Cert.In

end
-- ==== Proof.In.Dx.lean ====
/- The gradient at the norm's argument and that of its gain, as the arrays that their call leaves. -/
module

public import proofs.«01_k».proof.Proof.Gen.Kernel3Ideal.Frame
public import proofs.«01_k».proof.Proof.In.Math
public import Idealize.ShloMosaic.Lib.Pipeline.ValueKit

@[expose] public section

set_option maxRecDepth 16384
set_option maxHeartbeats 4000000

noncomputable section

namespace Cert.In

open Cert.Kernel3Ideal Cert.Kernel3Ideal.Gen Idealize.ShloMosaic Idealize.ShloMosaic.TcCoe Idealize.SL.Sem
open Idealize.ShloMosaic.Pipeline (Dat)

section Block

variable (x0 : Vec Ideal S256x4096 .bf16) (x1 : Vec Ideal S8x2048x512 .bf16) (x2 : Vec Ideal S256x2048 .f32)
  (x3 : Vec Ideal S1x2048 .f32) (x4 : Vec Ideal S256x2048 .f32)
  (v0 v3 v6 v9 v12 v15 v18 v21 : Vec Ideal S256x512 .bf16) (v2 v5 v8 v11 v14 v17 v20 : FVec Ideal S2048x512 .bf16) (v22 : Vec Ideal S1x2048x512 .bf16)

/-- A block's part of the gradient at the normed rows. -/
def bpart (k : Fin 8) (i : Fin 256) (j : Fin 2048) : EReal := ∑ f : Fin 512, x0 (ix2 i (at8 k f)) * x1 (ix3 k j f)
/-- The gradient at a block's normed rows. -/
def bdy (i : Fin 256) (j : Fin 2048) : EReal :=
  bpart x0 x1 0 i j + bpart x0 x1 1 i j + bpart x0 x1 2 i j + bpart x0 x1 3 i j + bpart x0 x1 4 i j + bpart x0 x1 5 i j
    + bpart x0 x1 6 i j + bpart x0 x1 7 i j
/-- One over a row's length, in a block. -/
def binv (i : Fin 256) : EReal :=
  Ideal.rsqrt (mean (fun d => x2 (ix2 i d) * x2 (ix2 i d)) + Ideal.ofBits FTy.f32 0x358637BD#32)
/-- The gradient at the norm's argument, in a block. -/
def bdh (i : Fin 256) (j : Fin 2048) : EReal :=
  x4 (ix2 i j) + binv x2 i * (bdy x0 x1 i j * x3 (ix2 0 j) - x2 (ix2 i j) * binv x2 i *
    mean fun d => bdy x0 x1 i d * x3 (ix2 0 d) * (x2 (ix2 i d) * binv x2 i))
/-- A block's part of the gradient of the gain. -/
def bdg (j : Fin 2048) : EReal := ∑ i : Fin 256, bdy x0 x1 i j * (x2 (ix2 i j) * binv x2 i)

/-- The eight products that the body chains. -/
abbrev chain : FVec Ideal S256x2048 .f32 :=
  k3_pay11 (View.ld x0 (Rect.unit ![0, 0] ![256, 512] inb_S256x4096_S256x512_0_0)) (k3_pay4 (View.ld x1 (Rect.unit ![0, 0, 0] ![1, 2048, 512] inb_S8x2048x512_S1x2048x512_0_0_0)))
    (View.ld x0 (Rect.unit ![0, 512] ![256, 512] inb_S256x4096_S256x512_0_512)) (k3_pay5 (View.ld x1 (Rect.unit ![1, 0, 0] ![1, 2048, 512] inb_S8x2048x512_S1x2048x512_1_0_0)))
    (View.ld x0 (Rect.unit ![0, 1024] ![256, 512] inb_S256x4096_S256x512_0_1024)) (k3_pay6 (View.ld x1 (Rect.unit ![2, 0, 0] ![1, 2048, 512] inb_S8x2048x512_S1x2048x512_2_0_0)))
    (View.ld x0 (Rect.unit ![0, 1536] ![256, 512] inb_S256x4096_S256x512_0_1536)) (k3_pay7 (View.ld x1 (Rect.unit ![3, 0, 0] ![1, 2048, 512] inb_S8x2048x512_S1x2048x512_3_0_0)))
    (View.ld x0 (Rect.unit ![0, 2048] ![256, 512] inb_S256x4096_S256x512_0_2048)) (k3_pay8 (View.ld x1 (Rect.unit ![4, 0, 0] ![1, 2048, 512] inb_S8x2048x512_S1x2048x512_4_0_0)))
    (View.ld x0 (Rect.unit ![0, 2560] ![256, 512] inb_S256x4096_S256x512_0_2560)) (k3_pay9 (View.ld x1 (Rect.unit ![5, 0, 0] ![1, 2048, 512] inb_S8x2048x512_S1x2048x512_5_0_0)))
    (View.ld x0 (Rect.unit ![0, 3072] ![256, 512] inb_S256x4096_S256x512_0_3072)) (k3_pay10 (View.ld x1 (Rect.unit ![6, 0, 0] ![1, 2048, 512] inb_S8x2048x512_S1x2048x512_6_0_0)))
    (View.ld x0 (Rect.unit ![0, 3584] ![256, 512] inb_S256x4096_S256x512_0_3584)) (View.ld x1 (Rect.unit ![7, 0, 0] ![1, 2048, 512] inb_S8x2048x512_S1x2048x512_7_0_0))
abbrev chainG : FVec Ideal S256x2048 .f32 :=
  k3_pay14 (View.ld x0 (Rect.unit ![0, 0] ![256, 512] inb_S256x4096_S256x512_0_0)) (k3_pay4 (View.ld x1 (Rect.unit ![0, 0, 0] ![1, 2048, 512] inb_S8x2048x512_S1x2048x512_0_0_0)))
    (View.ld x0 (Rect.unit ![0, 512] ![256, 512] inb_S256x4096_S256x512_0_512)) (k3_pay5 (View.ld x1 (Rect.unit ![1, 0, 0] ![1, 2048, 512] inb_S8x2048x512_S1x2048x512_1_0_0)))
    (View.ld x0 (Rect.unit ![0, 1024] ![256, 512] inb_S256x4096_S256x512_0_1024)) (k3_pay6 (View.ld x1 (Rect.unit ![2, 0, 0] ![1, 2048, 512] inb_S8x2048x512_S1x2048x512_2_0_0)))
    (View.ld x0 (Rect.unit ![0, 1536] ![256, 512] inb_S256x4096_S256x512_0_1536)) (k3_pay7 (View.ld x1 (Rect.unit ![3, 0, 0] ![1, 2048, 512] inb_S8x2048x512_S1x2048x512_3_0_0)))
    (View.ld x0 (Rect.unit ![0, 2048] ![256, 512] inb_S256x4096_S256x512_0_2048)) (k3_pay8 (View.ld x1 (Rect.unit ![4, 0, 0] ![1, 2048, 512] inb_S8x2048x512_S1x2048x512_4_0_0)))
    (View.ld x0 (Rect.unit ![0, 2560] ![256, 512] inb_S256x4096_S256x512_0_2560)) (k3_pay9 (View.ld x1 (Rect.unit ![5, 0, 0] ![1, 2048, 512] inb_S8x2048x512_S1x2048x512_5_0_0)))
    (View.ld x0 (Rect.unit ![0, 3072] ![256, 512] inb_S256x4096_S256x512_0_3072)) (k3_pay10 (View.ld x1 (Rect.unit ![6, 0, 0] ![1, 2048, 512] inb_S8x2048x512_S1x2048x512_6_0_0)))
    (View.ld x0 (Rect.unit ![0, 3584] ![256, 512] inb_S256x4096_S256x512_0_3584)) (View.ld x1 (Rect.unit ![7, 0, 0] ![1, 2048, 512] inb_S8x2048x512_S1x2048x512_7_0_0)) x3
abbrev chainM : FVec Ideal S256x1 .f32 :=
  k3_pay15 (View.ld x0 (Rect.unit ![0, 0] ![256, 512] inb_S256x4096_S256x512_0_0)) (k3_pay4 (View.ld x1 (Rect.unit ![0, 0, 0] ![1, 2048, 512] inb_S8x2048x512_S1x2048x512_0_0_0)))
    (View.ld x0 (Rect.unit ![0, 512] ![256, 512] inb_S256x4096_S256x512_0_512)) (k3_pay5 (View.ld x1 (Rect.unit ![1, 0, 0] ![1, 2048, 512] inb_S8x2048x512_S1x2048x512_1_0_0)))
    (View.ld x0 (Rect.unit ![0, 1024] ![256, 512] inb_S256x4096_S256x512_0_1024)) (k3_pay6 (View.ld x1 (Rect.unit ![2, 0, 0] ![1, 2048, 512] inb_S8x2048x512_S1x2048x512_2_0_0)))
    (View.ld x0 (Rect.unit ![0, 1536] ![256, 512] inb_S256x4096_S256x512_0_1536)) (k3_pay7 (View.ld x1 (Rect.unit ![3, 0, 0] ![1, 2048, 512] inb_S8x2048x512_S1x2048x512_3_0_0)))
    (View.ld x0 (Rect.unit ![0, 2048] ![256, 512] inb_S256x4096_S256x512_0_2048)) (k3_pay8 (View.ld x1 (Rect.unit ![4, 0, 0] ![1, 2048, 512] inb_S8x2048x512_S1x2048x512_4_0_0)))
    (View.ld x0 (Rect.unit ![0, 2560] ![256, 512] inb_S256x4096_S256x512_0_2560)) (k3_pay9 (View.ld x1 (Rect.unit ![5, 0, 0] ![1, 2048, 512] inb_S8x2048x512_S1x2048x512_5_0_0)))
    (View.ld x0 (Rect.unit ![0, 3072] ![256, 512] inb_S256x4096_S256x512_0_3072)) (k3_pay10 (View.ld x1 (Rect.unit ![6, 0, 0] ![1, 2048, 512] inb_S8x2048x512_S1x2048x512_6_0_0)))
    (View.ld x0 (Rect.unit ![0, 3584] ![256, 512] inb_S256x4096_S256x512_0_3584)) (View.ld x1 (Rect.unit ![7, 0, 0] ![1, 2048, 512] inb_S8x2048x512_S1x2048x512_7_0_0)) x2 x3

theorem chain_apply (i : Fin 256) (j : Fin 2048) : chain x0 x1 (ix2 i j) = bdy x0 x1 i j := by
  pointwise [k3_pay11, k3_pay4, k3_pay5, k3_pay6, k3_pay7, k3_pay8, k3_pay9, k3_pay10, bdy, bpart]
  reads_congr
  all_goals first
    | (refine congrArg x0 (?_ : (_ : S256x4096.Idx) = _); blk_ext [at8])
    | (refine congrArg x1 (?_ : (_ : S8x2048x512.Idx) = _); blk_ext)

theorem pay12_apply (i : Fin 256) (j : Fin 1) : k3_pay12 x2 (ix2 i j) = binv x2 i := by
  pointwise [k3_pay12, binv, mean]
theorem pay13_apply (i : Fin 256) (j : Fin 2048) : k3_pay13 x2 (ix2 i j) = x2 (ix2 i j) * binv x2 i := by
  rw [← pay12_apply x2 i 0]
  pointwise [k3_pay13]
theorem pay14_apply (i : Fin 256) (j : Fin 2048) : k3_pay14 v0 v2 v3 v5 v6 v8 v9 v11 v12 v14 v15 v17 v18 v20 v21 v22 x3 (ix2 i j) = k3_pay11 v0 v2 v3 v5 v6 v8 v9 v11 v12 v14 v15 v17 v18 v20 v21 v22 (ix2 i j) * x3 (ix2 0 j) := by
  pointwise [k3_pay14]
theorem pay15_apply (i : Fin 256) (j : Fin 1) : k3_pay15 v0 v2 v3 v5 v6 v8 v9 v11 v12 v14 v15 v17 v18 v20 v21 v22 x2 x3 (ix2 i j)
    = mean fun d => k3_pay14 v0 v2 v3 v5 v6 v8 v9 v11 v12 v14 v15 v17 v18 v20 v21 v22 x3 (ix2 i d) * k3_pay13 x2 (ix2 i d) := by
  pointwise [k3_pay15, mean]
theorem pay1_apply (p : Vec Ideal S256x2048 .f32) (a b : FVec Ideal S256x1 .f32) (u g : FVec Ideal S256x2048 .f32) (i : Fin 256) (j : Fin 2048) :
    k3_pay1 p a u g b (ix2 i j) = p (ix2 i j) + a (ix2 i 0) * (g (ix2 i j) - u (ix2 i j) * b (ix2 i 0)) := by
  pointwise [k3_pay1]
theorem pay3_apply (y u : FVec Ideal S256x2048 .f32) (o : Vec Ideal S1x2048 .f32) (j : Fin 2048) :
    k3_pay3 y u o (ix2 0 j) = o (ix2 0 j) + ∑ i : Fin 256, y (ix2 i j) * u (ix2 i j) := by
  pointwise [k3_pay3]
theorem pay2_apply (j : Fin 2048) : k3_pay2 (F := Ideal) (ix2 0 j) = 0 := by
  pointwise [k3_pay2]

theorem chainG_apply (i : Fin 256) (j : Fin 2048) : chainG x0 x1 x3 (ix2 i j) = bdy x0 x1 i j * x3 (ix2 0 j) :=
  (pay14_apply ..).trans (congrArg (· * _) (chain_apply x0 x1 i j))
theorem chainM_apply (i : Fin 256) (j : Fin 1) : chainM x0 x1 x2 x3 (ix2 i j)
    = mean fun d => bdy x0 x1 i d * x3 (ix2 0 d) * (x2 (ix2 i d) * binv x2 i) :=
  (pay15_apply ..).trans (congrArg mean (funext fun d => congrArg₂ (· * ·) (chainG_apply x0 x1 x3 i d) (pay13_apply x2 i d)))

theorem dh_apply (i : Fin 256) (j : Fin 2048) :
    k3_pay1 x4 (k3_pay12 x2) (k3_pay13 x2) (chainG x0 x1 x3) (chainM x0 x1 x2 x3) (ix2 i j) = bdh x0 x1 x2 x3 x4 i j := by
  rw [pay1_apply, pay12_apply, pay13_apply, chainG_apply, chainM_apply, bdh]
theorem dg_apply (o : Vec Ideal S1x2048 .f32) (j : Fin 2048) :
    k3_pay3 (chain x0 x1) (k3_pay13 x2) o (ix2 0 j) = o (ix2 0 j) + bdg x0 x1 x2 j := by
  rw [pay3_apply]
  exact congrArg (o (ix2 0 j) + ·) (Finset.sum_congr rfl fun i _ => by rw [chain_apply, pay13_apply])

end Block

variable (V : (c : Dev nD) → (b : Ref sig .tc) → Buf (Elt Ideal) ((c : Thread nD τ).loc b))

/-- What a grid point leaves in the rows' block. -/
theorem out_dh (c : Dev nD) (t : Fin cfg3.N) (i : Fin 256) (j : Fin 2048) : (outsAt3 (F := Ideal) V c t.val t.isLt).1 (ix2 i j)
    = bdh (iblk3 V c 0 t) (iblk3 V c 1 t) (iblk3 V c 2 t) (iblk3 V c 3 t) (iblk3 V c 4 t) i j := by
  by_cases h : t.val % 16 = 0
  · rw [outsAt3_A V c t h]
    frame_out
    exact dh_apply _ _ _ _ _ i j
  · rw [outsAt3_B V c t h]
    frame_out
    exact dh_apply _ _ _ _ _ i j
/-- What the first and the later points leave in the gain's. -/
theorem out_dgA (c : Dev nD) (t : Fin cfg3.N) (h : t.val % 16 = 0) (j : Fin 2048) : (outsAt3 (F := Ideal) V c t.val t.isLt).2 (ix2 0 j)
    = 0 + bdg (iblk3 V c 0 t) (iblk3 V c 1 t) (iblk3 V c 2 t) j := by
  rw [outsAt3_A V c t h]
  frame_out
  exact (dg_apply _ _ _ _ j).trans (congrArg (· + _) (pay2_apply j))
theorem out_dgB (c : Dev nD) (t : Fin cfg3.N) (h : ¬t.val % 16 = 0) (j : Fin 2048) : (outsAt3 (F := Ideal) V c t.val t.isLt).2 (ix2 0 j)
    = (outsAt3 (F := Ideal) V c (t.val - 1) (Nat.lt_of_le_of_lt (Nat.sub_le _ _) t.isLt)).2 (ix2 0 j)
      + bdg (iblk3 V c 0 t) (iblk3 V c 1 t) (iblk3 V c 2 t) j := by
  rw [outsAt3_B V c t h]
  frame_out
  exact dg_apply _ _ _ _ j

/-- The blocks at each grid point: a tile of rows, and the whole of the weight, the gain and its gradient. -/
theorem idx3 (t : Fin cfg3.N) : win3_0.index t = ![t.val, 0] ∧ win3_1.index t = ![0, 0, 0] ∧ win3_2.index t = ![t.val, 0]
    ∧ win3_3.index t = ![0, 0] ∧ win3_4.index t = ![t.val, 0] ∧ win3_5.index t = ![t.val, 0] := by
  revert t; decide +kernel

/-- Row `i` of tile `t`. -/
def trow (t : Fin 16) (i : Fin 256) : Fin 4096 := ⟨t.val * 256 + i.val, by have := t.isLt; have := i.isLt; omega⟩
def tile (t : Fin cfg3.N) : Fin 16 := ⟨t.val, lt_of_lt_of_eq t.isLt (show cfg3.N = 16 from N_3)⟩

theorem blk_z (c : Dev nD) (t : Fin cfg3.N) (i : Fin 256) (j : Fin 4096) : iblk3 V c 0 t (ix2 i j) = V c main_arg0 (ix2 (trow (tile t) i) j : S4096x4096.Idx) := by
  have e := idx3 t
  unfold iblk3
  blk_simp
  refine congrArg (V c main_arg0) (?_ : (_ : S4096x4096.Idx) = _)
  blk_ext [e, trow, tile]
theorem blk_w (c : Dev nD) (t : Fin cfg3.N) (k : Fin 8) (i : Fin 2048) (j : Fin 512) : iblk3 V c 1 t (ix3 k i j) = V c main_arg4 (ix3 k i j : S8x2048x512.Idx) := by
  have e := idx3 t
  unfold iblk3
  blk_simp
  refine congrArg (V c main_arg4) (?_ : (_ : S8x2048x512.Idx) = _)
  blk_ext [e]
theorem blk_h (c : Dev nD) (t : Fin cfg3.N) (i : Fin 256) (j : Fin 2048) : iblk3 V c 2 t (ix2 i j) = V c main_arg2 (ix2 (trow (tile t) i) j : S4096x2048.Idx) := by
  have e := idx3 t
  unfold iblk3
  blk_simp
  refine congrArg (V c main_arg2) (?_ : (_ : S4096x2048.Idx) = _)
  blk_ext [e, trow, tile]
theorem blk_g (c : Dev nD) (t : Fin cfg3.N) (i : Fin 1) (j : Fin 2048) : iblk3 V c 3 t (ix2 i j) = V c main_v0 (ix2 i j : S1x2048.Idx) := by
  have e := idx3 t
  unfold iblk3
  blk_simp
  refine congrArg (V c main_v0) (?_ : (_ : S1x2048.Idx) = _)
  blk_ext [e]
theorem blk_p (c : Dev nD) (t : Fin cfg3.N) (i : Fin 256) (j : Fin 2048) : iblk3 V c 4 t (ix2 i j) = V c main_arg1 (ix2 (trow (tile t) i) j : S4096x2048.Idx) := by
  have e := idx3 t
  unfold iblk3
  blk_simp
  refine congrArg (V c main_arg1) (?_ : (_ : S4096x2048.Idx) = _)
  blk_ext [e, trow, tile]

theorem bdy_eq (c : Dev nD) (t : Fin cfg3.N) (i : Fin 256) (j : Fin 2048) :
    bdy (iblk3 V c 0 t) (iblk3 V c 1 t) i j = dy (V c main_arg0) (V c main_arg4) (ix2 (trow (tile t) i) j) := by
  simp only [bdy, bpart, blk_z, blk_w]; rfl
theorem binv_eq (c : Dev nD) (t : Fin cfg3.N) (i : Fin 256) : binv (iblk3 V c 2 t) i = inv (V c main_arg2) (trow (tile t) i) := by
  simp only [binv, blk_h]; rfl

/-- The gradient at the norm's argument. -/
theorem dh_arr (c : Dev nD) : (dat3 (F := Ideal) V c).arrAt 5 cfg3.N
    = dh (V c main_arg0) (V c main_arg4) (V c main_arg2) (V c main_v0) (V c main_arg1) := by
  refine (dat3 (F := Ideal) V c).arrAt_eq_of_covers 5 _ (by decide +kernel) fun t hf y => ?_
  have e := idx3 t
  blk_simp
  rw [after3_5]
  idx_vars y
  refine (out_dh V c t y0 y1).trans ?_
  have q : bdh (iblk3 V c 0 t) (iblk3 V c 1 t) (iblk3 V c 2 t) (iblk3 V c 3 t) (iblk3 V c 4 t) y0 y1
      = dh (V c main_arg0) (V c main_arg4) (V c main_arg2) (V c main_v0) (V c main_arg1) (ix2 (trow (tile t) y0) y1) := by
    simp only [bdh, bdy_eq, binv_eq, blk_h, blk_g, blk_p]; rfl
  refine q.trans (congrArg (dh (V c main_arg0) (V c main_arg4) (V c main_arg2) (V c main_v0) (V c main_arg1)) (?_ : (_ : S4096x2048.Idx) = _))
  blk_ext [e, trow, tile]

theorem bdg_eq (c : Dev nD) (t : Fin cfg3.N) (j : Fin 2048) : bdg (iblk3 V c 0 t) (iblk3 V c 1 t) (iblk3 V c 2 t) j
    = (fun k : Fin 16 => ∑ i : Fin 256, dy (V c main_arg0) (V c main_arg4) (ix2 (trow k i) j) * unit (V c main_arg2) (ix2 (trow k i) j)) (tile t) := by
  simp only [bdg, bdy_eq, binv_eq, blk_h]; rfl

theorem sumAt {f : (n : Nat) → n < cfg3.N → EReal} {u : Fin 16 → EReal}
    (h0 : ∀ t : Fin cfg3.N, t.val % 16 = 0 → f t.val t.isLt = 0 + u (tile t))
    (hs : ∀ t : Fin cfg3.N, ¬t.val % 16 = 0 → f t.val t.isLt = f (t.val - 1) (Nat.lt_of_le_of_lt (Nat.sub_le _ _) t.isLt) + u (tile t))
    (t : Fin cfg3.N) (ht : t.val + 1 = cfg3.N) : f t.val t.isLt = ∑ k, u k := by
  rw [Pipeline.eq_sum_fin_of_reset_step_last f 16 0 (fun t => u (tile t)) h0 hs (by decide) t ht, zero_add]
  rfl

theorem after_dg (c : Dev nD) (j : Fin 2048) (t : Fin cfg3.N) (ht : t.val + 1 = cfg3.N) :
    (outsAt3 (F := Ideal) V c t.val t.isLt).2 (ix2 0 j) = dgain (V c main_arg0) (V c main_arg4) (V c main_arg2) (ix2 0 j) := by
  refine (sumAt (f := fun n hn => (outsAt3 (F := Ideal) V c n hn).2 (ix2 0 j)) (u := fun k : Fin 16 => ∑ i : Fin 256,
    dy (V c main_arg0) (V c main_arg4) (ix2 (trow k i) j) * unit (V c main_arg2) (ix2 (trow k i) j)) (fun t h => ?_) (fun t h => ?_) t ht).trans ?_
  · exact (out_dgA V c t h j).trans (congrArg (0 + ·) (bdg_eq V c t j))
  · exact (out_dgB V c t h j).trans (congrArg (_ + ·) (bdg_eq V c t j))
  · exact (Fin.sum_univ_tiles 16 256 rfl (fun s : Fin 4096 => dy (V c main_arg0) (V c main_arg4) (ix2 s j) * unit (V c main_arg2) (ix2 s j))).symm

/-- The last grid point. -/
def last3 : Fin cfg3.N := ⟨15, by rw [show cfg3.N = 16 from N_3]; decide⟩
theorem whole6 : (cfg3.win 6).WholeAt last3 := by decide +kernel

/-- The gradient of the gain. -/
theorem dg_arr (c : Dev nD) : (dat3 (F := Ideal) V c).arrAt 6 cfg3.N = dgain (V c main_arg0) (V c main_arg4) (V c main_arg2) := by
  refine (dat3 (F := Ideal) V c).arrAt_eq_of_after_last 6 last3 whole6 _ fun y => ?_
  rw [after3_6]
  blk_simp
  idx_vars y
  obtain rfl : y0 = 0 := Subsingleton.elim _ _
  have h := after_dg V c y1 last3 N_3.symm
  generalize outsAt3 V c last3.val _ = o at h ⊢
  exact h

end Cert.In

end
-- ==== Proof.In.Ref.lean ====
/- The reference's norm, projection and their derivatives, read element by element. -/
module

public import proofs.«01_k».proof.Proof.Gen.Reference3Ideal
public import proofs.«01_k».proof.Proof.In.Math
public import Idealize.ShloMosaic.Lib.Pipeline.ValueKit
public import Idealize.ShloMosaic.Lib.Pointwise

@[expose] public section

set_option maxRecDepth 16384

noncomputable section

namespace Cert.In

open Cert.Reference3Ideal Cert.Reference3Ideal.Gen Cert.Reference3Ideal.Facts Idealize.ShloMosaic

local notation "Rows" => (S4096x2048.Idx → EReal)
local notation "Wide" => (S4096x4096.Idx → EReal)
local notation "Shards" => (S8x2048x512.Idx → EReal)

/-- The gain as one row. -/
def row (g : S2048.Idx → EReal) : S1x2048.Idx → EReal := fun i => g (ix1 (i 1))

/-- The reference's terms: the mean of a row, the norm's argument and scale, the unit rows and the normed rows. -/
def rMean (f : FVec Ideal S4096x2048 .f32) : FVec Ideal S4096x1 .f32 :=
  Host.divf (broadcastInDim S4096x1 ![0] bcast_S4096_S4096x1_0 (Host.reduceAdd f (constant S_ .f32 0x00000000#32) reducesTo_S4096x2048_S4096_d1 h_S_))
    (broadcastInDim S4096x1 ![] bcast_S_S4096x1 (constant S_ .f32 0x45000000#32))
def rVar (h : FVec Ideal S4096x2048 .f32) : FVec Ideal S4096x1 .f32 :=
  addf (rMean (mulf h h)) (broadcastInDim S4096x1 ![] bcast_S_S4096x1 (constant S_ .f32 0x358637BD#32))
def rInv (h : FVec Ideal S4096x2048 .f32) : FVec Ideal S4096x1 .f32 := Host.rsqrt (rVar h)
def rWide (x : FVec Ideal S4096x1 .f32) : FVec Ideal S4096x2048 .f32 := broadcastInDim S4096x2048 ![0, 1] bcast_S4096x1_S4096x2048_0_1 x
def rGain (g : FVec Ideal S2048 .f32) : FVec Ideal S4096x2048 .f32 :=
  broadcastInDim S4096x2048 ![0, 1] bcast_S1x2048_S4096x2048_0_1 (broadcastInDim S1x2048 ![1] bcast_S2048_S1x2048_1 g)
def rUnit (h : FVec Ideal S4096x2048 .f32) : FVec Ideal S4096x2048 .f32 := mulf h (rWide (rInv h))
def rNrm (h : FVec Ideal S4096x2048 .f32) (g : FVec Ideal S2048 .f32) : FVec Ideal S4096x2048 .f32 := mulf (rUnit h) (rGain g)
/-- The weight with its shards side by side, and the gradient at the projection's result. -/
def rW (w : Shards) : FVec Ideal S2048x4096 .f32 :=
  shapeCast _ (transpose S2048x8x512 [1, 0, 2] (extf (F := Ideal) (φ := .bf16) .f32 w bitsLt_bf16_f32) transposes_S8x2048x512_S2048x8x512_1_0_2)
    shapeCasts_S2048x8x512_S2048x4096
def rZ (z : Wide) : FVec Ideal S4096x4096 .f32 := extf (F := Ideal) (φ := .bf16) .f32 z bitsLt_bf16_f32
def rProj (y : FVec Ideal S4096x2048 .f32) (w : Shards) : FVec Ideal S4096x4096 .f32 :=
  Host.dotGeneral dot_S4096x2048_S2048x4096_S4096x4096_1_0_0_1_n_n none y (rW w)
/-- The gradients at the normed and the unit rows. -/
def rDy (z : Wide) (w : Shards) : FVec Ideal S4096x2048 .f32 :=
  Host.dotGeneral dot_S4096x4096_S2048x4096_S4096x2048_1_1_0_0_n_n none (rZ z) (rW w)
def rDunit (z : Wide) (w : Shards) (g : FVec Ideal S2048 .f32) : FVec Ideal S4096x2048 .f32 := mulf (rDy z w) (rGain g)
/-- The factor of the rows in the gradient at the norm's argument, half of it. -/
def rFac (h u : FVec Ideal S4096x2048 .f32) : FVec Ideal S4096x2048 .f32 :=
  broadcastInDim S4096x2048 ![0] bcast_S4096_S4096x2048_0 (Host.reduceAdd (Host.divf (mulf
      (shapeCast _ (Host.reduceAdd (mulf h u) (constant S_ .f32 0x00000000#32) reducesTo_S4096x2048_S4096_d1 h_S_) shapeCasts_S4096_S4096x1)
      (mulf (broadcastInDim S4096x1 ![] bcast_S_S4096x1 (constant S_ .f32 0xBF000000#32)) (Host.divf (rInv h) (rVar h))))
    (broadcastInDim S4096x1 ![] bcast_S_S4096x1 (constant S_ .f32 0x45000000#32))) (constant S_ .f32 0x00000000#32) reducesTo_S4096x1_S4096_d1 h_S_)
def rDh (z : Wide) (w : Shards) (h : FVec Ideal S4096x2048 .f32) (g : FVec Ideal S2048 .f32) (p : FVec Ideal S4096x2048 .f32) : FVec Ideal S4096x2048 .f32 :=
  addf p (addf (addf (mulf (rDunit z w g) (rWide (rInv h))) (mulf h (rFac h (rDunit z w g)))) (mulf (rFac h (rDunit z w g)) h))
def rDg (z : Wide) (w : Shards) (h : FVec Ideal S4096x2048 .f32) : FVec Ideal S1x2048 .f32 :=
  broadcastInDim S1x2048 ![1] bcast_S2048_S1x2048_1 (Host.reduceAdd (shapeCast _
    (Host.reduceAdd (mulf (rUnit h) (rDy z w)) (constant S_ .f32 0x00000000#32) reducesTo_S4096x2048_S2048_d0 h_S_) shapeCasts_S2048_S1x2048)
    (constant S_ .f32 0x00000000#32) reducesTo_S1x2048_S2048_d0 h_S_)
def rDw (z : Wide) (y : FVec Ideal S4096x2048 .f32) : FVec Ideal S8x2048x512 .f32 :=
  transpose S8x2048x512 [1, 0, 2] (shapeCast _ (transpose S2048x4096 [1, 0]
    (Host.dotGeneral dot_S4096x4096_S4096x2048_S4096x2048_0_0_1_1_n_n none (rZ z) y) transposes_S4096x2048_S2048x4096_1_0)
    shapeCasts_S2048x4096_S2048x8x512) transposes_S2048x8x512_S8x2048x512_1_0_2

theorem rMean_apply (f : FVec Ideal S4096x2048 .f32) (s : Fin 4096) (j : Fin 1) : rMean f (ix2 s j) = mean fun d => f (ix2 s d) := by
  pointwise [rMean, mean]
theorem rVar_apply (h : FVec Ideal S4096x2048 .f32) (s : Fin 4096) (j : Fin 1) : rVar h (ix2 s j) = var h s := by
  have e : rVar h (ix2 s j) = rMean (mulf h h) (ix2 s j) + Ideal.ofBits FTy.f32 0x358637BD#32 := by pointwise [rVar]
  rw [e, rMean_apply]
  rfl
theorem rInv_apply (h : FVec Ideal S4096x2048 .f32) (s : Fin 4096) (j : Fin 1) : rInv h (ix2 s j) = inv h s := by
  have e : rInv h (ix2 s j) = Ideal.rsqrt (rVar h (ix2 s j)) := by pointwise [rInv]
  rw [e, rVar_apply]
  rfl
theorem rUnit_eq (h : FVec Ideal S4096x2048 .f32) : rUnit h = unit h := by
  funext i
  idx_vars i
  have e : rUnit h (ix2 i0 i1) = h (ix2 i0 i1) * rInv h (ix2 i0 0) := by pointwise [rUnit, rWide]
  rw [e, rInv_apply]
  rfl
theorem rNrm_eq (h : FVec Ideal S4096x2048 .f32) (g : FVec Ideal S2048 .f32) : rNrm h g = nrm h (row g) := by
  unfold rNrm
  rw [rUnit_eq]
  funext i
  idx_vars i
  pointwise [rGain, nrm, row]

theorem unflat (w : Shards) (k : Fin 8) (f : Fin 512) (d : Fin 2048) {h₁ h₂} :
    w (ix3 ⟨(k.val * 512 + f.val) / 512, h₁⟩ d ⟨(k.val * 512 + f.val) % 512, h₂⟩) = w (ix3 k d f) := by
  have e₁ : (⟨(k.val * 512 + f.val) / 512, h₁⟩ : Fin 8) = k := Fin.ext (by have := f.isLt; simp only; omega)
  have e₂ : (⟨(k.val * 512 + f.val) % 512, h₂⟩ : Fin 512) = f := Fin.ext (by have := f.isLt; simp only; omega)
  rw [e₁, e₂]
theorem rDy_eq (z : Wide) (w : Shards) : rDy z w = dy z w := by
  funext i
  idx_vars i
  pointwise [rDy, rZ, rW, dy, part]
  rw [Fin.sum_univ_tiles 8 512 rfl]
  refine (Finset.sum_congr rfl fun k _ => Finset.sum_congr rfl fun f _ => congrArg (_ * ·) (unflat w k f i1)).trans ?_
  rw [Fin.sum_univ_eight]
  rfl
theorem rProj_eq (y : FVec Ideal S4096x2048 .f32) (w : Shards) : rProj y w = proj y w := by
  funext i
  idx_vars i
  pointwise [rProj, rW, proj, shardOf, posOf]
theorem rDw_eq (z : Wide) (y : Rows) : rDw z y = dw y z := by
  funext i
  idx_vars i
  pointwise [rDw, rZ, dw, at8]
  exact Finset.sum_congr rfl fun s _ => mul_comm _ _
theorem rDunit_eq (z : Wide) (w : Shards) (g : FVec Ideal S2048 .f32) : rDunit z w g = dunit z w (row g) := by
  unfold rDunit
  rw [rDy_eq]
  funext i
  idx_vars i
  pointwise [rGain, dunit, row]
theorem rDg_eq (z : Wide) (w : Shards) (h : FVec Ideal S4096x2048 .f32) : rDg z w h = dgain z w h := by
  unfold rDg
  rw [rDy_eq, rUnit_eq]
  funext i
  idx_vars i
  pointwise [dgain]
  exact (Fin.sum_univ_one _).trans (Finset.sum_congr rfl fun s _ => mul_comm _ _)
/-- Half of the rows' factor, as the reference writes it. -/
def fac (h u : Rows) (s : Fin 4096) : EReal :=
  Ideal.div ((∑ d : Fin 2048, h (ix2 s d) * u (ix2 s d)) * (Ideal.ofBits FTy.f32 0xBF000000#32 * Ideal.div (inv h s) (var h s)))
    (Ideal.ofBits FTy.f32 0x45000000#32)
theorem rFac_apply (h u : FVec Ideal S4096x2048 .f32) (s : Fin 4096) (d : Fin 2048) : rFac h u (ix2 s d) = fac h u s := by
  have e : rFac h u (ix2 s d) = Ideal.div ((∑ d : Fin 2048, h (ix2 s d) * u (ix2 s d)) *
      (Ideal.ofBits FTy.f32 0xBF000000#32 * Ideal.div (rInv h (ix2 s 0)) (rVar h (ix2 s 0)))) (Ideal.ofBits FTy.f32 0x45000000#32) := by
    pointwise [rFac]
    exact Fin.sum_univ_one _
  rw [e, rInv_apply, rVar_apply]
  rfl
theorem rDh_apply (z : Wide) (w : Shards) (h : FVec Ideal S4096x2048 .f32) (g : FVec Ideal S2048 .f32) (p : FVec Ideal S4096x2048 .f32)
    (s : Fin 4096) (d : Fin 2048) : rDh z w h g p (ix2 s d) = p (ix2 s d) + (dunit z w (row g) (ix2 s d) * inv h s
      + h (ix2 s d) * fac h (dunit z w (row g)) s + fac h (dunit z w (row g)) s * h (ix2 s d)) := by
  rw [← rFac_apply h _ s d, ← rInv_apply h s 0, ← rDunit_eq]
  pointwise [rDh, rWide]

end Cert.In

end
-- ==== Proof.In.Chain.lean ====
/- The results of the input projection program as functions of its arguments: the calls' arrays, chained. -/
module

public import proofs.«01_k».proof.Proof.In.Dw
public import proofs.«01_k».proof.Proof.In.Dx
public import proofs.«01_k».proof.Proof.In.Ref

@[expose] public section

set_option maxRecDepth 16384

noncomputable section

namespace Cert.In

open Cert.Kernel3Ideal Cert.Kernel3Ideal.Gen Idealize.ShloMosaic Idealize.ShloMosaic.TcCoe Idealize.ShloMosaic.Tactic Idealize.SL.Sem

variable (m : (ℓ : Loc nD τ sig) → Buf (Elt Ideal) ℓ) (ρ : Dev nD → PrngReg)

/-- The five arguments, and the gain as one row. -/
abbrev aZ (c : Dev nD) : S4096x4096.Idx → EReal := m ((c : Thread nD τ).loc main_arg0)
abbrev aP (c : Dev nD) : S4096x2048.Idx → EReal := m ((c : Thread nD τ).loc main_arg1)
abbrev aH (c : Dev nD) : S4096x2048.Idx → EReal := m ((c : Thread nD τ).loc main_arg2)
abbrev aG (c : Dev nD) : S2048.Idx → EReal := m ((c : Thread nD τ).loc main_arg3)
abbrev aW (c : Dev nD) : S8x2048x512.Idx → EReal := m ((c : Thread nD τ).loc main_arg4)

theorem v1_gain (c : Dev nD) : V1 m ρ c main_v0 = row (aG m c) := by
  have e : V1 m ρ c main_v0 = broadcastInDim S1x2048 ![1] bcast_S2048_S1x2048_1 (aG m c) := by
    unfold V1 W1; after_results_simp
  rw [e]
  funext i
  idx_vars i
  pointwise [row]

theorem v1_arg (c : Dev nD) : V1 m ρ c main_arg2 = aH m c := W1_args m ρ c main_arg2 (by decide)
theorem v2_nrm (c : Dev nD) : V2 m ρ c main_v1 = nrm (aH m c) (row (aG m c)) := by
  refine (W2_arr m ρ c 2).trans ((nrm_arr (V1 m ρ) c).trans ?_)
  rw [v1_gain, v1_arg]
theorem v3_proj (c : Dev nD) : V3 m ρ c main_v2 = proj (nrm (aH m c) (row (aG m c))) (aW m c) := by
  refine (W3_arr m ρ c 2).trans ((proj_arr (V2 m ρ) c).trans ?_)
  rw [v2_nrm, show V2 m ρ c main_arg4 = aW m c from W2_args m ρ c main_arg4 (by decide)]
theorem v3_nrm (c : Dev nD) : V3 m ρ c main_v1 = nrm (aH m c) (row (aG m c)) :=
  (W3_of m ρ c main_v1 (by decide)).trans (v2_nrm m ρ c)
theorem v4_dw (c : Dev nD) : V4 m ρ c main_v3 = dw (nrm (aH m c) (row (aG m c))) (aZ m c) := by
  refine (W4_arr m ρ c 2).trans ((dw_arr (V3 m ρ) c).trans ?_)
  rw [v3_nrm, show V3 m ρ c main_arg0 = aZ m c from W3_args m ρ c main_arg0 (by decide)]
theorem v4_gain (c : Dev nD) : V4 m ρ c main_v0 = row (aG m c) :=
  (W4_of m ρ c main_v0 (by decide)).trans ((W3_of m ρ c main_v0 (by decide)).trans ((W2_of m ρ c main_v0 (by decide)).trans (v1_gain m ρ c)))

/-- The four results. -/
theorem res_proj (c : Dev nD) : V5 m ρ c main_v2 = proj (nrm (aH m c) (row (aG m c))) (aW m c) :=
  (W5_of m ρ c main_v2 (by decide)).trans ((W4_of m ρ c main_v2 (by decide)).trans (v3_proj m ρ c))
theorem res_dw (c : Dev nD) : V5 m ρ c main_v3 = dw (nrm (aH m c) (row (aG m c))) (aZ m c) :=
  (W5_of m ρ c main_v3 (by decide)).trans (v4_dw m ρ c)
theorem res_dh (c : Dev nD) : V5 m ρ c main_v4_0 = dh (aZ m c) (aW m c) (aH m c) (row (aG m c)) (aP m c) := by
  refine (W5_arr m ρ c 5).trans ((dh_arr (V4 m ρ) c).trans ?_)
  rw [v4_gain, show V4 m ρ c main_arg0 = aZ m c from W4_args m ρ c main_arg0 (by decide),
    show V4 m ρ c main_arg1 = aP m c from W4_args m ρ c main_arg1 (by decide),
    show V4 m ρ c main_arg2 = aH m c from W4_args m ρ c main_arg2 (by decide),
    show V4 m ρ c main_arg4 = aW m c from W4_args m ρ c main_arg4 (by decide)]
theorem res_dg (c : Dev nD) : V5 m ρ c main_v4_1 = dgain (aZ m c) (aW m c) (aH m c) := by
  refine (W5_arr m ρ c 6).trans ((dg_arr (V4 m ρ) c).trans ?_)
  rw [show V4 m ρ c main_arg0 = aZ m c from W4_args m ρ c main_arg0 (by decide),
    show V4 m ρ c main_arg2 = aH m c from W4_args m ρ c main_arg2 (by decide),
    show V4 m ρ c main_arg4 = aW m c from W4_args m ρ c main_arg4 (by decide)]

end Cert.In

end
-- ==== Proof.In.Deriv.lean ====
/- The norm's derivative, the two ways it is written: they agree at every extended real. One over a row's length is always a
   real number that isn't negative, so it may be taken out of a sum. -/
module

public import proofs.«01_k».proof.Proof.In.Ref

@[expose] public section

set_option maxRecDepth 16384

noncomputable section

namespace Cert.In

open Cert.Reference3Ideal Idealize.ShloMosaic

local notation "Rows" => (S4096x2048.Idx → EReal)

theorem width_eq : Ideal.ofBits .f32 0x45000000#32 = ((2048 : ℝ) : EReal) := by
  simp [Ideal.ofBits, Ideal.ieee]
  norm_num
  rw [← EReal.coe_mul]
  norm_num
theorem half_eq : Ideal.ofBits .f32 0xBF000000#32 = ((-(1 / 2) : ℝ) : EReal) := by
  simp [Ideal.ofBits, Ideal.ieee]
  norm_num
  rw [← EReal.coe_mul]
  norm_num
theorem eps_eq : ∃ e : ℝ, 0 < e ∧ Ideal.ofBits .f32 0x358637BD#32 = (e : EReal) := by
  refine ⟨(8796093 / 8388608 : ℝ) / 1048576, by norm_num, ?_⟩
  simp [Ideal.ofBits, Ideal.ieee]
  norm_num
  rw [← EReal.coe_mul]
  norm_num

/-- The mean, with its division as a product. -/
theorem mean_eq (f : Fin 2048 → EReal) : mean f = (∑ d, f d) * ((1 / 2048 : ℝ) : EReal) := by
  rw [mean, width_eq, Ideal.div_coe (by norm_num)]

theorem sq_nonneg' (x : EReal) : 0 ≤ x * x := by
  induction x with
  | bot => simp
  | top => simp
  | coe r => rw [← EReal.coe_mul]; exact EReal.coe_nonneg.mpr (mul_self_nonneg r)

/-- One over a row's length is a real number that isn't negative, and over the mean square it is its cube. -/
theorem inv_real (h : Rows) (s : Fin 4096) : ∃ r : ℝ, 0 ≤ r ∧ inv h s = r ∧ Ideal.div (inv h s) (var h s) = ((r ^ 3 : ℝ) : EReal) := by
  obtain ⟨e, he, ee⟩ := eps_eq
  have hs : 0 ≤ ∑ d : Fin 2048, h (ix2 s d) * h (ix2 s d) := Finset.sum_nonneg fun d _ => sq_nonneg' _
  have hv : var h s = (∑ d : Fin 2048, h (ix2 s d) * h (ix2 s d)) * ((1 / 2048 : ℝ) : EReal) + e := by
    rw [var, mean_eq, ee]
  unfold inv
  rw [hv]
  generalize (∑ d : Fin 2048, h (ix2 s d) * h (ix2 s d)) = S at hs
  induction S with
  | bot => exact absurd hs (by simp)
  | top =>
    refine ⟨0, le_rfl, ?_, ?_⟩
    · rw [EReal.top_mul_coe_of_pos (by norm_num), EReal.top_add_coe]; simp
    · rw [EReal.top_mul_coe_of_pos (by norm_num), EReal.top_add_coe]; simp [Ideal.div]
  | coe S =>
    have hS : 0 ≤ S := EReal.coe_nonneg.mp hs
    rw [← EReal.coe_mul, ← EReal.coe_add]
    have hp : 0 < S * (1 / 2048) + e := by positivity
    generalize S * (1 / 2048) + e = v at hp
    have hr : Ideal.rsqrt (v : EReal) = ((Real.sqrt v)⁻¹ : ℝ) := by
      rw [Ideal.rsqrt_coe, if_neg hp.le.not_gt, if_neg hp.ne']
    refine ⟨(Real.sqrt v)⁻¹, by positivity, hr, ?_⟩
    rw [hr, Ideal.div_coe hp.ne', ← EReal.coe_mul]
    congr 1
    have := Real.mul_self_sqrt hp.le
    rw [pow_succ, pow_two, ← mul_inv, this]
    field_simp

theorem sum_scale {n : ℕ} (f : Fin n → EReal) {r : ℝ} (hr : 0 ≤ r) : ∑ d, f d * (r : EReal) = (∑ d, f d) * (r : EReal) := by
  classical
  induction (Finset.univ : Finset (Fin n)) using Finset.induction_on with
  | empty => simp
  | insert a t ha ih =>
    rw [Finset.sum_insert ha, Finset.sum_insert ha, ih,
      EReal.right_distrib_of_nonneg_of_ne_top (EReal.coe_nonneg.mpr hr) (EReal.coe_ne_top r)]

theorem twice (x : EReal) (c : ℝ) : x * (c : EReal) + x * (c : EReal) = x * ((c + c : ℝ) : EReal) := by
  rcases lt_trichotomy c 0 with hc | rfl | hc
  · have h2 : c + c < 0 := by linarith
    induction x with
    | bot => rw [EReal.bot_mul_coe_of_neg hc, EReal.bot_mul_coe_of_neg h2]; rfl
    | top => rw [EReal.top_mul_coe_of_neg hc, EReal.top_mul_coe_of_neg h2]; rfl
    | coe x => rw [← EReal.coe_mul, ← EReal.coe_mul, ← EReal.coe_add, mul_add]
  · simp
  · have h2 : 0 < c + c := by linarith
    induction x with
    | bot => rw [EReal.bot_mul_coe_of_pos hc, EReal.bot_mul_coe_of_pos h2]; rfl
    | top => rw [EReal.top_mul_coe_of_pos hc, EReal.top_mul_coe_of_pos h2]; rfl
    | coe x => rw [← EReal.coe_mul, ← EReal.coe_mul, ← EReal.coe_add, mul_add]

/-- The norm's derivative at one element. -/
theorem back_eq (h u : Rows) (s : Fin 4096) (d : Fin 2048) :
    u (ix2 s d) * inv h s + h (ix2 s d) * fac h u s + fac h u s * h (ix2 s d)
      = inv h s * (u (ix2 s d) - unit h (ix2 s d) * mean fun k => u (ix2 s k) * unit h (ix2 s k)) := by
  obtain ⟨r, hr, e, e3⟩ := inv_real h s
  have hu (k : Fin 2048) : unit h (ix2 s k) = h (ix2 s k) * (r : EReal) := congrArg (h (ix2 s k) * ·) e
  have hm : (mean fun k => u (ix2 s k) * unit h (ix2 s k)) = (∑ k, h (ix2 s k) * u (ix2 s k)) * (r : EReal) * ((1 / 2048 : ℝ) : EReal) := by
    rw [mean_eq, ← sum_scale _ hr]
    exact congrArg (· * _) (Finset.sum_congr rfl fun k _ => by rw [hu]; ac_rfl)
  rw [hm, hu, fac, e3, e, half_eq, width_eq, Ideal.div_coe (by norm_num)]
  generalize (∑ k, h (ix2 s k) * u (ix2 s k)) = S
  generalize h (ix2 s d) = x
  generalize u (ix2 s d) = y
  have el : x * (S * (((-(1 / 2) : ℝ) : EReal) * ((r ^ 3 : ℝ) : EReal)) * ((1 / 2048 : ℝ) : EReal)) = x * S * ((-(1 / 2) * r ^ 3 * (1 / 2048) : ℝ) : EReal) := by
    rw [EReal.coe_mul, EReal.coe_mul]; ac_rfl
  have er : (r : EReal) * (x * r * (S * r * ((1 / 2048 : ℝ) : EReal))) = x * S * ((r * r * r * (1 / 2048) : ℝ) : EReal) := by
    rw [EReal.coe_mul, EReal.coe_mul, EReal.coe_mul]; ac_rfl
  rw [mul_comm (S * _ * _) x, add_assoc, el, twice, sub_eq_add_neg,
    EReal.left_distrib_of_nonneg_of_ne_top (EReal.coe_nonneg.mpr hr) (EReal.coe_ne_top r), mul_neg, er, ← mul_neg, ← EReal.coe_neg,
    mul_comm y]
  congr 3
  ring

end Cert.In

end
-- ==== Proof.In.Claims.lean ====
/- The five claims about the input projection program. -/
module

public import proofs.«01_k».proof.Defs
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.In.Run
public import proofs.«01_k».proof.Proof.In.Chain
public import proofs.«01_k».proof.Proof.In.Deriv
public import Idealize.ShloMosaic.Adequacy
public import Idealize.ShloMosaic.Init

@[expose] public section

set_option maxRecDepth 16384

noncomputable section

namespace Cert.In

open Idealize.ShloMosaic Idealize.ShloMosaic.Tactic Idealize.SL.Sem

theorem frame_kernel3_ideal : Cert.quiescent_Kernel3Ideal := fun m ρ _ =>
  (θ_run Cert.Kernel3Ideal.defs _ _).mono (fun _ h => ⟨fun c => (h.1 c).2, h.2⟩) (run_main (F := Ideal) m ρ)

set_option maxHeartbeats 4000000 in
theorem frame_kernel3 : Cert.quiescent_Kernel3 := fun m ρ _ => by
  have h := (θ_run Cert.Kernel3Ideal.defs _ _).mono (fun r h => And.intro (fun c => (h.1 c).2) h.2) (run_main (F := Bits) m ρ)
  refine cast ?_ h
  sl_kernel_rfl

set_option maxHeartbeats 4000000 in
theorem frame_reference3 : Cert.quiescent_Reference3Ideal := fun m ρ _ => by
  refine (θ_run Cert.Reference3Ideal.defs _ _).mono ?_ (Cert.Reference3Ideal.Value.run m ρ)
  intro r h
  exact ⟨fun c => (h c).2.2.2.2, sem_eq_zero_of_no_sems (by decide) r.2⟩

open Cert.Reference3Ideal in
/-- The reference's gradient at the norm's argument is the kernel's. -/
theorem rDh_eq (z : S4096x4096.Idx → EReal) (w : S8x2048x512.Idx → EReal) (h p : S4096x2048.Idx → EReal) (g : S2048.Idx → EReal) :
    rDh z w h g p = dh z w h (row g) p := by
  funext i
  idx_vars i
  exact (rDh_apply z w h g p i0 i1).trans (congrArg (p (ix2 i0 i1) + ·) (back_eq h _ i0 i1))

theorem algebraic3 : Cert.algebraic_Kernel3Ideal_Reference3Ideal := fun m g m' g' _ hag =>
  ⟨fun c => Cert.Kernel3Ideal.Gen.V5 m g c Cert.Kernel3Ideal.main_v2, fun c => Cert.Kernel3Ideal.Gen.V5 m g c Cert.Kernel3Ideal.main_v4_0, fun c => Cert.Kernel3Ideal.Gen.V5 m g c Cert.Kernel3Ideal.main_v4_1,
   fun c => Cert.Kernel3Ideal.Gen.V5 m g c Cert.Kernel3Ideal.main_v3,
   (θ_run Cert.Kernel3Ideal.defs _ _).mono (fun _ h c => by
     obtain ⟨⟨rz, r0, r1, r2⟩, u⟩ := h.1 c
     exact ⟨rz, r0, r1, r2, u⟩) (run_main (F := Ideal) m g),
   (θ_run Cert.Reference3Ideal.defs _ _).mono (fun _ h c => by
     obtain ⟨rz, r0, r1, r2, u⟩ := h c
     obtain ⟨e0, e1, e2, e3, e4⟩ := hag c
     refine ⟨rz.trans ?_, r0.trans ?_, r1.trans ?_, r2.trans ?_, u⟩
     · refine Eq.trans ?_ ((rProj_eq _ _).trans ((congrArg (proj · _) (rNrm_eq _ _)).trans (res_proj m g c).symm))
       rw [e2, e3, e4]
       rfl
     · refine Eq.trans ?_ ((rDh_eq _ _ _ _ _).trans (res_dh m g c).symm)
       unfold Cert.Reference3Ideal.Value.res_main_v44
       rw [e0, e1, e2, e3, e4]
       rfl
     · refine Eq.trans ?_ ((rDg_eq _ _ _).trans (res_dg m g c).symm)
       rw [e0, e2, e4]
       rfl
     · refine Eq.trans ?_ ((rDw_eq _ _).trans ((congrArg (dw · _) (rNrm_eq _ _)).trans (res_dw m g c).symm))
       rw [e0, e2, e3]
       rfl) (Cert.Reference3Ideal.Value.run m' g')⟩

end Cert.In

end
-- ==== Proof.Out.Run.lean ====
/- The output projection program's run: every buffer it leaves, at any float values, and at the ideal values each result as a
   function of the arguments. -/
module

public import proofs.«01_k».proof.Proof.Gen.Kernel4Ideal.Frame

@[expose] public section

set_option maxRecDepth 16384

noncomputable section

namespace Cert.Out

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program ends, faulting nowhere, with every buffer outside a call at the contents of the last boundary and with
    every counter at zero. -/
theorem run_all : θ_run defs (onTc (τ := τ) (main (F := F))) ⟨m, fun _ => 0, ρ⟩ (fun r =>
    (∀ c : Dev nD, ∀ b ∈ Pipeline.ucRefs τ sig, r.2.mem ((c : Thread nD τ).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨fun c b hb => h c b hb, funext fun g => hz g (.inr (no_unscoped g.2))⟩)

/-- The same run: the six results at the last boundary's contents, the arguments as launched. -/
theorem run_main : θ_run defs (onTc (τ := τ) (main (F := F))) ⟨m, fun _ => 0, ρ⟩ (fun r =>
    (∀ c : Dev nD,
      (r.2.mem ((c.tc : Thread nD τ).loc main_v1_0) = V4 m ρ c main_v1_0
      ∧ r.2.mem ((c.tc : Thread nD τ).loc main_v1_1) = V4 m ρ c main_v1_1
      ∧ r.2.mem ((c.tc : Thread nD τ).loc main_v2_0) = V4 m ρ c main_v2_0
      ∧ r.2.mem ((c.tc : Thread nD τ).loc main_v2_2) = V4 m ρ c main_v2_2
      ∧ r.2.mem ((c.tc : Thread nD τ).loc main_v2_3) = V4 m ρ c main_v2_3
      ∧ r.2.mem ((c.tc : Thread nD τ).loc main_v3) = V4 m ρ c main_v3)
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))) ∧ r.2.sem = fun _ => 0) :=
  (θ_run defs _ _).mono (fun r h => ⟨fun c =>
    ⟨⟨h.1 c _ (mem_uc main_v1_0 (by decide)), h.1 c _ (mem_uc main_v1_1 (by decide)), h.1 c _ (mem_uc main_v2_0 (by decide)), h.1 c _ (mem_uc main_v2_2 (by decide)), h.1 c _ (mem_uc main_v2_3 (by decide)), h.1 c _ (mem_uc main_v3 (by decide))⟩,
     (h.1 c _ (mem_uc main_arg0 (by decide))).trans (W4_main_arg0 m ρ c),
     (h.1 c _ (mem_uc main_arg1 (by decide))).trans (W4_main_arg1 m ρ c),
     (h.1 c _ (mem_uc main_arg2 (by decide))).trans (W4_main_arg2 m ρ c),
     (h.1 c _ (mem_uc main_arg3 (by decide))).trans (W4_main_arg3 m ρ c),
     (h.1 c _ (mem_uc main_arg4 (by decide))).trans (W4_main_arg4 m ρ c),
     (h.1 c _ (mem_uc main_arg5 (by decide))).trans (W4_main_arg5 m ρ c)⟩, h.2⟩) (run_all m ρ)

end Cert.Out

end
-- ==== Proof.In.Back.lean ====
/- The derivative of the norm for any gradient at its result: over all the rows, over a block of 256 of them, and as the
   references write it. -/
module

public import proofs.«01_k».proof.Proof.In.Deriv

@[expose] public section

noncomputable section

namespace Cert.In

open Idealize.ShloMosaic

section OfRows

open Cert.Kernel3Ideal

local notation "Rows" => (S4096x2048.Idx → EReal)
local notation "Block" => (S256x2048.Idx → EReal)
local notation "Gain" => (S1x2048.Idx → EReal)

/-- The gradient `y` at the normed rows, at the rows of length one. -/
def scaled (y : Rows) (g : Gain) : Rows := fun i => y i * g (ix2 0 (i 1))
/-- The gradient at the norm's argument, added to what arrives beside it. -/
def back (y h p : Rows) (g : Gain) : Rows := fun i =>
  p i + inv h (i 0) * (scaled y g i - unit h i * mean fun d => scaled y g (ix2 (i 0) d) * unit h (ix2 (i 0) d))
/-- The gradient of the gain. -/
def gback (y h : Rows) : Gain := fun i => ∑ s : Fin 4096, y (ix2 s (i 1)) * unit h (ix2 s (i 1))

/-- The same in a block. -/
def kinv (h : Block) (i : Fin 256) : EReal :=
  Ideal.rsqrt (mean (fun d => h (ix2 i d) * h (ix2 i d)) + Ideal.ofBits FTy.f32 0x358637BD#32)
def kback (y : Fin 256 → Fin 2048 → EReal) (h p : Block) (g : Gain) (i : Fin 256) (j : Fin 2048) : EReal :=
  p (ix2 i j) + kinv h i * (y i j * g (ix2 0 j) - h (ix2 i j) * kinv h i * mean fun d => y i d * g (ix2 0 d) * (h (ix2 i d) * kinv h i))
def kgain (y : Fin 256 → Fin 2048 → EReal) (h : Block) (j : Fin 2048) : EReal := ∑ i : Fin 256, y i j * (h (ix2 i j) * kinv h i)

/-- Row `i` of tile `t`. -/
def tileRow (t : Fin 16) (i : Fin 256) : Fin 4096 := ⟨t.val * 256 + i.val, by have := t.isLt; have := i.isLt; omega⟩

section Tile

variable {y : Fin 256 → Fin 2048 → EReal} {h p : Block} {Y H P : Rows} (g : Gain) (t : Fin 16)
  (hy : ∀ i j, y i j = Y (ix2 (tileRow t i) j)) (hh : ∀ i j, h (ix2 i j) = H (ix2 (tileRow t i) j))
  (hp : ∀ i j, p (ix2 i j) = P (ix2 (tileRow t i) j))

include hh in
theorem kinv_rows (i : Fin 256) : kinv h i = inv H (tileRow t i) := by simp only [kinv, hh]; rfl
include hy hh hp in
theorem kback_rows (i : Fin 256) (j : Fin 2048) : kback y h p g i j = back Y H P g (ix2 (tileRow t i) j) := by
  simp only [kback, kinv_rows t hh, hy, hh, hp]; rfl
include hy hh in
theorem kgain_rows (j : Fin 2048) : kgain y h j = ∑ i : Fin 256, Y (ix2 (tileRow t i) j) * unit H (ix2 (tileRow t i) j) := by
  simp only [kgain, kinv_rows t hh, hy, hh]; rfl

end Tile

/-- The tiles' parts of the gradient of the gain, added up. -/
theorem gback_tiles (y h : Rows) (j : Fin 2048) :
    ∑ t : Fin 16, ∑ i : Fin 256, y (ix2 (tileRow t i) j) * unit h (ix2 (tileRow t i) j) = gback y h (ix2 0 j) :=
  (Fin.sum_univ_tiles 16 256 rfl (fun s : Fin 4096 => y (ix2 s j) * unit h (ix2 s j))).symm

/-- The norm's derivative added to `p`, in the references' order. -/
theorem back_add (p u h : Rows) (s : Fin 4096) (d : Fin 2048) :
    p (ix2 s d) + u (ix2 s d) * inv h s + h (ix2 s d) * fac h u s + fac h u s * h (ix2 s d)
      = p (ix2 s d) + inv h s * (u (ix2 s d) - unit h (ix2 s d) * mean fun k => u (ix2 s k) * unit h (ix2 s k)) := by
  rw [← back_eq, add_assoc, add_assoc, add_assoc]

end OfRows

open Cert.Reference3Ideal Cert.Reference3Ideal.Facts in
/-- The references' terms for both gradients. -/
def rBack (y h p : FVec Ideal S4096x2048 .f32) (g : FVec Ideal S2048 .f32) : FVec Ideal S4096x2048 .f32 :=
  addf (addf (addf p (mulf (mulf y (rGain g)) (rWide (rInv h)))) (mulf h (rFac h (mulf y (rGain g))))) (mulf (rFac h (mulf y (rGain g))) h)
open Cert.Reference3Ideal Cert.Reference3Ideal.Gen Cert.Reference3Ideal.Facts in
def rGback (y h : FVec Ideal S4096x2048 .f32) : FVec Ideal S1x2048 .f32 :=
  broadcastInDim S1x2048 ![1] bcast_S2048_S1x2048_1 (Host.reduceAdd (shapeCast _
    (Host.reduceAdd (mulf (rUnit h) y) (constant S_ .f32 0x00000000#32) reducesTo_S4096x2048_S2048_d0 h_S_) shapeCasts_S2048_S1x2048)
    (constant S_ .f32 0x00000000#32) reducesTo_S1x2048_S2048_d0 h_S_)

theorem rScaled_eq (y : FVec Ideal Cert.Reference3Ideal.S4096x2048 .f32) (g : FVec Ideal Cert.Reference3Ideal.S2048 .f32) :
    mulf y (rGain g) = scaled y (row g) := by
  funext i
  idx_vars i
  pointwise [rGain, scaled, row]
theorem rBack_eq (y h p : FVec Ideal Cert.Reference3Ideal.S4096x2048 .f32) (g : FVec Ideal Cert.Reference3Ideal.S2048 .f32) :
    rBack y h p g = back y h p (row g) := by
  funext i
  idx_vars i
  refine Eq.trans ?_ (back_add p (scaled y (row g)) h i0 i1)
  rw [← rFac_apply h _ i0 i1, ← rInv_apply h i0 0, ← rScaled_eq]
  pointwise [rBack, rWide]
theorem rGback_eq (y h : FVec Ideal Cert.Reference3Ideal.S4096x2048 .f32) : rGback y h = gback y h := by
  unfold rGback
  rw [rUnit_eq]
  funext i
  idx_vars i
  pointwise [gback]
  exact (Fin.sum_univ_one _).trans (Finset.sum_congr rfl fun s _ => mul_comm _ _)

end Cert.In

end
-- ==== Proof.Out.Math.lean ====
/- The mixers' output projection, the norm after it and the derivatives of both, element by element, over the extended reals:
   the arrays that the kernel's three calls leave, as functions of the arrays they read. -/
module

public import proofs.«01_k».proof.Proof.In.Back

@[expose] public section

noncomputable section

namespace Cert.Out

open Cert.Kernel3Ideal Cert.In Idealize.ShloMosaic

local notation "Rows" => (S4096x2048.Idx → EReal)
/-- A square weight, or its gradient. -/
local notation "Square" => (Fin 2048 → Fin 2048 → EReal)

/-- Rows by a weight. -/
def rowsBy (x : Rows) (w : Square) : Rows := fun i => ∑ d : Fin 2048, x (ix2 (i 0) d) * w d (i 1)
/-- Rows by a weight turned round. -/
def rowsByT (x : Rows) (w : Square) : Rows := fun i => ∑ d : Fin 2048, x (ix2 (i 0) d) * w (i 1) d
/-- The residual stream after the mixers. -/
def after (m : Rows) (w : Square) (h : Rows) : Rows := fun i => h i + rowsBy m w i
/-- A weight's gradient: the rows it is applied to against the gradient at the product. -/
def wgrad (x y : Rows) : Square := fun a b => ∑ s : Fin 4096, x (ix2 s a) * y (ix2 s b)

end Cert.Out

end
-- ==== Proof.Out.Fwd.lean ====
/- The residual stream after the mixers, its normed rows, and the gradient of the output weight, as the arrays that their calls
   leave. -/
module

public import proofs.«01_k».proof.Proof.Gen.Kernel4Ideal.Frame
public import proofs.«01_k».proof.Proof.Out.Math
public import Idealize.ShloMosaic.Lib.Pipeline.ValueKit

@[expose] public section

set_option maxRecDepth 16384
set_option maxHeartbeats 4000000

noncomputable section

namespace Cert.Out

open Cert.Kernel4Ideal Cert.Kernel4Ideal.Gen Cert.In Idealize.ShloMosaic Idealize.ShloMosaic.TcCoe Idealize.SL.Sem
open Idealize.ShloMosaic.Pipeline (Dat)

/-- A weight's array by row and column. -/
abbrev sq (w : S2048x2048.Idx → EReal) : Fin 2048 → Fin 2048 → EReal := fun a b => w (ix2 a b)

variable (V : (c : Dev nD) → (b : Ref sig .tc) → Buf (Elt Ideal) ((c : Thread nD τ).loc b))

/-- The blocks at each grid point: a tile of rows, and the whole of the weight and the gain. -/
theorem idx0 (t : Fin cfg0.N) : win0_0.index t = ![t.val, 0] ∧ win0_1.index t = ![0, 0] ∧ win0_2.index t = ![t.val, 0]
    ∧ win0_3.index t = ![0, 0] ∧ win0_4.index t = ![t.val, 0] ∧ win0_5.index t = ![t.val, 0] := by
  revert t; decide +kernel

/-- Row `i` of tile `t` of 512. -/
def row512 (t : Fin 8) (i : Fin 512) : Fin 4096 := ⟨t.val * 512 + i.val, by have := t.isLt; have := i.isLt; omega⟩
def tile0 (t : Fin cfg0.N) : Fin 8 := ⟨t.val, lt_of_lt_of_eq t.isLt (show cfg0.N = 8 from N_0)⟩

theorem blk0_m (c : Dev nD) (t : Fin cfg0.N) (i : Fin 512) (j : Fin 2048) : iblk0 (F := Ideal) V c 0 t (ix2 i j) = V c main_arg2 (ix2 (row512 (tile0 t) i) j : S4096x2048.Idx) := by
  have e := idx0 t
  unfold iblk0
  blk_simp
  refine congrArg (V c main_arg2) (?_ : (_ : S4096x2048.Idx) = _)
  blk_ext [e, row512, tile0]
theorem blk0_w (c : Dev nD) (t : Fin cfg0.N) (i j : Fin 2048) : iblk0 (F := Ideal) V c 1 t (ix2 i j) = V c main_arg5 (ix2 i j : S2048x2048.Idx) := by
  have e := idx0 t
  unfold iblk0
  blk_simp
  refine congrArg (V c main_arg5) (?_ : (_ : S2048x2048.Idx) = _)
  blk_ext [e]
theorem blk0_h (c : Dev nD) (t : Fin cfg0.N) (i : Fin 512) (j : Fin 2048) : iblk0 (F := Ideal) V c 2 t (ix2 i j) = V c main_arg3 (ix2 (row512 (tile0 t) i) j : S4096x2048.Idx) := by
  have e := idx0 t
  unfold iblk0
  blk_simp
  refine congrArg (V c main_arg3) (?_ : (_ : S4096x2048.Idx) = _)
  blk_ext [e, row512, tile0]
theorem blk0_g (c : Dev nD) (t : Fin cfg0.N) (i : Fin 1) (j : Fin 2048) : iblk0 (F := Ideal) V c 3 t (ix2 i j) = V c main_v0 (ix2 i j : S1x2048.Idx) := by
  have e := idx0 t
  unfold iblk0
  blk_simp
  refine congrArg (V c main_v0) (?_ : (_ : S1x2048.Idx) = _)
  blk_ext [e]

/-- What the body forms at a grid point: rows of the residual stream. -/
theorem pay1_apply' (h : Vec Ideal S512x2048 .f32) (m : Vec Ideal S512x2048 .bf16) (w : Vec Ideal S2048x2048 .bf16) (i : Fin 512) (j : Fin 2048) :
    k0_pay1 h m w (ix2 i j) = h (ix2 i j) + ∑ d : Fin 2048, m (ix2 i d) * w (ix2 d j) := by
  pointwise [k0_pay1]
theorem pay_after (c : Dev nD) (t : Fin cfg0.N) (i : Fin 512) (j : Fin 2048) :
    k0_pay1 (F := Ideal) (iblk0 V c 2 t) (iblk0 V c 0 t) (iblk0 V c 1 t) (ix2 i j)
      = after (V c main_arg2) (sq (V c main_arg5)) (V c main_arg3) (ix2 (row512 (tile0 t) i) j) := by
  refine (pay1_apply' _ _ _ i j).trans ?_
  simp only [blk0_m, blk0_w, blk0_h]
  rfl

theorem pay2_apply (v0 : Vec Ideal S512x2048 .f32) (v1 : Vec Ideal S512x2048 .bf16) (v2 : Vec Ideal S2048x2048 .bf16) (v5 : Vec Ideal S1x2048 .f32)
    (i : Fin 512) (j : Fin 2048) : k0_pay2 v0 v1 v2 v5 (ix2 i j) = k0_pay1 v0 v1 v2 (ix2 i j)
      * Ideal.rsqrt (mean (fun d => k0_pay1 v0 v1 v2 (ix2 i d) * k0_pay1 v0 v1 v2 (ix2 i d)) + Ideal.ofBits FTy.f32 0x358637BD#32) * v5 (ix2 0 j) := by
  pointwise [k0_pay2, mean]

/-- The residual stream. -/
theorem after_arr (c : Dev nD) : (dat0 (F := Ideal) V c).arrAt 4 cfg0.N = after (V c main_arg2) (sq (V c main_arg5)) (V c main_arg3) := by
  refine (dat0 (F := Ideal) V c).arrAt_eq_of_covers 4 _ (by decide +kernel) fun t hf y => ?_
  have e := idx0 t
  blk_simp
  rw [after0_4]
  frame_out
  idx_vars y
  refine (pay_after V c t y0 y1).trans (congrArg (after (V c main_arg2) (sq (V c main_arg5)) (V c main_arg3)) (?_ : (_ : S4096x2048.Idx) = _))
  blk_ext [e, row512, tile0]

/-- Its normed rows. -/
theorem nrm_arr (c : Dev nD) : (dat0 (F := Ideal) V c).arrAt 5 cfg0.N
    = nrm (after (V c main_arg2) (sq (V c main_arg5)) (V c main_arg3)) (V c main_v0) := by
  refine (dat0 (F := Ideal) V c).arrAt_eq_of_covers 5 _ (by decide +kernel) fun t hf y => ?_
  have e := idx0 t
  blk_simp
  rw [after0_5]
  frame_out
  idx_vars y
  refine (pay2_apply _ _ _ _ y0 y1).trans ?_
  simp only [pay_after, blk0_g]
  refine Eq.trans (?_ : _ = nrm (after (V c main_arg2) (sq (V c main_arg5)) (V c main_arg3)) (V c main_v0) (ix2 (row512 (tile0 t) y0) y1)) ?_
  · rfl
  · refine congrArg (nrm (after (V c main_arg2) (sq (V c main_arg5)) (V c main_arg3)) (V c main_v0)) (?_ : (_ : S4096x2048.Idx) = _)
    blk_ext [e, row512, tile0]

/-- The blocks at each grid point: a tile of columns of each. -/
theorem idx2 (t : Fin cfg2.N) : win2_0.index t = ![0, t.val / 2] ∧ win2_1.index t = ![0, t.val % 2]
    ∧ win2_2.index t = ![t.val / 2, t.val % 2] := by
  revert t; decide +kernel

/-- The weight's gradient. -/
theorem dw_arr (c : Dev nD) : (dat2 (F := Ideal) V c).arrAt 2 cfg2.N = fun i : S2048x2048.Idx => wgrad (V c main_arg2) (V c main_v2_1) (i 0) (i 1) := by
  refine (dat2 (F := Ideal) V c).arrAt_eq_of_covers 2 _ (by decide +kernel) fun t hf y => ?_
  have e := idx2 t
  blk_simp
  rw [after2_2]
  frame_out
  idx_vars y
  pointwise [k2_pay1, wgrad]
  reads_congr
  · refine congrArg (V c main_arg2) (?_ : (_ : S4096x2048.Idx) = _)
    blk_ext [e]
  · refine congrArg (V c main_v2_1) (?_ : (_ : S4096x2048.Idx) = _)
    blk_ext [e]

end Cert.Out

end
-- ==== Proof.Out.Dx.lean ====
/- The gradient at the residual stream after the mixers, that of the norm's gain and that at the mixers' results, as the arrays
   that their call leaves. -/
module

public import proofs.«01_k».proof.Proof.Gen.Kernel4Ideal.Frame
public import proofs.«01_k».proof.Proof.Out.Math
public import Idealize.ShloMosaic.Lib.Pipeline.ValueKit

@[expose] public section

set_option maxRecDepth 16384
set_option maxHeartbeats 4000000

noncomputable section

namespace Cert.Out

open Cert.Kernel4Ideal Cert.Kernel4Ideal.Gen Cert.In Idealize.ShloMosaic Idealize.ShloMosaic.TcCoe Idealize.SL.Sem
open Idealize.ShloMosaic.Pipeline (Dat)

section Block

variable (y : Vec Ideal S256x2048 .f32) (h : Vec Ideal S256x2048 .f32) (g : Vec Ideal S1x2048 .f32) (p : Vec Ideal S256x2048 .f32)
  (w : Vec Ideal S2048x2048 .bf16)

theorem pay5_apply (i : Fin 256) (j : Fin 1) : k1_pay5 h (ix2 i j) = kinv h i := by
  pointwise [k1_pay5, k1_pay4, kinv, mean]
theorem pay6_apply (i : Fin 256) (j : Fin 2048) : k1_pay6 h (ix2 i j) = h (ix2 i j) * kinv h i := by
  rw [← pay5_apply h i 0]
  pointwise [k1_pay6, k1_pay4]
theorem pay7_apply (i : Fin 256) (j : Fin 2048) : k1_pay7 h g y p (ix2 i j) = kback (fun i j => y (ix2 i j)) h p g i j := by
  have e : k1_pay7 h g y p (ix2 i j) = p (ix2 i j) + k1_pay5 h (ix2 i 0) * (y (ix2 i j) * g (ix2 0 j)
      - k1_pay6 h (ix2 i j) * mean fun d => y (ix2 i d) * g (ix2 0 d) * k1_pay6 h (ix2 i d)) := by
    pointwise [k1_pay7, mean]
  rw [e, pay5_apply]
  simp only [pay6_apply]
  rfl
theorem pay8_apply (j : Fin 2048) : k1_pay8 h y (ix2 0 j) = kgain (fun i j => y (ix2 i j)) h j := by
  have e : k1_pay8 h y (ix2 0 j) = ∑ i : Fin 256, y (ix2 i j) * k1_pay6 h (ix2 i j) := by pointwise [k1_pay8]
  rw [e]
  simp only [pay6_apply]
  rfl
theorem pay9_apply (i : Fin 256) (j : Fin 2048) : k1_pay9 h g y p w (ix2 i j)
    = ∑ d : Fin 2048, kback (fun i j => y (ix2 i j)) h p g i d * w (ix2 j d) := by
  have e : k1_pay9 h g y p w (ix2 i j) = ∑ d : Fin 2048, k1_pay7 h g y p (ix2 i d) * w (ix2 j d) := by pointwise [k1_pay9]
  rw [e]
  simp only [pay7_apply]
theorem pay10_apply (i : Fin 256) (j : Fin 2048) : k1_pay10 h g y p (ix2 i j) = kback (fun i j => y (ix2 i j)) h p g i j := by
  rw [← pay7_apply]
  pointwise [k1_pay10]
theorem pay3_apply (i : Fin 256) (j : Fin 2048) : k1_pay3 (k1_pay9 h g y p w) (ix2 i j)
    = ∑ d : Fin 2048, kback (fun i j => y (ix2 i j)) h p g i d * w (ix2 j d) := by
  rw [← pay9_apply]
  pointwise [k1_pay3]
theorem pay2_apply' (o : Vec Ideal S1x2048 .f32) (j : Fin 2048) :
    k1_pay2 (k1_pay8 h y) o (ix2 0 j) = o (ix2 0 j) + kgain (fun i j => y (ix2 i j)) h j := by
  rw [← pay8_apply]
  pointwise [k1_pay2]
theorem pay1_apply (j : Fin 2048) : k1_pay1 (F := Ideal) (ix2 0 j) = 0 := by
  pointwise [k1_pay1]

end Block

variable (V : (c : Dev nD) → (b : Ref sig .tc) → Buf (Elt Ideal) ((c : Thread nD τ).loc b))

/-- The gradient at a block's normed rows. -/
abbrev by1 (c : Dev nD) (t : Fin cfg1.N) : Fin 256 → Fin 2048 → EReal := fun i j => iblk1 (F := Ideal) V c 0 t (ix2 i j)

/-- What a grid point leaves in the two blocks of rows. -/
theorem out_dh (c : Dev nD) (t : Fin cfg1.N) (i : Fin 256) (j : Fin 2048) : (outsAt1 (F := Ideal) V c t.val t.isLt).1 (ix2 i j)
    = kback (by1 V c t) (iblk1 V c 1 t) (iblk1 V c 3 t) (iblk1 V c 2 t) i j := by
  by_cases h : t.val % 16 = 0
  · rw [outsAt1_A V c t h]
    frame_out
    exact pay7_apply _ _ _ _ i j
  · rw [outsAt1_B V c t h]
    frame_out
    exact pay7_apply _ _ _ _ i j
theorem out_dh16 (c : Dev nD) (t : Fin cfg1.N) (i : Fin 256) (j : Fin 2048) : (outsAt1 (F := Ideal) V c t.val t.isLt).2.1 (ix2 i j)
    = kback (by1 V c t) (iblk1 V c 1 t) (iblk1 V c 3 t) (iblk1 V c 2 t) i j := by
  by_cases h : t.val % 16 = 0
  · rw [outsAt1_A V c t h]
    frame_out
    exact pay10_apply _ _ _ _ i j
  · rw [outsAt1_B V c t h]
    frame_out
    exact pay10_apply _ _ _ _ i j
theorem out_dmo (c : Dev nD) (t : Fin cfg1.N) (i : Fin 256) (j : Fin 2048) : (outsAt1 (F := Ideal) V c t.val t.isLt).2.2.2 (ix2 i j)
    = ∑ d : Fin 2048, kback (by1 V c t) (iblk1 V c 1 t) (iblk1 V c 3 t) (iblk1 V c 2 t) i d * iblk1 (F := Ideal) V c 4 t (ix2 j d) := by
  by_cases h : t.val % 16 = 0
  · rw [outsAt1_A V c t h]
    frame_out
    exact pay3_apply _ _ _ _ _ i j
  · rw [outsAt1_B V c t h]
    frame_out
    exact pay3_apply _ _ _ _ _ i j
/-- What the first and the later points leave in the gain's. -/
theorem out_dgA (c : Dev nD) (t : Fin cfg1.N) (h : t.val % 16 = 0) (j : Fin 2048) : (outsAt1 (F := Ideal) V c t.val t.isLt).2.2.1 (ix2 0 j)
    = 0 + kgain (by1 V c t) (iblk1 V c 1 t) j := by
  rw [outsAt1_A V c t h]
  frame_out
  exact (pay2_apply' _ _ _ j).trans (congrArg (· + _) (pay1_apply j))
theorem out_dgB (c : Dev nD) (t : Fin cfg1.N) (h : ¬t.val % 16 = 0) (j : Fin 2048) : (outsAt1 (F := Ideal) V c t.val t.isLt).2.2.1 (ix2 0 j)
    = (outsAt1 (F := Ideal) V c (t.val - 1) (Nat.lt_of_le_of_lt (Nat.sub_le _ _) t.isLt)).2.2.1 (ix2 0 j)
      + kgain (by1 V c t) (iblk1 V c 1 t) j := by
  rw [outsAt1_B V c t h]
  frame_out
  exact pay2_apply' _ _ _ j

/-- The blocks at each grid point: a tile of rows, and the whole of the gain, its gradient and the weight. -/
theorem idx1 (t : Fin cfg1.N) : win1_0.index t = ![t.val, 0] ∧ win1_1.index t = ![t.val, 0] ∧ win1_2.index t = ![0, 0]
    ∧ win1_3.index t = ![t.val, 0] ∧ win1_4.index t = ![0, 0] ∧ win1_5.index t = ![t.val, 0] ∧ win1_6.index t = ![t.val, 0]
    ∧ win1_8.index t = ![t.val, 0] := by
  revert t; decide +kernel

def tile1 (t : Fin cfg1.N) : Fin 16 := ⟨t.val, lt_of_lt_of_eq t.isLt (show cfg1.N = 16 from N_1)⟩

theorem blk_y (c : Dev nD) (t : Fin cfg1.N) (i : Fin 256) (j : Fin 2048) : iblk1 (F := Ideal) V c 0 t (ix2 i j) = V c main_arg0 (ix2 (tileRow (tile1 t) i) j : S4096x2048.Idx) := by
  have e := idx1 t
  unfold iblk1
  blk_simp
  refine congrArg (V c main_arg0) (?_ : (_ : S4096x2048.Idx) = _)
  blk_ext [e, tileRow, tile1]
theorem blk_h (c : Dev nD) (t : Fin cfg1.N) (i : Fin 256) (j : Fin 2048) : iblk1 (F := Ideal) V c 1 t (ix2 i j) = V c main_v1_0 (ix2 (tileRow (tile1 t) i) j : S4096x2048.Idx) := by
  have e := idx1 t
  unfold iblk1
  blk_simp
  refine congrArg (V c main_v1_0) (?_ : (_ : S4096x2048.Idx) = _)
  blk_ext [e, tileRow, tile1]
theorem blk_g (c : Dev nD) (t : Fin cfg1.N) : iblk1 (F := Ideal) V c 2 t = V c main_v0 := by
  have e := idx1 t
  funext i
  idx_vars i
  unfold iblk1
  blk_simp
  refine congrArg (V c main_v0) (?_ : (_ : S1x2048.Idx) = _)
  blk_ext [e]
theorem blk_p (c : Dev nD) (t : Fin cfg1.N) (i : Fin 256) (j : Fin 2048) : iblk1 (F := Ideal) V c 3 t (ix2 i j) = V c main_arg1 (ix2 (tileRow (tile1 t) i) j : S4096x2048.Idx) := by
  have e := idx1 t
  unfold iblk1
  blk_simp
  refine congrArg (V c main_arg1) (?_ : (_ : S4096x2048.Idx) = _)
  blk_ext [e, tileRow, tile1]
theorem blk_w (c : Dev nD) (t : Fin cfg1.N) (i j : Fin 2048) : iblk1 (F := Ideal) V c 4 t (ix2 i j) = V c main_arg5 (ix2 i j : S2048x2048.Idx) := by
  have e := idx1 t
  unfold iblk1
  blk_simp
  refine congrArg (V c main_arg5) (?_ : (_ : S2048x2048.Idx) = _)
  blk_ext [e]

/-- The gradient at the residual stream, over all the rows. -/
abbrev dhAll (c : Dev nD) : S4096x2048.Idx → EReal := back (V c main_arg0) (V c main_v1_0) (V c main_arg1) (V c main_v0)

theorem kback_eq (c : Dev nD) (t : Fin cfg1.N) (i : Fin 256) (j : Fin 2048) :
    kback (by1 V c t) (iblk1 V c 1 t) (iblk1 V c 3 t) (iblk1 V c 2 t) i j = dhAll V c (ix2 (tileRow (tile1 t) i) j) := by
  rw [blk_g]
  exact kback_rows _ (tile1 t) (blk_y V c t) (blk_h V c t) (blk_p V c t) i j

theorem dh_arr (c : Dev nD) : (dat1 (F := Ideal) V c).arrAt 5 cfg1.N = dhAll V c := by
  refine (dat1 (F := Ideal) V c).arrAt_eq_of_covers 5 _ (by decide +kernel) fun t hf y => ?_
  have e := idx1 t
  blk_simp
  rw [after1_5]
  idx_vars y
  refine (out_dh V c t y0 y1).trans ((kback_eq V c t y0 y1).trans (congrArg (dhAll V c) (?_ : (_ : S4096x2048.Idx) = _)))
  blk_ext [e, tileRow, tile1]
theorem dh16_arr (c : Dev nD) : (dat1 (F := Ideal) V c).arrAt 6 cfg1.N = dhAll V c := by
  refine (dat1 (F := Ideal) V c).arrAt_eq_of_covers 6 _ (by decide +kernel) fun t hf y => ?_
  have e := idx1 t
  blk_simp
  rw [after1_6]
  idx_vars y
  refine (out_dh16 V c t y0 y1).trans ((kback_eq V c t y0 y1).trans (congrArg (dhAll V c) (?_ : (_ : S4096x2048.Idx) = _)))
  blk_ext [e, tileRow, tile1]
/-- The gradient at the mixers' results. -/
theorem dmo_arr (c : Dev nD) : (dat1 (F := Ideal) V c).arrAt 8 cfg1.N = rowsByT (dhAll V c) (fun a b => V c main_arg5 (ix2 a b : S2048x2048.Idx)) := by
  refine (dat1 (F := Ideal) V c).arrAt_eq_of_covers 8 _ (by decide +kernel) fun t hf y => ?_
  have e := idx1 t
  blk_simp
  rw [after1_8]
  idx_vars y
  refine (out_dmo V c t y0 y1).trans ?_
  simp only [kback_eq, blk_w]
  refine Eq.trans (?_ : _ = rowsByT (dhAll V c) (fun a b => V c main_arg5 (ix2 a b : S2048x2048.Idx)) (ix2 (tileRow (tile1 t) y0) y1)) ?_
  · rfl
  · refine congrArg (rowsByT (dhAll V c) (fun a b => V c main_arg5 (ix2 a b : S2048x2048.Idx))) (?_ : (_ : S4096x2048.Idx) = _)
    blk_ext [e, tileRow, tile1]

/-- A tile's part of the gradient of the gain. -/
def gtile (y h : S4096x2048.Idx → EReal) (j : Fin 2048) (k : Fin 16) : EReal := ∑ i : Fin 256, y (ix2 (tileRow k i) j) * unit h (ix2 (tileRow k i) j)
abbrev part1 (c : Dev nD) (j : Fin 2048) (k : Fin 16) : EReal := gtile (V c main_arg0) (V c main_v1_0) j k

theorem sumAt {f : (n : Nat) → n < cfg1.N → EReal} {u : Fin 16 → EReal}
    (h0 : ∀ t : Fin cfg1.N, t.val % 16 = 0 → f t.val t.isLt = 0 + u (tile1 t))
    (hs : ∀ t : Fin cfg1.N, ¬t.val % 16 = 0 → f t.val t.isLt = f (t.val - 1) (Nat.lt_of_le_of_lt (Nat.sub_le _ _) t.isLt) + u (tile1 t))
    (t : Fin cfg1.N) (ht : t.val + 1 = cfg1.N) : f t.val t.isLt = ∑ k, u k := by
  rw [Pipeline.eq_sum_fin_of_reset_step_last f 16 0 (fun t => u (tile1 t)) h0 hs (by decide) t ht, zero_add]
  rfl

theorem after_dg (c : Dev nD) (j : Fin 2048) (t : Fin cfg1.N) (ht : t.val + 1 = cfg1.N) :
    (outsAt1 (F := Ideal) V c t.val t.isLt).2.2.1 (ix2 0 j) = gback (V c main_arg0) (V c main_v1_0) (ix2 0 j) := by
  have q (t : Fin cfg1.N) : kgain (by1 V c t) (iblk1 V c 1 t) j = part1 V c j (tile1 t) :=
    kgain_rows (tile1 t) (blk_y V c t) (blk_h V c t) j
  refine (sumAt (f := fun n hn => (outsAt1 (F := Ideal) V c n hn).2.2.1 (ix2 0 j)) (u := part1 V c j) (fun t h => ?_) (fun t h => ?_) t ht).trans
    (gback_tiles (V c main_arg0) (V c main_v1_0) j)
  · exact (out_dgA V c t h j).trans (congrArg (0 + ·) (q t))
  · exact (out_dgB V c t h j).trans (congrArg (_ + ·) (q t))

/-- The last grid point. -/
def last1 : Fin cfg1.N := ⟨15, by rw [show cfg1.N = 16 from N_1]; decide⟩
theorem whole7 : (cfg1.win 7).WholeAt last1 := by decide +kernel

/-- The gradient of the gain. -/
theorem dg_arr (c : Dev nD) : (dat1 (F := Ideal) V c).arrAt 7 cfg1.N = gback (V c main_arg0) (V c main_v1_0) := by
  refine (dat1 (F := Ideal) V c).arrAt_eq_of_after_last 7 last1 whole7 _ fun y => ?_
  rw [after1_7]
  blk_simp
  idx_vars y
  obtain rfl : y0 = 0 := Subsingleton.elim _ _
  have h := after_dg V c y1 last1 N_1.symm
  generalize outsAt1 V c last1.val _ = o at h ⊢
  exact h

end Cert.Out

end
-- ==== Proof.Out.Ref.lean ====
/- The reference's output projection and its derivatives, read element by element. -/
module

public import proofs.«01_k».proof.Proof.Gen.Reference4Ideal
public import proofs.«01_k».proof.Proof.Out.Math
public import Idealize.ShloMosaic.Lib.Pipeline.ValueKit
public import Idealize.ShloMosaic.Lib.Pointwise

@[expose] public section

set_option maxRecDepth 16384

noncomputable section

namespace Cert.Out

open Cert.Reference4Ideal Cert.Reference4Ideal.Gen Cert.Reference4Ideal.Facts Cert.In Idealize.ShloMosaic

local notation "Rows" => (S4096x2048.Idx → EReal)

/-- The reference's terms. -/
def rAfter (m : FVec Ideal S4096x2048 .bf16) (w : FVec Ideal S2048x2048 .bf16) (h : FVec Ideal S4096x2048 .f32) : FVec Ideal S4096x2048 .f32 :=
  addf h (Host.dotGeneral dot_S4096x2048_S2048x2048_S4096x2048_1_0_0_1_n_n none (extf .f32 m bitsLt_bf16_f32) (extf .f32 w bitsLt_bf16_f32))
def rCut (y : FVec Ideal S4096x2048 .f32) : FVec Ideal S4096x2048 .bf16 := truncf .bf16 y bitsLt_bf16_f32
def rDmo (y : FVec Ideal S4096x2048 .f32) (w : FVec Ideal S2048x2048 .bf16) : FVec Ideal S4096x2048 .bf16 :=
  truncf .bf16 (Host.dotGeneral dot_S4096x2048_S2048x2048_S4096x2048_1_1_0_0_n_n none (shapeCast _ y shapeCasts_S4096x2048_S4096x2048) (extf .f32 w bitsLt_bf16_f32)) bitsLt_bf16_f32
def rDw (y : FVec Ideal S4096x2048 .f32) (m : FVec Ideal S4096x2048 .bf16) : FVec Ideal S2048x2048 .f32 :=
  transpose S2048x2048 [1, 0] (Host.dotGeneral dot_S4096x2048_S4096x2048_S2048x2048_0_0_1_1_n_n none (shapeCast _ y shapeCasts_S4096x2048_S4096x2048) (extf .f32 m bitsLt_bf16_f32))
    transposes_S2048x2048_S2048x2048_1_0

theorem rAfter_eq (m : FVec Ideal S4096x2048 .bf16) (w : FVec Ideal S2048x2048 .bf16) (h : FVec Ideal S4096x2048 .f32) :
    rAfter m w h = after m (fun a b => w (ix2 a b)) h := by
  funext i
  idx_vars i
  pointwise [rAfter, after, rowsBy]
theorem rCut_eq (y : FVec Ideal S4096x2048 .f32) : rCut y = y := by
  funext i
  idx_vars i
  pointwise [rCut]
theorem rDmo_eq (y : FVec Ideal S4096x2048 .f32) (w : FVec Ideal S2048x2048 .bf16) : rDmo y w = rowsByT y (fun a b => w (ix2 a b)) := by
  funext i
  idx_vars i
  pointwise [rDmo, rowsByT]
theorem rDw_eq (y : FVec Ideal S4096x2048 .f32) (m : FVec Ideal S4096x2048 .bf16) : rDw y m = fun i => wgrad m y (i 0) (i 1) := by
  funext i
  idx_vars i
  pointwise [rDw, wgrad]
  exact Finset.sum_congr rfl fun s _ => mul_comm _ _

end Cert.Out

end
-- ==== Proof.Out.Chain.lean ====
/- The results of the output projection program as functions of its arguments: the calls' arrays, chained. -/
module

public import proofs.«01_k».proof.Proof.Out.Fwd
public import proofs.«01_k».proof.Proof.Out.Dx
public import proofs.«01_k».proof.Proof.Out.Ref

@[expose] public section

set_option maxRecDepth 16384

noncomputable section

namespace Cert.Out

open Cert.Kernel4Ideal Cert.Kernel4Ideal.Gen Cert.In Idealize.ShloMosaic Idealize.ShloMosaic.TcCoe Idealize.ShloMosaic.Tactic Idealize.SL.Sem

variable (m : (ℓ : Loc nD τ sig) → Buf (Elt Ideal) ℓ) (ρ : Dev nD → PrngReg)

/-- The six arguments. -/
abbrev aY (c : Dev nD) : S4096x2048.Idx → EReal := m ((c : Thread nD τ).loc main_arg0)
abbrev aP (c : Dev nD) : S4096x2048.Idx → EReal := m ((c : Thread nD τ).loc main_arg1)
abbrev aM (c : Dev nD) : S4096x2048.Idx → EReal := m ((c : Thread nD τ).loc main_arg2)
abbrev aH (c : Dev nD) : S4096x2048.Idx → EReal := m ((c : Thread nD τ).loc main_arg3)
abbrev aG (c : Dev nD) : S2048.Idx → EReal := m ((c : Thread nD τ).loc main_arg4)
abbrev aW (c : Dev nD) : S2048x2048.Idx → EReal := m ((c : Thread nD τ).loc main_arg5)
/-- The residual stream after the mixers and the gradient there. -/
abbrev hAll (c : Dev nD) : S4096x2048.Idx → EReal := after (aM m c) (sq (aW m c)) (aH m c)
abbrev dAll (c : Dev nD) : S4096x2048.Idx → EReal := back (aY m c) (hAll m c) (aP m c) (row (aG m c))

theorem v1_gain (c : Dev nD) : V1 m ρ c main_v0 = row (aG m c) := by
  have e : V1 m ρ c main_v0 = broadcastInDim S1x2048 ![1] bcast_S2048_S1x2048_1 (aG m c) := by
    unfold V1 W1; after_results_simp
  rw [e]
  funext i
  idx_vars i
  pointwise [row]

theorem v2_after (c : Dev nD) : V2 m ρ c main_v1_0 = hAll m c := by
  refine (W2_arr m ρ c 4).trans ((after_arr (V1 m ρ) c).trans ?_)
  rw [show V1 m ρ c main_arg2 = aM m c from W1_args m ρ c main_arg2 (by decide),
    show V1 m ρ c main_arg3 = aH m c from W1_args m ρ c main_arg3 (by decide),
    show V1 m ρ c main_arg5 = aW m c from W1_args m ρ c main_arg5 (by decide)]
theorem v2_nrm (c : Dev nD) : V2 m ρ c main_v1_1 = nrm (hAll m c) (row (aG m c)) := by
  refine (W2_arr m ρ c 5).trans ((nrm_arr (V1 m ρ) c).trans ?_)
  rw [v1_gain, show V1 m ρ c main_arg2 = aM m c from W1_args m ρ c main_arg2 (by decide),
    show V1 m ρ c main_arg3 = aH m c from W1_args m ρ c main_arg3 (by decide),
    show V1 m ρ c main_arg5 = aW m c from W1_args m ρ c main_arg5 (by decide)]
theorem v2_gain (c : Dev nD) : V2 m ρ c main_v0 = row (aG m c) := (W2_of m ρ c main_v0 (by decide)).trans (v1_gain m ρ c)
theorem v2_dh (c : Dev nD) : dhAll (V2 m ρ) c = dAll m c := by
  unfold dhAll
  rw [v2_after, v2_gain, show V2 m ρ c main_arg0 = aY m c from W2_args m ρ c main_arg0 (by decide),
    show V2 m ρ c main_arg1 = aP m c from W2_args m ρ c main_arg1 (by decide)]
theorem v3_dh (c : Dev nD) : V3 m ρ c main_v2_0 = dAll m c := (W3_arr m ρ c 5).trans ((dh_arr (V2 m ρ) c).trans (v2_dh m ρ c))
theorem v3_dh16 (c : Dev nD) : V3 m ρ c main_v2_1 = dAll m c := (W3_arr m ρ c 6).trans ((dh16_arr (V2 m ρ) c).trans (v2_dh m ρ c))
theorem v3_dg (c : Dev nD) : V3 m ρ c main_v2_2 = gback (aY m c) (hAll m c) := by
  refine (W3_arr m ρ c 7).trans ((dg_arr (V2 m ρ) c).trans ?_)
  rw [v2_after, show V2 m ρ c main_arg0 = aY m c from W2_args m ρ c main_arg0 (by decide)]
theorem v3_dmo (c : Dev nD) : V3 m ρ c main_v2_3 = rowsByT (dAll m c) (sq (aW m c)) := by
  refine (W3_arr m ρ c 8).trans ((dmo_arr (V2 m ρ) c).trans ?_)
  rw [v2_dh, show V2 m ρ c main_arg5 = aW m c from W2_args m ρ c main_arg5 (by decide)]

/-- The six results. -/
theorem res_after (c : Dev nD) : V4 m ρ c main_v1_0 = hAll m c :=
  (W4_of m ρ c main_v1_0 (by decide)).trans ((W3_of m ρ c main_v1_0 (by decide)).trans (v2_after m ρ c))
theorem res_nrm (c : Dev nD) : V4 m ρ c main_v1_1 = nrm (hAll m c) (row (aG m c)) :=
  (W4_of m ρ c main_v1_1 (by decide)).trans ((W3_of m ρ c main_v1_1 (by decide)).trans (v2_nrm m ρ c))
theorem res_dh (c : Dev nD) : V4 m ρ c main_v2_0 = dAll m c := (W4_of m ρ c main_v2_0 (by decide)).trans (v3_dh m ρ c)
theorem res_dg (c : Dev nD) : V4 m ρ c main_v2_2 = gback (aY m c) (hAll m c) := (W4_of m ρ c main_v2_2 (by decide)).trans (v3_dg m ρ c)
theorem res_dmo (c : Dev nD) : V4 m ρ c main_v2_3 = rowsByT (dAll m c) (sq (aW m c)) :=
  (W4_of m ρ c main_v2_3 (by decide)).trans (v3_dmo m ρ c)
theorem res_dw (c : Dev nD) : V4 m ρ c main_v3 = fun i : S2048x2048.Idx => wgrad (aM m c) (dAll m c) (i 0) (i 1) := by
  refine (W4_arr m ρ c 2).trans ((dw_arr (V3 m ρ) c).trans ?_)
  rw [v3_dh16, show V3 m ρ c main_arg2 = aM m c from W3_args m ρ c main_arg2 (by decide)]

end Cert.Out

end
-- ==== Proof.Out.Claims.lean ====
/- The five claims about the output projection program. -/
module

public import proofs.«01_k».proof.Defs
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import proofs.«01_k».proof.Proof.Out.Run
public import proofs.«01_k».proof.Proof.Out.Chain
public import Idealize.ShloMosaic.Adequacy
public import Idealize.ShloMosaic.Init

@[expose] public section

set_option maxRecDepth 16384

noncomputable section

namespace Cert.Out

open Cert.In Idealize.ShloMosaic Idealize.ShloMosaic.Tactic Idealize.SL.Sem

theorem frame_kernel4_ideal : Cert.quiescent_Kernel4Ideal := fun m ρ _ =>
  (θ_run Cert.Kernel4Ideal.defs _ _).mono (fun _ h => ⟨fun c => (h.1 c).2, h.2⟩) (run_main (F := Ideal) m ρ)

set_option maxHeartbeats 4000000 in
theorem frame_kernel4 : Cert.quiescent_Kernel4 := fun m ρ _ => by
  have h := (θ_run Cert.Kernel4Ideal.defs _ _).mono (fun r h => And.intro (fun c => (h.1 c).2) h.2) (run_main (F := Bits) m ρ)
  refine cast ?_ h
  sl_kernel_rfl

set_option maxHeartbeats 4000000 in
theorem frame_reference4 : Cert.quiescent_Reference4Ideal := fun m ρ _ => by
  refine (θ_run Cert.Reference4Ideal.defs _ _).mono ?_ (Cert.Reference4Ideal.Value.run m ρ)
  intro r h
  exact ⟨fun c => (h c).2.2.2.2.2.2, sem_eq_zero_of_no_sems (by decide) r.2⟩

theorem algebraic4 : Cert.algebraic_Kernel4Ideal_Reference4Ideal := fun m g m' g' _ hag =>
  ⟨fun c => Cert.Kernel4Ideal.Gen.V4 m g c Cert.Kernel4Ideal.main_v1_0, fun c => Cert.Kernel4Ideal.Gen.V4 m g c Cert.Kernel4Ideal.main_v1_1,
   fun c => Cert.Kernel4Ideal.Gen.V4 m g c Cert.Kernel4Ideal.main_v2_0, fun c => Cert.Kernel4Ideal.Gen.V4 m g c Cert.Kernel4Ideal.main_v2_2,
   fun c => Cert.Kernel4Ideal.Gen.V4 m g c Cert.Kernel4Ideal.main_v2_3, fun c => Cert.Kernel4Ideal.Gen.V4 m g c Cert.Kernel4Ideal.main_v3,
   (θ_run Cert.Kernel4Ideal.defs _ _).mono (fun _ h c => by
     obtain ⟨⟨r0, r1, r2, r3, r4, r5⟩, u⟩ := h.1 c
     exact ⟨r0, r1, r2, r3, r4, r5, u⟩) (run_main (F := Ideal) m g),
   (θ_run Cert.Reference4Ideal.defs _ _).mono (fun _ h c => by
     obtain ⟨r0, r1, r2, r3, r4, r5, u⟩ := h c
     obtain ⟨e0, e1, e2, e3, e4, e5⟩ := hag c
     have hH := rAfter_eq (aM m c) (aW m c) (aH m c)
     have hB : rBack (aY m c) (rAfter (aM m c) (aW m c) (aH m c)) (aP m c) (aG m c) = dAll m c := by rw [hH, rBack_eq]
     refine ⟨r0.trans ?_, r1.trans ?_, r2.trans ?_, r3.trans ?_, r4.trans ?_, r5.trans ?_, u⟩
     · refine Eq.trans ?_ (hH.trans (res_after m g c).symm)
       rw [e2, e3, e5]
       rfl
     · refine Eq.trans ?_ ((rCut_eq _).trans ((rNrm_eq _ _).trans ((congrArg (nrm · _) hH).trans (res_nrm m g c).symm)))
       rw [e2, e3, e4, e5]
       rfl
     · refine Eq.trans ?_ (hB.trans (res_dh m g c).symm)
       unfold Cert.Reference4Ideal.Value.res_main_v40
       rw [e0, e1, e2, e3, e4, e5]
       rfl
     · refine Eq.trans ?_ ((rGback_eq _ _).trans ((congrArg (gback _) hH).trans (res_dg m g c).symm))
       rw [e0, e2, e3, e5]
       rfl
     · refine Eq.trans ?_ ((rDmo_eq _ _).trans ((congrArg (rowsByT · _) hB).trans (res_dmo m g c).symm))
       unfold Cert.Reference4Ideal.Value.res_main_v47
       rw [e0, e1, e2, e3, e4, e5]
       rfl
     · refine Eq.trans ?_ ((rDw_eq _ _).trans ((congrArg (fun y => fun i : Cert.Kernel4Ideal.S2048x2048.Idx => wgrad (aM m c) y (i 0) (i 1)) hB).trans (res_dw m g c).symm))
       unfold Cert.Reference4Ideal.Value.res_main_v43
       rw [e0, e1, e2, e3, e4, e5]
       rfl) (Cert.Reference4Ideal.Value.run m' g')⟩

end Cert.Out

end
-- ==== Proof.Ple.Run.lean ====
/- The per-layer embedding program's run: every buffer it leaves, at any float values, and at the ideal values each result as a
   function of the arguments. -/
module

public import proofs.«01_k».proof.Proof.Gen.Kernel5Ideal.Frame

@[expose] public section

set_option maxRecDepth 16384

noncomputable section

namespace Cert.Ple

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program ends, faulting nowhere, with every buffer outside a call at the contents of the last boundary and with
    every counter at zero. -/
theorem run_all : θ_run defs (onTc (τ := τ) (main (F := F))) ⟨m, fun _ => 0, ρ⟩ (fun r =>
    (∀ c : Dev nD, ∀ b ∈ Pipeline.ucRefs τ sig, r.2.mem ((c : Thread nD τ).1, b) = W8 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨fun c b hb => h c b hb, funext fun g => hz g (.inr (no_unscoped g.2))⟩)

/-- The same run: the five results at the last boundary's contents, the arguments as launched. -/
theorem run_main : θ_run defs (onTc (τ := τ) (main (F := F))) ⟨m, fun _ => 0, ρ⟩ (fun r =>
    (∀ c : Dev nD,
      (r.2.mem ((c.tc : Thread nD τ).loc main_v4_0) = V8 m ρ c main_v4_0
      ∧ r.2.mem ((c.tc : Thread nD τ).loc main_v5_0) = V8 m ρ c main_v5_0
      ∧ r.2.mem ((c.tc : Thread nD τ).loc main_v5_2) = V8 m ρ c main_v5_2
      ∧ r.2.mem ((c.tc : Thread nD τ).loc main_v6) = V8 m ρ c main_v6
      ∧ r.2.mem ((c.tc : Thread nD τ).loc main_v7) = V8 m ρ c main_v7)
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))) ∧ r.2.sem = fun _ => 0) :=
  (θ_run defs _ _).mono (fun r h => ⟨fun c =>
    ⟨⟨h.1 c _ (mem_uc main_v4_0 (by decide)), h.1 c _ (mem_uc main_v5_0 (by decide)), h.1 c _ (mem_uc main_v5_2 (by decide)), h.1 c _ (mem_uc main_v6 (by decide)), h.1 c _ (mem_uc main_v7 (by decide))⟩,
     (h.1 c _ (mem_uc main_arg0 (by decide))).trans (W8_main_arg0 m ρ c),
     (h.1 c _ (mem_uc main_arg1 (by decide))).trans (W8_main_arg1 m ρ c),
     (h.1 c _ (mem_uc main_arg2 (by decide))).trans (W8_main_arg2 m ρ c),
     (h.1 c _ (mem_uc main_arg3 (by decide))).trans (W8_main_arg3 m ρ c),
     (h.1 c _ (mem_uc main_arg4 (by decide))).trans (W8_main_arg4 m ρ c),
     (h.1 c _ (mem_uc main_arg5 (by decide))).trans (W8_main_arg5 m ρ c),
     (h.1 c _ (mem_uc main_arg6 (by decide))).trans (W8_main_arg6 m ρ c),
     (h.1 c _ (mem_uc main_arg7 (by decide))).trans (W8_main_arg7 m ρ c)⟩, h.2⟩) (run_all m ρ)

end Cert.Ple

end
-- ==== Proof.Ple.Math.lean ====
/- The end of the feed-forward block, the per-layer embedding and its derivatives, element by element, over the extended reals:
   the arrays that the kernel's seven calls leave, as functions of the arrays they read. -/
module

public import proofs.«01_k».proof.Proof.Gen.Kernel5Ideal
public import proofs.«01_k».proof.Proof.Out.Math

@[expose] public section

noncomputable section

namespace Cert.Ple

open Cert.Kernel5Ideal Cert.In Cert.Out Idealize.ShloMosaic

local notation "Rows" => (S4096x2048.Idx → EReal)
/-- Hidden activations and the weight that ends the block, by shards. -/
local notation "Hidden" => (S8x4096x704.Idx → EReal)
local notation "Shards" => (S8x704x2048.Idx → EReal)
/-- The tokens' embeddings and the weight they are projected by. -/
local notation "Feats" => (S1x4096x256.Idx → EReal)
local notation "Cols" => (S8x256x256.Idx → EReal)

/-- One shard's part of a row of `h` times the weight. -/
def part (h : Hidden) (w : Shards) (k : Fin 8) : Rows := fun i => ∑ f : Fin 704, h (ix3 k (i 0) f) * w (ix3 k f (i 1))
/-- A row of `h` times the weight, shard after shard, added to the residual stream. -/
def ends (h : Hidden) (w : Shards) (x : Rows) : Rows := fun i => x i
  + (part h w 0 i + part h w 1 i + part h w 2 i + part h w 3 i + part h w 4 i + part h w 5 i + part h w 6 i + part h w 7 i)

/-- The shard of a column, the position in it, and back. -/
def shardOf (j : Fin 2048) : Fin 8 := ⟨j.val / 256, by have := j.isLt; omega⟩
def posOf (j : Fin 2048) : Fin 256 := ⟨j.val % 256, by omega⟩
def at8 (k : Fin 8) (f : Fin 256) : Fin 2048 := ⟨k.val * 256 + f.val, by have := k.isLt; have := f.isLt; omega⟩

/-- The embeddings' projection. -/
def proj (p : Feats) (w : Cols) : Rows := fun i => ∑ f : Fin 256, p (ix3 0 (i 0) f) * w (ix3 (shardOf (i 1)) f (posOf (i 1)))
/-- The residual stream with the gated projection `q`, `x` the gate before its sigmoid. -/
def gated (h x q : Rows) : Rows := fun i => h i + Ideal.logistic (x i) * q i
/-- The gradient before the sigmoid, and at the projection. -/
def dgate (d q x : Rows) : Rows := fun i => d i * q i * Ideal.logistic (x i) * (1 - Ideal.logistic (x i))
def dproj (d x : Rows) : Rows := fun i => d i * Ideal.logistic (x i)
/-- The gradient of the projection's weight. -/
def dcols (p : Feats) (y : Rows) : Cols := fun i => ∑ s : Fin 4096, p (ix3 0 s (i 1)) * y (ix2 s (at8 (i 0) (i 2)))

end Cert.Ple

end
-- ==== Proof.Ple.Fwd.lean ====
/- The residual stream at the end of the feed-forward block, its normed rows, the embeddings' projection and the gated sum, as
   the arrays that their calls leave. -/
module

public import proofs.«01_k».proof.Proof.Gen.Kernel5Ideal.Frame
public import proofs.«01_k».proof.Proof.Ple.Math
public import Idealize.ShloMosaic.Lib.Pipeline.ValueKit

@[expose] public section

set_option maxRecDepth 16384
set_option maxHeartbeats 4000000

noncomputable section

namespace Cert.Ple

open Cert.Kernel5Ideal Cert.Kernel5Ideal.Gen Cert.In Cert.Out Idealize.ShloMosaic Idealize.ShloMosaic.TcCoe Idealize.SL.Sem
open Idealize.ShloMosaic.Pipeline (Dat)

/-- A weight's array by row and column. -/
abbrev sq (w : S2048x2048.Idx → EReal) : Fin 2048 → Fin 2048 → EReal := fun a b => w (ix2 a b)

variable (V : (c : Dev nD) → (b : Ref sig .tc) → Buf (Elt Ideal) ((c : Thread nD τ).loc b))

/-- The blocks at each grid point: a tile of columns and a tile of rows. -/
theorem idx0 (t : Fin cfg0.N) : win0_0.index t = ![0, t.val % 8, 0] ∧ win0_1.index t = ![0, 0, t.val / 8]
    ∧ win0_2.index t = ![t.val % 8, t.val / 8] ∧ win0_3.index t = ![t.val % 8, t.val / 8] := by
  revert t; decide +kernel

/-- The residual stream at the end of the feed-forward block. -/
theorem ends_arr (c : Dev nD) : (dat0 (F := Ideal) V c).arrAt 3 cfg0.N = ends (V c main_arg1) (V c main_arg2) (V c main_arg3) := by
  refine (dat0 (F := Ideal) V c).arrAt_eq_of_covers 3 _ (by decide +kernel) fun t hf y => ?_
  have e := idx0 t
  blk_simp
  rw [after0_3]
  frame_out
  idx_vars y
  pointwise [k0_pay1, k0_pay2, k0_pay3, k0_pay4, k0_pay5, k0_pay6, k0_pay7, k0_pay8, k0_pay9, k0_pay10, k0_pay11, k0_pay12, k0_pay13, ends, part]
  reads_congr
  all_goals first
    | (refine congrArg (V c main_arg3) (?_ : (_ : S4096x2048.Idx) = _); blk_ext [e])
    | (refine congrArg (V c main_arg1) (?_ : (_ : S8x4096x704.Idx) = _); blk_ext [e])
    | (refine congrArg (V c main_arg2) (?_ : (_ : S8x704x2048.Idx) = _); blk_ext [e])

/-- The blocks at each grid point: a tile of rows, and the whole gain. -/
theorem idx1 (t : Fin cfg1.N) : win1_0.index t = ![t.val, 0] ∧ win1_1.index t = ![0, 0] ∧ win1_2.index t = ![t.val, 0] := by
  revert t; decide +kernel

/-- The normed rows. -/
theorem nrm_arr (c : Dev nD) : (dat1 (F := Ideal) V c).arrAt 2 cfg1.N = nrm (V c main_v1) (V c main_v0) := by
  refine (dat1 (F := Ideal) V c).arrAt_eq_of_covers 2 _ (by decide +kernel) fun t hf y => ?_
  have e := idx1 t
  blk_simp
  rw [after1_2]
  frame_out
  idx_vars y
  pointwise [k1_pay1, In.nrm, In.unit, In.inv, In.var, In.mean]
  reads_congr
  all_goals first
    | (refine congrArg (V c main_v1) (?_ : (_ : S4096x2048.Idx) = _); blk_ext [e])
    | (refine congrArg (V c main_v0) (?_ : (_ : S1x2048.Idx) = _); blk_ext [e])

/-- The blocks at each grid point: a tile of rows and a shard. -/
theorem idx2 (t : Fin cfg2.N) : win2_0.index t = ![0, t.val / 8, 0] ∧ win2_1.index t = ![t.val % 8, 0, 0]
    ∧ win2_2.index t = ![t.val / 8, t.val % 8] := by
  revert t; decide +kernel

/-- The embeddings' projection. -/
theorem proj_arr (c : Dev nD) : (dat2 (F := Ideal) V c).arrAt 2 cfg2.N = proj (V c main_arg4) (V c main_arg5) := by
  refine (dat2 (F := Ideal) V c).arrAt_eq_of_covers 2 _ (by decide +kernel) fun t hf y => ?_
  have e := idx2 t
  blk_simp
  rw [after2_2]
  frame_out
  idx_vars y
  pointwise [k2_pay1, proj]
  reads_congr
  · refine congrArg (V c main_arg4) (?_ : (_ : S1x4096x256.Idx) = _)
    blk_ext [e]
  · refine congrArg (V c main_arg5) (?_ : (_ : S8x256x256.Idx) = _)
    blk_ext [e, shardOf, posOf]

section Block

variable {x : Vec Ideal S256x2048 .bf16} {w : Vec Ideal S2048x2048 .bf16} {h : Vec Ideal S256x2048 .f32} {q : Vec Ideal S256x2048 .bf16}
  {X H Q : S4096x2048.Idx → EReal} {W : S2048x2048.Idx → EReal} (t : Fin 16)
  (hx : ∀ i j, x (ix2 i j) = X (ix2 (tileRow t i) j)) (hw : ∀ a b, w (ix2 a b) = W (ix2 a b))
  (hh : ∀ i j, h (ix2 i j) = H (ix2 (tileRow t i) j)) (hq : ∀ i j, q (ix2 i j) = Q (ix2 (tileRow t i) j))

include hx hw in
theorem pay1_rows (i : Fin 256) (j : Fin 2048) : k3_pay1 x w (ix2 i j) = rowsBy X (sq W) (ix2 (tileRow t i) j) := by
  have e : k3_pay1 x w (ix2 i j) = ∑ d : Fin 2048, x (ix2 i d) * w (ix2 d j) := by pointwise [k3_pay1]
  rw [e]
  simp only [hx, hw]
  rfl
include hx hw in
theorem pay3_rows (i : Fin 256) (j : Fin 2048) : k3_pay3 x w (ix2 i j) = rowsBy X (sq W) (ix2 (tileRow t i) j) := by
  rw [← pay1_rows t hx hw i j]
  pointwise [k3_pay3]
include hx hw hh hq in
theorem pay2_rows (i : Fin 256) (j : Fin 2048) : k3_pay2 x w h q (ix2 i j) = gated H (rowsBy X (sq W)) Q (ix2 (tileRow t i) j) := by
  have e : k3_pay2 x w h q (ix2 i j) = h (ix2 i j) + Ideal.logistic (k3_pay1 x w (ix2 i j)) * q (ix2 i j) := by pointwise [k3_pay2]
  rw [e, pay1_rows t hx hw i j, hh, hq]
  rfl

end Block

/-- The blocks at each grid point: a tile of rows, and the whole weight. -/
theorem idx3 (t : Fin cfg3.N) : win3_0.index t = ![t.val, 0] ∧ win3_1.index t = ![0, 0] ∧ win3_2.index t = ![t.val, 0]
    ∧ win3_3.index t = ![t.val, 0] ∧ win3_4.index t = ![t.val, 0] ∧ win3_5.index t = ![t.val, 0] := by
  revert t; decide +kernel

def tile3 (t : Fin cfg3.N) : Fin 16 := ⟨t.val, lt_of_lt_of_eq t.isLt (show cfg3.N = 16 from N_3)⟩

theorem blk3_x (c : Dev nD) (t : Fin cfg3.N) (i : Fin 256) (j : Fin 2048) : iblk3 (F := Ideal) V c 0 t (ix2 i j) = V c main_v2 (ix2 (tileRow (tile3 t) i) j : S4096x2048.Idx) := by
  have e := idx3 t
  unfold iblk3
  blk_simp
  refine congrArg (V c main_v2) (?_ : (_ : S4096x2048.Idx) = _)
  blk_ext [e, tileRow, tile3]
theorem blk3_w (c : Dev nD) (t : Fin cfg3.N) (i j : Fin 2048) : iblk3 (F := Ideal) V c 1 t (ix2 i j) = V c main_arg6 (ix2 i j : S2048x2048.Idx) := by
  have e := idx3 t
  unfold iblk3
  blk_simp
  refine congrArg (V c main_arg6) (?_ : (_ : S2048x2048.Idx) = _)
  blk_ext [e]
theorem blk3_h (c : Dev nD) (t : Fin cfg3.N) (i : Fin 256) (j : Fin 2048) : iblk3 (F := Ideal) V c 2 t (ix2 i j) = V c main_v1 (ix2 (tileRow (tile3 t) i) j : S4096x2048.Idx) := by
  have e := idx3 t
  unfold iblk3
  blk_simp
  refine congrArg (V c main_v1) (?_ : (_ : S4096x2048.Idx) = _)
  blk_ext [e, tileRow, tile3]
theorem blk3_q (c : Dev nD) (t : Fin cfg3.N) (i : Fin 256) (j : Fin 2048) : iblk3 (F := Ideal) V c 3 t (ix2 i j) = V c main_v3 (ix2 (tileRow (tile3 t) i) j : S4096x2048.Idx) := by
  have e := idx3 t
  unfold iblk3
  blk_simp
  refine congrArg (V c main_v3) (?_ : (_ : S4096x2048.Idx) = _)
  blk_ext [e, tileRow, tile3]

/-- The gate before its sigmoid. -/
abbrev gateAll (c : Dev nD) : S4096x2048.Idx → EReal := rowsBy (V c main_v2) (sq (V c main_arg6))

theorem gate_arr (c : Dev nD) : (dat3 (F := Ideal) V c).arrAt 5 cfg3.N = gateAll V c := by
  refine (dat3 (F := Ideal) V c).arrAt_eq_of_covers 5 _ (by decide +kernel) fun t hf y => ?_
  have e := idx3 t
  blk_simp
  rw [after3_5]
  frame_out
  idx_vars y
  refine Eq.trans (pay3_rows (X := V c main_v2) (W := V c main_arg6) (tile3 t) (blk3_x V c t) (blk3_w V c t) y0 y1)
    (congrArg (gateAll V c) (?_ : (_ : S4096x2048.Idx) = _))
  blk_ext [e, tileRow, tile3]
/-- The gated sum. -/
theorem gated_arr (c : Dev nD) : (dat3 (F := Ideal) V c).arrAt 4 cfg3.N = gated (V c main_v1) (gateAll V c) (V c main_v3) := by
  refine (dat3 (F := Ideal) V c).arrAt_eq_of_covers 4 _ (by decide +kernel) fun t hf y => ?_
  have e := idx3 t
  blk_simp
  rw [after3_4]
  frame_out
  idx_vars y
  refine Eq.trans (pay2_rows (X := V c main_v2) (W := V c main_arg6) (H := V c main_v1) (Q := V c main_v3) (tile3 t)
      (blk3_x V c t) (blk3_w V c t) (blk3_h V c t) (blk3_q V c t) y0 y1)
    (congrArg (gated (V c main_v1) (gateAll V c) (V c main_v3)) (?_ : (_ : S4096x2048.Idx) = _))
  blk_ext [e, tileRow, tile3]

end Cert.Ple

end
-- ==== Proof.Ple.Dx.lean ====
/- The gradients that pass through the gate, those of the embeddings' projection and of the norm's gain, and the one at the
   residual stream, as the arrays that their call leaves. -/
module

public import proofs.«01_k».proof.Proof.Gen.Kernel5Ideal.Frame
public import proofs.«01_k».proof.Proof.Ple.Math
public import Idealize.ShloMosaic.Lib.Pipeline.ValueKit

@[expose] public section

set_option maxRecDepth 16384
set_option maxHeartbeats 4000000

noncomputable section

namespace Cert.Ple

open Cert.Kernel5Ideal Cert.Kernel5Ideal.Gen Cert.In Cert.Out Idealize.ShloMosaic Idealize.ShloMosaic.TcCoe Idealize.SL.Sem
open Idealize.ShloMosaic.Pipeline (Dat)

/-- The gradient before the sigmoid in a block, and at its normed rows. -/
def bgate (d : Vec Ideal S256x2048 .f32) (x q : Vec Ideal S256x2048 .bf16) (i : Fin 256) (j : Fin 2048) : EReal :=
  d (ix2 i j) * q (ix2 i j) * Ideal.logistic (x (ix2 i j)) * (1 - Ideal.logistic (x (ix2 i j)))
def bdy (d : Vec Ideal S256x2048 .f32) (x q : Vec Ideal S256x2048 .bf16) (w : Vec Ideal S2048x2048 .bf16) (i : Fin 256) (j : Fin 2048) : EReal :=
  ∑ k : Fin 2048, bgate d x q i k * w (ix2 j k)
/-- The gradient at the embeddings' projection in a block. -/
def bproj (d : Vec Ideal S256x2048 .f32) (x : Vec Ideal S256x2048 .bf16) (i : Fin 256) (j : Fin 2048) : EReal :=
  d (ix2 i j) * Ideal.logistic (x (ix2 i j))

section Block

variable (d : Vec Ideal S256x2048 .f32) (x q : Vec Ideal S256x2048 .bf16) (w : Vec Ideal S2048x2048 .bf16)
  (h : Vec Ideal S256x2048 .f32) (g : Vec Ideal S1x2048 .f32)

theorem pay5_apply (i : Fin 256) (j : Fin 2048) : k4_pay5 d (k4_pay6 x) (ix2 i j) = d (ix2 i j) * Ideal.logistic (x (ix2 i j)) := by
  pointwise [k4_pay5, k4_pay6]
theorem pay7_apply (i : Fin 256) (j : Fin 2048) : k4_pay7 d x q (ix2 i j) = bgate d x q i j := by
  pointwise [k4_pay7, k4_pay6, bgate]
theorem pay9_apply (i : Fin 256) (j : Fin 2048) : k4_pay9 d x q w (ix2 i j) = bdy d x q w i j := by
  have e : k4_pay9 d x q w (ix2 i j) = ∑ k : Fin 2048, k4_pay7 d x q (ix2 i k) * w (ix2 j k) := by pointwise [k4_pay9]
  rw [e]
  simp only [pay7_apply]
  rfl
theorem pay10_apply (i : Fin 256) (j : Fin 1) : k4_pay10 h (ix2 i j) = kinv h i := by
  pointwise [k4_pay10, k4_pay8, kinv, mean]
theorem pay11_apply (i : Fin 256) (j : Fin 2048) : k4_pay11 h (ix2 i j) = h (ix2 i j) * kinv h i := by
  rw [← pay10_apply h i 0]
  pointwise [k4_pay11, k4_pay8]
theorem pay12_apply (i : Fin 256) (j : Fin 2048) : k4_pay12 d x q h g w (ix2 i j) = bdy d x q w i j * g (ix2 0 j)
    - h (ix2 i j) * kinv h i * mean fun k => bdy d x q w i k * g (ix2 0 k) * (h (ix2 i k) * kinv h i) := by
  have e : k4_pay12 d x q h g w (ix2 i j) = k4_pay9 d x q w (ix2 i j) * g (ix2 0 j)
      - k4_pay11 h (ix2 i j) * mean fun k => k4_pay9 d x q w (ix2 i k) * g (ix2 0 k) * k4_pay11 h (ix2 i k) := by
    pointwise [k4_pay12, mean]
  rw [e]
  simp only [pay9_apply, pay11_apply]
theorem pay1_apply (i : Fin 256) (j : Fin 2048) :
    k4_pay1 d (k4_pay10 h) (k4_pay12 d x q h g w) (ix2 i j) = kback (bdy d x q w) h d g i j := by
  have e : k4_pay1 d (k4_pay10 h) (k4_pay12 d x q h g w) (ix2 i j) = d (ix2 i j) + k4_pay10 h (ix2 i 0) * k4_pay12 d x q h g w (ix2 i j) := by
    pointwise [k4_pay1]
  rw [e, pay10_apply, pay12_apply]
  rfl
theorem pay4_apply (o : Vec Ideal S1x2048 .f32) (j : Fin 2048) :
    k4_pay4 (k4_pay9 d x q w) (k4_pay11 h) o (ix2 0 j) = o (ix2 0 j) + kgain (bdy d x q w) h j := by
  have e : k4_pay4 (k4_pay9 d x q w) (k4_pay11 h) o (ix2 0 j)
      = o (ix2 0 j) + ∑ i : Fin 256, k4_pay9 d x q w (ix2 i j) * k4_pay11 h (ix2 i j) := by
    pointwise [k4_pay4]
  rw [e]
  simp only [pay9_apply, pay11_apply]
  rfl
theorem pay3_apply (j : Fin 2048) : k4_pay3 (F := Ideal) (ix2 0 j) = 0 := by
  pointwise [k4_pay3]

end Block

variable (V : (c : Dev nD) → (b : Ref sig .tc) → Buf (Elt Ideal) ((c : Thread nD τ).loc b))

/-- The gradient at a block's normed rows. -/
abbrev by4 (c : Dev nD) (t : Fin cfg4.N) : Fin 256 → Fin 2048 → EReal :=
  bdy (iblk4 (F := Ideal) V c 0 t) (iblk4 (F := Ideal) V c 1 t) (iblk4 (F := Ideal) V c 2 t) (iblk4 (F := Ideal) V c 3 t)

/-- What a grid point leaves in the three blocks of rows that are written once. -/
theorem out_dh (c : Dev nD) (t : Fin cfg4.N) (i : Fin 256) (j : Fin 2048) : (outsAt4 (F := Ideal) V c t.val t.isLt).1 (ix2 i j)
    = kback (by4 V c t) (iblk4 V c 4 t) (iblk4 V c 0 t) (iblk4 V c 5 t) i j := by
  by_cases h : t.val % 16 = 0
  · rw [outsAt4_A V c t h]
    frame_out
    exact pay1_apply _ _ _ _ _ _ i j
  · rw [outsAt4_B V c t h]
    frame_out
    exact pay1_apply _ _ _ _ _ _ i j
theorem out_dpg (c : Dev nD) (t : Fin cfg4.N) (i : Fin 256) (j : Fin 2048) : (outsAt4 (F := Ideal) V c t.val t.isLt).2.2.2.1 (ix2 i j)
    = bgate (iblk4 (F := Ideal) V c 0 t) (iblk4 (F := Ideal) V c 1 t) (iblk4 (F := Ideal) V c 2 t) i j := by
  by_cases h : t.val % 16 = 0
  · rw [outsAt4_A V c t h]
    frame_out
    exact pay7_apply _ _ _ i j
  · rw [outsAt4_B V c t h]
    frame_out
    exact pay7_apply _ _ _ i j
theorem out_dpp (c : Dev nD) (t : Fin cfg4.N) (i : Fin 256) (j : Fin 2048) : (outsAt4 (F := Ideal) V c t.val t.isLt).2.2.2.2 (ix2 i j)
    = bproj (iblk4 (F := Ideal) V c 0 t) (iblk4 (F := Ideal) V c 1 t) i j := by
  by_cases h : t.val % 16 = 0
  · rw [outsAt4_A V c t h]
    frame_out
    exact pay5_apply _ _ i j
  · rw [outsAt4_B V c t h]
    frame_out
    exact pay5_apply _ _ i j
/-- What the first and the later points leave in the gain's. -/
theorem out_dgA (c : Dev nD) (t : Fin cfg4.N) (h : t.val % 16 = 0) (j : Fin 2048) : (outsAt4 (F := Ideal) V c t.val t.isLt).2.2.1 (ix2 0 j)
    = 0 + kgain (by4 V c t) (iblk4 V c 4 t) j := by
  rw [outsAt4_A V c t h]
  frame_out
  exact (pay4_apply _ _ _ _ _ _ j).trans (congrArg (· + _) (pay3_apply j))
theorem out_dgB (c : Dev nD) (t : Fin cfg4.N) (h : ¬t.val % 16 = 0) (j : Fin 2048) : (outsAt4 (F := Ideal) V c t.val t.isLt).2.2.1 (ix2 0 j)
    = (outsAt4 (F := Ideal) V c (t.val - 1) (Nat.lt_of_le_of_lt (Nat.sub_le _ _) t.isLt)).2.2.1 (ix2 0 j)
      + kgain (by4 V c t) (iblk4 V c 4 t) j := by
  rw [outsAt4_B V c t h]
  frame_out
  exact pay4_apply _ _ _ _ _ _ j

/-- The blocks at each grid point: a tile of rows, and the whole of the weight, the gain and its gradient. -/
theorem idx4 (t : Fin cfg4.N) : win4_0.index t = ![t.val, 0] ∧ win4_1.index t = ![t.val, 0] ∧ win4_2.index t = ![t.val, 0]
    ∧ win4_3.index t = ![0, 0] ∧ win4_4.index t = ![t.val, 0] ∧ win4_5.index t = ![0, 0] ∧ win4_6.index t = ![t.val, 0]
    ∧ win4_9.index t = ![t.val, 0] ∧ win4_10.index t = ![t.val, 0] := by
  revert t; decide +kernel

def tile4 (t : Fin cfg4.N) : Fin 16 := ⟨t.val, lt_of_lt_of_eq t.isLt (show cfg4.N = 16 from N_4)⟩

theorem blk_d (c : Dev nD) (t : Fin cfg4.N) (i : Fin 256) (j : Fin 2048) : iblk4 (F := Ideal) V c 0 t (ix2 i j) = V c main_arg0 (ix2 (tileRow (tile4 t) i) j : S4096x2048.Idx) := by
  have e := idx4 t
  unfold iblk4
  blk_simp
  refine congrArg (V c main_arg0) (?_ : (_ : S4096x2048.Idx) = _)
  blk_ext [e, tileRow, tile4]
theorem blk_x (c : Dev nD) (t : Fin cfg4.N) (i : Fin 256) (j : Fin 2048) : iblk4 (F := Ideal) V c 1 t (ix2 i j) = V c main_v4_1 (ix2 (tileRow (tile4 t) i) j : S4096x2048.Idx) := by
  have e := idx4 t
  unfold iblk4
  blk_simp
  refine congrArg (V c main_v4_1) (?_ : (_ : S4096x2048.Idx) = _)
  blk_ext [e, tileRow, tile4]
theorem blk_q (c : Dev nD) (t : Fin cfg4.N) (i : Fin 256) (j : Fin 2048) : iblk4 (F := Ideal) V c 2 t (ix2 i j) = V c main_v3 (ix2 (tileRow (tile4 t) i) j : S4096x2048.Idx) := by
  have e := idx4 t
  unfold iblk4
  blk_simp
  refine congrArg (V c main_v3) (?_ : (_ : S4096x2048.Idx) = _)
  blk_ext [e, tileRow, tile4]
theorem blk_w (c : Dev nD) (t : Fin cfg4.N) (i j : Fin 2048) : iblk4 (F := Ideal) V c 3 t (ix2 i j) = V c main_arg6 (ix2 i j : S2048x2048.Idx) := by
  have e := idx4 t
  unfold iblk4
  blk_simp
  refine congrArg (V c main_arg6) (?_ : (_ : S2048x2048.Idx) = _)
  blk_ext [e]
theorem blk_h (c : Dev nD) (t : Fin cfg4.N) (i : Fin 256) (j : Fin 2048) : iblk4 (F := Ideal) V c 4 t (ix2 i j) = V c main_v1 (ix2 (tileRow (tile4 t) i) j : S4096x2048.Idx) := by
  have e := idx4 t
  unfold iblk4
  blk_simp
  refine congrArg (V c main_v1) (?_ : (_ : S4096x2048.Idx) = _)
  blk_ext [e, tileRow, tile4]
theorem blk_g (c : Dev nD) (t : Fin cfg4.N) : iblk4 (F := Ideal) V c 5 t = V c main_v0 := by
  have e := idx4 t
  funext i
  idx_vars i
  unfold iblk4
  blk_simp
  refine congrArg (V c main_v0) (?_ : (_ : S1x2048.Idx) = _)
  blk_ext [e]

/-- The gradients before the sigmoid, at the projection, at the normed rows and at the residual stream, over all the rows. -/
abbrev dgAll (c : Dev nD) : S4096x2048.Idx → EReal := dgate (V c main_arg0) (V c main_v3) (V c main_v4_1)
abbrev dpAll (c : Dev nD) : S4096x2048.Idx → EReal := dproj (V c main_arg0) (V c main_v4_1)
abbrev yAll (c : Dev nD) : S4096x2048.Idx → EReal := rowsByT (dgAll V c) (fun a b => V c main_arg6 (ix2 a b : S2048x2048.Idx))
abbrev dhAll (c : Dev nD) : S4096x2048.Idx → EReal := back (yAll V c) (V c main_v1) (V c main_arg0) (V c main_v0)

theorem bgate_eq (c : Dev nD) (t : Fin cfg4.N) (i : Fin 256) (j : Fin 2048) :
    bgate (iblk4 (F := Ideal) V c 0 t) (iblk4 (F := Ideal) V c 1 t) (iblk4 (F := Ideal) V c 2 t) i j = dgAll V c (ix2 (tileRow (tile4 t) i) j) := by
  unfold bgate
  rw [blk_d, blk_x, blk_q]
  rfl
theorem bproj_eq (c : Dev nD) (t : Fin cfg4.N) (i : Fin 256) (j : Fin 2048) :
    bproj (iblk4 (F := Ideal) V c 0 t) (iblk4 (F := Ideal) V c 1 t) i j = dpAll V c (ix2 (tileRow (tile4 t) i) j) := by
  unfold bproj
  rw [blk_d, blk_x]
  rfl
theorem by4_eq (c : Dev nD) (t : Fin cfg4.N) (i : Fin 256) (j : Fin 2048) : by4 V c t i j = yAll V c (ix2 (tileRow (tile4 t) i) j) := by
  unfold by4 bdy
  simp only [bgate_eq, blk_w]
  rfl
theorem kback_eq (c : Dev nD) (t : Fin cfg4.N) (i : Fin 256) (j : Fin 2048) :
    kback (by4 V c t) (iblk4 V c 4 t) (iblk4 V c 0 t) (iblk4 V c 5 t) i j = dhAll V c (ix2 (tileRow (tile4 t) i) j) := by
  rw [blk_g]
  exact kback_rows _ (tile4 t) (by4_eq V c t) (blk_h V c t) (blk_d V c t) i j

theorem dh_arr (c : Dev nD) : (dat4 (F := Ideal) V c).arrAt 6 cfg4.N = dhAll V c := by
  refine (dat4 (F := Ideal) V c).arrAt_eq_of_covers 6 _ (by decide +kernel) fun t hf y => ?_
  have e := idx4 t
  blk_simp
  rw [after4_6]
  idx_vars y
  refine (out_dh V c t y0 y1).trans ((kback_eq V c t y0 y1).trans (congrArg (dhAll V c) (?_ : (_ : S4096x2048.Idx) = _)))
  blk_ext [e, tileRow, tile4]
theorem dpg_arr (c : Dev nD) : (dat4 (F := Ideal) V c).arrAt 9 cfg4.N = dgAll V c := by
  refine (dat4 (F := Ideal) V c).arrAt_eq_of_covers 9 _ (by decide +kernel) fun t hf y => ?_
  have e := idx4 t
  blk_simp
  rw [after4_9]
  idx_vars y
  refine (out_dpg V c t y0 y1).trans ((bgate_eq V c t y0 y1).trans (congrArg (dgAll V c) (?_ : (_ : S4096x2048.Idx) = _)))
  blk_ext [e, tileRow, tile4]
theorem dpp_arr (c : Dev nD) : (dat4 (F := Ideal) V c).arrAt 10 cfg4.N = dpAll V c := by
  refine (dat4 (F := Ideal) V c).arrAt_eq_of_covers 10 _ (by decide +kernel) fun t hf y => ?_
  have e := idx4 t
  blk_simp
  rw [after4_10]
  idx_vars y
  refine (out_dpp V c t y0 y1).trans ((bproj_eq V c t y0 y1).trans (congrArg (dpAll V c) (?_ : (_ : S4096x2048.Idx) = _)))
  blk_ext [e, tileRow, tile4]

/-- A tile's part of the gradient of the gain. -/
abbrev part4 (c : Dev nD) (j : Fin 2048) (k : Fin 16) : EReal :=
  ∑ i : Fin 256, yAll V c (ix2 (tileRow k i) j) * unit (V c main_v1) (ix2 (tileRow k i) j)

theorem sumAt {f : (n : Nat) → n < cfg4.N → EReal} {u : Fin 16 → EReal}
    (h0 : ∀ t : Fin cfg4.N, t.val % 16 = 0 → f t.val t.isLt = 0 + u (tile4 t))
    (hs : ∀ t : Fin cfg4.N, ¬t.val % 16 = 0 → f t.val t.isLt = f (t.val - 1) (Nat.lt_of_le_of_lt (Nat.sub_le _ _) t.isLt) + u (tile4 t))
    (t : Fin cfg4.N) (ht : t.val + 1 = cfg4.N) : f t.val t.isLt = ∑ k, u k := by
  rw [Pipeline.eq_sum_fin_of_reset_step_last f 16 0 (fun t => u (tile4 t)) h0 hs (by decide) t ht, zero_add]
  rfl

theorem after_dg (c : Dev nD) (j : Fin 2048) (t : Fin cfg4.N) (ht : t.val + 1 = cfg4.N) :
    (outsAt4 (F := Ideal) V c t.val t.isLt).2.2.1 (ix2 0 j) = gback (yAll V c) (V c main_v1) (ix2 0 j) := by
  have q (t : Fin cfg4.N) : kgain (by4 V c t) (iblk4 V c 4 t) j = part4 V c j (tile4 t) :=
    kgain_rows (tile4 t) (by4_eq V c t) (blk_h V c t) j
  refine (sumAt (f := fun n hn => (outsAt4 (F := Ideal) V c n hn).2.2.1 (ix2 0 j)) (u := part4 V c j) (fun t h => ?_) (fun t h => ?_) t ht).trans
    (gback_tiles (yAll V c) (V c main_v1) j)
  · exact (out_dgA V c t h j).trans (congrArg (0 + ·) (q t))
  · exact (out_dgB V c t h j).trans (congrArg (_ + ·) (q t))

/-- The last grid point. -/
def last4 : Fin cfg4.N := ⟨15, by rw [show cfg4.N = 16 from N_4]; decide⟩
theorem whole8 : (cfg4.win 8).WholeAt last4 := by decide +kernel

/-- The gradient of the gain. -/
theorem dg_arr (c : Dev nD) : (dat4 (F := Ideal) V c).arrAt 8 cfg4.N = gback (yAll V c) (V c main_v1) := by
  refine (dat4 (F := Ideal) V c).arrAt_eq_of_after_last 8 last4 whole8 _ fun y => ?_
  rw [after4_8]
  blk_simp
  idx_vars y
  obtain rfl : y0 = 0 := Subsingleton.elim _ _
  have h := after_dg V c y1 last4 N_4.symm
  generalize outsAt4 V c last4.val _ = o at h ⊢
  exact h

end Cert.Ple

end
-- ==== Proof.Ple.Dw.lean ====
/- The gradients of the per-layer embedding's two weights, as the arrays that their calls leave. -/
module

public import proofs.«01_k».proof.Proof.Gen.Kernel5Ideal.Frame
public import proofs.«01_k».proof.Proof.Ple.Math
public import Idealize.ShloMosaic.Lib.Pipeline.ValueKit

@[expose] public section

set_option maxRecDepth 16384

noncomputable section

namespace Cert.Ple

open Cert.Kernel5Ideal Cert.Kernel5Ideal.Gen Cert.In Cert.Out Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The blocks at each grid point: the whole of the embeddings and a shard's columns. -/
theorem idx5 (t : Fin cfg5.N) : win5_0.index t = ![0, 0, 0] ∧ win5_1.index t = ![0, t.val] ∧ win5_2.index t = ![t.val, 0, 0] := by
  revert t; decide +kernel

theorem dcols_arr (c : Dev nD) : (dat5 (F := Ideal) V c).arrAt 2 cfg5.N = dcols (V c main_arg4) (V c main_v5_4) := by
  refine (dat5 (F := Ideal) V c).arrAt_eq_of_covers 2 _ (by decide +kernel) fun t hf y => ?_
  have e := idx5 t
  blk_simp
  rw [after5_2]
  frame_out
  idx_vars y
  pointwise [k5_pay1, dcols]
  reads_congr
  · refine congrArg (V c main_arg4) (?_ : (_ : S1x4096x256.Idx) = _)
    blk_ext [e]
  · refine congrArg (V c main_v5_4) (?_ : (_ : S4096x2048.Idx) = _)
    blk_ext [e, at8]

/-- The blocks at each grid point: a tile of columns of each. -/
theorem idx6 (t : Fin cfg6.N) : win6_0.index t = ![0, t.val / 2] ∧ win6_1.index t = ![0, t.val % 2]
    ∧ win6_2.index t = ![t.val / 2, t.val % 2] := by
  revert t; decide +kernel

theorem dgw_arr (c : Dev nD) : (dat6 (F := Ideal) V c).arrAt 2 cfg6.N = fun i : S2048x2048.Idx => wgrad (V c main_v2) (V c main_v5_3) (i 0) (i 1) := by
  refine (dat6 (F := Ideal) V c).arrAt_eq_of_covers 2 _ (by decide +kernel) fun t hf y => ?_
  have e := idx6 t
  blk_simp
  rw [after6_2]
  frame_out
  idx_vars y
  pointwise [k6_pay1, wgrad]
  reads_congr
  · refine congrArg (V c main_v2) (?_ : (_ : S4096x2048.Idx) = _)
    blk_ext [e]
  · refine congrArg (V c main_v5_3) (?_ : (_ : S4096x2048.Idx) = _)
    blk_ext [e]

end Cert.Ple

end
-- ==== Proof.Ple.Ref.lean ====
/- The reference's end of the feed-forward block, per-layer embedding and derivatives, read element by element. -/
module

public import proofs.«01_k».proof.Proof.Gen.Reference5Ideal
public import proofs.«01_k».proof.Proof.Ple.Math
public import Idealize.ShloMosaic.Lib.Pipeline.ValueKit
public import Idealize.ShloMosaic.Lib.Pointwise

@[expose] public section

set_option maxRecDepth 16384

noncomputable section

namespace Cert.Ple

open Cert.Reference5Ideal Cert.Reference5Ideal.Gen Cert.Reference5Ideal.Facts Cert.In Cert.Out Idealize.ShloMosaic

local notation "Rows" => (S4096x2048.Idx → EReal)

/-- The reference's terms: the end of the feed-forward block, the projection, the gate before and after its sigmoid. -/
def rEnds (h : FVec Ideal S8x4096x704 .bf16) (w : FVec Ideal S8x704x2048 .bf16) (x : FVec Ideal S4096x2048 .f32) : FVec Ideal S4096x2048 .f32 :=
  addf x (Host.dotGeneral dot_S4096x5632_S5632x2048_S4096x2048_1_0_0_1_n_n none
    (shapeCast _ (transpose S4096x8x704 [1, 0, 2] (extf .f32 h bitsLt_bf16_f32) transposes_S8x4096x704_S4096x8x704_1_0_2) shapeCasts_S4096x8x704_S4096x5632)
    (shapeCast _ (extf .f32 w bitsLt_bf16_f32) shapeCasts_S8x704x2048_S5632x2048))
def rFeats (p : FVec Ideal S1x4096x256 .bf16) : FVec Ideal S4096x256 .f32 := shapeCast _ (extf .f32 p bitsLt_bf16_f32) shapeCasts_S1x4096x256_S4096x256
def rProj (p : FVec Ideal S1x4096x256 .bf16) (w : FVec Ideal S8x256x256 .bf16) : FVec Ideal S4096x2048 .f32 :=
  Host.dotGeneral dot_S4096x256_S256x2048_S4096x2048_1_0_0_1_n_n none (rFeats p)
    (shapeCast _ (transpose S256x8x256 [1, 0, 2] (extf .f32 w bitsLt_bf16_f32) transposes_S8x256x256_S256x8x256_1_0_2) shapeCasts_S256x8x256_S256x2048)
def rBy (y : FVec Ideal S4096x2048 .f32) (w : FVec Ideal S2048x2048 .bf16) : FVec Ideal S4096x2048 .f32 :=
  Host.dotGeneral dot_S4096x2048_S2048x2048_S4096x2048_1_0_0_1_n_n none y (extf .f32 w bitsLt_bf16_f32)
def rByT (y : FVec Ideal S4096x2048 .f32) (w : FVec Ideal S2048x2048 .bf16) : FVec Ideal S4096x2048 .f32 :=
  Host.dotGeneral dot_S4096x2048_S2048x2048_S4096x2048_1_1_0_0_n_n none y (extf .f32 w bitsLt_bf16_f32)
def rOne : FVec Ideal S4096x2048 .f32 := broadcastInDim S4096x2048 ![] bcast_S_S4096x2048 (constant S_ .f32 0x3F800000#32)
def rSig (x : FVec Ideal S4096x2048 .f32) : FVec Ideal S4096x2048 .f32 := Host.divf rOne (addf rOne (Host.exp (Host.negf x)))
def rSame (x : FVec Ideal S4096x2048 .f32) : FVec Ideal S4096x2048 .f32 := shapeCast _ x shapeCasts_S4096x2048_S4096x2048
def rGated (h x q : FVec Ideal S4096x2048 .f32) : FVec Ideal S4096x2048 .f32 := addf h (mulf (rSig x) q)
def rDgate (d q x : FVec Ideal S4096x2048 .f32) : FVec Ideal S4096x2048 .f32 := mulf (mulf (rSame d) q) (mulf (rSig x) (subf rOne (rSig x)))
def rDproj (d x : FVec Ideal S4096x2048 .f32) : FVec Ideal S4096x2048 .f32 := mulf (rSig x) (rSame d)
/-- The gradients of the two weights. -/
def rDcols (p : FVec Ideal S1x4096x256 .bf16) (y : FVec Ideal S4096x2048 .f32) : FVec Ideal S8x256x256 .f32 :=
  transpose S8x256x256 [1, 0, 2] (shapeCast _ (transpose S256x2048 [1, 0]
    (Host.dotGeneral dot_S4096x2048_S4096x256_S2048x256_0_0_1_1_n_n none y (rFeats p)) transposes_S2048x256_S256x2048_1_0)
    shapeCasts_S256x2048_S256x8x256) transposes_S256x8x256_S8x256x256_1_0_2
def rDgw (x y : FVec Ideal S4096x2048 .f32) : FVec Ideal S2048x2048 .f32 :=
  transpose S2048x2048 [1, 0] (Host.dotGeneral dot_S4096x2048_S4096x2048_S2048x2048_0_0_1_1_n_n none y x) transposes_S2048x2048_S2048x2048_1_0

/-- Position `f` of shard `k` of the flat axis. -/
theorem unflat (h : S8x4096x704.Idx → EReal) (k : Fin 8) (f : Fin 704) (s : Fin 4096) {h₁ h₂} :
    h (ix3 ⟨(k.val * 704 + f.val) / 704, h₁⟩ s ⟨(k.val * 704 + f.val) % 704, h₂⟩) = h (ix3 k s f) := by
  have e₁ : (⟨(k.val * 704 + f.val) / 704, h₁⟩ : Fin 8) = k := Fin.ext (by have := f.isLt; simp only; omega)
  have e₂ : (⟨(k.val * 704 + f.val) % 704, h₂⟩ : Fin 704) = f := Fin.ext (by have := f.isLt; simp only; omega)
  rw [e₁, e₂]
theorem unflat' (w : S8x704x2048.Idx → EReal) (k : Fin 8) (f : Fin 704) (d : Fin 2048) {h₁ h₂} :
    w (ix3 ⟨(k.val * 704 + f.val) / 704, h₁⟩ ⟨(k.val * 704 + f.val) % 704, h₂⟩ d) = w (ix3 k f d) := by
  have e₁ : (⟨(k.val * 704 + f.val) / 704, h₁⟩ : Fin 8) = k := Fin.ext (by have := f.isLt; simp only; omega)
  have e₂ : (⟨(k.val * 704 + f.val) % 704, h₂⟩ : Fin 704) = f := Fin.ext (by have := f.isLt; simp only; omega)
  rw [e₁, e₂]

theorem rEnds_eq (h : FVec Ideal S8x4096x704 .bf16) (w : FVec Ideal S8x704x2048 .bf16) (x : FVec Ideal S4096x2048 .f32) : rEnds h w x = ends h w x := by
  funext i
  idx_vars i
  pointwise [rEnds, ends, part]
  refine congrArg (_ + ·) ?_
  rw [Fin.sum_univ_tiles 8 704 rfl]
  refine (Finset.sum_congr rfl fun k _ => Finset.sum_congr rfl fun f _ =>
    congrArg₂ (· * ·) (unflat h k f i0) (unflat' w k f i1)).trans ?_
  rw [Fin.sum_univ_eight]
theorem rProj_eq (p : FVec Ideal S1x4096x256 .bf16) (w : FVec Ideal S8x256x256 .bf16) : rProj p w = proj p w := by
  funext i
  idx_vars i
  pointwise [rProj, rFeats, proj, shardOf, posOf]
theorem rBy_eq (y : FVec Ideal S4096x2048 .f32) (w : FVec Ideal S2048x2048 .bf16) : rBy y w = rowsBy y (fun a b => w (ix2 a b)) := by
  funext i
  idx_vars i
  pointwise [rBy, rowsBy]
theorem rByT_eq (y : FVec Ideal S4096x2048 .f32) (w : FVec Ideal S2048x2048 .bf16) : rByT y w = rowsByT y (fun a b => w (ix2 a b)) := by
  funext i
  idx_vars i
  pointwise [rByT, rowsByT]
theorem rSame_eq (x : FVec Ideal S4096x2048 .f32) : rSame x = x := by
  funext i
  idx_vars i
  pointwise [rSame]
theorem rGated_eq (h x q : FVec Ideal S4096x2048 .f32) : rGated h x q = gated h x q := by
  funext i
  idx_vars i
  pointwise [rGated, rSig, rOne, gated]
  rfl
theorem rDgate_eq (d q x : FVec Ideal S4096x2048 .f32) : rDgate d q x = dgate d q x := by
  unfold rDgate
  rw [rSame_eq]
  funext i
  idx_vars i
  pointwise [rSig, rOne, dgate]
  exact (mul_assoc _ _ _).symm
theorem rDproj_eq (d x : FVec Ideal S4096x2048 .f32) : rDproj d x = dproj d x := by
  unfold rDproj
  rw [rSame_eq]
  funext i
  idx_vars i
  pointwise [rSig, rOne, dproj]
  exact mul_comm _ _
theorem rDcols_eq (p : FVec Ideal S1x4096x256 .bf16) (y : FVec Ideal S4096x2048 .f32) : rDcols p y = dcols p y := by
  funext i
  idx_vars i
  pointwise [rDcols, rFeats, dcols, at8]
  exact Finset.sum_congr rfl fun s _ => mul_comm _ _
theorem rDgw_eq (x y : FVec Ideal S4096x2048 .f32) : rDgw x y = fun i => wgrad x y (i 0) (i 1) := by
  funext i
  idx_vars i
  pointwise [rDgw, wgrad]
  exact Finset.sum_congr rfl fun s _ => mul_comm _ _

end Cert.Ple

end
-- ==== Proof.Ple.Chain.lean ====
/- The results of the per-layer embedding program as functions of its arguments: the calls' arrays, chained. -/
module

public import proofs.«01_k».proof.Proof.Ple.Fwd
public import proofs.«01_k».proof.Proof.Ple.Dx
public import proofs.«01_k».proof.Proof.Ple.Dw
public import proofs.«01_k».proof.Proof.Ple.Ref

@[expose] public section

set_option maxRecDepth 16384

noncomputable section

namespace Cert.Ple

open Cert.Kernel5Ideal Cert.Kernel5Ideal.Gen Cert.In Cert.Out Idealize.ShloMosaic Idealize.ShloMosaic.TcCoe Idealize.ShloMosaic.Tactic Idealize.SL.Sem

variable (m : (ℓ : Loc nD τ sig) → Buf (Elt Ideal) ℓ) (ρ : Dev nD → PrngReg)

/-- The eight arguments. -/
abbrev aD (c : Dev nD) : S4096x2048.Idx → EReal := m ((c : Thread nD τ).loc main_arg0)
abbrev aHid (c : Dev nD) : S8x4096x704.Idx → EReal := m ((c : Thread nD τ).loc main_arg1)
abbrev aEnd (c : Dev nD) : S8x704x2048.Idx → EReal := m ((c : Thread nD τ).loc main_arg2)
abbrev aX (c : Dev nD) : S4096x2048.Idx → EReal := m ((c : Thread nD τ).loc main_arg3)
abbrev aP (c : Dev nD) : S1x4096x256.Idx → EReal := m ((c : Thread nD τ).loc main_arg4)
abbrev aC (c : Dev nD) : S8x256x256.Idx → EReal := m ((c : Thread nD τ).loc main_arg5)
abbrev aW (c : Dev nD) : S2048x2048.Idx → EReal := m ((c : Thread nD τ).loc main_arg6)
abbrev aG (c : Dev nD) : S2048.Idx → EReal := m ((c : Thread nD τ).loc main_arg7)
/-- The residual stream, its normed rows, the projection and the gate before its sigmoid. -/
abbrev hV (c : Dev nD) : S4096x2048.Idx → EReal := ends (aHid m c) (aEnd m c) (aX m c)
abbrev nV (c : Dev nD) : S4096x2048.Idx → EReal := nrm (hV m c) (row (aG m c))
abbrev qV (c : Dev nD) : S4096x2048.Idx → EReal := proj (aP m c) (aC m c)
abbrev xV (c : Dev nD) : S4096x2048.Idx → EReal := rowsBy (nV m c) (sq (aW m c))
/-- The gradients before the sigmoid, at the projection and at the normed rows. -/
abbrev dgV (c : Dev nD) : S4096x2048.Idx → EReal := dgate (aD m c) (qV m c) (xV m c)
abbrev dpV (c : Dev nD) : S4096x2048.Idx → EReal := dproj (aD m c) (xV m c)
abbrev yV (c : Dev nD) : S4096x2048.Idx → EReal := rowsByT (dgV m c) (sq (aW m c))

theorem v1_gain (c : Dev nD) : V1 m ρ c main_v0 = row (aG m c) := by
  have e : V1 m ρ c main_v0 = broadcastInDim S1x2048 ![1] bcast_S2048_S1x2048_1 (aG m c) := by
    unfold V1 W1; after_results_simp
  rw [e]
  funext i
  idx_vars i
  pointwise [row]

theorem v2_h (c : Dev nD) : V2 m ρ c main_v1 = hV m c := by
  refine (W2_arr m ρ c 3).trans ((ends_arr (V1 m ρ) c).trans ?_)
  rw [show V1 m ρ c main_arg1 = aHid m c from W1_args m ρ c main_arg1 (by decide),
    show V1 m ρ c main_arg2 = aEnd m c from W1_args m ρ c main_arg2 (by decide),
    show V1 m ρ c main_arg3 = aX m c from W1_args m ρ c main_arg3 (by decide)]
theorem v2_gain (c : Dev nD) : V2 m ρ c main_v0 = row (aG m c) := (W2_of m ρ c main_v0 (by decide)).trans (v1_gain m ρ c)
theorem v3_nrm (c : Dev nD) : V3 m ρ c main_v2 = nV m c := by
  refine (W3_arr m ρ c 2).trans ((nrm_arr (V2 m ρ) c).trans ?_)
  rw [v2_h, v2_gain]
theorem v4_q (c : Dev nD) : V4 m ρ c main_v3 = qV m c := by
  refine (W4_arr m ρ c 2).trans ((proj_arr (V3 m ρ) c).trans ?_)
  rw [show V3 m ρ c main_arg4 = aP m c from W3_args m ρ c main_arg4 (by decide),
    show V3 m ρ c main_arg5 = aC m c from W3_args m ρ c main_arg5 (by decide)]
theorem v4_nrm (c : Dev nD) : V4 m ρ c main_v2 = nV m c := (W4_of m ρ c main_v2 (by decide)).trans (v3_nrm m ρ c)
theorem v4_h (c : Dev nD) : V4 m ρ c main_v1 = hV m c :=
  (W4_of m ρ c main_v1 (by decide)).trans ((W3_of m ρ c main_v1 (by decide)).trans (v2_h m ρ c))
theorem v4_x (c : Dev nD) : gateAll (V4 m ρ) c = xV m c := by
  unfold gateAll
  rw [v4_nrm, show V4 m ρ c main_arg6 = aW m c from W4_args m ρ c main_arg6 (by decide)]
theorem v5_x (c : Dev nD) : V5 m ρ c main_v4_1 = xV m c := (W5_arr m ρ c 5).trans ((gate_arr (V4 m ρ) c).trans (v4_x m ρ c))
theorem v5_out (c : Dev nD) : V5 m ρ c main_v4_0 = gated (hV m c) (xV m c) (qV m c) := by
  refine (W5_arr m ρ c 4).trans ((gated_arr (V4 m ρ) c).trans ?_)
  rw [v4_x, v4_h, v4_q]
theorem v5_q (c : Dev nD) : V5 m ρ c main_v3 = qV m c := (W5_of m ρ c main_v3 (by decide)).trans (v4_q m ρ c)
theorem v5_nrm (c : Dev nD) : V5 m ρ c main_v2 = nV m c := (W5_of m ρ c main_v2 (by decide)).trans (v4_nrm m ρ c)
theorem v5_h (c : Dev nD) : V5 m ρ c main_v1 = hV m c := (W5_of m ρ c main_v1 (by decide)).trans (v4_h m ρ c)
theorem v5_gain (c : Dev nD) : V5 m ρ c main_v0 = row (aG m c) :=
  (W5_of m ρ c main_v0 (by decide)).trans ((W4_of m ρ c main_v0 (by decide)).trans ((W3_of m ρ c main_v0 (by decide)).trans (v2_gain m ρ c)))
theorem v5_dg (c : Dev nD) : dgAll (V5 m ρ) c = dgV m c := by
  unfold dgAll
  rw [v5_x, v5_q, show V5 m ρ c main_arg0 = aD m c from W5_args m ρ c main_arg0 (by decide)]
theorem v5_dp (c : Dev nD) : dpAll (V5 m ρ) c = dpV m c := by
  unfold dpAll
  rw [v5_x, show V5 m ρ c main_arg0 = aD m c from W5_args m ρ c main_arg0 (by decide)]
theorem v5_y (c : Dev nD) : yAll (V5 m ρ) c = yV m c := by
  unfold yAll
  rw [v5_dg, show V5 m ρ c main_arg6 = aW m c from W5_args m ρ c main_arg6 (by decide)]

theorem v6_dh (c : Dev nD) : V6 m ρ c main_v5_0 = back (yV m c) (hV m c) (aD m c) (row (aG m c)) := by
  refine (W6_arr m ρ c 6).trans ((dh_arr (V5 m ρ) c).trans ?_)
  unfold dhAll
  rw [v5_y, v5_h, v5_gain, show V5 m ρ c main_arg0 = aD m c from W5_args m ρ c main_arg0 (by decide)]
theorem v6_dgain (c : Dev nD) : V6 m ρ c main_v5_2 = gback (yV m c) (hV m c) := by
  refine (W6_arr m ρ c 8).trans ((dg_arr (V5 m ρ) c).trans ?_)
  rw [v5_y, v5_h]
theorem v6_dg (c : Dev nD) : V6 m ρ c main_v5_3 = dgV m c := (W6_arr m ρ c 9).trans ((dpg_arr (V5 m ρ) c).trans (v5_dg m ρ c))
theorem v6_dp (c : Dev nD) : V6 m ρ c main_v5_4 = dpV m c := (W6_arr m ρ c 10).trans ((dpp_arr (V5 m ρ) c).trans (v5_dp m ρ c))
theorem v6_out (c : Dev nD) : V6 m ρ c main_v4_0 = gated (hV m c) (xV m c) (qV m c) :=
  (W6_of m ρ c main_v4_0 (by decide)).trans (v5_out m ρ c)
theorem v6_nrm (c : Dev nD) : V6 m ρ c main_v2 = nV m c := (W6_of m ρ c main_v2 (by decide)).trans (v5_nrm m ρ c)

/-- The five results. -/
theorem res_out (c : Dev nD) : V8 m ρ c main_v4_0 = gated (hV m c) (xV m c) (qV m c) :=
  (W8_of m ρ c main_v4_0 (by decide)).trans ((W7_of m ρ c main_v4_0 (by decide)).trans (v6_out m ρ c))
theorem res_dh (c : Dev nD) : V8 m ρ c main_v5_0 = back (yV m c) (hV m c) (aD m c) (row (aG m c)) :=
  (W8_of m ρ c main_v5_0 (by decide)).trans ((W7_of m ρ c main_v5_0 (by decide)).trans (v6_dh m ρ c))
theorem res_dgain (c : Dev nD) : V8 m ρ c main_v5_2 = gback (yV m c) (hV m c) :=
  (W8_of m ρ c main_v5_2 (by decide)).trans ((W7_of m ρ c main_v5_2 (by decide)).trans (v6_dgain m ρ c))
theorem res_dcols (c : Dev nD) : V8 m ρ c main_v6 = dcols (aP m c) (dpV m c) := by
  refine (W8_of m ρ c main_v6 (by decide)).trans ((W7_arr m ρ c 2).trans ((dcols_arr (V6 m ρ) c).trans ?_))
  rw [v6_dp, show V6 m ρ c main_arg4 = aP m c from W6_args m ρ c main_arg4 (by decide)]
theorem res_dgw (c : Dev nD) : V8 m ρ c main_v7 = fun i : S2048x2048.Idx => wgrad (nV m c) (dgV m c) (i 0) (i 1) := by
  refine (W8_arr m ρ c 2).trans ((dgw_arr (V7 m ρ) c).trans ?_)
  rw [show V7 m ρ c main_v2 = nV m c from (W7_of m ρ c main_v2 (by decide)).trans (v6_nrm m ρ c),
    show V7 m ρ c main_v5_3 = dgV m c from (W7_of m ρ c main_v5_3 (by decide)).trans (v6_dg m ρ c)]

end Cert.Ple

end
-- ==== Proof.Ple.Claims.lean ====
/- The five claims about the per-layer embedding program. -/
module

public import proofs.«01_k».proof.Defs
public import proofs.«01_k».proof.Proof.Gen.Kernel5
public import proofs.«01_k».proof.Proof.Gen.Kernel5Ideal
public import proofs.«01_k».proof.Proof.Gen.Reference5Ideal
public import proofs.«01_k».proof.Proof.Gen.Reference5Ideal.Run
public import proofs.«01_k».proof.Proof.Ple.Run
public import proofs.«01_k».proof.Proof.Ple.Chain
public import Idealize.ShloMosaic.Adequacy
public import Idealize.ShloMosaic.Init

@[expose] public section

set_option maxRecDepth 16384

noncomputable section

namespace Cert.Ple

open Cert.In Cert.Out Idealize.ShloMosaic Idealize.ShloMosaic.Tactic Idealize.SL.Sem

theorem frame_kernel5_ideal : Cert.quiescent_Kernel5Ideal := fun m ρ _ =>
  (θ_run Cert.Kernel5Ideal.defs _ _).mono (fun _ h => ⟨fun c => (h.1 c).2, h.2⟩) (run_main (F := Ideal) m ρ)

set_option maxHeartbeats 4000000 in
theorem frame_kernel5 : Cert.quiescent_Kernel5 := fun m ρ _ => by
  have h := (θ_run Cert.Kernel5Ideal.defs _ _).mono (fun r h => And.intro (fun c => (h.1 c).2) h.2) (run_main (F := Bits) m ρ)
  refine cast ?_ h
  sl_kernel_rfl

set_option maxHeartbeats 4000000 in
theorem frame_reference5 : Cert.quiescent_Reference5Ideal := fun m ρ _ => by
  refine (θ_run Cert.Reference5Ideal.defs _ _).mono ?_ (Cert.Reference5Ideal.Value.run m ρ)
  intro r h
  exact ⟨fun c => (h c).2.2.2.2.2, sem_eq_zero_of_no_sems (by decide) r.2⟩

set_option maxHeartbeats 4000000 in
theorem algebraic5 : Cert.algebraic_Kernel5Ideal_Reference5Ideal := fun m g m' g' _ hag =>
  ⟨fun c => Cert.Kernel5Ideal.Gen.V8 m g c Cert.Kernel5Ideal.main_v4_0, fun c => Cert.Kernel5Ideal.Gen.V8 m g c Cert.Kernel5Ideal.main_v5_0,
   fun c => Cert.Kernel5Ideal.Gen.V8 m g c Cert.Kernel5Ideal.main_v5_2, fun c => Cert.Kernel5Ideal.Gen.V8 m g c Cert.Kernel5Ideal.main_v6,
   fun c => Cert.Kernel5Ideal.Gen.V8 m g c Cert.Kernel5Ideal.main_v7,
   (θ_run Cert.Kernel5Ideal.defs _ _).mono (fun _ h c => by
     obtain ⟨⟨r0, r1, r2, r3, r4⟩, u⟩ := h.1 c
     exact ⟨r0, r1, r2, r3, r4, u⟩) (run_main (F := Ideal) m g),
   (θ_run Cert.Reference5Ideal.defs _ _).mono (fun _ h c => by
     obtain ⟨r0, r1, r2, r3, r4, u⟩ := h c
     obtain ⟨e0, e1, e2, e3, e4, e5, e6, e7⟩ := hag c
     have hH : rEnds (aHid m c) (aEnd m c) (aX m c) = hV m c := rEnds_eq _ _ _
     have hN : rNrm (rEnds (aHid m c) (aEnd m c) (aX m c)) (aG m c) = nV m c := by rw [hH]; exact rNrm_eq _ _
     have hQ : rProj (aP m c) (aC m c) = qV m c := rProj_eq _ _
     have hX : rBy (rNrm (rEnds (aHid m c) (aEnd m c) (aX m c)) (aG m c)) (aW m c) = xV m c := by rw [hN]; exact rBy_eq _ _
     have hD : rDgate (aD m c) (rProj (aP m c) (aC m c)) (rBy (rNrm (rEnds (aHid m c) (aEnd m c) (aX m c)) (aG m c)) (aW m c)) = dgV m c := by
       rw [hQ, hX]; exact rDgate_eq _ _ _
     have hP : rDproj (aD m c) (rBy (rNrm (rEnds (aHid m c) (aEnd m c) (aX m c)) (aG m c)) (aW m c)) = dpV m c := by
       rw [hX]; exact rDproj_eq _ _
     have hY : rByT (rDgate (aD m c) (rProj (aP m c) (aC m c)) (rBy (rNrm (rEnds (aHid m c) (aEnd m c) (aX m c)) (aG m c)) (aW m c))) (aW m c) = yV m c := by
       rw [hD]; exact rByT_eq _ _
     refine ⟨r0.trans ?_, r1.trans ?_, r2.trans ?_, r3.trans ?_, r4.trans ?_, u⟩
     · refine Eq.trans (?_ : _ = rGated (rEnds (aHid m c) (aEnd m c) (aX m c)) (rBy (rNrm (rEnds (aHid m c) (aEnd m c) (aX m c)) (aG m c)) (aW m c)) (rProj (aP m c) (aC m c))) ?_
       · rw [e1, e2, e3, e4, e5, e6, e7]
         rfl
       · rw [hH] at hX ⊢
         rw [hX, hQ]
         exact (rGated_eq _ _ _).trans (res_out m g c).symm
     · refine Eq.trans (?_ : _ = rBack (rByT (rDgate (aD m c) (rProj (aP m c) (aC m c)) (rBy (rNrm (rEnds (aHid m c) (aEnd m c) (aX m c)) (aG m c)) (aW m c))) (aW m c))
           (rEnds (aHid m c) (aEnd m c) (aX m c)) (rSame (aD m c)) (aG m c)) ?_
       · unfold Cert.Reference5Ideal.Value.res_main_v72
         rw [e0, e1, e2, e3, e4, e5, e6, e7]
         rfl
       · rw [hY, hH, rSame_eq]
         exact (rBack_eq _ _ _ _).trans (res_dh m g c).symm
     · refine Eq.trans (?_ : _ = rGback (rByT (rDgate (aD m c) (rProj (aP m c) (aC m c)) (rBy (rNrm (rEnds (aHid m c) (aEnd m c) (aX m c)) (aG m c)) (aW m c))) (aW m c))
           (rEnds (aHid m c) (aEnd m c) (aX m c))) ?_
       · unfold Cert.Reference5Ideal.Value.res_main_v73
         rw [e0, e1, e2, e3, e4, e5, e6, e7]
         rfl
       · rw [hY, hH]
         exact (rGback_eq _ _).trans (res_dgain m g c).symm
     · refine Eq.trans (?_ : _ = rDcols (aP m c) (rDproj (aD m c) (rBy (rNrm (rEnds (aHid m c) (aEnd m c) (aX m c)) (aG m c)) (aW m c)))) ?_
       · rw [e0, e1, e2, e3, e4, e6, e7]
         rfl
       · rw [hP]
         exact (rDcols_eq _ _).trans (res_dcols m g c).symm
     · refine Eq.trans (?_ : _ = rDgw (rNrm (rEnds (aHid m c) (aEnd m c) (aX m c)) (aG m c)) (rDgate (aD m c) (rProj (aP m c) (aC m c)) (rBy (rNrm (rEnds (aHid m c) (aEnd m c) (aX m c)) (aG m c)) (aW m c)))) ?_
       · unfold Cert.Reference5Ideal.Value.res_main_v50
         rw [e0, e1, e2, e3, e4, e5, e6, e7]
         rfl
       · rw [hD, hN]
         exact (rDgw_eq _ _).trans (res_dgw m g c).symm) (Cert.Reference5Ideal.Value.run m' g')⟩

end Cert.Ple

end
-- ==== Proof.Loss.Math.lean ====
/- The final norm and the loss: the loss of a batch row and its gradients at the norm's argument and gain, as functions of
   whole arrays, and the same in a block of rows. -/
module

public import proofs.«01_k».proof.Proof.In.Back

@[expose] public section

set_option maxRecDepth 16384

noncomputable section

namespace Cert.Loss

open Cert.In Idealize.ShloMosaic Idealize.ShloMosaic.TcCoe

open Cert.Kernel3Ideal

local notation "Rows" => (S4096x2048.Idx → EReal)
local notation "Block" => (S256x2048.Idx → EReal)
local notation "Gain" => (S1x2048.Idx → EReal)

/-- The normed rows less the target. -/
def err (h : Rows) (g : Gain) (t : Rows) : Rows := fun i => nrm h g i - t i
/-- The loss's gradient at the normed rows. -/
def dy (h : Rows) (g : Gain) (t : Rows) : Rows := fun i => err h g t i * Ideal.ofBits FTy.f32 0x3A000000#32
/-- A row's mean squared error. -/
def cost (h : Rows) (g : Gain) (t : Rows) (s : Fin 4096) : EReal := mean fun d => err h g t (ix2 s d) * err h g t (ix2 s d)
/-- The loss: half the rows' mean squared errors, added up. -/
def total (h : Rows) (g : Gain) (t : Rows) : EReal := Ideal.ofBits FTy.f32 0x3F000000#32 * ∑ s : Fin 4096, cost h g t s
/-- The gradient at the norm's argument, in the order of the product rule. -/
def dx (y h : Rows) (g : Gain) : Rows := fun i =>
  scaled y g i * inv h (i 0) + h i * fac h (scaled y g) (i 0) + fac h (scaled y g) (i 0) * h i

/-- The same in a block. -/
def kvar (h : Block) (i : Fin 256) : EReal := mean (fun d => h (ix2 i d) * h (ix2 i d)) + Ideal.ofBits FTy.f32 0x358637BD#32
def kerr (h : Block) (g : Gain) (t : Block) (i : Fin 256) (j : Fin 2048) : EReal := h (ix2 i j) * kinv h i * g (ix2 0 j) - t (ix2 i j)
def kdy (h : Block) (g : Gain) (t : Block) (i : Fin 256) (j : Fin 2048) : EReal := kerr h g t i j * Ideal.ofBits FTy.f32 0x3A000000#32
def kcost (h : Block) (g : Gain) (t : Block) (i : Fin 256) : EReal := mean fun d => kerr h g t i d * kerr h g t i d
def ktotal (h : Block) (g : Gain) (t : Block) : EReal := Ideal.ofBits FTy.f32 0x3F000000#32 * ∑ i : Fin 256, kcost h g t i
def kfac (u : Fin 256 → Fin 2048 → EReal) (h : Block) (i : Fin 256) : EReal :=
  Ideal.div ((∑ d : Fin 2048, h (ix2 i d) * u i d) * (Ideal.ofBits FTy.f32 0xBF000000#32 * Ideal.div (kinv h i) (kvar h i)))
    (Ideal.ofBits FTy.f32 0x45000000#32)
def kscaled (y : Fin 256 → Fin 2048 → EReal) (g : Gain) (i : Fin 256) (j : Fin 2048) : EReal := y i j * g (ix2 0 j)
def kdx (y : Fin 256 → Fin 2048 → EReal) (h : Block) (g : Gain) (i : Fin 256) (j : Fin 2048) : EReal :=
  kscaled y g i j * kinv h i + h (ix2 i j) * kfac (kscaled y g) h i + kfac (kscaled y g) h i * h (ix2 i j)

section Tile

variable {h t : Block} {H T : Rows} (g : Gain) (k : Fin 16)
  (hh : ∀ i j, h (ix2 i j) = H (ix2 (tileRow k i) j)) (ht : ∀ i j, t (ix2 i j) = T (ix2 (tileRow k i) j))

include hh in
theorem kvar_rows (i : Fin 256) : kvar h i = var H (tileRow k i) := by simp only [kvar, hh]; rfl
include hh ht in
theorem kerr_rows (i : Fin 256) (j : Fin 2048) : kerr h g t i j = err H g T (ix2 (tileRow k i) j) := by
  simp only [kerr, kinv_rows k hh, hh, ht]; rfl
include hh ht in
theorem kdy_rows (i : Fin 256) (j : Fin 2048) : kdy h g t i j = dy H g T (ix2 (tileRow k i) j) := by
  simp only [kdy, kerr_rows g k hh ht]; rfl
include hh ht in
theorem kcost_rows (i : Fin 256) : kcost h g t i = cost H g T (tileRow k i) := by
  simp only [kcost, kerr_rows g k hh ht]; rfl
include hh ht in
theorem kdx_rows (i : Fin 256) (j : Fin 2048) : kdx (kdy h g t) h g i j = dx (dy H g T) H g (ix2 (tileRow k i) j) := by
  simp only [kdx, kfac, kscaled, kdy_rows g k hh ht, kinv_rows k hh, kvar_rows k hh, hh]; rfl
include hh ht in
theorem ktotal_rows : ktotal h g t = (∑ i : Fin 256, cost H g T (tileRow k i)) * ((1 / 2 : ℝ) : EReal) := by
  have e : Ideal.ofBits .f32 0x3F000000#32 = ((1 / 2 : ℝ) : EReal) := by
    simp [Ideal.ofBits, Ideal.ieee]
    norm_num
    rw [← EReal.coe_mul]
    norm_num
  simp only [ktotal, kcost_rows g k hh ht]
  rw [e, mul_comm]

end Tile

/-- The tiles' parts of the loss, added up. -/
theorem total_tiles (h : Rows) (g : Gain) (t : Rows) :
    ∑ k : Fin 16, (∑ i : Fin 256, cost h g t (tileRow k i)) * ((1 / 2 : ℝ) : EReal) = total h g t := by
  have e : Ideal.ofBits .f32 0x3F000000#32 = ((1 / 2 : ℝ) : EReal) := by
    simp [Ideal.ofBits, Ideal.ieee]
    norm_num
    rw [← EReal.coe_mul]
    norm_num
  rw [sum_scale _ (by norm_num), total, e, mul_comm]
  exact congrArg (_ * ·) (Fin.sum_univ_tiles 16 256 rfl (fun s : Fin 4096 => cost h g t s)).symm

/-- The factors of the loss's derivative: half of one, over a row's length, times twice the error. -/
theorem factor (x : EReal) : Ideal.div (Ideal.ofBits FTy.f32 0x3F000000#32 * Ideal.ofBits FTy.f32 0x3F800000#32) (Ideal.ofBits FTy.f32 0x45000000#32)
    * (Ideal.ofBits FTy.f32 0x40000000#32 * x) = x * Ideal.ofBits FTy.f32 0x3A000000#32 := by
  have e₁ : Ideal.ofBits .f32 0x3F000000#32 = ((1 / 2 : ℝ) : EReal) := by
    simp [Ideal.ofBits, Ideal.ieee]
    norm_num
    rw [← EReal.coe_mul]
    norm_num
  have e₂ : Ideal.ofBits .f32 0x3F800000#32 = ((1 : ℝ) : EReal) := by
    simp [Ideal.ofBits, Ideal.ieee]
    norm_num
    try rw [← EReal.coe_mul]
    try norm_num
  have e₃ : Ideal.ofBits .f32 0x40000000#32 = ((2 : ℝ) : EReal) := by
    simp [Ideal.ofBits, Ideal.ieee]
    norm_num
    try rw [← EReal.coe_mul]
    try norm_num
  have e₄ : Ideal.ofBits .f32 0x3A000000#32 = ((1 / 2048 : ℝ) : EReal) := by
    simp [Ideal.ofBits, Ideal.ieee]
    norm_num
    rw [← EReal.coe_mul]
    norm_num
  rw [e₁, e₂, e₃, e₄, width_eq, Ideal.div_coe (by norm_num), ← EReal.coe_mul, ← EReal.coe_mul, ← mul_assoc, ← EReal.coe_mul, mul_comm]
  congr 2
  norm_num

end Cert.Loss

end
-- ==== Proof.Loss.Dx.lean ====
/- The loss head's three results as the arrays that its call leaves: the loss, the gradient at the final norm's argument and
   that of its gain. -/
module

public import proofs.«01_k».proof.Proof.Gen.Kernel6Ideal.Frame
public import proofs.«01_k».proof.Proof.Loss.Math
public import Idealize.ShloMosaic.Lib.Pipeline.ValueKit

@[expose] public section

set_option maxRecDepth 16384
set_option maxHeartbeats 4000000

noncomputable section

namespace Cert.Loss

open Cert.Kernel6Ideal Cert.Kernel6Ideal.Gen Cert.In Idealize.ShloMosaic Idealize.ShloMosaic.TcCoe Idealize.SL.Sem
open Idealize.ShloMosaic.Pipeline (Dat)

section Block

variable (h t : Vec Ideal S256x2048 .f32) (g : Vec Ideal S1x2048 .f32)

theorem pay6_apply (i : Fin 256) (j : Fin 1) : k0_pay6 h (ix2 i j) = kvar h i := by
  pointwise [k0_pay6, kvar, mean]
theorem pay7_apply (i : Fin 256) (j : Fin 1) : k0_pay7 h (ix2 i j) = kinv h i := by
  have e : k0_pay7 h (ix2 i j) = Ideal.rsqrt (k0_pay6 h (ix2 i j)) := by pointwise [k0_pay7]
  rw [e, pay6_apply]
  rfl
theorem pay8_apply (i : Fin 256) (j : Fin 2048) : k0_pay8 h (ix2 i j) = h (ix2 i j) * kinv h i := by
  rw [← pay7_apply h i 0]
  pointwise [k0_pay8]
theorem pay9_apply (i : Fin 256) (j : Fin 2048) : k0_pay9 h g t (ix2 i j) = kerr h g t i j := by
  have e : k0_pay9 h g t (ix2 i j) = k0_pay8 h (ix2 i j) * g (ix2 0 j) - t (ix2 i j) := by pointwise [k0_pay9, k0_pay5]
  rw [e, pay8_apply]
  rfl
theorem pay10_apply (i : Fin 256) (j : Fin 2048) : k0_pay10 h g t (ix2 i j) = kdy h g t i j := by
  have e : k0_pay10 h g t (ix2 i j) = k0_pay9 h g t (ix2 i j) * Ideal.ofBits FTy.f32 0x3A000000#32 := by pointwise [k0_pay10]
  rw [e, pay9_apply]
  rfl
theorem pay11_apply (j : Fin 2048) : k0_pay11 h g t (ix2 0 j) = kgain (kdy h g t) h j := by
  have e : k0_pay11 h g t (ix2 0 j) = ∑ i : Fin 256, k0_pay8 h (ix2 i j) * k0_pay10 h g t (ix2 i j) := by pointwise [k0_pay11]
  rw [e]
  simp only [pay8_apply, pay10_apply]
  exact Finset.sum_congr rfl fun i _ => mul_comm _ _
theorem pay12_apply (i : Fin 256) (j : Fin 2048) : k0_pay12 h g t (ix2 i j) = kdx (kdy h g t) h g i j := by
  have e : k0_pay12 h g t (ix2 i j) = k0_pay10 h g t (ix2 i j) * g (ix2 0 j) * k0_pay7 h (ix2 i 0)
      + h (ix2 i j) * (Ideal.div ((∑ d : Fin 2048, h (ix2 i d) * (k0_pay10 h g t (ix2 i d) * g (ix2 0 d)))
          * (Ideal.ofBits FTy.f32 0xBF000000#32 * Ideal.div (k0_pay7 h (ix2 i 0)) (k0_pay6 h (ix2 i 0)))) (Ideal.ofBits FTy.f32 0x45000000#32))
      + (Ideal.div ((∑ d : Fin 2048, h (ix2 i d) * (k0_pay10 h g t (ix2 i d) * g (ix2 0 d)))
          * (Ideal.ofBits FTy.f32 0xBF000000#32 * Ideal.div (k0_pay7 h (ix2 i 0)) (k0_pay6 h (ix2 i 0)))) (Ideal.ofBits FTy.f32 0x45000000#32)) * h (ix2 i j) := by
    pointwise [k0_pay12, k0_pay5]
    simp only [Fin.sum_univ_one]
    try rfl
  rw [e]
  simp only [pay10_apply, pay7_apply, pay6_apply]
  rfl
theorem pay3_apply (x o : Vec Ideal S1x2048 .f32) (j : Fin 2048) : k0_pay3 x o (ix2 0 j) = o (ix2 0 j) + x (ix2 0 j) := by
  pointwise [k0_pay3]
theorem pay1_apply (j : Fin 2048) : k0_pay1 (F := Ideal) (ix2 0 j) = 0 := by
  pointwise [k0_pay1]
theorem pay2_apply : k0_pay2 (F := Ideal) (ix2 0 0) = 0 := by
  pointwise [k0_pay2]
theorem pay4_apply (o : Vec Ideal S1x1 .f32) : k0_pay4 (k0_pay9 h g t) o (ix2 0 0) = o (ix2 0 0) + ktotal h g t := by
  have e : k0_pay4 (k0_pay9 h g t) o (ix2 0 0) = o (ix2 0 0) + Ideal.ofBits FTy.f32 0x3F000000#32
      * ∑ i : Fin 256, mean fun d => k0_pay9 h g t (ix2 i d) * k0_pay9 h g t (ix2 i d) := by
    pointwise [k0_pay4, mean]
  rw [e]
  simp only [pay9_apply]
  rfl

end Block

variable (m : (ℓ : Loc nD τ sig) → Buf (Elt Ideal) ℓ)

/-- The residual stream, the gain's row and the target. -/
abbrev bh (c : Dev nD) (t : Fin cfg0.N) : Vec Ideal S256x2048 .f32 := iblk (F := Ideal) m c 0 t
abbrev bg (c : Dev nD) (t : Fin cfg0.N) : Vec Ideal S1x2048 .f32 := iblk (F := Ideal) m c 1 t
abbrev bt (c : Dev nD) (t : Fin cfg0.N) : Vec Ideal S256x2048 .f32 := iblk (F := Ideal) m c 2 t

/-- What a grid point leaves in the block of rows. -/
theorem out_dh (c : Dev nD) (t : Fin cfg0.N) (i : Fin 256) (j : Fin 2048) : (outsAt0 (F := Ideal) m c t.val t.isLt).2.1 (ix2 i j)
    = kdx (kdy (bh m c t) (bg m c t) (bt m c t)) (bh m c t) (bg m c t) i j := by
  by_cases h : t.val % 16 = 0
  · rw [outsAt0_A m c t h]
    frame_out
    exact pay12_apply _ _ _ i j
  · rw [outsAt0_B m c t h]
    frame_out
    exact pay12_apply _ _ _ i j
/-- What the first and the later points leave in the gain's gradient and in the loss. -/
theorem out_dgA (c : Dev nD) (t : Fin cfg0.N) (h : t.val % 16 = 0) (j : Fin 2048) : (outsAt0 (F := Ideal) m c t.val t.isLt).2.2 (ix2 0 j)
    = 0 + kgain (kdy (bh m c t) (bg m c t) (bt m c t)) (bh m c t) j := by
  rw [outsAt0_A m c t h]
  frame_out
  exact (pay3_apply _ _ j).trans (congrArg₂ (· + ·) (pay1_apply j) (pay11_apply _ _ _ j))
theorem out_dgB (c : Dev nD) (t : Fin cfg0.N) (h : ¬t.val % 16 = 0) (j : Fin 2048) : (outsAt0 (F := Ideal) m c t.val t.isLt).2.2 (ix2 0 j)
    = (outsAt0 (F := Ideal) m c (t.val - 1) (Nat.lt_of_le_of_lt (Nat.sub_le _ _) t.isLt)).2.2 (ix2 0 j)
      + kgain (kdy (bh m c t) (bg m c t) (bt m c t)) (bh m c t) j := by
  rw [outsAt0_B m c t h]
  frame_out
  exact (pay3_apply _ _ j).trans (congrArg (_ + ·) (pay11_apply _ _ _ j))
theorem out_lossA (c : Dev nD) (t : Fin cfg0.N) (h : t.val % 16 = 0) : (outsAt0 (F := Ideal) m c t.val t.isLt).1 (ix2 0 0)
    = 0 + ktotal (bh m c t) (bg m c t) (bt m c t) := by
  rw [outsAt0_A m c t h]
  frame_out
  exact (pay4_apply _ _ _ _).trans (congrArg (· + _) pay2_apply)
theorem out_lossB (c : Dev nD) (t : Fin cfg0.N) (h : ¬t.val % 16 = 0) : (outsAt0 (F := Ideal) m c t.val t.isLt).1 (ix2 0 0)
    = (outsAt0 (F := Ideal) m c (t.val - 1) (Nat.lt_of_le_of_lt (Nat.sub_le _ _) t.isLt)).1 (ix2 0 0)
      + ktotal (bh m c t) (bg m c t) (bt m c t) := by
  rw [outsAt0_B m c t h]
  frame_out
  exact pay4_apply _ _ _ _

/-- The blocks at each grid point: a tile of rows, and the whole of the gain. -/
theorem idx0 (t : Fin cfg0.N) : win0_0.index t = ![t.val, 0] ∧ win0_1.index t = ![0, 0] ∧ win0_2.index t = ![t.val, 0]
    ∧ win0_4.index t = ![t.val, 0] := by
  revert t; decide +kernel

def tile0 (t : Fin cfg0.N) : Fin 16 := ⟨t.val, lt_of_lt_of_eq t.isLt (show cfg0.N = 16 from N_0)⟩

/-- The arguments, the gain as a row. -/
abbrev aH (c : Dev nD) : S4096x2048.Idx → EReal := m ((c : Thread nD τ).loc main_arg0)
abbrev aG (c : Dev nD) : S2048.Idx → EReal := m ((c : Thread nD τ).loc main_arg1)
abbrev aT (c : Dev nD) : S4096x2048.Idx → EReal := m ((c : Thread nD τ).loc main_arg2)

theorem v_gain (c : Dev nD) : V m c main_v0 = row (aG m c) := by
  have e : V m c main_v0 = broadcastInDim S1x2048 ![1] bcast_S2048_S1x2048_1 (aG m c) := by
    unfold V; after_results_simp
  rw [e]
  funext i
  idx_vars i
  pointwise [row]

theorem blk_h (c : Dev nD) (t : Fin cfg0.N) (i : Fin 256) (j : Fin 2048) : bh m c t (ix2 i j) = aH m c (ix2 (tileRow (tile0 t) i) j) := by
  have e := idx0 t
  refine Eq.trans ?_ (congrFun (V_main_arg0 m c) (ix2 (tileRow (tile0 t) i) j : S4096x2048.Idx))
  unfold bh iblk
  blk_simp
  refine congrArg (V m c main_arg0) (?_ : (_ : S4096x2048.Idx) = _)
  blk_ext [e, tileRow, tile0]
theorem blk_t (c : Dev nD) (t : Fin cfg0.N) (i : Fin 256) (j : Fin 2048) : bt m c t (ix2 i j) = aT m c (ix2 (tileRow (tile0 t) i) j) := by
  have e := idx0 t
  refine Eq.trans ?_ (congrFun (V_main_arg2 m c) (ix2 (tileRow (tile0 t) i) j : S4096x2048.Idx))
  unfold bt iblk
  blk_simp
  refine congrArg (V m c main_arg2) (?_ : (_ : S4096x2048.Idx) = _)
  blk_ext [e, tileRow, tile0]
theorem blk_g (c : Dev nD) (t : Fin cfg0.N) : bg m c t = row (aG m c) := by
  have e := idx0 t
  refine Eq.trans ?_ (v_gain m c)
  funext i
  idx_vars i
  unfold bg iblk
  blk_simp
  refine congrArg (V m c main_v0) (?_ : (_ : S1x2048.Idx) = _)
  blk_ext [e]

/-- The loss's gradient at the normed rows. -/
abbrev yV (c : Dev nD) : S4096x2048.Idx → EReal := dy (aH m c) (row (aG m c)) (aT m c)
abbrev dhV (c : Dev nD) : S4096x2048.Idx → EReal := dx (yV m c) (aH m c) (row (aG m c))

theorem dh_arr (c : Dev nD) : (dats (F := Ideal) m 0 c).arrAt 4 cfg0.N = dhV m c := by
  refine (dats (F := Ideal) m 0 c).arrAt_eq_of_covers 4 _ (by decide +kernel) fun t hf y => ?_
  have e := idx0 t
  blk_simp
  rw [after0_4]
  idx_vars y
  refine (out_dh m c t y0 y1).trans (Eq.trans ?_ (congrArg (dhV m c) (?_ : (ix2 (tileRow (tile0 t) y0) y1 : S4096x2048.Idx) = _)))
  · rw [blk_g]
    exact kdx_rows _ (tile0 t) (blk_h m c t) (blk_t m c t) y0 y1
  · blk_ext [e, tileRow, tile0]

theorem sumAt {f : (n : Nat) → n < cfg0.N → EReal} {u : Fin 16 → EReal}
    (h0 : ∀ t : Fin cfg0.N, t.val % 16 = 0 → f t.val t.isLt = 0 + u (tile0 t))
    (hs : ∀ t : Fin cfg0.N, ¬t.val % 16 = 0 → f t.val t.isLt = f (t.val - 1) (Nat.lt_of_le_of_lt (Nat.sub_le _ _) t.isLt) + u (tile0 t))
    (t : Fin cfg0.N) (ht : t.val + 1 = cfg0.N) : f t.val t.isLt = ∑ k, u k := by
  rw [Pipeline.eq_sum_fin_of_reset_step_last f 16 0 (fun t => u (tile0 t)) h0 hs (by decide) t ht, zero_add]
  rfl

theorem after_dg (c : Dev nD) (j : Fin 2048) (t : Fin cfg0.N) (ht : t.val + 1 = cfg0.N) :
    (outsAt0 (F := Ideal) m c t.val t.isLt).2.2 (ix2 0 j) = gback (yV m c) (aH m c) (ix2 0 j) := by
  have q (t : Fin cfg0.N) : kgain (kdy (bh m c t) (bg m c t) (bt m c t)) (bh m c t) j
      = ∑ i : Fin 256, yV m c (ix2 (tileRow (tile0 t) i) j) * unit (aH m c) (ix2 (tileRow (tile0 t) i) j) := by
    rw [blk_g]
    exact kgain_rows (tile0 t) (kdy_rows _ (tile0 t) (blk_h m c t) (blk_t m c t)) (blk_h m c t) j
  refine (sumAt (f := fun n hn => (outsAt0 (F := Ideal) m c n hn).2.2 (ix2 0 j))
    (u := fun k => ∑ i : Fin 256, yV m c (ix2 (tileRow k i) j) * unit (aH m c) (ix2 (tileRow k i) j)) (fun t h => ?_) (fun t h => ?_) t ht).trans
    (gback_tiles (yV m c) (aH m c) j)
  · exact (out_dgA m c t h j).trans (congrArg (0 + ·) (q t))
  · exact (out_dgB m c t h j).trans (congrArg (_ + ·) (q t))
theorem after_loss (c : Dev nD) (t : Fin cfg0.N) (ht : t.val + 1 = cfg0.N) :
    (outsAt0 (F := Ideal) m c t.val t.isLt).1 (ix2 0 0) = total (aH m c) (row (aG m c)) (aT m c) := by
  have q (t : Fin cfg0.N) : ktotal (bh m c t) (bg m c t) (bt m c t)
      = (∑ i : Fin 256, cost (aH m c) (row (aG m c)) (aT m c) (tileRow (tile0 t) i)) * ((1 / 2 : ℝ) : EReal) := by
    rw [blk_g]
    exact ktotal_rows _ (tile0 t) (blk_h m c t) (blk_t m c t)
  refine (sumAt (f := fun n hn => (outsAt0 (F := Ideal) m c n hn).1 (ix2 0 0))
    (u := fun k => (∑ i : Fin 256, cost (aH m c) (row (aG m c)) (aT m c) (tileRow k i)) * ((1 / 2 : ℝ) : EReal)) (fun t h => ?_) (fun t h => ?_) t ht).trans
    (total_tiles (aH m c) (row (aG m c)) (aT m c))
  · exact (out_lossA m c t h).trans (congrArg (0 + ·) (q t))
  · exact (out_lossB m c t h).trans (congrArg (_ + ·) (q t))

/-- The last grid point. -/
def last0 : Fin cfg0.N := ⟨15, by rw [show cfg0.N = 16 from N_0]; decide⟩
theorem whole3 : (cfg0.win 3).WholeAt last0 := by decide +kernel
theorem whole5 : (cfg0.win 5).WholeAt last0 := by decide +kernel

theorem dg_arr (c : Dev nD) : (dats (F := Ideal) m 0 c).arrAt 5 cfg0.N = gback (yV m c) (aH m c) := by
  refine (dats (F := Ideal) m 0 c).arrAt_eq_of_after_last 5 last0 whole5 _ fun y => ?_
  rw [after0_5]
  blk_simp
  idx_vars y
  obtain rfl : y0 = 0 := Subsingleton.elim _ _
  have h := after_dg m c y1 last0 N_0.symm
  generalize outsAt0 m c last0.val _ = o at h ⊢
  exact h
theorem loss_arr (c : Dev nD) : (dats (F := Ideal) m 0 c).arrAt 3 cfg0.N = fun _ => total (aH m c) (row (aG m c)) (aT m c) := by
  refine (dats (F := Ideal) m 0 c).arrAt_eq_of_after_last 3 last0 whole3 _ fun y => ?_
  rw [after0_3]
  blk_simp
  idx_vars y
  obtain rfl : y0 = 0 := Subsingleton.elim _ _
  obtain rfl : y1 = 0 := Subsingleton.elim _ _
  have h := after_loss m c last0 N_0.symm
  generalize outsAt0 m c last0.val _ = o at h ⊢
  exact h

end Cert.Loss

end
-- ==== Proof.Loss.Ref.lean ====
/- The loss head's reference: its composed terms read at an index. -/
module

public import proofs.«01_k».proof.Proof.Gen.Reference6Ideal
public import proofs.«01_k».proof.Proof.Loss.Math

@[expose] public section

set_option maxRecDepth 16384
set_option maxHeartbeats 4000000

noncomputable section

namespace Cert.Loss

open Cert.Reference6Ideal Cert.Reference6Ideal.Gen Cert.Reference6Ideal.Facts Cert.In Idealize.ShloMosaic Idealize.ShloMosaic.TcCoe

def rErr (h : FVec Ideal S4096x2048 .f32) (g : FVec Ideal S2048 .f32) (t : FVec Ideal S4096x2048 .f32) : FVec Ideal S4096x2048 .f32 := subf (rNrm h g) t
def rDy (h : FVec Ideal S4096x2048 .f32) (g : FVec Ideal S2048 .f32) (t : FVec Ideal S4096x2048 .f32) : FVec Ideal S4096x2048 .f32 :=
  mulf (broadcastInDim S4096x2048 ![0] bcast_S4096_S4096x2048_0 (Host.divf (broadcastInDim S4096 ![] bcast_S_S4096
      (mulf (constant S_ .f32 0x3F000000#32) (constant S_ .f32 0x3F800000#32))) (broadcastInDim S4096 ![] bcast_S_S4096 (constant S_ .f32 0x45000000#32))))
    (mulf (broadcastInDim S4096x2048 ![] bcast_S_S4096x2048 (constant S_ .f32 0x40000000#32)) (rErr h g t))
def rTotal (e : FVec Ideal S4096x2048 .f32) : FVec Ideal S1x1 .f32 :=
  broadcastInDim S1x1 ![] bcast_S_S1x1 (mulf (constant S_ .f32 0x3F000000#32) (Host.reduceAdd (Host.divf
    (Host.reduceAdd (mulf e e) (constant S_ .f32 0x00000000#32) reducesTo_S4096x2048_S4096_d1 h_S_)
    (broadcastInDim S4096 ![] bcast_S_S4096 (constant S_ .f32 0x45000000#32))) (constant S_ .f32 0x00000000#32) reducesTo_S4096_S_d0 h_S_))
def rDx (y h : FVec Ideal S4096x2048 .f32) (g : FVec Ideal S2048 .f32) : FVec Ideal S4096x2048 .f32 :=
  addf (addf (mulf (mulf y (rGain g)) (rWide (rInv h))) (mulf h (rFac h (mulf y (rGain g))))) (mulf (rFac h (mulf y (rGain g))) h)

theorem rErr_eq (h : FVec Ideal S4096x2048 .f32) (g : FVec Ideal S2048 .f32) (t : FVec Ideal S4096x2048 .f32) : rErr h g t = err h (row g) t := by
  unfold rErr
  rw [rNrm_eq]
  funext i
  idx_vars i
  pointwise [err]
theorem rDy_eq (h : FVec Ideal S4096x2048 .f32) (g : FVec Ideal S2048 .f32) (t : FVec Ideal S4096x2048 .f32) :
    Cert.Loss.rDy h g t = Cert.Loss.dy h (row g) t := by
  funext i
  idx_vars i
  refine Eq.trans ?_ (factor (err h (row g) t (ix2 i0 i1)))
  rw [← rErr_eq]
  pointwise [Cert.Loss.rDy]
theorem rTotal_eq (h : FVec Ideal S4096x2048 .f32) (g : FVec Ideal S2048 .f32) (t : FVec Ideal S4096x2048 .f32) :
    rTotal (rErr h g t) = fun _ => total h (row g) t := by
  rw [rErr_eq]
  funext i
  idx_vars i
  pointwise [rTotal, total, cost, mean]
theorem rDx_eq (y h : FVec Ideal S4096x2048 .f32) (g : FVec Ideal S2048 .f32) : rDx y h g = dx y h (row g) := by
  funext i
  idx_vars i
  refine Eq.trans ?_ (?_ : scaled y (row g) (ix2 i0 i1) * inv h i0 + h (ix2 i0 i1) * fac h (scaled y (row g)) i0 + fac h (scaled y (row g)) i0 * h (ix2 i0 i1) = _)
  · rw [← rFac_apply h _ i0 i1, ← rInv_apply h i0 0, ← rScaled_eq]
    pointwise [rDx, rWide]
  · rfl

end Cert.Loss

end
-- ==== Proof.Loss.Claims.lean ====
/- The five claims about the final norm and the loss. -/
module

public import proofs.«01_k».proof.Defs
public import proofs.«01_k».proof.Proof.Gen.Kernel6
public import proofs.«01_k».proof.Proof.Gen.Kernel6Ideal
public import proofs.«01_k».proof.Proof.Gen.Reference6Ideal
public import proofs.«01_k».proof.Proof.Gen.Reference6Ideal.Run
public import proofs.«01_k».proof.Proof.Loss.Dx
public import proofs.«01_k».proof.Proof.Loss.Ref
public import Idealize.ShloMosaic.Adequacy
public import Idealize.ShloMosaic.Init

@[expose] public section

set_option maxRecDepth 16384

noncomputable section

namespace Cert.Loss

open Cert.In Idealize.ShloMosaic Idealize.ShloMosaic.Tactic Idealize.SL.Sem

theorem frame_kernel6_ideal : Cert.quiescent_Kernel6Ideal := fun m ρ _ => Cert.Kernel6Ideal.Gen.frame m ρ

set_option maxHeartbeats 4000000 in
theorem frame_kernel6 : Cert.quiescent_Kernel6 := fun m ρ _ => by
  have h := Cert.Kernel6Ideal.Gen.frame (F := Bits) m ρ
  refine cast ?_ h
  sl_kernel_rfl

set_option maxHeartbeats 4000000 in
theorem frame_reference6 : Cert.quiescent_Reference6Ideal := fun m ρ _ => by
  refine (θ_run Cert.Reference6Ideal.defs _ _).mono ?_ (Cert.Reference6Ideal.Value.run m ρ)
  intro r h
  exact ⟨fun c => (h c).2.2.2, sem_eq_zero_of_no_sems (by decide) r.2⟩

set_option maxHeartbeats 4000000 in
theorem algebraic6 : Cert.algebraic_Kernel6Ideal_Reference6Ideal := fun m g m' g' _ hag =>
  ⟨fun c _ => total (aH m c) (row (aG m c)) (aT m c), fun c => dhV m c, fun c => gback (yV m c) (aH m c),
   (θ_run Cert.Kernel6Ideal.defs _ _).mono (fun _ h c =>
     ⟨((h.1 c).1 3).trans (loss_arr m c), ((h.1 c).1 4).trans (dh_arr m c), ((h.1 c).1 5).trans (dg_arr m c), h.2 c⟩)
     (θ_run_and (Cert.Kernel6Ideal.Gen.run_main (F := Ideal) m g) (Cert.Kernel6Ideal.Gen.unchanged (F := Ideal) m g)),
   (θ_run Cert.Reference6Ideal.defs _ _).mono (fun _ h c => by
     obtain ⟨r0, r1, r2, u⟩ := h c
     obtain ⟨e0, e1, e2⟩ := hag c
     refine ⟨r0.trans ?_, r1.trans ?_, r2.trans ?_, u⟩
     · refine Eq.trans (?_ : _ = rTotal (rErr (aH m c) (aG m c) (aT m c))) (rTotal_eq _ _ _)
       rw [e0, e1, e2]
       rfl
     · refine Eq.trans (?_ : _ = rDx (rDy (aH m c) (aG m c) (aT m c)) (aH m c) (aG m c)) ?_
       · unfold Cert.Reference6Ideal.Value.res_main_v50
         rw [e0, e1, e2]
         rfl
       · rw [Cert.Loss.rDy_eq]
         exact rDx_eq _ _ _
     · refine Eq.trans (?_ : _ = rGback (rDy (aH m c) (aG m c) (aT m c)) (aH m c)) ?_
       · rw [e0, e1, e2]
         rfl
       · rw [Cert.Loss.rDy_eq]
         exact rGback_eq _ _) (Cert.Reference6Ideal.Value.run m' g')⟩

end Cert.Loss

end
-- ==== Proof.Adam.Step.lean ====
/- The optimiser's step of the packed small weights: its three results as the arrays that the call leaves, and the
   reference's terms. -/
module

public import proofs.«01_k».proof.Proof.Gen.Kernel7Ideal.Frame
public import proofs.«01_k».proof.Proof.Gen.Reference7Ideal
public import Idealize.ShloMosaic.Lib.Pipeline.ValueKit

@[expose] public section

set_option maxRecDepth 16384
set_option maxHeartbeats 4000000

noncomputable section

namespace Cert.Adam

open Idealize.ShloMosaic Idealize.ShloMosaic.TcCoe Idealize.SL.Sem

/-- The running means of the gradient and of its square. -/
def mean (g m : EReal) : EReal := Ideal.ofBits FTy.f32 0x3F666666#32 * m + Ideal.ofBits FTy.f32 0x3DCCCCCD#32 * g
def square (g v : EReal) : EReal := Ideal.ofBits FTy.f32 0x3F7FBE77#32 * v + Ideal.ofBits FTy.f32 0x3A83126F#32 * (g * g)
/-- The change of a weight: both means over what their first steps lack, and the decay. -/
def step (w g m v : EReal) : EReal :=
  Ideal.ofBits FTy.f32 0xBA83126F#32 * (Ideal.div (Ideal.div (mean g m) (Ideal.ofBits FTy.f32 0x3F26BD02#32))
    (Ideal.sqrt (Ideal.div (square g v) (Ideal.ofBits FTy.f32 0x3C231ACC#32)) + Ideal.ofBits FTy.f32 0x322BCC77#32)
    + Ideal.ofBits FTy.f32 0x3C23D70A#32 * w)

section Kernel

open Cert.Kernel7Ideal Cert.Kernel7Ideal.Gen
open Idealize.ShloMosaic.Pipeline (Dat)

variable (m : (ℓ : Loc nD τ sig) → Buf (Elt Ideal) ℓ)

/-- The arguments: the weights, the gradient and its two running means. -/
abbrev aW (c : Dev nD) : S4416x128.Idx → EReal := m ((c : Thread nD τ).loc main_arg0)
abbrev aG (c : Dev nD) : S4416x128.Idx → EReal := m ((c : Thread nD τ).loc main_arg1)
abbrev aM (c : Dev nD) : S4416x128.Idx → EReal := m ((c : Thread nD τ).loc main_arg2)
abbrev aV (c : Dev nD) : S4416x128.Idx → EReal := m ((c : Thread nD τ).loc main_arg3)
/-- The three results. -/
def newStep (c : Dev nD) : S4416x128.Idx → EReal := fun i => step (aW m c i) (aG m c i) (aM m c i) (aV m c i)
def newMean (c : Dev nD) : S4416x128.Idx → EReal := fun i => mean (aG m c i) (aM m c i)
def newSquare (c : Dev nD) : S4416x128.Idx → EReal := fun i => square (aG m c i) (aV m c i)

/-- Each block is the whole array. -/
theorem idx0 (t : Fin cfg0.N) : win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] := by
  revert t; decide +kernel

theorem blk_w (c : Dev nD) (t : Fin cfg0.N) : iblk (F := Ideal) m c 0 t = aW m c := by
  refine Eq.trans ?_ (V_main_arg0 m c)
  funext i
  idx_vars i
  unfold iblk
  blk_simp
  refine congrArg (V m c main_arg0) (?_ : (_ : S4416x128.Idx) = _)
  blk_ext [idx0 t]
theorem blk_g (c : Dev nD) (t : Fin cfg0.N) : iblk (F := Ideal) m c 1 t = aG m c := by
  refine Eq.trans ?_ (V_main_arg1 m c)
  funext i
  idx_vars i
  unfold iblk
  blk_simp
  refine congrArg (V m c main_arg1) (?_ : (_ : S4416x128.Idx) = _)
  blk_ext [idx0 t]
theorem blk_m (c : Dev nD) (t : Fin cfg0.N) : iblk (F := Ideal) m c 2 t = aM m c := by
  refine Eq.trans ?_ (V_main_arg2 m c)
  funext i
  idx_vars i
  unfold iblk
  blk_simp
  refine congrArg (V m c main_arg2) (?_ : (_ : S4416x128.Idx) = _)
  blk_ext [idx0 t]
theorem blk_v (c : Dev nD) (t : Fin cfg0.N) : iblk (F := Ideal) m c 3 t = aV m c := by
  refine Eq.trans ?_ (V_main_arg3 m c)
  funext i
  idx_vars i
  unfold iblk
  blk_simp
  refine congrArg (V m c main_arg3) (?_ : (_ : S4416x128.Idx) = _)
  blk_ext [idx0 t]

theorem pay1_apply (g n : Vec Ideal S4416x128 .f32) (i : Fin 4416) (j : Fin 128) : k0_pay1 g n (ix2 i j) = mean (g (ix2 i j)) (n (ix2 i j)) := by
  pointwise [k0_pay1, mean]
theorem pay2_apply (g v : Vec Ideal S4416x128 .f32) (i : Fin 4416) (j : Fin 128) : k0_pay2 g v (ix2 i j) = square (g (ix2 i j)) (v (ix2 i j)) := by
  pointwise [k0_pay2, square]
theorem pay3_apply (w g n v : Vec Ideal S4416x128 .f32) (i : Fin 4416) (j : Fin 128) :
    k0_pay3 w g n v (ix2 i j) = step (w (ix2 i j)) (g (ix2 i j)) (n (ix2 i j)) (v (ix2 i j)) := by
  rw [step, ← pay1_apply, ← pay2_apply]
  pointwise [k0_pay3]

theorem step_arr (c : Dev nD) : (dats (F := Ideal) m 0 c).arrAt 4 cfg0.N = newStep m c := by
  refine (dats (F := Ideal) m 0 c).arrAt_eq_of_covers 4 _ (by decide +kernel) fun t hf y => ?_
  blk_simp
  rw [after0_4, blk_w, blk_g, blk_m, blk_v]
  frame_out
  idx_vars y
  refine (pay3_apply _ _ _ _ y0 y1).trans (congrArg (newStep m c) (?_ : (ix2 y0 y1 : S4416x128.Idx) = _))
  blk_ext [idx0 t]
theorem mean_arr (c : Dev nD) : (dats (F := Ideal) m 0 c).arrAt 5 cfg0.N = newMean m c := by
  refine (dats (F := Ideal) m 0 c).arrAt_eq_of_covers 5 _ (by decide +kernel) fun t hf y => ?_
  blk_simp
  rw [after0_5, blk_w, blk_g, blk_m, blk_v]
  frame_out
  idx_vars y
  refine (pay1_apply _ _ y0 y1).trans (congrArg (newMean m c) (?_ : (ix2 y0 y1 : S4416x128.Idx) = _))
  blk_ext [idx0 t]
theorem square_arr (c : Dev nD) : (dats (F := Ideal) m 0 c).arrAt 6 cfg0.N = newSquare m c := by
  refine (dats (F := Ideal) m 0 c).arrAt_eq_of_covers 6 _ (by decide +kernel) fun t hf y => ?_
  blk_simp
  rw [after0_6, blk_w, blk_g, blk_m, blk_v]
  frame_out
  idx_vars y
  refine (pay2_apply _ _ y0 y1).trans (congrArg (newSquare m c) (?_ : (ix2 y0 y1 : S4416x128.Idx) = _))
  blk_ext [idx0 t]

end Kernel

section Reference

open Cert.Reference7Ideal Cert.Reference7Ideal.Gen Cert.Reference7Ideal.Facts

/-- The reference's terms. -/
def rMean (g m : FVec Ideal S4416x128 .f32) : FVec Ideal S4416x128 .f32 :=
  addf (mulf (broadcastInDim S4416x128 ![] bcast_S_S4416x128 (constant S_ .f32 0x3F666666#32)) m)
    (mulf (broadcastInDim S4416x128 ![] bcast_S_S4416x128 (constant S_ .f32 0x3DCCCCCD#32)) g)
def rSquare (g v : FVec Ideal S4416x128 .f32) : FVec Ideal S4416x128 .f32 :=
  addf (mulf (broadcastInDim S4416x128 ![] bcast_S_S4416x128 (constant S_ .f32 0x3F7FBE77#32)) v)
    (mulf (broadcastInDim S4416x128 ![] bcast_S_S4416x128 (constant S_ .f32 0x3A83126F#32)) (mulf g g))
def rStep (w g m v : FVec Ideal S4416x128 .f32) : FVec Ideal S4416x128 .f32 :=
  mulf (broadcastInDim S4416x128 ![] bcast_S_S4416x128 (constant S_ .f32 0xBA83126F#32))
    (addf (Host.divf (Host.divf (rMean g m) (broadcastInDim S4416x128 ![] bcast_S_S4416x128 (constant S_ .f32 0x3F26BD02#32)))
      (addf (Host.sqrt (Host.divf (rSquare g v) (broadcastInDim S4416x128 ![] bcast_S_S4416x128 (constant S_ .f32 0x3C231ACC#32))))
        (broadcastInDim S4416x128 ![] bcast_S_S4416x128 (constant S_ .f32 0x322BCC77#32))))
      (mulf (broadcastInDim S4416x128 ![] bcast_S_S4416x128 (constant S_ .f32 0x3C23D70A#32)) w))

theorem rMean_apply (g m : FVec Ideal S4416x128 .f32) (i : S4416x128.Idx) : rMean g m i = mean (g i) (m i) := by
  idx_vars i
  pointwise [rMean, mean]
theorem rSquare_apply (g v : FVec Ideal S4416x128 .f32) (i : S4416x128.Idx) : rSquare g v i = square (g i) (v i) := by
  idx_vars i
  pointwise [rSquare, square]
theorem rStep_apply (w g m v : FVec Ideal S4416x128 .f32) (i : S4416x128.Idx) : rStep w g m v i = step (w i) (g i) (m i) (v i) := by
  rw [step, ← rMean_apply g m i, ← rSquare_apply g v i]
  idx_vars i
  pointwise [rStep]

end Reference

end Cert.Adam

end
-- ==== Proof.Adam.Claims.lean ====
/- The five claims about the optimiser's step of the packed small weights. -/
module

public import proofs.«01_k».proof.Defs
public import proofs.«01_k».proof.Proof.Gen.Kernel7
public import proofs.«01_k».proof.Proof.Gen.Kernel7Ideal
public import proofs.«01_k».proof.Proof.Gen.Reference7Ideal
public import proofs.«01_k».proof.Proof.Gen.Reference7Ideal.Run
public import proofs.«01_k».proof.Proof.Adam.Step
public import Idealize.ShloMosaic.Adequacy
public import Idealize.ShloMosaic.Init

@[expose] public section

set_option maxRecDepth 16384

noncomputable section

namespace Cert.Adam

open Idealize.ShloMosaic Idealize.ShloMosaic.Tactic Idealize.SL.Sem

theorem frame_kernel7_ideal : Cert.quiescent_Kernel7Ideal := fun m ρ _ => Cert.Kernel7Ideal.Gen.frame m ρ

set_option maxHeartbeats 4000000 in
theorem frame_kernel7 : Cert.quiescent_Kernel7 := fun m ρ _ => by
  have h := Cert.Kernel7Ideal.Gen.frame (F := Bits) m ρ
  refine cast ?_ h
  sl_kernel_rfl

set_option maxHeartbeats 4000000 in
theorem frame_reference7 : Cert.quiescent_Reference7Ideal := fun m ρ _ => by
  refine (θ_run Cert.Reference7Ideal.defs _ _).mono ?_ (Cert.Reference7Ideal.Value.run m ρ)
  intro r h
  exact ⟨fun c => (h c).2.2.2, sem_eq_zero_of_no_sems (by decide) r.2⟩

set_option maxHeartbeats 4000000 in
theorem algebraic7 : Cert.algebraic_Kernel7Ideal_Reference7Ideal := fun m g m' g' _ hag =>
  ⟨fun c => newStep m c, fun c => newMean m c, fun c => newSquare m c,
   (θ_run Cert.Kernel7Ideal.defs _ _).mono (fun _ h c =>
     ⟨((h.1 c).1 4).trans (step_arr m c), ((h.1 c).1 5).trans (mean_arr m c), ((h.1 c).1 6).trans (square_arr m c), h.2 c⟩)
     (θ_run_and (Cert.Kernel7Ideal.Gen.run_main (F := Ideal) m g) (Cert.Kernel7Ideal.Gen.unchanged (F := Ideal) m g)),
   (θ_run Cert.Reference7Ideal.defs _ _).mono (fun _ h c => by
     obtain ⟨r0, r1, r2, u⟩ := h c
     obtain ⟨e0, e1, e2, e3⟩ := hag c
     refine ⟨r0.trans ?_, r1.trans ?_, r2.trans ?_, u⟩
     · refine Eq.trans (?_ : _ = rStep (aW m c) (aG m c) (aM m c) (aV m c)) (funext fun i => rStep_apply _ _ _ _ i)
       rw [e0, e1, e2, e3]
       rfl
     · refine Eq.trans (?_ : _ = rMean (aG m c) (aM m c)) (funext fun i => rMean_apply _ _ i)
       rw [e1, e2]
       rfl
     · refine Eq.trans (?_ : _ = rSquare (aG m c) (aV m c)) (funext fun i => rSquare_apply _ _ i)
       rw [e1, e3]
       rfl) (Cert.Reference7Ideal.Value.run m' g')⟩

end Cert.Adam

end
-- ==== Proof.Finish.Step.lean ====
/- The step that ends the output projection's gradient: the devices' parts of it added up, the optimiser's step, and the
   four results written at the first layer of the arrays over the layers, whose other layers stay. -/
module

public import proofs.«01_k».proof.Proof.Gen.Kernel8Ideal.Frame
public import proofs.«01_k».proof.Proof.Gen.Reference8Ideal
public import proofs.«01_k».proof.Proof.Adam.Step

@[expose] public section

set_option maxRecDepth 16384
set_option maxHeartbeats 4000000

noncomputable section

namespace Cert.Finish

open Idealize.ShloMosaic Idealize.ShloMosaic.TcCoe Idealize.SL.Sem
open Cert.Adam (mean square step)

section Kernel

open Cert.Kernel8Ideal Cert.Kernel8Ideal.Gen
open Idealize.ShloMosaic.Pipeline (Dat)

variable (m : (ℓ : Loc nD τ sig) → Buf (Elt Ideal) ℓ)

/-- The arguments: a device's own part of the gradient, the parts that come from the other chips, the weights and the
    two running means at the first layer, and the arrays over the layers that the four results go into. -/
abbrev aOwn (c : Dev nD) : S256x2048.Idx → EReal := m ((c : Thread nD τ).loc main_arg0)
abbrev aChips (c : Dev nD) : S3x256x2048.Idx → EReal := m ((c : Thread nD τ).loc main_arg1)
abbrev aW (c : Dev nD) : S4x256x2048.Idx → EReal := m ((c : Thread nD τ).loc main_arg2)
abbrev aM (c : Dev nD) : S4x256x2048.Idx → EReal := m ((c : Thread nD τ).loc main_arg3)
abbrev aV (c : Dev nD) : S4x256x2048.Idx → EReal := m ((c : Thread nD τ).loc main_arg4)
abbrev s0 (c : Dev nD) : S4x256x2048.Idx → EReal := m ((c : Thread nD τ).loc main_arg5)
abbrev s1 (c : Dev nD) : S4x256x2048.Idx → EReal := m ((c : Thread nD τ).loc main_arg6)
abbrev s2 (c : Dev nD) : S4x256x2048.Idx → EReal := m ((c : Thread nD τ).loc main_arg7)
abbrev s3 (c : Dev nD) : S4x256x2048.Idx → EReal := m ((c : Thread nD τ).loc main_arg8)

/-- An entry of the gradient, added up. -/
def grad (own : S256x2048.Idx → EReal) (chips : S3x256x2048.Idx → EReal) (i : Fin 256) (j : Fin 2048) : EReal :=
  own (ix2 i j) + chips (ix3 0 i j) + chips (ix3 1 i j) + chips (ix3 2 i j)
/-- An array over the layers with the first layer's entries put in. -/
def put (s : S4x256x2048.Idx → EReal) (f : Fin 256 → Fin 2048 → EReal) : S4x256x2048.Idx → EReal :=
  fun i => if (i 0).val = 0 then f (i 1) (i 2) else s i

def newGrad (c : Dev nD) : S4x256x2048.Idx → EReal := put (s0 m c) fun i j => grad (aOwn m c) (aChips m c) i j
def newStep (c : Dev nD) : S4x256x2048.Idx → EReal := put (s1 m c) fun i j =>
  step (aW m c (ix3 0 i j)) (grad (aOwn m c) (aChips m c) i j) (aM m c (ix3 0 i j)) (aV m c (ix3 0 i j))
def newMean (c : Dev nD) : S4x256x2048.Idx → EReal := put (s2 m c) fun i j =>
  mean (grad (aOwn m c) (aChips m c) i j) (aM m c (ix3 0 i j))
def newSquare (c : Dev nD) : S4x256x2048.Idx → EReal := put (s3 m c) fun i j =>
  square (grad (aOwn m c) (aChips m c) i j) (aV m c (ix3 0 i j))

/-- Each block is the first layer of its array, or the whole array. -/
theorem idx0 (t : Fin cfg0.N) : win0_0.index t = ![0, 0] ∧ win0_1.index t = ![0, 0, 0] ∧ win0_2.index t = ![0, 0, 0] ∧ win0_3.index t = ![0, 0, 0] ∧ win0_4.index t = ![0, 0, 0] ∧ win0_5.index t = ![0, 0, 0] ∧ win0_6.index t = ![0, 0, 0] ∧ win0_7.index t = ![0, 0, 0] ∧ win0_8.index t = ![0, 0, 0] := by
  revert t; decide +kernel

theorem blk_own (c : Dev nD) (t : Fin cfg0.N) : iblk (F := Ideal) m c 0 t = aOwn m c := by
  refine Eq.trans ?_ (V_main_arg0 m c)
  funext i
  idx_vars i
  unfold iblk
  blk_simp
  refine congrArg (V m c main_arg0) (?_ : (_ : S256x2048.Idx) = _)
  blk_ext [idx0 t]
theorem blk_chips (c : Dev nD) (t : Fin cfg0.N) : iblk (F := Ideal) m c 1 t = aChips m c := by
  refine Eq.trans ?_ (V_main_arg1 m c)
  funext i
  idx_vars i
  unfold iblk
  blk_simp
  refine congrArg (V m c main_arg1) (?_ : (_ : S3x256x2048.Idx) = _)
  blk_ext [idx0 t]
theorem blk_w (c : Dev nD) (t : Fin cfg0.N) (i : Fin 256) (j : Fin 2048) :
    (iblk (F := Ideal) m c 2 t : S1x256x2048.Idx → EReal) (ix3 0 i j) = aW m c (ix3 0 i j) := by
  refine Eq.trans ?_ (congrFun (V_main_arg2 m c) (ix3 0 i j : S4x256x2048.Idx))
  unfold iblk
  blk_simp
  refine congrArg (V m c main_arg2) (?_ : (_ : S4x256x2048.Idx) = _)
  blk_ext [idx0 t]
theorem blk_m (c : Dev nD) (t : Fin cfg0.N) (i : Fin 256) (j : Fin 2048) :
    (iblk (F := Ideal) m c 3 t : S1x256x2048.Idx → EReal) (ix3 0 i j) = aM m c (ix3 0 i j) := by
  refine Eq.trans ?_ (congrFun (V_main_arg3 m c) (ix3 0 i j : S4x256x2048.Idx))
  unfold iblk
  blk_simp
  refine congrArg (V m c main_arg3) (?_ : (_ : S4x256x2048.Idx) = _)
  blk_ext [idx0 t]
theorem blk_v (c : Dev nD) (t : Fin cfg0.N) (i : Fin 256) (j : Fin 2048) :
    (iblk (F := Ideal) m c 4 t : S1x256x2048.Idx → EReal) (ix3 0 i j) = aV m c (ix3 0 i j) := by
  refine Eq.trans ?_ (congrFun (V_main_arg4 m c) (ix3 0 i j : S4x256x2048.Idx))
  unfold iblk
  blk_simp
  refine congrArg (V m c main_arg4) (?_ : (_ : S4x256x2048.Idx) = _)
  blk_ext [idx0 t]

theorem V0 (c : Dev nD) : V (F := Ideal) m c main_v0_0 = s0 m c := by
  unfold V
  after_results_simp
  rfl

theorem V1 (c : Dev nD) : V (F := Ideal) m c main_v0_1 = s1 m c := by
  unfold V
  after_results_simp
  rfl
theorem V2 (c : Dev nD) : V (F := Ideal) m c main_v0_2 = s2 m c := by
  unfold V
  after_results_simp
  rfl
theorem V3 (c : Dev nD) : V (F := Ideal) m c main_v0_3 = s3 m c := by
  unfold V
  after_results_simp
  rfl

/-- A chip's part, taken out of the array of the three. -/
theorem part0 (x : FVec Ideal S3x256x2048 .bf16) (i : Fin 256) (j : Fin 2048) :
    View.ld (Val := Elt Ideal) (e' := .bf16) x (Rect.unit (s := S3x256x2048) ![0, 0, 0] ![1, 256, 2048] inb_S3x256x2048_S1x256x2048_0_0_0) (ix3 0 i j : S1x256x2048.Idx) = x (ix3 0 i j) := by
  pointwise []
theorem part1 (x : FVec Ideal S3x256x2048 .bf16) (i : Fin 256) (j : Fin 2048) :
    View.ld (Val := Elt Ideal) (e' := .bf16) x (Rect.unit (s := S3x256x2048) ![1, 0, 0] ![1, 256, 2048] inb_S3x256x2048_S1x256x2048_1_0_0) (ix3 0 i j : S1x256x2048.Idx) = x (ix3 1 i j) := by
  pointwise []
theorem part2 (x : FVec Ideal S3x256x2048 .bf16) (i : Fin 256) (j : Fin 2048) :
    View.ld (Val := Elt Ideal) (e' := .bf16) x (Rect.unit (s := S3x256x2048) ![2, 0, 0] ![1, 256, 2048] inb_S3x256x2048_S1x256x2048_2_0_0) (ix3 0 i j : S1x256x2048.Idx) = x (ix3 2 i j) := by
  pointwise []

theorem pay5_apply (a : FVec Ideal S256x2048 .f32) (b b' b'' : FVec Ideal S1x256x2048 .bf16) (i : Fin 256) (j : Fin 2048) :
    k0_pay5 a b b' b'' (ix2 i j) = a (ix2 i j) + b (ix3 0 i j) + b' (ix3 0 i j) + b'' (ix3 0 i j) := by
  pointwise [k0_pay5]
theorem pay1_apply (a : FVec Ideal S256x2048 .f32) (i : Fin 256) (j : Fin 2048) : k0_pay1 a (ix3 0 i j) = a (ix2 i j) := by
  pointwise [k0_pay1]
theorem pay3_apply (a : FVec Ideal S256x2048 .f32) (i : Fin 256) (j : Fin 2048) : k0_pay3 a (ix3 0 i j) = a (ix2 i j) := by
  pointwise [k0_pay3]
theorem pay4_apply (a : FVec Ideal S256x2048 .f32) (i : Fin 256) (j : Fin 2048) : k0_pay4 a (ix3 0 i j) = a (ix2 i j) := by
  pointwise [k0_pay4]
theorem pay6_apply (a : FVec Ideal S1x256x2048 .f32) (i : Fin 256) (j : Fin 2048) : k0_pay6 a (ix2 i j) = a (ix3 0 i j) := by
  pointwise [k0_pay6]
theorem pay7_apply (a : FVec Ideal S256x2048 .f32) (b b' b'' : FVec Ideal S1x256x2048 .bf16) (n : FVec Ideal S1x256x2048 .f32) (i : Fin 256) (j : Fin 2048) :
    k0_pay7 (F := Ideal) a b b' b'' n (ix2 i j) = mean (k0_pay5 (F := Ideal) a b b' b'' (ix2 i j)) (n (ix3 0 i j)) := by
  pointwise [k0_pay7, mean]
theorem pay8_apply (a : FVec Ideal S256x2048 .f32) (b b' b'' : FVec Ideal S1x256x2048 .bf16) (n : FVec Ideal S1x256x2048 .f32) (i : Fin 256) (j : Fin 2048) :
    k0_pay8 (F := Ideal) a b b' b'' n (ix2 i j) = square (k0_pay5 (F := Ideal) a b b' b'' (ix2 i j)) (n (ix3 0 i j)) := by
  pointwise [k0_pay8, square]
theorem pay9_apply (a : FVec Ideal S256x2048 .f32) (b b' b'' : FVec Ideal S1x256x2048 .bf16) (n : FVec Ideal S1x256x2048 .f32) (i : Fin 256) (j : Fin 2048) :
    k0_pay9 (F := Ideal) a b b' b'' n (ix2 i j) = Ideal.div (k0_pay7 (F := Ideal) a b b' b'' n (ix2 i j)) (Ideal.ofBits FTy.f32 0x3F26BD02#32) := by
  pointwise [k0_pay9]
theorem pay2_apply (w q d : FVec Ideal S256x2048 .f32) (i : Fin 256) (j : Fin 2048) :
    k0_pay2 w q d k0_pay10 (ix3 0 i j) = Ideal.ofBits FTy.f32 0xBA83126F#32 * (Ideal.div (d (ix2 i j))
      (Ideal.sqrt (Ideal.div (q (ix2 i j)) (Ideal.ofBits FTy.f32 0x3C231ACC#32)) + Ideal.ofBits FTy.f32 0x322BCC77#32)
      + Ideal.ofBits FTy.f32 0x3C23D70A#32 * w (ix2 i j)) := by
  pointwise [k0_pay2, k0_pay10]

/-- What the one grid point leaves in the four blocks. -/
theorem out_grad (c : Dev nD) (t : Fin cfg0.N) (i : Fin 256) (j : Fin 2048) :
    (outsAt0 (F := Ideal) m c t).1 (ix3 0 i j) = grad (aOwn m c) (aChips m c) i j := by
  unfold outsAt0
  rw [blk_own, blk_chips]
  frame_out
  refine (pay1_apply _ i j).trans ((pay5_apply _ _ _ _ i j).trans ?_)
  rw [part0, part1, part2, grad]
theorem out_step (c : Dev nD) (t : Fin cfg0.N) (i : Fin 256) (j : Fin 2048) :
    (outsAt0 (F := Ideal) m c t).2.1 (ix3 0 i j)
      = step (aW m c (ix3 0 i j)) (grad (aOwn m c) (aChips m c) i j) (aM m c (ix3 0 i j)) (aV m c (ix3 0 i j)) := by
  unfold outsAt0
  rw [blk_own, blk_chips]
  frame_out
  refine (pay2_apply _ _ _ i j).trans ?_
  rw [pay6_apply, pay8_apply, pay9_apply, pay7_apply, pay5_apply, part0, part1, part2, blk_w, blk_m, blk_v]
  rfl
theorem out_mean (c : Dev nD) (t : Fin cfg0.N) (i : Fin 256) (j : Fin 2048) :
    (outsAt0 (F := Ideal) m c t).2.2.1 (ix3 0 i j) = mean (grad (aOwn m c) (aChips m c) i j) (aM m c (ix3 0 i j)) := by
  unfold outsAt0
  rw [blk_own, blk_chips]
  frame_out
  refine (pay3_apply _ i j).trans ((pay7_apply _ _ _ _ _ i j).trans ?_)
  rw [pay5_apply, part0, part1, part2, blk_m]
  rfl
theorem out_square (c : Dev nD) (t : Fin cfg0.N) (i : Fin 256) (j : Fin 2048) :
    (outsAt0 (F := Ideal) m c t).2.2.2 (ix3 0 i j) = square (grad (aOwn m c) (aChips m c) i j) (aV m c (ix3 0 i j)) := by
  unfold outsAt0
  rw [blk_own, blk_chips]
  frame_out
  refine (pay4_apply _ i j).trans ((pay8_apply _ _ _ _ _ i j).trans ?_)
  rw [pay5_apply, part0, part1, part2, blk_v]
  rfl

theorem grad_arr (c : Dev nD) : (dats (F := Ideal) m 0 c).arrAt 5 cfg0.N = newGrad m c := by
  refine (dats (F := Ideal) m 0 c).arrAt_eq_of_coversWhere_of_agree 5 _ (fun β => β 0 = 0) (by decide +kernel) (fun t hf y => ?_) (fun j hj => ?_)
  · blk_simp
    rw [after0_5]
    idx_vars y
    obtain rfl : y0 = 0 := Subsingleton.elim _ _
    rw [out_grad]
    refine Eq.trans ?_ (congrArg (newGrad m c) (?_ : (ix3 0 y1 y2 : S4x256x2048.Idx) = _))
    · rfl
    · blk_ext [idx0 t]
  · blk_simp [Pipeline.Window.cell_apply] at hj
    rw [A_eq]
    exact (congrFun (V0 m c) _).trans (if_neg fun h => hj (by rw [Nat.div_one]; exact h)).symm

theorem step_arr (c : Dev nD) : (dats (F := Ideal) m 0 c).arrAt 6 cfg0.N = newStep m c := by
  refine (dats (F := Ideal) m 0 c).arrAt_eq_of_coversWhere_of_agree 6 _ (fun β => β 0 = 0) (by decide +kernel) (fun t hf y => ?_) (fun j hj => ?_)
  · blk_simp
    rw [after0_6]
    idx_vars y
    obtain rfl : y0 = 0 := Subsingleton.elim _ _
    rw [out_step]
    refine Eq.trans ?_ (congrArg (newStep m c) (?_ : (ix3 0 y1 y2 : S4x256x2048.Idx) = _))
    · rfl
    · blk_ext [idx0 t]
  · blk_simp [Pipeline.Window.cell_apply] at hj
    rw [A_eq]
    exact (congrFun (V1 m c) _).trans (if_neg fun h => hj (by rw [Nat.div_one]; exact h)).symm

theorem mean_arr (c : Dev nD) : (dats (F := Ideal) m 0 c).arrAt 7 cfg0.N = newMean m c := by
  refine (dats (F := Ideal) m 0 c).arrAt_eq_of_coversWhere_of_agree 7 _ (fun β => β 0 = 0) (by decide +kernel) (fun t hf y => ?_) (fun j hj => ?_)
  · blk_simp
    rw [after0_7]
    idx_vars y
    obtain rfl : y0 = 0 := Subsingleton.elim _ _
    rw [out_mean]
    refine Eq.trans ?_ (congrArg (newMean m c) (?_ : (ix3 0 y1 y2 : S4x256x2048.Idx) = _))
    · rfl
    · blk_ext [idx0 t]
  · blk_simp [Pipeline.Window.cell_apply] at hj
    rw [A_eq]
    exact (congrFun (V2 m c) _).trans (if_neg fun h => hj (by rw [Nat.div_one]; exact h)).symm

theorem square_arr (c : Dev nD) : (dats (F := Ideal) m 0 c).arrAt 8 cfg0.N = newSquare m c := by
  refine (dats (F := Ideal) m 0 c).arrAt_eq_of_coversWhere_of_agree 8 _ (fun β => β 0 = 0) (by decide +kernel) (fun t hf y => ?_) (fun j hj => ?_)
  · blk_simp
    rw [after0_8]
    idx_vars y
    obtain rfl : y0 = 0 := Subsingleton.elim _ _
    rw [out_square]
    refine Eq.trans ?_ (congrArg (newSquare m c) (?_ : (ix3 0 y1 y2 : S4x256x2048.Idx) = _))
    · rfl
    · blk_ext [idx0 t]
  · blk_simp [Pipeline.Window.cell_apply] at hj
    rw [A_eq]
    exact (congrFun (V3 m c) _).trans (if_neg fun h => hj (by rw [Nat.div_one]; exact h)).symm

end Kernel

section Reference

open Cert.Reference8Ideal Cert.Reference8Ideal.Gen Cert.Reference8Ideal.Facts

/-- The reference's terms. -/
def rGrad (own : FVec Ideal S256x2048 .f32) (chips : FVec Ideal S3x256x2048 .bf16) : FVec Ideal S256x2048 .f32 :=
  addf own (Host.reduceAdd (extf .f32 chips bitsLt_bf16_f32) (constant S_ .f32 0x00000000#32) reducesTo_S3x256x2048_S256x2048_d0 h_S_)
def rFirst (x : FVec Ideal S4x256x2048 .f32) : FVec Ideal S256x2048 .f32 :=
  shapeCast _ (extractStridedSlice S1x256x2048 ![0, 0, 0] x slices_S4x256x2048_S1x256x2048_0_0_0) shapeCasts_S1x256x2048_S256x2048
def rPut (x : FVec Ideal S4x256x2048 .f32) (y : FVec Ideal S256x2048 .f32) : FVec Ideal S4x256x2048 .f32 :=
  concatenate S4x256x2048 0 [⟨S1x256x2048, (broadcastInDim S1x256x2048 ![1, 2] bcast_S256x2048_S1x256x2048_1_2 y)⟩, ⟨S3x256x2048, (extractStridedSlice S3x256x2048 ![1, 0, 0] x slices_S4x256x2048_S3x256x2048_1_0_0)⟩] concatenates_S1x256x2048_S3x256x2048_S4x256x2048_d0
def rMean (g m : FVec Ideal S256x2048 .f32) : FVec Ideal S256x2048 .f32 :=
  addf (mulf (broadcastInDim S256x2048 ![] bcast_S_S256x2048 (constant S_ .f32 0x3F666666#32)) m)
    (mulf (broadcastInDim S256x2048 ![] bcast_S_S256x2048 (constant S_ .f32 0x3DCCCCCD#32)) g)
def rSquare (g v : FVec Ideal S256x2048 .f32) : FVec Ideal S256x2048 .f32 :=
  addf (mulf (broadcastInDim S256x2048 ![] bcast_S_S256x2048 (constant S_ .f32 0x3F7FBE77#32)) v)
    (mulf (broadcastInDim S256x2048 ![] bcast_S_S256x2048 (constant S_ .f32 0x3A83126F#32)) (mulf g g))
def rStep (w g m v : FVec Ideal S256x2048 .f32) : FVec Ideal S256x2048 .f32 :=
  mulf (broadcastInDim S256x2048 ![] bcast_S_S256x2048 (constant S_ .f32 0xBA83126F#32))
    (addf (Host.divf (Host.divf (rMean g m) (broadcastInDim S256x2048 ![] bcast_S_S256x2048 (constant S_ .f32 0x3F26BD02#32)))
      (addf (Host.sqrt (Host.divf (rSquare g v) (broadcastInDim S256x2048 ![] bcast_S_S256x2048 (constant S_ .f32 0x3C231ACC#32))))
        (broadcastInDim S256x2048 ![] bcast_S_S256x2048 (constant S_ .f32 0x322BCC77#32))))
      (mulf (broadcastInDim S256x2048 ![] bcast_S_S256x2048 (constant S_ .f32 0x3C23D70A#32)) w))

theorem rMean_apply (g m : FVec Ideal S256x2048 .f32) (i : Fin 256) (j : Fin 2048) : rMean g m (ix2 i j) = mean (g (ix2 i j)) (m (ix2 i j)) := by
  pointwise [rMean, mean]
theorem rSquare_apply (g v : FVec Ideal S256x2048 .f32) (i : Fin 256) (j : Fin 2048) : rSquare g v (ix2 i j) = square (g (ix2 i j)) (v (ix2 i j)) := by
  pointwise [rSquare, square]
theorem rStep_apply (w g m v : FVec Ideal S256x2048 .f32) (i : Fin 256) (j : Fin 2048) :
    rStep w g m v (ix2 i j) = step (w (ix2 i j)) (g (ix2 i j)) (m (ix2 i j)) (v (ix2 i j)) := by
  rw [step, ← rMean_apply g m i j, ← rSquare_apply g v i j]
  pointwise [rStep]
theorem rFirst_apply (x : FVec Ideal S4x256x2048 .f32) (i : Fin 256) (j : Fin 2048) : rFirst x (ix2 i j) = x (ix3 0 i j) := by
  pointwise [rFirst]
theorem rGrad_apply (own : FVec Ideal S256x2048 .f32) (chips : FVec Ideal S3x256x2048 .bf16) (i : Fin 256) (j : Fin 2048) :
    rGrad own chips (ix2 i j) = grad own chips i j := by
  have h : rGrad own chips (ix2 i j) = own (ix2 i j) + ∑ k : Fin 3, chips (ix3 k i j) := by
    pointwise [rGrad]
  rw [h, Fin.sum_univ_three, grad, add_assoc (own (ix2 i j)), add_assoc (own (ix2 i j))]
theorem rPut_eq (x : FVec Ideal S4x256x2048 .f32) (y : FVec Ideal S256x2048 .f32) (f : Fin 256 → Fin 2048 → EReal)
    (h : ∀ i j, y (ix2 i j) = f i j) : rPut x y = put x f := by
  funext i
  idx_vars i
  unfold put
  by_cases h0 : i0.val = 0
  · rw [if_pos (show ((ix3 i0 i1 i2 : S4x256x2048.Idx) 0).val = 0 from h0)]
    refine Eq.trans ?_ (h i1 i2)
    pointwise [rPut, h0]
  · rw [if_neg (show ¬((ix3 i0 i1 i2 : S4x256x2048.Idx) 0).val = 0 from h0)]
    pointwise [rPut, h0]
    rw [dif_neg (by omega)]
    exact congrArg (fun k => x (ix3 k i1 i2)) (Fin.ext (by show 1 + (i0.val - 1) = i0.val; omega))

end Reference

end Cert.Finish

end
-- ==== Proof.Finish.Claims.lean ====
/- The five claims about the step that ends the output projection's gradient. -/
module

public import proofs.«01_k».proof.Defs
public import proofs.«01_k».proof.Proof.Gen.Kernel8
public import proofs.«01_k».proof.Proof.Gen.Kernel8Ideal
public import proofs.«01_k».proof.Proof.Gen.Reference8Ideal
public import proofs.«01_k».proof.Proof.Gen.Reference8Ideal.Run
public import proofs.«01_k».proof.Proof.Finish.Step
public import Idealize.ShloMosaic.Adequacy
public import Idealize.ShloMosaic.Init

@[expose] public section

set_option maxRecDepth 16384

noncomputable section

namespace Cert.Finish

open Idealize.ShloMosaic Idealize.ShloMosaic.Tactic Idealize.SL.Sem

theorem frame_kernel8_ideal : Cert.quiescent_Kernel8Ideal := fun m ρ _ => Cert.Kernel8Ideal.Gen.frame m ρ

set_option maxHeartbeats 4000000 in
theorem frame_kernel8 : Cert.quiescent_Kernel8 := fun m ρ _ => by
  have h := Cert.Kernel8Ideal.Gen.frame (F := Bits) m ρ
  refine cast ?_ h
  sl_kernel_rfl

set_option maxHeartbeats 4000000 in
theorem frame_reference8 : Cert.quiescent_Reference8Ideal := fun m ρ _ => by
  refine (θ_run Cert.Reference8Ideal.defs _ _).mono ?_ (Cert.Reference8Ideal.Value.run m ρ)
  intro r h
  exact ⟨fun c => (h c).2.2.2.2, sem_eq_zero_of_no_sems (by decide) r.2⟩

set_option maxHeartbeats 4000000 in
theorem algebraic8 : Cert.algebraic_Kernel8Ideal_Reference8Ideal := fun m g m' g' _ hag =>
  ⟨fun c => newGrad m c, fun c => newStep m c, fun c => newMean m c, fun c => newSquare m c,
   (θ_run Cert.Kernel8Ideal.defs _ _).mono (fun _ h c =>
     ⟨((h.1 c).1 5).trans (grad_arr m c), ((h.1 c).1 6).trans (step_arr m c), ((h.1 c).1 7).trans (mean_arr m c),
       ((h.1 c).1 8).trans (square_arr m c), h.2 c⟩)
     (θ_run_and (Cert.Kernel8Ideal.Gen.run_main (F := Ideal) m g) (Cert.Kernel8Ideal.Gen.unchanged (F := Ideal) m g)),
   (θ_run Cert.Reference8Ideal.defs _ _).mono (fun _ h c => by
     obtain ⟨r0, r1, r2, r3, u⟩ := h c
     obtain ⟨e0, e1, e2, e3, e4, e5, e6, e7, e8⟩ := hag c
     refine ⟨r0.trans ?_, r1.trans ?_, r2.trans ?_, r3.trans ?_, u⟩
     · refine Eq.trans (?_ : _ = rPut (s0 m c) (rGrad (aOwn m c) (aChips m c))) (rPut_eq _ _ _ fun i j => rGrad_apply _ _ i j)
       rw [e0, e1, e5]
       rfl
     · refine Eq.trans (?_ : _ = rPut (s1 m c) (rStep (rFirst (aW m c)) (rGrad (aOwn m c) (aChips m c)) (rFirst (aM m c)) (rFirst (aV m c))))
         (rPut_eq _ _ _ fun i j => by rw [rStep_apply, rGrad_apply, rFirst_apply, rFirst_apply, rFirst_apply])
       rw [e0, e1, e2, e3, e4, e6]
       rfl
     · refine Eq.trans (?_ : _ = rPut (s2 m c) (rMean (rGrad (aOwn m c) (aChips m c)) (rFirst (aM m c))))
         (rPut_eq _ _ _ fun i j => by rw [rMean_apply, rGrad_apply, rFirst_apply])
       rw [e0, e1, e3, e7]
       rfl
     · refine Eq.trans (?_ : _ = rPut (s3 m c) (rSquare (rGrad (aOwn m c) (aChips m c)) (rFirst (aV m c))))
         (rPut_eq _ _ _ fun i j => by rw [rSquare_apply, rGrad_apply, rFirst_apply])
       rw [e0, e1, e4, e8]
       rfl) (Cert.Reference8Ideal.Value.run m' g')⟩

end Cert.Finish

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Frame.RunB
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal
public import proofs.«01_k».proof.Proof.Gen.Reference6Ideal
public import proofs.«01_k».proof.Proof.Gen.Reference6Ideal.Run
public import proofs.«01_k».proof.Proof.Gen.Kernel7
public import proofs.«01_k».proof.Proof.Gen.Kernel7Ideal
public import proofs.«01_k».proof.Proof.Gen.Reference7Ideal
public import proofs.«01_k».proof.Proof.Gen.Reference7Ideal.Run
public import proofs.«01_k».proof.Proof.Gen.Kernel8
public import proofs.«01_k».proof.Proof.Gen.Kernel8Ideal
public import proofs.«01_k».proof.Proof.Gen.Reference8Ideal
public import proofs.«01_k».proof.Proof.Gen.Reference8Ideal.Run
public import proofs.«01_k».proof.Proof.Mixer.Claims
public import proofs.«01_k».proof.Proof.Ffn.Claims
public import proofs.«01_k».proof.Proof.In.Claims
public import proofs.«01_k».proof.Proof.Out.Claims
public import proofs.«01_k».proof.Proof.Ple.Claims
public import proofs.«01_k».proof.Proof.Loss.Claims
public import proofs.«01_k».proof.Proof.Adam.Claims
public import proofs.«01_k».proof.Proof.Finish.Claims
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Ffn.pre_facts,
    Cert.Mixer.frame_kernel, Cert.Mixer.frame_kernel_ideal, Cert.Mixer.frame_reference,
    Cert.Ffn.frame_kernel2, Cert.Ffn.frame_kernel2_ideal, fun m ρ _ => Cert.Ffn.frame_kernel2_ideal m ρ trivial,
    Cert.Ffn.frame_reference2, fun m ρ _ => Cert.Ffn.frame_reference2 m ρ trivial,
    Cert.In.frame_kernel3, Cert.In.frame_kernel3_ideal, Cert.In.frame_reference3,
    Cert.Out.frame_kernel4, Cert.Out.frame_kernel4_ideal, Cert.Out.frame_reference4,
    Cert.Ple.frame_kernel5, Cert.Ple.frame_kernel5_ideal, Cert.Ple.frame_reference5,
    Cert.Loss.frame_kernel6, Cert.Loss.frame_kernel6_ideal, Cert.Loss.frame_reference6,
    Cert.Adam.frame_kernel7, Cert.Adam.frame_kernel7_ideal, Cert.Adam.frame_reference7,
    Cert.Finish.frame_kernel8, Cert.Finish.frame_kernel8_ideal, Cert.Finish.frame_reference8,
    trivial, Cert.Mixer.algebraic, trivial, Cert.Ffn.algebraic2, trivial, Cert.In.algebraic3, trivial, Cert.Out.algebraic4, trivial, Cert.Ple.algebraic5, trivial, Cert.Loss.algebraic6, trivial, Cert.Adam.algebraic7, trivial, Cert.Finish.algebraic8⟩

end Cert.Proof

end
